-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnDw (m : (ℓ : Loc Cert.FfnDw.nD Cert.FfnDw.τ Cert.FfnDw.sig) → Buf (Elt Bits) ℓ) : Prop :=
  True

def Pre_FfnDwIdeal (m : (ℓ : Loc Cert.FfnDwIdeal.nD Cert.FfnDwIdeal.τ Cert.FfnDwIdeal.sig) → Buf (Elt Ideal) ℓ) : Prop :=
  True

def Pre_FfnDwRefIdeal (m : (ℓ : Loc Cert.FfnDwRefIdeal.nD Cert.FfnDwRefIdeal.τ Cert.FfnDwRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeDwg (m : (ℓ : Loc Cert.MergeDwg.nD Cert.MergeDwg.τ Cert.MergeDwg.sig) → Buf (Elt Bits) ℓ) : Prop :=
  True

def Pre_MergeDwgIdeal (m : (ℓ : Loc Cert.MergeDwgIdeal.nD Cert.MergeDwgIdeal.τ Cert.MergeDwgIdeal.sig) → Buf (Elt Ideal) ℓ) : Prop :=
  True

def Pre_MergeDwgRefIdeal (m : (ℓ : Loc Cert.MergeDwgRefIdeal.nD Cert.MergeDwgRefIdeal.τ Cert.MergeDwgRefIdeal.sig) → Buf (Elt Ideal) ℓ) : Prop :=
  True

def Pre_MergeDwb (m : (ℓ : Loc Cert.MergeDwb.nD Cert.MergeDwb.τ Cert.MergeDwb.sig) → Buf (Elt Bits) ℓ) : Prop :=
  True

def Pre_MergeDwbIdeal (m : (ℓ : Loc Cert.MergeDwbIdeal.nD Cert.MergeDwbIdeal.τ Cert.MergeDwbIdeal.sig) → Buf (Elt Ideal) ℓ) : Prop :=
  True

def Pre_MergeDwbRefIdeal (m : (ℓ : Loc Cert.MergeDwbRefIdeal.nD Cert.MergeDwbRefIdeal.τ Cert.MergeDwbRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InDh (m : (ℓ : Loc Cert.InDh.nD Cert.InDh.τ Cert.InDh.sig) → Buf (Elt Bits) ℓ) : Prop :=
  True

def Pre_InDhIdeal (m : (ℓ : Loc Cert.InDhIdeal.nD Cert.InDhIdeal.τ Cert.InDhIdeal.sig) → Buf (Elt Ideal) ℓ) : Prop :=
  True

def Pre_InDhRefIdeal (m : (ℓ : Loc Cert.InDhRefIdeal.nD Cert.InDhRefIdeal.τ Cert.InDhRefIdeal.sig) → Buf (Elt Ideal) ℓ) : Prop :=
  True

def Pre_InDwA (m : (ℓ : Loc Cert.InDwA.nD Cert.InDwA.τ Cert.InDwA.sig) → Buf (Elt Bits) ℓ) : Prop :=
  True

def Pre_InDwAIdeal (m : (ℓ : Loc Cert.InDwAIdeal.nD Cert.InDwAIdeal.τ Cert.InDwAIdeal.sig) → Buf (Elt Ideal) ℓ) : Prop :=
  True

def Pre_InDwARefIdeal (m : (ℓ : Loc Cert.InDwARefIdeal.nD Cert.InDwARefIdeal.τ Cert.InDwARefIdeal.sig) → Buf (Elt Ideal) ℓ) : Prop :=
  True

def Pre_InDwB (m : (ℓ : Loc Cert.InDwB.nD Cert.InDwB.τ Cert.InDwB.sig) → Buf (Elt Bits) ℓ) : Prop :=
  True

def Pre_InDwBIdeal (m : (ℓ : Loc Cert.InDwBIdeal.nD Cert.InDwBIdeal.τ Cert.InDwBIdeal.sig) → Buf (Elt Ideal) ℓ) : Prop :=
  True

def Pre_InDwBRefIdeal (m : (ℓ : Loc Cert.InDwBRefIdeal.nD Cert.InDwBRefIdeal.τ Cert.InDwBRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutDm (m : (ℓ : Loc Cert.OutDm.nD Cert.OutDm.τ Cert.OutDm.sig) → Buf (Elt Bits) ℓ) : Prop :=
  True

def Pre_OutDmIdeal (m : (ℓ : Loc Cert.OutDmIdeal.nD Cert.OutDmIdeal.τ Cert.OutDmIdeal.sig) → Buf (Elt Ideal) ℓ) : Prop :=
  True

def Pre_OutDmRefIdeal (m : (ℓ : Loc Cert.OutDmRefIdeal.nD Cert.OutDmRefIdeal.τ Cert.OutDmRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite [hPre_finite : Cert.Pre_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_FfnDw [hFfnDw : Cert.FfnDw.Facts] : Prop :=
  ∀ (m : (ℓ : Loc Cert.FfnDw.nD Cert.FfnDw.τ Cert.FfnDw.sig) → Buf (Elt Bits) ℓ) (g : Dev Cert.FfnDw.nD → PrngReg), Pre_FfnDw m →
    θ_run (Cert.FfnDw.defs (F := Bits)) (onTc (τ := Cert.FfnDw.τ) (Cert.FfnDw.main (F := Bits))) ⟨m, fun _ => 0, g⟩ (fun r => (∀ c : Dev Cert.FfnDw.nD,
      r.2.mem ((c.tc : Thread Cert.FfnDw.nD Cert.FfnDw.τ).loc Cert.FfnDw.main_arg0) = m ((c.tc : Thread Cert.FfnDw.nD Cert.FfnDw.τ).loc Cert.FfnDw.main_arg0)
      ∧ r.2.mem ((c.tc : Thread Cert.FfnDw.nD Cert.FfnDw.τ).loc Cert.FfnDw.main_arg1) = m ((c.tc : Thread Cert.FfnDw.nD Cert.FfnDw.τ).loc Cert.FfnDw.main_arg1))
      ∧ r.2.sem = fun _ => 0)

def quiescent_FfnDwIdeal [hFfnDwIdeal : Cert.FfnDwIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg), Pre_FfnDwIdeal m →
    θ_run (Cert.FfnDwIdeal.defs (F := Ideal)) (onTc (τ := Cert.FfnDwIdeal.τ) (Cert.FfnDwIdeal.main (F := Ideal))) ⟨m, fun _ => 0, g⟩ (fun r => (∀ c : Dev Cert.FfnDwIdeal.nD,
      r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
      ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ r.2.sem = fun _ => 0)

def quiescent_FfnDwRefIdeal [hFfnDwRefIdeal : Cert.FfnDwRefIdeal.Facts] : Prop :=
  ∀ (m : (ℓ : Loc Cert.FfnDwRefIdeal.nD Cert.FfnDwRefIdeal.τ Cert.FfnDwRefIdeal.sig) → Buf (Elt Ideal) ℓ) (g : Dev Cert.FfnDwRefIdeal.nD → PrngReg), Pre_FfnDwRefIdeal m →
    θ_run (Cert.FfnDwRefIdeal.defs (F := Ideal)) (onTc (τ := Cert.FfnDwRefIdeal.τ) (Cert.FfnDwRefIdeal.main (F := Ideal))) ⟨m, fun _ => 0, g⟩ (fun r => (∀ c : Dev Cert.FfnDwRefIdeal.nD,
      r.2.mem ((c.tc : Thread Cert.FfnDwRefIdeal.nD Cert.FfnDwRefIdeal.τ).loc Cert.FfnDwRefIdeal.main_arg0) = m ((c.tc : Thread Cert.FfnDwRefIdeal.nD Cert.FfnDwRefIdeal.τ).loc Cert.FfnDwRefIdeal.main_arg0)
      ∧ r.2.mem ((c.tc : Thread Cert.FfnDwRefIdeal.nD Cert.FfnDwRefIdeal.τ).loc Cert.FfnDwRefIdeal.main_arg1) = m ((c.tc : Thread Cert.FfnDwRefIdeal.nD Cert.FfnDwRefIdeal.τ).loc Cert.FfnDwRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5))
      ∧ r.2.sem = fun _ => 0)

def quiescent_MergeDwg [hMergeDwg : Cert.MergeDwg.Facts] : Prop :=
  ∀ (m : (ℓ : Loc Cert.MergeDwg.nD Cert.MergeDwg.τ Cert.MergeDwg.sig) → Buf (Elt Bits) ℓ) (g : Dev Cert.MergeDwg.nD → PrngReg), Pre_MergeDwg m →
    θ_run (Cert.MergeDwg.defs (F := Bits)) (onTc (τ := Cert.MergeDwg.τ) (Cert.MergeDwg.main (F := Bits))) ⟨m, fun _ => 0, g⟩ (fun r => (∀ c : Dev Cert.MergeDwg.nD,
      r.2.mem ((c.tc : Thread Cert.MergeDwg.nD Cert.MergeDwg.τ).loc Cert.MergeDwg.main_arg0) = m ((c.tc : Thread Cert.MergeDwg.nD Cert.MergeDwg.τ).loc Cert.MergeDwg.main_arg0)
      ∧ r.2.mem ((c.tc : Thread Cert.MergeDwg.nD Cert.MergeDwg.τ).loc Cert.MergeDwg.main_arg1) = m ((c.tc : Thread Cert.MergeDwg.nD Cert.MergeDwg.τ).loc Cert.MergeDwg.main_arg1))
      ∧ r.2.sem = fun _ => 0)

def quiescent_MergeDwgIdeal [hMergeDwgIdeal : Cert.MergeDwgIdeal.Facts] : Prop :=
  ∀ (m : (ℓ : Loc Cert.MergeDwgIdeal.nD Cert.MergeDwgIdeal.τ Cert.MergeDwgIdeal.sig) → Buf (Elt Ideal) ℓ) (g : Dev Cert.MergeDwgIdeal.nD → PrngReg), Pre_MergeDwgIdeal m →
    θ_run (Cert.MergeDwgIdeal.defs (F := Ideal)) (onTc (τ := Cert.MergeDwgIdeal.τ) (Cert.MergeDwgIdeal.main (F := Ideal))) ⟨m, fun _ => 0, g⟩ (fun r => (∀ c : Dev Cert.MergeDwgIdeal.nD,
      r.2.mem ((c.tc : Thread Cert.MergeDwgIdeal.nD Cert.MergeDwgIdeal.τ).loc Cert.MergeDwgIdeal.main_arg0) = m ((c.tc : Thread Cert.MergeDwgIdeal.nD Cert.MergeDwgIdeal.τ).loc Cert.MergeDwgIdeal.main_arg0)
      ∧ r.2.mem ((c.tc : Thread Cert.MergeDwgIdeal.nD Cert.MergeDwgIdeal.τ).loc Cert.MergeDwgIdeal.main_arg1) = m ((c.tc : Thread Cert.MergeDwgIdeal.nD Cert.MergeDwgIdeal.τ).loc Cert.MergeDwgIdeal.main_arg1))
      ∧ r.2.sem = fun _ => 0)

def quiescent_MergeDwgRefIdeal [hMergeDwgRefIdeal : Cert.MergeDwgRefIdeal.Facts] : Prop :=
  ∀ (m : (ℓ : Loc Cert.MergeDwgRefIdeal.nD Cert.MergeDwgRefIdeal.τ Cert.MergeDwgRefIdeal.sig) → Buf (Elt Ideal) ℓ) (g : Dev Cert.MergeDwgRefIdeal.nD → PrngReg), Pre_MergeDwgRefIdeal m →
    θ_run (Cert.MergeDwgRefIdeal.defs (F := Ideal)) (onTc (τ := Cert.MergeDwgRefIdeal.τ) (Cert.MergeDwgRefIdeal.main (F := Ideal))) ⟨m, fun _ => 0, g⟩ (fun r => (∀ c : Dev Cert.MergeDwgRefIdeal.nD,
      r.2.mem ((c.tc : Thread Cert.MergeDwgRefIdeal.nD Cert.MergeDwgRefIdeal.τ).loc Cert.MergeDwgRefIdeal.main_arg0) = m ((c.tc : Thread Cert.MergeDwgRefIdeal.nD Cert.MergeDwgRefIdeal.τ).loc Cert.MergeDwgRefIdeal.main_arg0)
      ∧ r.2.mem ((c.tc : Thread Cert.MergeDwgRefIdeal.nD Cert.MergeDwgRefIdeal.τ).loc Cert.MergeDwgRefIdeal.main_arg1) = m ((c.tc : Thread Cert.MergeDwgRefIdeal.nD Cert.MergeDwgRefIdeal.τ).loc Cert.MergeDwgRefIdeal.main_arg1))
      ∧ r.2.sem = fun _ => 0)

def quiescent_MergeDwb [hMergeDwb : Cert.MergeDwb.Facts] : Prop :=
  ∀ (m : (ℓ : Loc Cert.MergeDwb.nD Cert.MergeDwb.τ Cert.MergeDwb.sig) → Buf (Elt Bits) ℓ) (g : Dev Cert.MergeDwb.nD → PrngReg), Pre_MergeDwb m →
    θ_run (Cert.MergeDwb.defs (F := Bits)) (onTc (τ := Cert.MergeDwb.τ) (Cert.MergeDwb.main (F := Bits))) ⟨m, fun _ => 0, g⟩ (fun r => (∀ c : Dev Cert.MergeDwb.nD,
      r.2.mem ((c.tc : Thread Cert.MergeDwb.nD Cert.MergeDwb.τ).loc Cert.MergeDwb.main_arg0) = m ((c.tc : Thread Cert.MergeDwb.nD Cert.MergeDwb.τ).loc Cert.MergeDwb.main_arg0)
      ∧ r.2.mem ((c.tc : Thread Cert.MergeDwb.nD Cert.MergeDwb.τ).loc Cert.MergeDwb.main_arg1) = m ((c.tc : Thread Cert.MergeDwb.nD Cert.MergeDwb.τ).loc Cert.MergeDwb.main_arg1)
      ∧ r.2.mem ((c.tc : Thread Cert.MergeDwb.nD Cert.MergeDwb.τ).loc Cert.MergeDwb.main_arg2) = m ((c.tc : Thread Cert.MergeDwb.nD Cert.MergeDwb.τ).loc Cert.MergeDwb.main_arg2)
      ∧ r.2.mem ((c.tc : Thread Cert.MergeDwb.nD Cert.MergeDwb.τ).loc Cert.MergeDwb.main_arg3) = m ((c.tc : Thread Cert.MergeDwb.nD Cert.MergeDwb.τ).loc Cert.MergeDwb.main_arg3))
      ∧ r.2.sem = fun _ => 0)

def quiescent_MergeDwbIdeal [hMergeDwbIdeal : Cert.MergeDwbIdeal.Facts] : Prop :=
  ∀ (m : (ℓ : Loc Cert.MergeDwbIdeal.nD Cert.MergeDwbIdeal.τ Cert.MergeDwbIdeal.sig) → Buf (Elt Ideal) ℓ) (g : Dev Cert.MergeDwbIdeal.nD → PrngReg), Pre_MergeDwbIdeal m →
    θ_run (Cert.MergeDwbIdeal.defs (F := Ideal)) (onTc (τ := Cert.MergeDwbIdeal.τ) (Cert.MergeDwbIdeal.main (F := Ideal))) ⟨m, fun _ => 0, g⟩ (fun r => (∀ c : Dev Cert.MergeDwbIdeal.nD,
      r.2.mem ((c.tc : Thread Cert.MergeDwbIdeal.nD Cert.MergeDwbIdeal.τ).loc Cert.MergeDwbIdeal.main_arg0) = m ((c.tc : Thread Cert.MergeDwbIdeal.nD Cert.MergeDwbIdeal.τ).loc Cert.MergeDwbIdeal.main_arg0)
      ∧ r.2.mem ((c.tc : Thread Cert.MergeDwbIdeal.nD Cert.MergeDwbIdeal.τ).loc Cert.MergeDwbIdeal.main_arg1) = m ((c.tc : Thread Cert.MergeDwbIdeal.nD Cert.MergeDwbIdeal.τ).loc Cert.MergeDwbIdeal.main_arg1)
      ∧ r.2.mem ((c.tc : Thread Cert.MergeDwbIdeal.nD Cert.MergeDwbIdeal.τ).loc Cert.MergeDwbIdeal.main_arg2) = m ((c.tc : Thread Cert.MergeDwbIdeal.nD Cert.MergeDwbIdeal.τ).loc Cert.MergeDwbIdeal.main_arg2)
      ∧ r.2.mem ((c.tc : Thread Cert.MergeDwbIdeal.nD Cert.MergeDwbIdeal.τ).loc Cert.MergeDwbIdeal.main_arg3) = m ((c.tc : Thread Cert.MergeDwbIdeal.nD Cert.MergeDwbIdeal.τ).loc Cert.MergeDwbIdeal.main_arg3))
      ∧ r.2.sem = fun _ => 0)

def quiescent_MergeDwbRefIdeal [hMergeDwbRefIdeal : Cert.MergeDwbRefIdeal.Facts] : Prop :=
  ∀ (m : (ℓ : Loc Cert.MergeDwbRefIdeal.nD Cert.MergeDwbRefIdeal.τ Cert.MergeDwbRefIdeal.sig) → Buf (Elt Ideal) ℓ) (g : Dev Cert.MergeDwbRefIdeal.nD → PrngReg), Pre_MergeDwbRefIdeal m →
    θ_run (Cert.MergeDwbRefIdeal.defs (F := Ideal)) (onTc (τ := Cert.MergeDwbRefIdeal.τ) (Cert.MergeDwbRefIdeal.main (F := Ideal))) ⟨m, fun _ => 0, g⟩ (fun r => (∀ c : Dev Cert.MergeDwbRefIdeal.nD,
      r.2.mem ((c.tc : Thread Cert.MergeDwbRefIdeal.nD Cert.MergeDwbRefIdeal.τ).loc Cert.MergeDwbRefIdeal.main_arg0) = m ((c.tc : Thread Cert.MergeDwbRefIdeal.nD Cert.MergeDwbRefIdeal.τ).loc Cert.MergeDwbRefIdeal.main_arg0)
      ∧ r.2.mem ((c.tc : Thread Cert.MergeDwbRefIdeal.nD Cert.MergeDwbRefIdeal.τ).loc Cert.MergeDwbRefIdeal.main_arg1) = m ((c.tc : Thread Cert.MergeDwbRefIdeal.nD Cert.MergeDwbRefIdeal.τ).loc Cert.MergeDwbRefIdeal.main_arg1)
      ∧ r.2.mem ((c.tc : Thread Cert.MergeDwbRefIdeal.nD Cert.MergeDwbRefIdeal.τ).loc Cert.MergeDwbRefIdeal.main_arg2) = m ((c.tc : Thread Cert.MergeDwbRefIdeal.nD Cert.MergeDwbRefIdeal.τ).loc Cert.MergeDwbRefIdeal.main_arg2)
      ∧ r.2.mem ((c.tc : Thread Cert.MergeDwbRefIdeal.nD Cert.MergeDwbRefIdeal.τ).loc Cert.MergeDwbRefIdeal.main_arg3) = m ((c.tc : Thread Cert.MergeDwbRefIdeal.nD Cert.MergeDwbRefIdeal.τ).loc Cert.MergeDwbRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_InDh [hInDh : Cert.InDh.Facts] : Prop :=
  ∀ (m : (ℓ : Loc Cert.InDh.nD Cert.InDh.τ Cert.InDh.sig) → Buf (Elt Bits) ℓ) (g : Dev Cert.InDh.nD → PrngReg), Pre_InDh m →
    θ_run (Cert.InDh.defs (F := Bits)) (onTc (τ := Cert.InDh.τ) (Cert.InDh.main (F := Bits))) ⟨m, fun _ => 0, g⟩ (fun r => (∀ c : Dev Cert.InDh.nD,
      r.2.mem ((c.tc : Thread Cert.InDh.nD Cert.InDh.τ).loc Cert.InDh.main_arg0) = m ((c.tc : Thread Cert.InDh.nD Cert.InDh.τ).loc Cert.InDh.main_arg0)
      ∧ r.2.mem ((c.tc : Thread Cert.InDh.nD Cert.InDh.τ).loc Cert.InDh.main_arg1) = m ((c.tc : Thread Cert.InDh.nD Cert.InDh.τ).loc Cert.InDh.main_arg1)
      ∧ r.2.mem ((c.tc : Thread Cert.InDh.nD Cert.InDh.τ).loc Cert.InDh.main_arg2) = m ((c.tc : Thread Cert.InDh.nD Cert.InDh.τ).loc Cert.InDh.main_arg2)
      ∧ r.2.mem ((c.tc : Thread Cert.InDh.nD Cert.InDh.τ).loc Cert.InDh.main_arg3) = m ((c.tc : Thread Cert.InDh.nD Cert.InDh.τ).loc Cert.InDh.main_arg3)
      ∧ r.2.mem ((c.tc : Thread Cert.InDh.nD Cert.InDh.τ).loc Cert.InDh.main_arg4) = m ((c.tc : Thread Cert.InDh.nD Cert.InDh.τ).loc Cert.InDh.main_arg4))
      ∧ r.2.sem = fun _ => 0)

def quiescent_InDhIdeal [hInDhIdeal : Cert.InDhIdeal.Facts] : Prop :=
  ∀ (m : (ℓ : Loc Cert.InDhIdeal.nD Cert.InDhIdeal.τ Cert.InDhIdeal.sig) → Buf (Elt Ideal) ℓ) (g : Dev Cert.InDhIdeal.nD → PrngReg), Pre_InDhIdeal m →
    θ_run (Cert.InDhIdeal.defs (F := Ideal)) (onTc (τ := Cert.InDhIdeal.τ) (Cert.InDhIdeal.main (F := Ideal))) ⟨m, fun _ => 0, g⟩ (fun r => (∀ c : Dev Cert.InDhIdeal.nD,
      r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
      ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1)
      ∧ r.2.mem ((c.tc : Thread Cert.InDhIdeal.nD Cert.InDhIdeal.τ).loc Cert.InDhIdeal.main_arg2) = m ((c.tc : Thread Cert.InDhIdeal.nD Cert.InDhIdeal.τ).loc Cert.InDhIdeal.main_arg2)
      ∧ r.2.mem ((c.tc : Thread Cert.InDhIdeal.nD Cert.InDhIdeal.τ).loc Cert.InDhIdeal.main_arg3) = m ((c.tc : Thread Cert.InDhIdeal.nD Cert.InDhIdeal.τ).loc Cert.InDhIdeal.main_arg3)
      ∧ r.2.mem ((c.tc : Thread Cert.InDhIdeal.nD Cert.InDhIdeal.τ).loc Cert.InDhIdeal.main_arg4) = m ((c.tc : Thread Cert.InDhIdeal.nD Cert.InDhIdeal.τ).loc Cert.InDhIdeal.main_arg4))
      ∧ r.2.sem = fun _ => 0)

def quiescent_InDhRefIdeal [hInDhRefIdeal : Cert.InDhRefIdeal.Facts] : Prop :=
  ∀ (m : (ℓ : Loc Cert.InDhRefIdeal.nD Cert.InDhRefIdeal.τ Cert.InDhRefIdeal.sig) → Buf (Elt Ideal) ℓ) (g : Dev Cert.InDhRefIdeal.nD → PrngReg), Pre_InDhRefIdeal m →
    θ_run (Cert.InDhRefIdeal.defs (F := Ideal)) (onTc (τ := Cert.InDhRefIdeal.τ) (Cert.InDhRefIdeal.main (F := Ideal))) ⟨m, fun _ => 0, g⟩ (fun r => (∀ c : Dev Cert.InDhRefIdeal.nD,
      r.2.mem ((c.tc : Thread Cert.InDhRefIdeal.nD Cert.InDhRefIdeal.τ).loc Cert.InDhRefIdeal.main_arg0) = m ((c.tc : Thread Cert.InDhRefIdeal.nD Cert.InDhRefIdeal.τ).loc Cert.InDhRefIdeal.main_arg0)
      ∧ r.2.mem ((c.tc : Thread Cert.InDhRefIdeal.nD Cert.InDhRefIdeal.τ).loc Cert.InDhRefIdeal.main_arg1) = m ((c.tc : Thread Cert.InDhRefIdeal.nD Cert.InDhRefIdeal.τ).loc Cert.InDhRefIdeal.main_arg1)
      ∧ r.2.mem ((c.tc : Thread Cert.InDhRefIdeal.nD Cert.InDhRefIdeal.τ).loc Cert.InDhRefIdeal.main_arg2) = m ((c.tc : Thread Cert.InDhRefIdeal.nD Cert.InDhRefIdeal.τ).loc Cert.InDhRefIdeal.main_arg2)
      ∧ r.2.mem ((c.tc : Thread Cert.InDhRefIdeal.nD Cert.InDhRefIdeal.τ).loc Cert.InDhRefIdeal.main_arg3) = m ((c.tc : Thread Cert.InDhRefIdeal.nD Cert.InDhRefIdeal.τ).loc Cert.InDhRefIdeal.main_arg3)
      ∧ r.2.mem ((c.tc : Thread Cert.InDhRefIdeal.nD Cert.InDhRefIdeal.τ).loc Cert.InDhRefIdeal.main_arg4) = m ((c.tc : Thread Cert.InDhRefIdeal.nD Cert.InDhRefIdeal.τ).loc Cert.InDhRefIdeal.main_arg4))
      ∧ r.2.sem = fun _ => 0)

def quiescent_InDwA [hInDwA : Cert.InDwA.Facts] : Prop :=
  ∀ (m : (ℓ : Loc Cert.InDwA.nD Cert.InDwA.τ Cert.InDwA.sig) → Buf (Elt Bits) ℓ) (g : Dev Cert.InDwA.nD → PrngReg), Pre_InDwA m →
    θ_run (Cert.InDwA.defs (F := Bits)) (onTc (τ := Cert.InDwA.τ) (Cert.InDwA.main (F := Bits))) ⟨m, fun _ => 0, g⟩ (fun r => (∀ c : Dev Cert.InDwA.nD,
      r.2.mem ((c.tc : Thread Cert.InDwA.nD Cert.InDwA.τ).loc Cert.InDwA.main_arg0) = m ((c.tc : Thread Cert.InDwA.nD Cert.InDwA.τ).loc Cert.InDwA.main_arg0)
      ∧ r.2.mem ((c.tc : Thread Cert.InDwA.nD Cert.InDwA.τ).loc Cert.InDwA.main_arg1) = m ((c.tc : Thread Cert.InDwA.nD Cert.InDwA.τ).loc Cert.InDwA.main_arg1))
      ∧ r.2.sem = fun _ => 0)

def quiescent_InDwAIdeal [hInDwAIdeal : Cert.InDwAIdeal.Facts] : Prop :=
  ∀ (m : (ℓ : Loc Cert.InDwAIdeal.nD Cert.InDwAIdeal.τ Cert.InDwAIdeal.sig) → Buf (Elt Ideal) ℓ) (g : Dev Cert.InDwAIdeal.nD → PrngReg), Pre_InDwAIdeal m →
    θ_run (Cert.InDwAIdeal.defs (F := Ideal)) (onTc (τ := Cert.InDwAIdeal.τ) (Cert.InDwAIdeal.main (F := Ideal))) ⟨m, fun _ => 0, g⟩ (fun r => (∀ c : Dev Cert.InDwAIdeal.nD,
      r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
      ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1))
      ∧ r.2.sem = fun _ => 0)

def quiescent_InDwARefIdeal [hInDwARefIdeal : Cert.InDwARefIdeal.Facts] : Prop :=
  ∀ (m : (ℓ : Loc Cert.InDwARefIdeal.nD Cert.InDwARefIdeal.τ Cert.InDwARefIdeal.sig) → Buf (Elt Ideal) ℓ) (g : Dev Cert.InDwARefIdeal.nD → PrngReg), Pre_InDwARefIdeal m →
    θ_run (Cert.InDwARefIdeal.defs (F := Ideal)) (onTc (τ := Cert.InDwARefIdeal.τ) (Cert.InDwARefIdeal.main (F := Ideal))) ⟨m, fun _ => 0, g⟩ (fun r => (∀ c : Dev Cert.InDwARefIdeal.nD,
      r.2.mem ((c.tc : Thread Cert.InDwARefIdeal.nD Cert.InDwARefIdeal.τ).loc Cert.InDwARefIdeal.main_arg0) = m ((c.tc : Thread Cert.InDwARefIdeal.nD Cert.InDwARefIdeal.τ).loc Cert.InDwARefIdeal.main_arg0)
      ∧ r.2.mem ((c.tc : Thread Cert.InDwARefIdeal.nD Cert.InDwARefIdeal.τ).loc Cert.InDwARefIdeal.main_arg1) = m ((c.tc : Thread Cert.InDwARefIdeal.nD Cert.InDwARefIdeal.τ).loc Cert.InDwARefIdeal.main_arg1))
      ∧ r.2.sem = fun _ => 0)

def quiescent_InDwB [hInDwB : Cert.InDwB.Facts] : Prop :=
  ∀ (m : (ℓ : Loc Cert.InDwB.nD Cert.InDwB.τ Cert.InDwB.sig) → Buf (Elt Bits) ℓ) (g : Dev Cert.InDwB.nD → PrngReg), Pre_InDwB m →
    θ_run (Cert.InDwB.defs (F := Bits)) (onTc (τ := Cert.InDwB.τ) (Cert.InDwB.main (F := Bits))) ⟨m, fun _ => 0, g⟩ (fun r => (∀ c : Dev Cert.InDwB.nD,
      r.2.mem ((c.tc : Thread Cert.InDwB.nD Cert.InDwB.τ).loc Cert.InDwB.main_arg0) = m ((c.tc : Thread Cert.InDwB.nD Cert.InDwB.τ).loc Cert.InDwB.main_arg0)
      ∧ r.2.mem ((c.tc : Thread Cert.InDwB.nD Cert.InDwB.τ).loc Cert.InDwB.main_arg1) = m ((c.tc : Thread Cert.InDwB.nD Cert.InDwB.τ).loc Cert.InDwB.main_arg1))
      ∧ r.2.sem = fun _ => 0)

def quiescent_InDwBIdeal [hInDwBIdeal : Cert.InDwBIdeal.Facts] : Prop :=
  ∀ (m : (ℓ : Loc Cert.InDwBIdeal.nD Cert.InDwBIdeal.τ Cert.InDwBIdeal.sig) → Buf (Elt Ideal) ℓ) (g : Dev Cert.InDwBIdeal.nD → PrngReg), Pre_InDwBIdeal m →
    θ_run (Cert.InDwBIdeal.defs (F := Ideal)) (onTc (τ := Cert.InDwBIdeal.τ) (Cert.InDwBIdeal.main (F := Ideal))) ⟨m, fun _ => 0, g⟩ (fun r => (∀ c : Dev Cert.InDwBIdeal.nD,
      r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
      ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1))
      ∧ r.2.sem = fun _ => 0)

def quiescent_InDwBRefIdeal [hInDwBRefIdeal : Cert.InDwBRefIdeal.Facts] : Prop :=
  ∀ (m : (ℓ : Loc Cert.InDwBRefIdeal.nD Cert.InDwBRefIdeal.τ Cert.InDwBRefIdeal.sig) → Buf (Elt Ideal) ℓ) (g : Dev Cert.InDwBRefIdeal.nD → PrngReg), Pre_InDwBRefIdeal m →
    θ_run (Cert.InDwBRefIdeal.defs (F := Ideal)) (onTc (τ := Cert.InDwBRefIdeal.τ) (Cert.InDwBRefIdeal.main (F := Ideal))) ⟨m, fun _ => 0, g⟩ (fun r => (∀ c : Dev Cert.InDwBRefIdeal.nD,
      r.2.mem ((c.tc : Thread Cert.InDwBRefIdeal.nD Cert.InDwBRefIdeal.τ).loc Cert.InDwBRefIdeal.main_arg0) = m ((c.tc : Thread Cert.InDwBRefIdeal.nD Cert.InDwBRefIdeal.τ).loc Cert.InDwBRefIdeal.main_arg0)
      ∧ r.2.mem ((c.tc : Thread Cert.InDwBRefIdeal.nD Cert.InDwBRefIdeal.τ).loc Cert.InDwBRefIdeal.main_arg1) = m ((c.tc : Thread Cert.InDwBRefIdeal.nD Cert.InDwBRefIdeal.τ).loc Cert.InDwBRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_OutDm [hOutDm : Cert.OutDm.Facts] : Prop :=
  ∀ (m : (ℓ : Loc Cert.OutDm.nD Cert.OutDm.τ Cert.OutDm.sig) → Buf (Elt Bits) ℓ) (g : Dev Cert.OutDm.nD → PrngReg), Pre_OutDm m →
    θ_run (Cert.OutDm.defs (F := Bits)) (onTc (τ := Cert.OutDm.τ) (Cert.OutDm.main (F := Bits))) ⟨m, fun _ => 0, g⟩ (fun r => (∀ c : Dev Cert.OutDm.nD,
      r.2.mem ((c.tc : Thread Cert.OutDm.nD Cert.OutDm.τ).loc Cert.OutDm.main_arg0) = m ((c.tc : Thread Cert.OutDm.nD Cert.OutDm.τ).loc Cert.OutDm.main_arg0)
      ∧ r.2.mem ((c.tc : Thread Cert.OutDm.nD Cert.OutDm.τ).loc Cert.OutDm.main_arg1) = m ((c.tc : Thread Cert.OutDm.nD Cert.OutDm.τ).loc Cert.OutDm.main_arg1))
      ∧ r.2.sem = fun _ => 0)

def quiescent_OutDmIdeal [hOutDmIdeal : Cert.OutDmIdeal.Facts] : Prop :=
  ∀ (m : (ℓ : Loc Cert.OutDmIdeal.nD Cert.OutDmIdeal.τ Cert.OutDmIdeal.sig) → Buf (Elt Ideal) ℓ) (g : Dev Cert.OutDmIdeal.nD → PrngReg), Pre_OutDmIdeal m →
    θ_run (Cert.OutDmIdeal.defs (F := Ideal)) (onTc (τ := Cert.OutDmIdeal.τ) (Cert.OutDmIdeal.main (F := Ideal))) ⟨m, fun _ => 0, g⟩ (fun r => (∀ c : Dev Cert.OutDmIdeal.nD,
      r.2.mem ((c.tc : Thread Cert.OutDmIdeal.nD Cert.OutDmIdeal.τ).loc Cert.OutDmIdeal.main_arg0) = m ((c.tc : Thread Cert.OutDmIdeal.nD Cert.OutDmIdeal.τ).loc Cert.OutDmIdeal.main_arg0)
      ∧ r.2.mem ((c.tc : Thread Cert.OutDmIdeal.nD Cert.OutDmIdeal.τ).loc Cert.OutDmIdeal.main_arg1) = m ((c.tc : Thread Cert.OutDmIdeal.nD Cert.OutDmIdeal.τ).loc Cert.OutDmIdeal.main_arg1))
      ∧ r.2.sem = fun _ => 0)

def quiescent_OutDmRefIdeal [hOutDmRefIdeal : Cert.OutDmRefIdeal.Facts] : Prop :=
  ∀ (m : (ℓ : Loc Cert.OutDmRefIdeal.nD Cert.OutDmRefIdeal.τ Cert.OutDmRefIdeal.sig) → Buf (Elt Ideal) ℓ) (g : Dev Cert.OutDmRefIdeal.nD → PrngReg), Pre_OutDmRefIdeal m →
    θ_run (Cert.OutDmRefIdeal.defs (F := Ideal)) (onTc (τ := Cert.OutDmRefIdeal.τ) (Cert.OutDmRefIdeal.main (F := Ideal))) ⟨m, fun _ => 0, g⟩ (fun r => (∀ c : Dev Cert.OutDmRefIdeal.nD,
      r.2.mem ((c.tc : Thread Cert.OutDmRefIdeal.nD Cert.OutDmRefIdeal.τ).loc Cert.OutDmRefIdeal.main_arg0) = m ((c.tc : Thread Cert.OutDmRefIdeal.nD Cert.OutDmRefIdeal.τ).loc Cert.OutDmRefIdeal.main_arg0)
      ∧ r.2.mem ((c.tc : Thread Cert.OutDmRefIdeal.nD Cert.OutDmRefIdeal.τ).loc Cert.OutDmRefIdeal.main_arg1) = m ((c.tc : Thread Cert.OutDmRefIdeal.nD Cert.OutDmRefIdeal.τ).loc Cert.OutDmRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite [hFfnBwdIdeal : Cert.FfnBwdIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_v75) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_MergeBwd_MergeBwdIdeal : Prop :=
  True

def algebraic_MergeBwdIdeal_MergeRefIdeal [hMergeBwdIdeal : Cert.MergeBwdIdeal.Facts] [hMergeRefIdeal : Cert.MergeRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeBwdIdeal m →
    (∀ c : Dev Cert.MergeBwdIdeal.nD,
      m' ((c.tc : Thread Cert.MergeRefIdeal.nD Cert.MergeRefIdeal.τ).loc Cert.MergeRefIdeal.main_arg0) = m ((c.tc : Thread Cert.MergeBwdIdeal.nD Cert.MergeBwdIdeal.τ).loc Cert.MergeBwdIdeal.main_arg0)
      ∧ m' ((c.tc : Thread Cert.MergeRefIdeal.nD Cert.MergeRefIdeal.τ).loc Cert.MergeRefIdeal.main_arg1) = m ((c.tc : Thread Cert.MergeBwdIdeal.nD Cert.MergeBwdIdeal.τ).loc Cert.MergeBwdIdeal.main_arg1)
      ∧ m' ((c.tc : Thread Cert.MergeRefIdeal.nD Cert.MergeRefIdeal.τ).loc Cert.MergeRefIdeal.main_arg2) = m ((c.tc : Thread Cert.MergeBwdIdeal.nD Cert.MergeBwdIdeal.τ).loc Cert.MergeBwdIdeal.main_arg2)
      ∧ m' ((c.tc : Thread Cert.MergeRefIdeal.nD Cert.MergeRefIdeal.τ).loc Cert.MergeRefIdeal.main_arg3) = m ((c.tc : Thread Cert.MergeBwdIdeal.nD Cert.MergeBwdIdeal.τ).loc Cert.MergeBwdIdeal.main_arg3)
      ∧ m' ((c.tc : Thread Cert.MergeRefIdeal.nD Cert.MergeRefIdeal.τ).loc Cert.MergeRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v16_0)) (v1 : (c : Dev Cert.MergeBwdIdeal.nD) → Buf (Elt Ideal) ((c.tc : Thread Cert.MergeBwdIdeal.nD Cert.MergeBwdIdeal.τ).loc Cert.MergeBwdIdeal.main_v16_1)) (v2 : (c : Dev Cert.MergeBwdIdeal.nD) → Buf (Elt Ideal) ((c.tc : Thread Cert.MergeBwdIdeal.nD Cert.MergeBwdIdeal.τ).loc Cert.MergeBwdIdeal.main_v16_2)) (v3 : (c : Dev Cert.MergeBwdIdeal.nD) → Buf (Elt Ideal) ((c.tc : Thread Cert.MergeBwdIdeal.nD Cert.MergeBwdIdeal.τ).loc Cert.MergeBwdIdeal.main_v16_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v16_0) = v0 c
          ∧ r.2.mem ((c.tc : Thread Cert.MergeBwdIdeal.nD Cert.MergeBwdIdeal.τ).loc Cert.MergeBwdIdeal.main_v16_1) = v1 c
          ∧ r.2.mem ((c.tc : Thread Cert.MergeBwdIdeal.nD Cert.MergeBwdIdeal.τ).loc Cert.MergeBwdIdeal.main_v16_2) = v2 c
          ∧ r.2.mem ((c.tc : Thread Cert.MergeBwdIdeal.nD Cert.MergeBwdIdeal.τ).loc Cert.MergeBwdIdeal.main_v16_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v84) = v0 c
          ∧ r.2.mem ((c.tc : Thread Cert.MergeRefIdeal.nD Cert.MergeRefIdeal.τ).loc Cert.MergeRefIdeal.main_v89) = v1 c
          ∧ r.2.mem ((c.tc : Thread Cert.MergeRefIdeal.nD Cert.MergeRefIdeal.τ).loc Cert.MergeRefIdeal.main_v94) = v2 c
          ∧ r.2.mem ((c.tc : Thread Cert.MergeRefIdeal.nD Cert.MergeRefIdeal.τ).loc Cert.MergeRefIdeal.main_v79) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_FfnDw_FfnDwIdeal : Prop :=
  True

def algebraic_FfnDwIdeal_FfnDwRefIdeal [hFfnDwIdeal : Cert.FfnDwIdeal.Facts] [hFfnDwRefIdeal : Cert.FfnDwRefIdeal.Facts] : Prop :=
  ∀ (m : (ℓ : Loc Cert.FfnDwIdeal.nD Cert.FfnDwIdeal.τ Cert.FfnDwIdeal.sig) → Buf (Elt Ideal) ℓ) (g : Dev Cert.FfnDwIdeal.nD → PrngReg)
    (m' : (ℓ : Loc Cert.FfnDwRefIdeal.nD Cert.FfnDwRefIdeal.τ Cert.FfnDwRefIdeal.sig) → Buf (Elt Ideal) ℓ) (g' : Dev Cert.FfnDwRefIdeal.nD → PrngReg), Pre_FfnDwIdeal m →
    (∀ c : Dev Cert.FfnDwIdeal.nD,
      m' ((c.tc : Thread Cert.FfnDwRefIdeal.nD Cert.FfnDwRefIdeal.τ).loc Cert.FfnDwRefIdeal.main_arg0) = m ((c.tc : Thread Cert.FfnDwIdeal.nD Cert.FfnDwIdeal.τ).loc Cert.FfnDwIdeal.main_arg0)
      ∧ m' ((c.tc : Thread Cert.FfnDwRefIdeal.nD Cert.FfnDwRefIdeal.τ).loc Cert.FfnDwRefIdeal.main_arg1) = m ((c.tc : Thread Cert.FfnDwIdeal.nD Cert.FfnDwIdeal.τ).loc Cert.FfnDwIdeal.main_arg1)) →
    ∃ (v0 : (c : Dev Cert.FfnDwIdeal.nD) → Buf (Elt Ideal) ((c.tc : Thread Cert.FfnDwIdeal.nD Cert.FfnDwIdeal.τ).loc Cert.FfnDwIdeal.main_v0)),
      θ_run (Cert.FfnDwIdeal.defs (F := Ideal)) (onTc (τ := Cert.FfnDwIdeal.τ) (Cert.FfnDwIdeal.main (F := Ideal))) ⟨m, fun _ => 0, g⟩ (fun r => ∀ c : Dev Cert.FfnDwIdeal.nD,
          r.2.mem ((c.tc : Thread Cert.FfnDwIdeal.nD Cert.FfnDwIdeal.τ).loc Cert.FfnDwIdeal.main_v0) = v0 c
          ∧ r.2.mem ((c.tc : Thread Cert.FfnDwIdeal.nD Cert.FfnDwIdeal.τ).loc Cert.FfnDwIdeal.main_arg0) = m ((c.tc : Thread Cert.FfnDwIdeal.nD Cert.FfnDwIdeal.τ).loc Cert.FfnDwIdeal.main_arg0)
          ∧ r.2.mem ((c.tc : Thread Cert.FfnDwIdeal.nD Cert.FfnDwIdeal.τ).loc Cert.FfnDwIdeal.main_arg1) = m ((c.tc : Thread Cert.FfnDwIdeal.nD Cert.FfnDwIdeal.τ).loc Cert.FfnDwIdeal.main_arg1))
      ∧ θ_run (Cert.FfnDwRefIdeal.defs (F := Ideal)) (onTc (τ := Cert.FfnDwRefIdeal.τ) (Cert.FfnDwRefIdeal.main (F := Ideal))) ⟨m', fun _ => 0, g'⟩ (fun r => ∀ c : Dev Cert.FfnDwRefIdeal.nD,
          r.2.mem ((c.tc : Thread Cert.FfnDwRefIdeal.nD Cert.FfnDwRefIdeal.τ).loc Cert.FfnDwRefIdeal.main_v6) = v0 c
          ∧ r.2.mem ((c.tc : Thread Cert.FfnDwRefIdeal.nD Cert.FfnDwRefIdeal.τ).loc Cert.FfnDwRefIdeal.main_arg0) = m' ((c.tc : Thread Cert.FfnDwRefIdeal.nD Cert.FfnDwRefIdeal.τ).loc Cert.FfnDwRefIdeal.main_arg0)
          ∧ r.2.mem ((c.tc : Thread Cert.FfnDwRefIdeal.nD Cert.FfnDwRefIdeal.τ).loc Cert.FfnDwRefIdeal.main_arg1) = m' ((c.tc : Thread Cert.FfnDwRefIdeal.nD Cert.FfnDwRefIdeal.τ).loc Cert.FfnDwRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)) →
    ∃ (v0 : (c : Dev Cert.MergeFwdIdeal.nD) → Buf (Elt Ideal) ((c.tc : Thread Cert.MergeFwdIdeal.nD Cert.MergeFwdIdeal.τ).loc Cert.MergeFwdIdeal.main_v3_0)) (v1 : (c : Dev Cert.MergeFwdIdeal.nD) → Buf (Elt Ideal) ((c.tc : Thread Cert.MergeFwdIdeal.nD Cert.MergeFwdIdeal.τ).loc Cert.MergeFwdIdeal.main_v3_1)) (v2 : (c : Dev Cert.MergeFwdIdeal.nD) → Buf (Elt Ideal) ((c.tc : Thread Cert.MergeFwdIdeal.nD Cert.MergeFwdIdeal.τ).loc Cert.MergeFwdIdeal.main_v3_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v3_0) = v0 c
          ∧ r.2.mem ((c.tc : Thread Cert.MergeFwdIdeal.nD Cert.MergeFwdIdeal.τ).loc Cert.MergeFwdIdeal.main_v3_1) = v1 c
          ∧ r.2.mem ((c.tc : Thread Cert.MergeFwdIdeal.nD Cert.MergeFwdIdeal.τ).loc Cert.MergeFwdIdeal.main_v3_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v47) = v0 c
          ∧ r.2.mem ((c.tc : Thread Cert.MergeFwdRefIdeal.nD Cert.MergeFwdRefIdeal.τ).loc Cert.MergeFwdRefIdeal.main_v70) = v1 c
          ∧ r.2.mem ((c.tc : Thread Cert.MergeFwdRefIdeal.nD Cert.MergeFwdRefIdeal.τ).loc Cert.MergeFwdRefIdeal.main_v75) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5))

def preserves_MergeDwg_MergeDwgIdeal : Prop :=
  True

def algebraic_MergeDwgIdeal_MergeDwgRefIdeal [hMergeDwgIdeal : Cert.MergeDwgIdeal.Facts] [hMergeDwgRefIdeal : Cert.MergeDwgRefIdeal.Facts] : Prop :=
  ∀ (m : (ℓ : Loc Cert.MergeDwgIdeal.nD Cert.MergeDwgIdeal.τ Cert.MergeDwgIdeal.sig) → Buf (Elt Ideal) ℓ) (g : Dev Cert.MergeDwgIdeal.nD → PrngReg)
    (m' : (ℓ : Loc Cert.MergeDwgRefIdeal.nD Cert.MergeDwgRefIdeal.τ Cert.MergeDwgRefIdeal.sig) → Buf (Elt Ideal) ℓ) (g' : Dev Cert.MergeDwgRefIdeal.nD → PrngReg), Pre_MergeDwgIdeal m →
    (∀ c : Dev Cert.MergeDwgIdeal.nD,
      m' ((c.tc : Thread Cert.MergeDwgRefIdeal.nD Cert.MergeDwgRefIdeal.τ).loc Cert.MergeDwgRefIdeal.main_arg0) = m ((c.tc : Thread Cert.MergeDwgIdeal.nD Cert.MergeDwgIdeal.τ).loc Cert.MergeDwgIdeal.main_arg0)
      ∧ m' ((c.tc : Thread Cert.MergeDwgRefIdeal.nD Cert.MergeDwgRefIdeal.τ).loc Cert.MergeDwgRefIdeal.main_arg1) = m ((c.tc : Thread Cert.MergeDwgIdeal.nD Cert.MergeDwgIdeal.τ).loc Cert.MergeDwgIdeal.main_arg1)) →
    ∃ (v0 : (c : Dev Cert.MergeDwgIdeal.nD) → Buf (Elt Ideal) ((c.tc : Thread Cert.MergeDwgIdeal.nD Cert.MergeDwgIdeal.τ).loc Cert.MergeDwgIdeal.main_v0)),
      θ_run (Cert.MergeDwgIdeal.defs (F := Ideal)) (onTc (τ := Cert.MergeDwgIdeal.τ) (Cert.MergeDwgIdeal.main (F := Ideal))) ⟨m, fun _ => 0, g⟩ (fun r => ∀ c : Dev Cert.MergeDwgIdeal.nD,
          r.2.mem ((c.tc : Thread Cert.MergeDwgIdeal.nD Cert.MergeDwgIdeal.τ).loc Cert.MergeDwgIdeal.main_v0) = v0 c
          ∧ r.2.mem ((c.tc : Thread Cert.MergeDwgIdeal.nD Cert.MergeDwgIdeal.τ).loc Cert.MergeDwgIdeal.main_arg0) = m ((c.tc : Thread Cert.MergeDwgIdeal.nD Cert.MergeDwgIdeal.τ).loc Cert.MergeDwgIdeal.main_arg0)
          ∧ r.2.mem ((c.tc : Thread Cert.MergeDwgIdeal.nD Cert.MergeDwgIdeal.τ).loc Cert.MergeDwgIdeal.main_arg1) = m ((c.tc : Thread Cert.MergeDwgIdeal.nD Cert.MergeDwgIdeal.τ).loc Cert.MergeDwgIdeal.main_arg1))
      ∧ θ_run (Cert.MergeDwgRefIdeal.defs (F := Ideal)) (onTc (τ := Cert.MergeDwgRefIdeal.τ) (Cert.MergeDwgRefIdeal.main (F := Ideal))) ⟨m', fun _ => 0, g'⟩ (fun r => ∀ c : Dev Cert.MergeDwgRefIdeal.nD,
          r.2.mem ((c.tc : Thread Cert.MergeDwgRefIdeal.nD Cert.MergeDwgRefIdeal.τ).loc Cert.MergeDwgRefIdeal.main_v8) = v0 c
          ∧ r.2.mem ((c.tc : Thread Cert.MergeDwgRefIdeal.nD Cert.MergeDwgRefIdeal.τ).loc Cert.MergeDwgRefIdeal.main_arg0) = m' ((c.tc : Thread Cert.MergeDwgRefIdeal.nD Cert.MergeDwgRefIdeal.τ).loc Cert.MergeDwgRefIdeal.main_arg0)
          ∧ r.2.mem ((c.tc : Thread Cert.MergeDwgRefIdeal.nD Cert.MergeDwgRefIdeal.τ).loc Cert.MergeDwgRefIdeal.main_arg1) = m' ((c.tc : Thread Cert.MergeDwgRefIdeal.nD Cert.MergeDwgRefIdeal.τ).loc Cert.MergeDwgRefIdeal.main_arg1))

def preserves_MergeDwb_MergeDwbIdeal : Prop :=
  True

def algebraic_MergeDwbIdeal_MergeDwbRefIdeal [hMergeDwbIdeal : Cert.MergeDwbIdeal.Facts] [hMergeDwbRefIdeal : Cert.MergeDwbRefIdeal.Facts] : Prop :=
  ∀ (m : (ℓ : Loc Cert.MergeDwbIdeal.nD Cert.MergeDwbIdeal.τ Cert.MergeDwbIdeal.sig) → Buf (Elt Ideal) ℓ) (g : Dev Cert.MergeDwbIdeal.nD → PrngReg)
    (m' : (ℓ : Loc Cert.MergeDwbRefIdeal.nD Cert.MergeDwbRefIdeal.τ Cert.MergeDwbRefIdeal.sig) → Buf (Elt Ideal) ℓ) (g' : Dev Cert.MergeDwbRefIdeal.nD → PrngReg), Pre_MergeDwbIdeal m →
    (∀ c : Dev Cert.MergeDwbIdeal.nD,
      m' ((c.tc : Thread Cert.MergeDwbRefIdeal.nD Cert.MergeDwbRefIdeal.τ).loc Cert.MergeDwbRefIdeal.main_arg0) = m ((c.tc : Thread Cert.MergeDwbIdeal.nD Cert.MergeDwbIdeal.τ).loc Cert.MergeDwbIdeal.main_arg0)
      ∧ m' ((c.tc : Thread Cert.MergeDwbRefIdeal.nD Cert.MergeDwbRefIdeal.τ).loc Cert.MergeDwbRefIdeal.main_arg1) = m ((c.tc : Thread Cert.MergeDwbIdeal.nD Cert.MergeDwbIdeal.τ).loc Cert.MergeDwbIdeal.main_arg1)
      ∧ m' ((c.tc : Thread Cert.MergeDwbRefIdeal.nD Cert.MergeDwbRefIdeal.τ).loc Cert.MergeDwbRefIdeal.main_arg2) = m ((c.tc : Thread Cert.MergeDwbIdeal.nD Cert.MergeDwbIdeal.τ).loc Cert.MergeDwbIdeal.main_arg2)
      ∧ m' ((c.tc : Thread Cert.MergeDwbRefIdeal.nD Cert.MergeDwbRefIdeal.τ).loc Cert.MergeDwbRefIdeal.main_arg3) = m ((c.tc : Thread Cert.MergeDwbIdeal.nD Cert.MergeDwbIdeal.τ).loc Cert.MergeDwbIdeal.main_arg3)) →
    ∃ (v0 : (c : Dev Cert.MergeDwbIdeal.nD) → Buf (Elt Ideal) ((c.tc : Thread Cert.MergeDwbIdeal.nD Cert.MergeDwbIdeal.τ).loc Cert.MergeDwbIdeal.main_v0)),
      θ_run (Cert.MergeDwbIdeal.defs (F := Ideal)) (onTc (τ := Cert.MergeDwbIdeal.τ) (Cert.MergeDwbIdeal.main (F := Ideal))) ⟨m, fun _ => 0, g⟩ (fun r => ∀ c : Dev Cert.MergeDwbIdeal.nD,
          r.2.mem ((c.tc : Thread Cert.MergeDwbIdeal.nD Cert.MergeDwbIdeal.τ).loc Cert.MergeDwbIdeal.main_v0) = v0 c
          ∧ r.2.mem ((c.tc : Thread Cert.MergeDwbIdeal.nD Cert.MergeDwbIdeal.τ).loc Cert.MergeDwbIdeal.main_arg0) = m ((c.tc : Thread Cert.MergeDwbIdeal.nD Cert.MergeDwbIdeal.τ).loc Cert.MergeDwbIdeal.main_arg0)
          ∧ r.2.mem ((c.tc : Thread Cert.MergeDwbIdeal.nD Cert.MergeDwbIdeal.τ).loc Cert.MergeDwbIdeal.main_arg1) = m ((c.tc : Thread Cert.MergeDwbIdeal.nD Cert.MergeDwbIdeal.τ).loc Cert.MergeDwbIdeal.main_arg1)
          ∧ r.2.mem ((c.tc : Thread Cert.MergeDwbIdeal.nD Cert.MergeDwbIdeal.τ).loc Cert.MergeDwbIdeal.main_arg2) = m ((c.tc : Thread Cert.MergeDwbIdeal.nD Cert.MergeDwbIdeal.τ).loc Cert.MergeDwbIdeal.main_arg2)
          ∧ r.2.mem ((c.tc : Thread Cert.MergeDwbIdeal.nD Cert.MergeDwbIdeal.τ).loc Cert.MergeDwbIdeal.main_arg3) = m ((c.tc : Thread Cert.MergeDwbIdeal.nD Cert.MergeDwbIdeal.τ).loc Cert.MergeDwbIdeal.main_arg3))
      ∧ θ_run (Cert.MergeDwbRefIdeal.defs (F := Ideal)) (onTc (τ := Cert.MergeDwbRefIdeal.τ) (Cert.MergeDwbRefIdeal.main (F := Ideal))) ⟨m', fun _ => 0, g'⟩ (fun r => ∀ c : Dev Cert.MergeDwbRefIdeal.nD,
          r.2.mem ((c.tc : Thread Cert.MergeDwbRefIdeal.nD Cert.MergeDwbRefIdeal.τ).loc Cert.MergeDwbRefIdeal.main_v11) = v0 c
          ∧ r.2.mem ((c.tc : Thread Cert.MergeDwbRefIdeal.nD Cert.MergeDwbRefIdeal.τ).loc Cert.MergeDwbRefIdeal.main_arg0) = m' ((c.tc : Thread Cert.MergeDwbRefIdeal.nD Cert.MergeDwbRefIdeal.τ).loc Cert.MergeDwbRefIdeal.main_arg0)
          ∧ r.2.mem ((c.tc : Thread Cert.MergeDwbRefIdeal.nD Cert.MergeDwbRefIdeal.τ).loc Cert.MergeDwbRefIdeal.main_arg1) = m' ((c.tc : Thread Cert.MergeDwbRefIdeal.nD Cert.MergeDwbRefIdeal.τ).loc Cert.MergeDwbRefIdeal.main_arg1)
          ∧ r.2.mem ((c.tc : Thread Cert.MergeDwbRefIdeal.nD Cert.MergeDwbRefIdeal.τ).loc Cert.MergeDwbRefIdeal.main_arg2) = m' ((c.tc : Thread Cert.MergeDwbRefIdeal.nD Cert.MergeDwbRefIdeal.τ).loc Cert.MergeDwbRefIdeal.main_arg2)
          ∧ r.2.mem ((c.tc : Thread Cert.MergeDwbRefIdeal.nD Cert.MergeDwbRefIdeal.τ).loc Cert.MergeDwbRefIdeal.main_arg3) = m' ((c.tc : Thread Cert.MergeDwbRefIdeal.nD Cert.MergeDwbRefIdeal.τ).loc Cert.MergeDwbRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v23) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_InDh_InDhIdeal : Prop :=
  True

def algebraic_InDhIdeal_InDhRefIdeal [hInDhIdeal : Cert.InDhIdeal.Facts] [hInDhRefIdeal : Cert.InDhRefIdeal.Facts] : Prop :=
  ∀ (m : (ℓ : Loc Cert.InDhIdeal.nD Cert.InDhIdeal.τ Cert.InDhIdeal.sig) → Buf (Elt Ideal) ℓ) (g : Dev Cert.InDhIdeal.nD → PrngReg)
    (m' : (ℓ : Loc Cert.InDhRefIdeal.nD Cert.InDhRefIdeal.τ Cert.InDhRefIdeal.sig) → Buf (Elt Ideal) ℓ) (g' : Dev Cert.InDhRefIdeal.nD → PrngReg), Pre_InDhIdeal m →
    (∀ c : Dev Cert.InDhIdeal.nD,
      m' ((c.tc : Thread Cert.InDhRefIdeal.nD Cert.InDhRefIdeal.τ).loc Cert.InDhRefIdeal.main_arg0) = m ((c.tc : Thread Cert.InDhIdeal.nD Cert.InDhIdeal.τ).loc Cert.InDhIdeal.main_arg0)
      ∧ m' ((c.tc : Thread Cert.InDhRefIdeal.nD Cert.InDhRefIdeal.τ).loc Cert.InDhRefIdeal.main_arg1) = m ((c.tc : Thread Cert.InDhIdeal.nD Cert.InDhIdeal.τ).loc Cert.InDhIdeal.main_arg1)
      ∧ m' ((c.tc : Thread Cert.InDhRefIdeal.nD Cert.InDhRefIdeal.τ).loc Cert.InDhRefIdeal.main_arg2) = m ((c.tc : Thread Cert.InDhIdeal.nD Cert.InDhIdeal.τ).loc Cert.InDhIdeal.main_arg2)
      ∧ m' ((c.tc : Thread Cert.InDhRefIdeal.nD Cert.InDhRefIdeal.τ).loc Cert.InDhRefIdeal.main_arg3) = m ((c.tc : Thread Cert.InDhIdeal.nD Cert.InDhIdeal.τ).loc Cert.InDhIdeal.main_arg3)
      ∧ m' ((c.tc : Thread Cert.InDhRefIdeal.nD Cert.InDhRefIdeal.τ).loc Cert.InDhRefIdeal.main_arg4) = m ((c.tc : Thread Cert.InDhIdeal.nD Cert.InDhIdeal.τ).loc Cert.InDhIdeal.main_arg4)) →
    ∃ (v0 : (c : Dev Cert.InDhIdeal.nD) → Buf (Elt Ideal) ((c.tc : Thread Cert.InDhIdeal.nD Cert.InDhIdeal.τ).loc Cert.InDhIdeal.main_v2)),
      θ_run (Cert.InDhIdeal.defs (F := Ideal)) (onTc (τ := Cert.InDhIdeal.τ) (Cert.InDhIdeal.main (F := Ideal))) ⟨m, fun _ => 0, g⟩ (fun r => ∀ c : Dev Cert.InDhIdeal.nD,
          r.2.mem ((c.tc : Thread Cert.InDhIdeal.nD Cert.InDhIdeal.τ).loc Cert.InDhIdeal.main_v2) = v0 c
          ∧ r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
          ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1)
          ∧ r.2.mem ((c.tc : Thread Cert.InDhIdeal.nD Cert.InDhIdeal.τ).loc Cert.InDhIdeal.main_arg2) = m ((c.tc : Thread Cert.InDhIdeal.nD Cert.InDhIdeal.τ).loc Cert.InDhIdeal.main_arg2)
          ∧ r.2.mem ((c.tc : Thread Cert.InDhIdeal.nD Cert.InDhIdeal.τ).loc Cert.InDhIdeal.main_arg3) = m ((c.tc : Thread Cert.InDhIdeal.nD Cert.InDhIdeal.τ).loc Cert.InDhIdeal.main_arg3)
          ∧ r.2.mem ((c.tc : Thread Cert.InDhIdeal.nD Cert.InDhIdeal.τ).loc Cert.InDhIdeal.main_arg4) = m ((c.tc : Thread Cert.InDhIdeal.nD Cert.InDhIdeal.τ).loc Cert.InDhIdeal.main_arg4))
      ∧ θ_run (Cert.InDhRefIdeal.defs (F := Ideal)) (onTc (τ := Cert.InDhRefIdeal.τ) (Cert.InDhRefIdeal.main (F := Ideal))) ⟨m', fun _ => 0, g'⟩ (fun r => ∀ c : Dev Cert.InDhRefIdeal.nD,
          r.2.mem ((c.tc : Thread Cert.InDhRefIdeal.nD Cert.InDhRefIdeal.τ).loc Cert.InDhRefIdeal.main_v44) = v0 c
          ∧ r.2.mem ((c.tc : Thread Cert.InDhRefIdeal.nD Cert.InDhRefIdeal.τ).loc Cert.InDhRefIdeal.main_arg0) = m' ((c.tc : Thread Cert.InDhRefIdeal.nD Cert.InDhRefIdeal.τ).loc Cert.InDhRefIdeal.main_arg0)
          ∧ r.2.mem ((c.tc : Thread Cert.InDhRefIdeal.nD Cert.InDhRefIdeal.τ).loc Cert.InDhRefIdeal.main_arg1) = m' ((c.tc : Thread Cert.InDhRefIdeal.nD Cert.InDhRefIdeal.τ).loc Cert.InDhRefIdeal.main_arg1)
          ∧ r.2.mem ((c.tc : Thread Cert.InDhRefIdeal.nD Cert.InDhRefIdeal.τ).loc Cert.InDhRefIdeal.main_arg2) = m' ((c.tc : Thread Cert.InDhRefIdeal.nD Cert.InDhRefIdeal.τ).loc Cert.InDhRefIdeal.main_arg2)
          ∧ r.2.mem ((c.tc : Thread Cert.InDhRefIdeal.nD Cert.InDhRefIdeal.τ).loc Cert.InDhRefIdeal.main_arg3) = m' ((c.tc : Thread Cert.InDhRefIdeal.nD Cert.InDhRefIdeal.τ).loc Cert.InDhRefIdeal.main_arg3)
          ∧ r.2.mem ((c.tc : Thread Cert.InDhRefIdeal.nD Cert.InDhRefIdeal.τ).loc Cert.InDhRefIdeal.main_arg4) = m' ((c.tc : Thread Cert.InDhRefIdeal.nD Cert.InDhRefIdeal.τ).loc Cert.InDhRefIdeal.main_arg4))

def preserves_InDwA_InDwAIdeal : Prop :=
  True

def algebraic_InDwAIdeal_InDwARefIdeal [hInDwAIdeal : Cert.InDwAIdeal.Facts] [hInDwARefIdeal : Cert.InDwARefIdeal.Facts] : Prop :=
  ∀ (m : (ℓ : Loc Cert.InDwAIdeal.nD Cert.InDwAIdeal.τ Cert.InDwAIdeal.sig) → Buf (Elt Ideal) ℓ) (g : Dev Cert.InDwAIdeal.nD → PrngReg)
    (m' : (ℓ : Loc Cert.InDwARefIdeal.nD Cert.InDwARefIdeal.τ Cert.InDwARefIdeal.sig) → Buf (Elt Ideal) ℓ) (g' : Dev Cert.InDwARefIdeal.nD → PrngReg), Pre_InDwAIdeal m →
    (∀ c : Dev Cert.InDwAIdeal.nD,
      m' ((c.tc : Thread Cert.InDwARefIdeal.nD Cert.InDwARefIdeal.τ).loc Cert.InDwARefIdeal.main_arg0) = m ((c.tc : Thread Cert.InDwAIdeal.nD Cert.InDwAIdeal.τ).loc Cert.InDwAIdeal.main_arg0)
      ∧ m' ((c.tc : Thread Cert.InDwARefIdeal.nD Cert.InDwARefIdeal.τ).loc Cert.InDwARefIdeal.main_arg1) = m ((c.tc : Thread Cert.InDwAIdeal.nD Cert.InDwAIdeal.τ).loc Cert.InDwAIdeal.main_arg1)) →
    ∃ (v0 : (c : Dev Cert.InDwAIdeal.nD) → Buf (Elt Ideal) ((c.tc : Thread Cert.InDwAIdeal.nD Cert.InDwAIdeal.τ).loc Cert.InDwAIdeal.main_v0)),
      θ_run (Cert.InDwAIdeal.defs (F := Ideal)) (onTc (τ := Cert.InDwAIdeal.τ) (Cert.InDwAIdeal.main (F := Ideal))) ⟨m, fun _ => 0, g⟩ (fun r => ∀ c : Dev Cert.InDwAIdeal.nD,
          r.2.mem ((c.tc : Thread Cert.InDwAIdeal.nD Cert.InDwAIdeal.τ).loc Cert.InDwAIdeal.main_v0) = v0 c
          ∧ r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
          ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1))
      ∧ θ_run (Cert.InDwARefIdeal.defs (F := Ideal)) (onTc (τ := Cert.InDwARefIdeal.τ) (Cert.InDwARefIdeal.main (F := Ideal))) ⟨m', fun _ => 0, g'⟩ (fun r => ∀ c : Dev Cert.InDwARefIdeal.nD,
          r.2.mem ((c.tc : Thread Cert.InDwARefIdeal.nD Cert.InDwARefIdeal.τ).loc Cert.InDwARefIdeal.main_v17) = v0 c
          ∧ r.2.mem ((c.tc : Thread Cert.InDwARefIdeal.nD Cert.InDwARefIdeal.τ).loc Cert.InDwARefIdeal.main_arg0) = m' ((c.tc : Thread Cert.InDwARefIdeal.nD Cert.InDwARefIdeal.τ).loc Cert.InDwARefIdeal.main_arg0)
          ∧ r.2.mem ((c.tc : Thread Cert.InDwARefIdeal.nD Cert.InDwARefIdeal.τ).loc Cert.InDwARefIdeal.main_arg1) = m' ((c.tc : Thread Cert.InDwARefIdeal.nD Cert.InDwARefIdeal.τ).loc Cert.InDwARefIdeal.main_arg1))

def preserves_InDwB_InDwBIdeal : Prop :=
  True

def algebraic_InDwBIdeal_InDwBRefIdeal [hInDwBIdeal : Cert.InDwBIdeal.Facts] [hInDwBRefIdeal : Cert.InDwBRefIdeal.Facts] : Prop :=
  ∀ (m : (ℓ : Loc Cert.InDwBIdeal.nD Cert.InDwBIdeal.τ Cert.InDwBIdeal.sig) → Buf (Elt Ideal) ℓ) (g : Dev Cert.InDwBIdeal.nD → PrngReg)
    (m' : (ℓ : Loc Cert.InDwBRefIdeal.nD Cert.InDwBRefIdeal.τ Cert.InDwBRefIdeal.sig) → Buf (Elt Ideal) ℓ) (g' : Dev Cert.InDwBRefIdeal.nD → PrngReg), Pre_InDwBIdeal m →
    (∀ c : Dev Cert.InDwBIdeal.nD,
      m' ((c.tc : Thread Cert.InDwBRefIdeal.nD Cert.InDwBRefIdeal.τ).loc Cert.InDwBRefIdeal.main_arg0) = m ((c.tc : Thread Cert.InDwBIdeal.nD Cert.InDwBIdeal.τ).loc Cert.InDwBIdeal.main_arg0)
      ∧ m' ((c.tc : Thread Cert.InDwBRefIdeal.nD Cert.InDwBRefIdeal.τ).loc Cert.InDwBRefIdeal.main_arg1) = m ((c.tc : Thread Cert.InDwBIdeal.nD Cert.InDwBIdeal.τ).loc Cert.InDwBIdeal.main_arg1)) →
    ∃ (v0 : (c : Dev Cert.InDwBIdeal.nD) → Buf (Elt Ideal) ((c.tc : Thread Cert.InDwBIdeal.nD Cert.InDwBIdeal.τ).loc Cert.InDwBIdeal.main_v0)),
      θ_run (Cert.InDwBIdeal.defs (F := Ideal)) (onTc (τ := Cert.InDwBIdeal.τ) (Cert.InDwBIdeal.main (F := Ideal))) ⟨m, fun _ => 0, g⟩ (fun r => ∀ c : Dev Cert.InDwBIdeal.nD,
          r.2.mem ((c.tc : Thread Cert.InDwBIdeal.nD Cert.InDwBIdeal.τ).loc Cert.InDwBIdeal.main_v0) = v0 c
          ∧ r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
          ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1))
      ∧ θ_run (Cert.InDwBRefIdeal.defs (F := Ideal)) (onTc (τ := Cert.InDwBRefIdeal.τ) (Cert.InDwBRefIdeal.main (F := Ideal))) ⟨m', fun _ => 0, g'⟩ (fun r => ∀ c : Dev Cert.InDwBRefIdeal.nD,
          r.2.mem ((c.tc : Thread Cert.InDwBRefIdeal.nD Cert.InDwBRefIdeal.τ).loc Cert.InDwBRefIdeal.main_v20) = v0 c
          ∧ r.2.mem ((c.tc : Thread Cert.InDwBRefIdeal.nD Cert.InDwBRefIdeal.τ).loc Cert.InDwBRefIdeal.main_arg0) = m' ((c.tc : Thread Cert.InDwBRefIdeal.nD Cert.InDwBRefIdeal.τ).loc Cert.InDwBRefIdeal.main_arg0)
          ∧ r.2.mem ((c.tc : Thread Cert.InDwBRefIdeal.nD Cert.InDwBRefIdeal.τ).loc Cert.InDwBRefIdeal.main_arg1) = m' ((c.tc : Thread Cert.InDwBRefIdeal.nD Cert.InDwBRefIdeal.τ).loc Cert.InDwBRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_OutDm_OutDmIdeal : Prop :=
  True

def algebraic_OutDmIdeal_OutDmRefIdeal [hOutDmIdeal : Cert.OutDmIdeal.Facts] [hOutDmRefIdeal : Cert.OutDmRefIdeal.Facts] : Prop :=
  ∀ (m : (ℓ : Loc Cert.OutDmIdeal.nD Cert.OutDmIdeal.τ Cert.OutDmIdeal.sig) → Buf (Elt Ideal) ℓ) (g : Dev Cert.OutDmIdeal.nD → PrngReg)
    (m' : (ℓ : Loc Cert.OutDmRefIdeal.nD Cert.OutDmRefIdeal.τ Cert.OutDmRefIdeal.sig) → Buf (Elt Ideal) ℓ) (g' : Dev Cert.OutDmRefIdeal.nD → PrngReg), Pre_OutDmIdeal m →
    (∀ c : Dev Cert.OutDmIdeal.nD,
      m' ((c.tc : Thread Cert.OutDmRefIdeal.nD Cert.OutDmRefIdeal.τ).loc Cert.OutDmRefIdeal.main_arg0) = m ((c.tc : Thread Cert.OutDmIdeal.nD Cert.OutDmIdeal.τ).loc Cert.OutDmIdeal.main_arg0)
      ∧ m' ((c.tc : Thread Cert.OutDmRefIdeal.nD Cert.OutDmRefIdeal.τ).loc Cert.OutDmRefIdeal.main_arg1) = m ((c.tc : Thread Cert.OutDmIdeal.nD Cert.OutDmIdeal.τ).loc Cert.OutDmIdeal.main_arg1)) →
    ∃ (v0 : (c : Dev Cert.OutDmIdeal.nD) → Buf (Elt Ideal) ((c.tc : Thread Cert.OutDmIdeal.nD Cert.OutDmIdeal.τ).loc Cert.OutDmIdeal.main_v1)),
      θ_run (Cert.OutDmIdeal.defs (F := Ideal)) (onTc (τ := Cert.OutDmIdeal.τ) (Cert.OutDmIdeal.main (F := Ideal))) ⟨m, fun _ => 0, g⟩ (fun r => ∀ c : Dev Cert.OutDmIdeal.nD,
          r.2.mem ((c.tc : Thread Cert.OutDmIdeal.nD Cert.OutDmIdeal.τ).loc Cert.OutDmIdeal.main_v1) = v0 c
          ∧ r.2.mem ((c.tc : Thread Cert.OutDmIdeal.nD Cert.OutDmIdeal.τ).loc Cert.OutDmIdeal.main_arg0) = m ((c.tc : Thread Cert.OutDmIdeal.nD Cert.OutDmIdeal.τ).loc Cert.OutDmIdeal.main_arg0)
          ∧ r.2.mem ((c.tc : Thread Cert.OutDmIdeal.nD Cert.OutDmIdeal.τ).loc Cert.OutDmIdeal.main_arg1) = m ((c.tc : Thread Cert.OutDmIdeal.nD Cert.OutDmIdeal.τ).loc Cert.OutDmIdeal.main_arg1))
      ∧ θ_run (Cert.OutDmRefIdeal.defs (F := Ideal)) (onTc (τ := Cert.OutDmRefIdeal.τ) (Cert.OutDmRefIdeal.main (F := Ideal))) ⟨m', fun _ => 0, g'⟩ (fun r => ∀ c : Dev Cert.OutDmRefIdeal.nD,
          r.2.mem ((c.tc : Thread Cert.OutDmRefIdeal.nD Cert.OutDmRefIdeal.τ).loc Cert.OutDmRefIdeal.main_v3) = v0 c
          ∧ r.2.mem ((c.tc : Thread Cert.OutDmRefIdeal.nD Cert.OutDmRefIdeal.τ).loc Cert.OutDmRefIdeal.main_arg0) = m' ((c.tc : Thread Cert.OutDmRefIdeal.nD Cert.OutDmRefIdeal.τ).loc Cert.OutDmRefIdeal.main_arg0)
          ∧ r.2.mem ((c.tc : Thread Cert.OutDmRefIdeal.nD Cert.OutDmRefIdeal.τ).loc Cert.OutDmRefIdeal.main_arg1) = m' ((c.tc : Thread Cert.OutDmRefIdeal.nD Cert.OutDmRefIdeal.τ).loc Cert.OutDmRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)) (v3 : (c : Dev Cert.FfnFwdIdeal.nD) → Buf (Elt Ideal) ((c.tc : Thread Cert.FfnFwdIdeal.nD Cert.FfnFwdIdeal.τ).loc Cert.FfnFwdIdeal.main_v6_3)) (v4 : (c : Dev Cert.FfnFwdIdeal.nD) → Buf (Elt Ideal) ((c.tc : Thread Cert.FfnFwdIdeal.nD Cert.FfnFwdIdeal.τ).loc Cert.FfnFwdIdeal.main_v6_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_v6_3) = v3 c
          ∧ r.2.mem ((c.tc : Thread Cert.FfnFwdIdeal.nD Cert.FfnFwdIdeal.τ).loc Cert.FfnFwdIdeal.main_v6_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v20) = v0 c
          ∧ r.2.mem ((c.tc : Thread Cert.FfnFwdRefIdeal.nD Cert.FfnFwdRefIdeal.τ).loc Cert.FfnFwdRefIdeal.main_v21) = v1 c
          ∧ r.2.mem ((c.tc : Thread Cert.FfnFwdRefIdeal.nD Cert.FfnFwdRefIdeal.τ).loc Cert.FfnFwdRefIdeal.main_v22) = v2 c
          ∧ r.2.mem ((c.tc : Thread Cert.FfnFwdRefIdeal.nD Cert.FfnFwdRefIdeal.τ).loc Cert.FfnFwdRefIdeal.main_v23) = v3 c
          ∧ r.2.mem ((c.tc : Thread Cert.FfnFwdRefIdeal.nD Cert.FfnFwdRefIdeal.τ).loc Cert.FfnFwdRefIdeal.main_v24) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_FfnBwd_FfnBwdIdeal : Prop :=
  True

def algebraic_FfnBwdIdeal_FfnRefIdeal_pre_finite [hFfnBwdIdeal : Cert.FfnBwdIdeal.Facts] [hFfnRefIdeal : Cert.FfnRefIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)
      ∧ m' ((c.tc : Thread Cert.FfnRefIdeal.nD Cert.FfnRefIdeal.τ).loc Cert.FfnRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v23_0)) (v1 : (c : Dev Cert.FfnBwdIdeal.nD) → Buf (Elt Ideal) ((c.tc : Thread Cert.FfnBwdIdeal.nD Cert.FfnBwdIdeal.τ).loc Cert.FfnBwdIdeal.main_v23_1)) (v2 : (c : Dev Cert.FfnBwdIdeal.nD) → Buf (Elt Ideal) ((c.tc : Thread Cert.FfnBwdIdeal.nD Cert.FfnBwdIdeal.τ).loc Cert.FfnBwdIdeal.main_v23_2)) (v3 : (c : Dev Cert.FfnBwdIdeal.nD) → Buf (Elt Ideal) ((c.tc : Thread Cert.FfnBwdIdeal.nD Cert.FfnBwdIdeal.τ).loc Cert.FfnBwdIdeal.main_v23_3)) (v4 : (c : Dev Cert.FfnBwdIdeal.nD) → Buf (Elt Ideal) ((c.tc : Thread Cert.FfnBwdIdeal.nD Cert.FfnBwdIdeal.τ).loc Cert.FfnBwdIdeal.main_v23_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v23_0) = v0 c
          ∧ r.2.mem ((c.tc : Thread Cert.FfnBwdIdeal.nD Cert.FfnBwdIdeal.τ).loc Cert.FfnBwdIdeal.main_v23_1) = v1 c
          ∧ r.2.mem ((c.tc : Thread Cert.FfnBwdIdeal.nD Cert.FfnBwdIdeal.τ).loc Cert.FfnBwdIdeal.main_v23_2) = v2 c
          ∧ r.2.mem ((c.tc : Thread Cert.FfnBwdIdeal.nD Cert.FfnBwdIdeal.τ).loc Cert.FfnBwdIdeal.main_v23_3) = v3 c
          ∧ r.2.mem ((c.tc : Thread Cert.FfnBwdIdeal.nD Cert.FfnBwdIdeal.τ).loc Cert.FfnBwdIdeal.main_v23_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v53) = v0 c
          ∧ r.2.mem ((c.tc : Thread Cert.FfnRefIdeal.nD Cert.FfnRefIdeal.τ).loc Cert.FfnRefIdeal.main_v54) = v1 c
          ∧ r.2.mem ((c.tc : Thread Cert.FfnRefIdeal.nD Cert.FfnRefIdeal.τ).loc Cert.FfnRefIdeal.main_v55) = v2 c
          ∧ r.2.mem ((c.tc : Thread Cert.FfnRefIdeal.nD Cert.FfnRefIdeal.τ).loc Cert.FfnRefIdeal.main_v56) = v3 c
          ∧ r.2.mem ((c.tc : Thread Cert.FfnRefIdeal.nD Cert.FfnRefIdeal.τ).loc Cert.FfnRefIdeal.main_v36) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_NormBwd_NormBwdIdeal : Prop :=
  True

def algebraic_NormBwdIdeal_NormRefIdeal_pre_finite_norm [hNormBwdIdeal : Cert.NormBwdIdeal.Facts] [hNormRefIdeal : Cert.NormRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal_finite_norm m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)
      ∧ m' ((c.tc : Thread Cert.NormRefIdeal.nD Cert.NormRefIdeal.τ).loc Cert.NormRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v18) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v39) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_v50) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def Claim : Prop :=
  ∃ (hConvBwd : Cert.ConvBwd.Facts) (hConvBwdIdeal : Cert.ConvBwdIdeal.Facts) (hConvRefIdeal : Cert.ConvRefIdeal.Facts) (hMergeBwd : Cert.MergeBwd.Facts) (hMergeBwdIdeal : Cert.MergeBwdIdeal.Facts) (hMergeRefIdeal : Cert.MergeRefIdeal.Facts) (hFfnDw : Cert.FfnDw.Facts) (hFfnDwIdeal : Cert.FfnDwIdeal.Facts) (hFfnDwRefIdeal : Cert.FfnDwRefIdeal.Facts) (hMergeFwd : Cert.MergeFwd.Facts) (hMergeFwdIdeal : Cert.MergeFwdIdeal.Facts) (hMergeFwdRefIdeal : Cert.MergeFwdRefIdeal.Facts) (hMergeDwg : Cert.MergeDwg.Facts) (hMergeDwgIdeal : Cert.MergeDwgIdeal.Facts) (hMergeDwgRefIdeal : Cert.MergeDwgRefIdeal.Facts) (hMergeDwb : Cert.MergeDwb.Facts) (hMergeDwbIdeal : Cert.MergeDwbIdeal.Facts) (hMergeDwbRefIdeal : Cert.MergeDwbRefIdeal.Facts) (hInFwd : Cert.InFwd.Facts) (hInFwdIdeal : Cert.InFwdIdeal.Facts) (hInFwdRefIdeal : Cert.InFwdRefIdeal.Facts) (hInDh : Cert.InDh.Facts) (hInDhIdeal : Cert.InDhIdeal.Facts) (hInDhRefIdeal : Cert.InDhRefIdeal.Facts) (hInDwA : Cert.InDwA.Facts) (hInDwAIdeal : Cert.InDwAIdeal.Facts) (hInDwARefIdeal : Cert.InDwARefIdeal.Facts) (hInDwB : Cert.InDwB.Facts) (hInDwBIdeal : Cert.InDwBIdeal.Facts) (hInDwBRefIdeal : Cert.InDwBRefIdeal.Facts) (hOutFwd : Cert.OutFwd.Facts) (hOutFwdIdeal : Cert.OutFwdIdeal.Facts) (hOutFwdRefIdeal : Cert.OutFwdRefIdeal.Facts) (hOutDm : Cert.OutDm.Facts) (hOutDmIdeal : Cert.OutDmIdeal.Facts) (hOutDmRefIdeal : Cert.OutDmRefIdeal.Facts) (hOutDw : Cert.OutDw.Facts) (hOutDwIdeal : Cert.OutDwIdeal.Facts) (hOutDwRefIdeal : Cert.OutDwRefIdeal.Facts) (hFfnFwd : Cert.FfnFwd.Facts) (hFfnFwdIdeal : Cert.FfnFwdIdeal.Facts) (hFfnFwdRefIdeal : Cert.FfnFwdRefIdeal.Facts) (hFfnBwd : Cert.FfnBwd.Facts) (hFfnBwdIdeal : Cert.FfnBwdIdeal.Facts) (hFfnRefIdeal : Cert.FfnRefIdeal.Facts) (hNormBwd : Cert.NormBwd.Facts) (hNormBwdIdeal : Cert.NormBwdIdeal.Facts) (hNormRefIdeal : Cert.NormRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hLoss : Cert.Loss.Facts) (hLossIdeal : Cert.LossIdeal.Facts) (hLossRefIdeal : Cert.LossRefIdeal.Facts) (hPre_finite : Cert.Pre_finite.Facts) (hPre_finite_norm : Cert.Pre_finite_norm.Facts) (hPre_finite_loss : Cert.Pre_finite_loss.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_MergeBwd (hMergeBwd := hMergeBwd)
    ∧ quiescent_MergeBwdIdeal (hMergeBwdIdeal := hMergeBwdIdeal)
    ∧ quiescent_MergeRefIdeal (hMergeRefIdeal := hMergeRefIdeal)
    ∧ quiescent_FfnDw (hFfnDw := hFfnDw)
    ∧ quiescent_FfnDwIdeal (hFfnDwIdeal := hFfnDwIdeal)
    ∧ quiescent_FfnDwRefIdeal (hFfnDwRefIdeal := hFfnDwRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeDwg (hMergeDwg := hMergeDwg)
    ∧ quiescent_MergeDwgIdeal (hMergeDwgIdeal := hMergeDwgIdeal)
    ∧ quiescent_MergeDwgRefIdeal (hMergeDwgRefIdeal := hMergeDwgRefIdeal)
    ∧ quiescent_MergeDwb (hMergeDwb := hMergeDwb)
    ∧ quiescent_MergeDwbIdeal (hMergeDwbIdeal := hMergeDwbIdeal)
    ∧ quiescent_MergeDwbRefIdeal (hMergeDwbRefIdeal := hMergeDwbRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InDh (hInDh := hInDh)
    ∧ quiescent_InDhIdeal (hInDhIdeal := hInDhIdeal)
    ∧ quiescent_InDhRefIdeal (hInDhRefIdeal := hInDhRefIdeal)
    ∧ quiescent_InDwA (hInDwA := hInDwA)
    ∧ quiescent_InDwAIdeal (hInDwAIdeal := hInDwAIdeal)
    ∧ quiescent_InDwARefIdeal (hInDwARefIdeal := hInDwARefIdeal)
    ∧ quiescent_InDwB (hInDwB := hInDwB)
    ∧ quiescent_InDwBIdeal (hInDwBIdeal := hInDwBIdeal)
    ∧ quiescent_InDwBRefIdeal (hInDwBRefIdeal := hInDwBRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutDm (hOutDm := hOutDm)
    ∧ quiescent_OutDmIdeal (hOutDmIdeal := hOutDmIdeal)
    ∧ quiescent_OutDmRefIdeal (hOutDmRefIdeal := hOutDmRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnBwd (hFfnBwd := hFfnBwd)
    ∧ quiescent_FfnBwdIdeal (hFfnBwdIdeal := hFfnBwdIdeal)
    ∧ quiescent_FfnBwdIdeal_pre_finite (hFfnBwdIdeal := hFfnBwdIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ preserves_ConvBwd_ConvBwdIdeal
    ∧ algebraic_ConvBwdIdeal_ConvRefIdeal (hConvBwdIdeal := hConvBwdIdeal) (hConvRefIdeal := hConvRefIdeal)
    ∧ preserves_MergeBwd_MergeBwdIdeal
    ∧ algebraic_MergeBwdIdeal_MergeRefIdeal (hMergeBwdIdeal := hMergeBwdIdeal) (hMergeRefIdeal := hMergeRefIdeal)
    ∧ preserves_FfnDw_FfnDwIdeal
    ∧ algebraic_FfnDwIdeal_FfnDwRefIdeal (hFfnDwIdeal := hFfnDwIdeal) (hFfnDwRefIdeal := hFfnDwRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MergeDwg_MergeDwgIdeal
    ∧ algebraic_MergeDwgIdeal_MergeDwgRefIdeal (hMergeDwgIdeal := hMergeDwgIdeal) (hMergeDwgRefIdeal := hMergeDwgRefIdeal)
    ∧ preserves_MergeDwb_MergeDwbIdeal
    ∧ algebraic_MergeDwbIdeal_MergeDwbRefIdeal (hMergeDwbIdeal := hMergeDwbIdeal) (hMergeDwbRefIdeal := hMergeDwbRefIdeal)
    ∧ preserves_InFwd_InFwdIdeal
    ∧ algebraic_InFwdIdeal_InFwdRefIdeal (hInFwdIdeal := hInFwdIdeal) (hInFwdRefIdeal := hInFwdRefIdeal)
    ∧ preserves_InDh_InDhIdeal
    ∧ algebraic_InDhIdeal_InDhRefIdeal (hInDhIdeal := hInDhIdeal) (hInDhRefIdeal := hInDhRefIdeal)
    ∧ preserves_InDwA_InDwAIdeal
    ∧ algebraic_InDwAIdeal_InDwARefIdeal (hInDwAIdeal := hInDwAIdeal) (hInDwARefIdeal := hInDwARefIdeal)
    ∧ preserves_InDwB_InDwBIdeal
    ∧ algebraic_InDwBIdeal_InDwBRefIdeal (hInDwBIdeal := hInDwBIdeal) (hInDwBRefIdeal := hInDwBRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OutDm_OutDmIdeal
    ∧ algebraic_OutDmIdeal_OutDmRefIdeal (hOutDmIdeal := hOutDmIdeal) (hOutDmRefIdeal := hOutDmRefIdeal)
    ∧ preserves_OutDw_OutDwIdeal
    ∧ algebraic_OutDwIdeal_OutDwRefIdeal (hOutDwIdeal := hOutDwIdeal) (hOutDwRefIdeal := hOutDwRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnBwd_FfnBwdIdeal
    ∧ algebraic_FfnBwdIdeal_FfnRefIdeal_pre_finite (hFfnBwdIdeal := hFfnBwdIdeal) (hFfnRefIdeal := hFfnRefIdeal) (hPre_finite := hPre_finite)
    ∧ preserves_NormBwd_NormBwdIdeal
    ∧ algebraic_NormBwdIdeal_NormRefIdeal_pre_finite_norm (hNormBwdIdeal := hNormBwdIdeal) (hNormRefIdeal := hNormRefIdeal) (hPre_finite_norm := hPre_finite_norm)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_Loss_LossIdeal
    ∧ algebraic_LossIdeal_LossRefIdeal_pre_finite_loss (hLossIdeal := hLossIdeal) (hLossRefIdeal := hLossRefIdeal) (hPre_finite_loss := hPre_finite_loss)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2816x1024 .f32 := Host.absf main_arg5
  let main_cst_8 : FVec F S_ .f32 := constant S_ .f32 0x7F800000#32
  let main_v21 : FVec F S2816x1024 .f32 := broadcastInDim S2816x1024 ![] bcast_S_S2816x1024 main_cst_8
  let main_v22 : IVec S2816x1024 1 := cmpf .olt main_v20 main_v21
  let main_c_9 : IVec S_ 1 := constantI S_ 1 1#1
  let main_v23 : IVec S_ 1 := (fun x v => Host.reduce IntOp.andi x v reducesTo_S2816x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_loss.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v3 main_v7
  let main_v13 : IVec S_ 1 := andi main_v12 main_v11
  main_v13
-- ==== Pre_finite_norm.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x1024 .f32) (main_arg1 : FVec F S8192x1024 .f32) (main_arg2 : FVec F S1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v3 main_v7
  let main_v13 : IVec S_ 1 := andi main_v12 main_v11
  main_v13
-- ==== ConvBwd.lean ====
abbrev S10x8192x512 : Shape := ⟨3, ![10, 8192, 512]⟩
abbrev S3x512 : Shape := ⟨2, ![3, 512]⟩
abbrev S3x8192x512 : Shape := ⟨3, ![3, 8192, 512]⟩
abbrev S1x1024x128 : Shape := ⟨3, ![1, 1024, 128]⟩
abbrev S1x16x128 : Shape := ⟨3, ![1, 16, 128]⟩
abbrev S3x128 : Shape := ⟨2, ![3, 128]⟩
abbrev S3x1024x128 : Shape := ⟨3, ![3, 1024, 128]⟩
abbrev S1024x128 : Shape := ⟨2, ![1024, 128]⟩
abbrev S16x128 : Shape := ⟨2, ![16, 128]⟩
abbrev S1040x128 : Shape := ⟨2, ![1040, 128]⟩
abbrev S1x128 : Shape := ⟨2, ![1, 128]⟩
abbrev S128 : Shape := ⟨1, ![128]⟩

abbrev nBuf : Space → Nat
  | .hbm => 5
  | .vmem => 22
  | .smem => 0
  | _ => 0

abbrev bufTy : (tb : Table) → Fin (tcTables nBuf tb) → BufTy
  | .hbm, ⟨0, _⟩ => ⟨S10x8192x512, .bf16⟩
  | .hbm, ⟨1, _⟩ => ⟨S3x512, .f32⟩
  | .hbm, ⟨2, _⟩ => ⟨S3x8192x512, .bf16⟩
  | .hbm, ⟨3, _⟩ => ⟨S3x8192x512, .bf16⟩
  | .hbm, ⟨4, _⟩ => ⟨S3x512, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x16x128, .bf16⟩
  | .local _ .vmem, ⟨7, _⟩ => ⟨S1x16x128, .bf16⟩
  | .local _ .vmem, ⟨8, _⟩ => ⟨S1x16x128, .bf16⟩
  | .local _ .vmem, ⟨9, _⟩ => ⟨S1x16x128, .bf16⟩
  | .local _ .vmem, ⟨10, _⟩ => ⟨S1x16x128, .bf16⟩
  | .local _ .vmem, ⟨11, _⟩ => ⟨S1x16x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x16x128, .bf16⟩
  | .local _ .vmem, ⟨15, _⟩ => ⟨S1x16x128, .bf16⟩
  | .local _ .vmem, ⟨16, _⟩ => ⟨S3x128, .f32⟩
  | .local _ .vmem, ⟨17, _⟩ => ⟨S3x128, .f32⟩
  | .local _ .vmem, ⟨18, _⟩ => ⟨S3x1024x128, .bf16⟩
  | .local _ .vmem, ⟨19, _⟩ => ⟨S3x1024x128, .bf16⟩
  | .local _ .vmem, ⟨20, _⟩ => ⟨S3x128, .f32⟩
  | .local _ .vmem, ⟨21, _⟩ => ⟨S3x128, .f32⟩
  | _, _ => ⟨S10x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_40 : BitVec 32 := 0#32
  let v89 : BitVec 1 := Scalar.cmpi .eq arg1 c0_i32_40
  let v90 : BitVec 32 := Scalar.extui v89
  let c0_i32_41 : BitVec 32 := 0#32
  let v91 : BitVec 1 := Scalar.cmpi .ne v90 c0_i32_41
  v91

def k0_cond2 (i : grid0.Coords) : BitVec 1 :=
  let arg1 : BitVec 32 := BitVec.ofNat 32 (i 1).val
  let c0_i32_42 : BitVec 32 := 0#32
  let v92 : BitVec 1 := Scalar.cmpi .sgt arg1 c0_i32_42
  let v93 : BitVec 32 := Scalar.extui v92
  let c0_i32_43 : BitVec 32 := 0#32
  let v94 : BitVec 1 := Scalar.cmpi .ne v93 c0_i32_43
  v94

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c1_i32_0 : BitVec 32 := 1#32
  let c0_i32 : BitVec 32 := 0#32
  ![c1_i32_0.toNat, v2.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S3x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvRefIdeal.lean ====
abbrev S10x8192x512 : Shape := ⟨3, ![10, 8192, 512]⟩
abbrev S3x512 : Shape := ⟨2, ![3, 512]⟩
abbrev S3x8192x512 : Shape := ⟨3, ![3, 8192, 512]⟩
abbrev S1x8192x512 : Shape := ⟨3, ![1, 8192, 512]⟩
abbrev S8192x512 : Shape := ⟨2, ![8192, 512]⟩
abbrev S_ : Shape := ⟨0, ![]⟩
abbrev S1x2x512 : Shape := ⟨3, ![1, 2, 512]⟩
abbrev S1x8194x512 : Shape := ⟨3, ![1, 8194, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 100
  | .vmem => 0
  | .smem => 0
  | _ => 0

abbrev bufTy : (tb : Table) → Fin (tcTables nBuf tb) → BufTy
  | .hbm, ⟨0, _⟩ => ⟨S10x8192x512, .bf16⟩
  | .hbm, ⟨1, _⟩ => ⟨S3x512, .f32⟩
  | .hbm, ⟨2, _⟩ => ⟨S3x8192x512, .bf16⟩
  | .hbm, ⟨3, _⟩ => ⟨S1x8192x512, .bf16⟩
  | .hbm, ⟨4, _⟩ => ⟨S8192x512, .bf16⟩
  | .hbm, ⟨5, _⟩ => ⟨S8192x512, .f32⟩
  | .hbm, ⟨6, _⟩ => ⟨S1x8192x512, .f32⟩
  | .hbm, ⟨7, _⟩ => ⟨S1x8192x512, .bf16⟩
  | .hbm, ⟨8, _⟩ => ⟨S8192x512, .bf16⟩
  | .hbm, ⟨9, _⟩ => ⟨S8192x512, .f32⟩
  | .hbm, ⟨10, _⟩ => ⟨S1x8192x512, .f32⟩
  | .hbm, ⟨11, _⟩ => ⟨S1x8192x512, .bf16⟩
  | .hbm, ⟨12, _⟩ => ⟨S8192x512, .bf16⟩
  | .hbm, ⟨13, _⟩ => ⟨S8192x512, .f32⟩
  | .hbm, ⟨14, _⟩ => ⟨S1x8192x512, .f32⟩
  | .hbm, ⟨15, _⟩ => ⟨S1x8192x512, .f32⟩
  | .hbm, ⟨16, _⟩ => ⟨S_, .f32⟩
  | .hbm, ⟨17, _⟩ => ⟨S1x2x512, .f32⟩
  | .hbm, ⟨18, _⟩ => ⟨S1x8194x512, .f32⟩
  | .hbm, ⟨19, _⟩ => ⟨S_, .f32⟩
  | .hbm, ⟨20, _⟩ => ⟨S1x2x512, .f32⟩
  | .hbm, ⟨21, _⟩ => ⟨S1x512, .f32⟩
  | .hbm, ⟨22, _⟩ => ⟨S512, .f32⟩
  | .hbm, ⟨23, _⟩ => ⟨S1x8192x512, .f32⟩
  | .hbm, ⟨24, _⟩ => ⟨S1x1x512, .f32⟩
  | .hbm, ⟨25, _⟩ => ⟨S1x8192x512, .f32⟩
  | .hbm, ⟨26, _⟩ => ⟨S1x8192x512, .f32⟩
  | .hbm, ⟨27, _⟩ => ⟨S_, .f32⟩
  | .hbm, ⟨28, _⟩ => ⟨S1x8192x512, .f32⟩
  | .hbm, ⟨29, _⟩ => ⟨S1x8192x512, .f32⟩
  | .hbm, ⟨30, _⟩ => ⟨S1x512, .f32⟩
  | .hbm, ⟨31, _⟩ => ⟨S512, .f32⟩
  | .hbm, ⟨32, _⟩ => ⟨S1x8192x512, .f32⟩
  | .hbm, ⟨33, _⟩ => ⟨S1x1x512, .f32⟩
  | .hbm, ⟨34, _⟩ => ⟨S1x8192x512, .f32⟩
  | .hbm, ⟨35, _⟩ => ⟨S1x8192x512, .f32⟩
  | .hbm, ⟨36, _⟩ => ⟨S1x8192x512, .f32⟩
  | .hbm, ⟨37, _⟩ => ⟨S1x512, .f32⟩
  | .hbm, ⟨38, _⟩ => ⟨S512, .f32⟩
  | .hbm, ⟨39, _⟩ => ⟨S1x8192x512, .f32⟩
  | .hbm, ⟨40, _⟩ => ⟨S1x1x512, .f32⟩
  | .hbm, ⟨41, _⟩ => ⟨S1x8192x512, .f32⟩
  | .hbm, ⟨42, _⟩ => ⟨S1x8192x512, .f32⟩
  | .hbm, ⟨43, _⟩ => ⟨S1x8192x512, .f32⟩
  | .hbm, ⟨44, _⟩ => ⟨S1x8192x512, .f32⟩
  | .hbm, ⟨45, _⟩ => ⟨S1x8192x512, .bf16⟩
  | .hbm, ⟨46, _⟩ => ⟨S8192x512, .bf16⟩
  | .hbm, ⟨47, _⟩ => ⟨S8192x512, .f32⟩
  | .hbm, ⟨48, _⟩ => ⟨S1x8192x512, .f32⟩
  | .hbm, ⟨49, _⟩ => ⟨S1x8192x512, .f32⟩
  | .hbm, ⟨50, _⟩ => ⟨S1x8192x512, .f32⟩
  | .hbm, ⟨51, _⟩ => ⟨S1x8192x512, .f32⟩
  | .hbm, ⟨52, _⟩ => ⟨S1x8192x512, .f32⟩
  | .hbm, ⟨53, _⟩ => ⟨S1x8192x512, .f32⟩
  | .hbm, ⟨54, _⟩ => ⟨S_, .f32⟩
  | .hbm, ⟨55, _⟩ => ⟨S1x512, .f32⟩
  | .hbm, ⟨56, _⟩ => ⟨S1x1x512, .f32⟩
  | .hbm, ⟨57, _⟩ => ⟨S_, .f32⟩
  | .hbm, ⟨58, _⟩ => ⟨S512, .f32⟩
  | .hbm, ⟨59, _⟩ => ⟨S_, .f32⟩
  | .hbm, ⟨60, _⟩ => ⟨S1x8194x512, .f32⟩
  | .hbm, ⟨61, _⟩ => ⟨S1x512, .f32⟩
  | .hbm, ⟨62, _⟩ => ⟨S_, .f32⟩
  | .hbm, ⟨63, _⟩ => ⟨S3x512, .f32⟩
  | .hbm, ⟨64, _⟩ => ⟨S1x8192x512, .f32⟩
  | .hbm, ⟨65, _⟩ => ⟨S1x8192x512, .f32⟩
  | .hbm, ⟨66, _⟩ => ⟨S1x8192x512, .f32⟩
  | .hbm, ⟨67, _⟩ => ⟨S_, .f32⟩
  | .hbm, ⟨68, _⟩ => ⟨S1x512, .f32⟩
  | .hbm, ⟨69, _⟩ => ⟨S1x1x512, .f32⟩
  | .hbm, ⟨70, _⟩ => ⟨S_, .f32⟩
  | .hbm, ⟨71, _⟩ => ⟨S512, .f32⟩
  | .hbm, ⟨72, _⟩ => ⟨S_, .f32⟩
  | .hbm, ⟨73, _⟩ => ⟨S1x8194x512, .f32⟩
  | .hbm, ⟨74, _⟩ => ⟨S1x8194x512, .f32⟩
  | .hbm, ⟨75, _⟩ => ⟨S1x512, .f32⟩
  | .hbm, ⟨76, _⟩ => ⟨S_, .f32⟩
  | .hbm, ⟨77, _⟩ => ⟨S3x512, .f32⟩
  | .hbm, ⟨78, _⟩ => ⟨S3x512, .f32⟩
  | .hbm, ⟨79, _⟩ => ⟨S1x8192x512, .f32⟩
  | .hbm, ⟨80, _⟩ => ⟨S1x8192x512, .f32⟩
  | .hbm, ⟨81, _⟩ => ⟨S1x8192x512, .f32⟩
  | .hbm, ⟨82, _⟩ => ⟨S_, .f32⟩
  | .hbm, ⟨83, _⟩ => ⟨S1x512, .f32⟩
  | .hbm, ⟨84, _⟩ => ⟨S1x1x512, .f32⟩
  | .hbm, ⟨85, _⟩ => ⟨S_, .f32⟩
  | .hbm, ⟨86, _⟩ => ⟨S512, .f32⟩
  | .hbm, ⟨87, _⟩ => ⟨S_, .f32⟩
  | .hbm, ⟨88, _⟩ => ⟨S1x8194x512, .f32⟩
  | .hbm, ⟨89, _⟩ => ⟨S1x8194x512, .f32⟩
  | .hbm, ⟨90, _⟩ => ⟨S1x512, .f32⟩
  | .hbm, ⟨91, _⟩ => ⟨S_, .f32⟩
  | .hbm, ⟨92, _⟩ => ⟨S3x512, .f32⟩
  | .hbm, ⟨93, _⟩ => ⟨S3x512, .f32⟩
  | .hbm, ⟨94, _⟩ => ⟨S1x2x512, .f32⟩
  | .hbm, ⟨95, _⟩ => ⟨S1x8192x512, .f32⟩
  | .hbm, ⟨96, _⟩ => ⟨S1x8192x512, .f32⟩
  | .hbm, ⟨97, _⟩ => ⟨S1x8192x512, .f32⟩
  | .hbm, ⟨98, _⟩ => ⟨S3x8192x512, .f32⟩
  | .hbm, ⟨99, _⟩ => ⟨S3x8192x512, .bf16⟩
  | _, _ => ⟨S10x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst_2 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_9 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_10 : Ref sig .tc := ⟨.hbm, 82, rfl⟩
abbrev main_v68 : Ref sig .tc := ⟨.hbm, 83, rfl⟩
abbrev main_v69 : Ref sig .tc := ⟨.hbm, 84, rfl⟩
abbrev main_cst_11 : Ref sig .tc := ⟨.hbm, 85, rfl⟩
abbrev main_v70 : Ref sig .tc := ⟨.hbm, 86, rfl⟩
abbrev main_cst_12 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_13 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩

abbrev nD : Nat := 1
abbrev τ : Topo := Topo.v7x

variable {F : FTy → Type} [FloatOps F]
-- ==== MergeBwd.lean ====
abbrev S8192x1024 : Shape := ⟨2, ![8192, 1024]⟩
abbrev S3x8192x512 : Shape := ⟨3, ![3, 8192, 512]⟩
abbrev S3x1024x1024 : Shape := ⟨3, ![3, 1024, 1024]⟩
abbrev S3x512x1024 : Shape := ⟨3, ![3, 512, 1024]⟩
abbrev S3x1024x8192 : Shape := ⟨3, ![3, 1024, 8192]⟩
abbrev S3x8192x1024 : Shape := ⟨3, ![3, 8192, 1024]⟩
abbrev S_ : Shape := ⟨0, ![]⟩
abbrev S3x1024x512 : Shape := ⟨3, ![3, 1024, 512]⟩
abbrev S512x1024 : Shape := ⟨2, ![512, 1024]⟩
abbrev S3x512x512 : Shape := ⟨3, ![3, 512, 512]⟩
abbrev S1x512x1024 : Shape := ⟨3, ![1, 512, 1024]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩
abbrev S1x1024x1024 : Shape := ⟨3, ![1, 1024, 1024]⟩
abbrev S1024x1024 : Shape := ⟨2, ![1024, 1024]⟩

abbrev nBuf : Space → Nat
  | .hbm => 27
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S3x8192x512, .bf16⟩
  | .hbm, ⟨2, _⟩ => ⟨S3x1024x1024, .f32⟩
  | .hbm, ⟨3, _⟩ => ⟨S3x512x1024, .f32⟩
  | .hbm, ⟨4, _⟩ => ⟨S8192x1024, .bf16⟩
  | .hbm, ⟨5, _⟩ => ⟨S8192x1024, .f32⟩
  | .hbm, ⟨6, _⟩ => ⟨S3x1024x8192, .f32⟩
  | .hbm, ⟨7, _⟩ => ⟨S3x8192x1024, .f32⟩
  | .hbm, ⟨8, _⟩ => ⟨S3x8192x1024, .f32⟩
  | .hbm, ⟨9, _⟩ => ⟨S3x8192x1024, .f32⟩
  | .hbm, ⟨10, _⟩ => ⟨S_, .f32⟩
  | .hbm, ⟨11, _⟩ => ⟨S3x8192x1024, .f32⟩
  | .hbm, ⟨12, _⟩ => ⟨S3x8192x1024, .f32⟩
  | .hbm, ⟨13, _⟩ => ⟨S_, .f32⟩
  | .hbm, ⟨14, _⟩ => ⟨S3x8192x1024, .f32⟩
  | .hbm, ⟨15, _⟩ => ⟨S3x8192x1024, .f32⟩
  | .hbm, ⟨16, _⟩ => ⟨S3x8192x1024, .bf16⟩
  | .hbm, ⟨17, _⟩ => ⟨S3x8192x512, .f32⟩
  | .hbm, ⟨18, _⟩ => ⟨S3x8192x1024, .f32⟩
  | .hbm, ⟨19, _⟩ => ⟨S3x8192x1024, .bf16⟩
  | .hbm, ⟨20, _⟩ => ⟨S3x1024x1024, .bf16⟩
  | .hbm, ⟨21, _⟩ => ⟨S3x1024x512, .f32⟩
  | .hbm, ⟨22, _⟩ => ⟨S3x1024x512, .bf16⟩
  | .hbm, ⟨23, _⟩ => ⟨S3x8192x1024, .bf16⟩
  | .hbm, ⟨24, _⟩ => ⟨S3x8192x1024, .bf16⟩
  | .hbm, ⟨25, _⟩ => ⟨S3x8192x512, .bf16⟩
  | .hbm, ⟨26, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S3x512x1024, .bf16⟩
  | .local _ .vmem, ⟨3, _⟩ => ⟨S3x512x1024, .bf16⟩
  | .local _ .vmem, ⟨4, _⟩ => ⟨S3x512x1024, .bf16⟩
  | .local _ .vmem, ⟨5, _⟩ => ⟨S3x512x1024, .bf16⟩
  | .local _ .vmem, ⟨6, _⟩ => ⟨S3x1024x1024, .bf16⟩
  | .local _ .vmem, ⟨7, _⟩ => ⟨S3x1024x512, .bf16⟩
  | .local _ .vmem, ⟨8, _⟩ => ⟨S3x512x1024, .bf16⟩
  | .local _ .vmem, ⟨9, _⟩ => ⟨S3x512x1024, .bf16⟩
  | .local _ .vmem, ⟨10, _⟩ => ⟨S3x512x1024, .bf16⟩
  | .local _ .vmem, ⟨11, _⟩ => ⟨S3x512x1024, .bf16⟩
  | .local _ .vmem, ⟨12, _⟩ => ⟨S3x512x512, .bf16⟩
  | .local _ .vmem, ⟨13, _⟩ => ⟨S3x512x512, .bf16⟩
  | .local _ .vmem, ⟨14, _⟩ => ⟨S512x1024, .f32⟩
  | .local _ .vmem, ⟨15, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x1024 : Shape := ⟨2, ![8192, 1024]⟩
abbrev S3x8192x512 : Shape := ⟨3, ![3, 8192, 512]⟩
abbrev S3x1024x1024 : Shape := ⟨3, ![3, 1024, 1024]⟩
abbrev S3x512x1024 : Shape := ⟨3, ![3, 512, 1024]⟩
abbrev S1x8192x512 : Shape := ⟨3, ![1, 8192, 512]⟩
abbrev S8192x512 : Shape := ⟨2, ![8192, 512]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S1x8192x1024 : Shape := ⟨3, ![1, 8192, 1024]⟩
abbrev S3x8192x1024 : Shape := ⟨3, ![3, 8192, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x512, .bf16⟩
  | .hbm, ⟨2, _⟩ => ⟨S3x1024x1024, .f32⟩
  | .hbm, ⟨3, _⟩ => ⟨S3x512x1024, .f32⟩
  | .hbm, ⟨4, _⟩ => ⟨S8192x1024, .bf16⟩
  | .hbm, ⟨5, _⟩ => ⟨S8192x1024, .f32⟩
  | .hbm, ⟨6, _⟩ => ⟨S1x8192x512, .bf16⟩
  | .hbm, ⟨7, _⟩ => ⟨S8192x512, .bf16⟩
  | .hbm, ⟨8, _⟩ => ⟨S8192x512, .f32⟩
  | .hbm, ⟨9, _⟩ => ⟨S1x8192x512, .bf16⟩
  | .hbm, ⟨10, _⟩ => ⟨S8192x512, .bf16⟩
  | .hbm, ⟨11, _⟩ => ⟨S8192x512, .f32⟩
  | .hbm, ⟨12, _⟩ => ⟨S1x8192x512, .bf16⟩
  | .hbm, ⟨13, _⟩ => ⟨S8192x512, .bf16⟩
  | .hbm, ⟨14, _⟩ => ⟨S8192x512, .f32⟩
  | .hbm, ⟨15, _⟩ => ⟨S8192x1024, .f32⟩
  | .hbm, ⟨16, _⟩ => ⟨S1x1024x1024, .f32⟩
  | .hbm, ⟨17, _⟩ => ⟨S1024x1024, .f32⟩
  | .hbm, ⟨18, _⟩ => ⟨S8192x1024, .f32⟩
  | .hbm, ⟨19, _⟩ => ⟨S1x1024x1024, .f32⟩
  | .hbm, ⟨20, _⟩ => ⟨S1024x1024, .f32⟩
  | .hbm, ⟨21, _⟩ => ⟨S8192x1024, .f32⟩
  | .hbm, ⟨22, _⟩ => ⟨S1x1024x1024, .f32⟩
  | .hbm, ⟨23, _⟩ => ⟨S1024x1024, .f32⟩
  | .hbm, ⟨24, _⟩ => ⟨S8192x1024, .f32⟩
  | .hbm, ⟨25, _⟩ => ⟨S1x512x1024, .f32⟩
  | .hbm, ⟨26, _⟩ => ⟨S512x1024, .f32⟩
  | .hbm, ⟨27, _⟩ => ⟨S8192x1024, .f32⟩
  | .hbm, ⟨28, _⟩ => ⟨S1x512x1024, .f32⟩
  | .hbm, ⟨29, _⟩ => ⟨S512x1024, .f32⟩
  | .hbm, ⟨30, _⟩ => ⟨S8192x1024, .f32⟩
  | .hbm, ⟨31, _⟩ => ⟨S1x512x1024, .f32⟩
  | .hbm, ⟨32, _⟩ => ⟨S512x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S1x8192x1024, .f32⟩
  | .hbm, ⟨96, _⟩ => ⟨S1x8192x1024, .f32⟩
  | .hbm, ⟨97, _⟩ => ⟨S1x8192x1024, .f32⟩
  | .hbm, ⟨98, _⟩ => ⟨S3x8192x1024, .f32⟩
  | .hbm, ⟨99, _⟩ => ⟨S3x8192x1024, .bf16⟩
  | .hbm, ⟨100, _⟩ => ⟨S1x8192x1024, .f32⟩
  | .hbm, ⟨101, _⟩ => ⟨S1x8192x1024, .f32⟩
  | .hbm, ⟨102, _⟩ => ⟨S1x8192x1024, .f32⟩
  | .hbm, ⟨103, _⟩ => ⟨S3x8192x1024, .f32⟩
  | .hbm, ⟨104, _⟩ => ⟨S3x8192x1024, .bf16⟩
  | .hbm, ⟨105, _⟩ => ⟨S1x8192x512, .f32⟩
  | .hbm, ⟨106, _⟩ => ⟨S1x8192x512, .f32⟩
  | .hbm, ⟨107, _⟩ => ⟨S1x8192x512, .f32⟩
  | .hbm, ⟨108, _⟩ => ⟨S3x8192x512, .f32⟩
  | .hbm, ⟨109, _⟩ => ⟨S3x8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_cst_0 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩

abbrev nD : Nat := 1
abbrev τ : Topo := Topo.v7x

variable {F : FTy → Type} [FloatOps F]
-- ==== FfnDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 1, 4], ![false, false, false, false]⟩

def k0_cond3 (i : grid0.Coords) : BitVec 1 :=
  let arg3 : BitVec 32 := BitVec.ofNat 32 (i 3).val
  let c3_i32_6 : BitVec 32 := 3#32
  let v11 : BitVec 1 := Scalar.cmpi .eq arg3 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== FfnDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MergeFwd.lean ====
abbrev S8192x1024 : Shape := ⟨2, ![8192, 1024]⟩
abbrev S8192x512 : Shape := ⟨2, ![8192, 512]⟩
abbrev S3x1024x1024 : Shape := ⟨3, ![3, 1024, 1024]⟩
abbrev S3x512x1024 : Shape := ⟨3, ![3, 512, 1024]⟩
abbrev S3x1024x512 : Shape := ⟨3, ![3, 1024, 512]⟩
abbrev S3x8192x1024 : Shape := ⟨3, ![3, 8192, 1024]⟩
abbrev S512x1024 : Shape := ⟨2, ![512, 1024]⟩
abbrev S512x512 : Shape := ⟨2, ![512, 512]⟩
abbrev S1x1024x1024 : Shape := ⟨3, ![1, 1024, 1024]⟩
abbrev S1024x1024 : Shape := ⟨2, ![1024, 1024]⟩
abbrev S1x1024x512 : Shape := ⟨3, ![1, 1024, 512]⟩
abbrev S1024x512 : Shape := ⟨2, ![1024, 512]⟩
abbrev S1x512x1024 : Shape := ⟨3, ![1, 512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S3x1024x1024, .f32⟩
  | .hbm, ⟨5, _⟩ => ⟨S3x512x1024, .f32⟩
  | .hbm, ⟨6, _⟩ => ⟨S3x1024x1024, .bf16⟩
  | .hbm, ⟨7, _⟩ => ⟨S3x1024x512, .f32⟩
  | .hbm, ⟨8, _⟩ => ⟨S3x1024x512, .bf16⟩
  | .hbm, ⟨9, _⟩ => ⟨S8192x1024, .bf16⟩
  | .hbm, ⟨10, _⟩ => ⟨S3x8192x1024, .bf16⟩
  | .hbm, ⟨11, _⟩ => ⟨S3x8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S3x1024x1024, .bf16⟩
  | .local _ .vmem, ⟨9, _⟩ => ⟨S3x1024x512, .bf16⟩
  | .local _ .vmem, ⟨10, _⟩ => ⟨S512x1024, .bf16⟩
  | .local _ .vmem, ⟨11, _⟩ => ⟨S512x1024, .bf16⟩
  | .local _ .vmem, ⟨12, _⟩ => ⟨S3x512x1024, .bf16⟩
  | .local _ .vmem, ⟨13, _⟩ => ⟨S3x512x1024, .bf16⟩
  | .local _ .vmem, ⟨14, _⟩ => ⟨S3x512x1024, .bf16⟩
  | .local _ .vmem, ⟨15, _⟩ => ⟨S3x512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFwdRefIdeal.lean ====
abbrev S8192x1024 : Shape := ⟨2, ![8192, 1024]⟩
abbrev S8192x512 : Shape := ⟨2, ![8192, 512]⟩
abbrev S3x1024x1024 : Shape := ⟨3, ![3, 1024, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S_ : Shape := ⟨0, ![]⟩
abbrev S1x8192x1024 : Shape := ⟨3, ![1, 8192, 1024]⟩
abbrev S3x8192x1024 : Shape := ⟨3, ![3, 8192, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S3x1024x1024, .f32⟩
  | .hbm, ⟨5, _⟩ => ⟨S3x512x1024, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S1x1024x1024, .f32⟩
  | .hbm, ⟨11, _⟩ => ⟨S1024x1024, .f32⟩
  | .hbm, ⟨12, _⟩ => ⟨S8192x1024, .f32⟩
  | .hbm, ⟨13, _⟩ => ⟨S1x1024x1024, .f32⟩
  | .hbm, ⟨14, _⟩ => ⟨S1024x1024, .f32⟩
  | .hbm, ⟨15, _⟩ => ⟨S8192x1024, .f32⟩
  | .hbm, ⟨16, _⟩ => ⟨S1x1024x1024, .f32⟩
  | .hbm, ⟨17, _⟩ => ⟨S1024x1024, .f32⟩
  | .hbm, ⟨18, _⟩ => ⟨S8192x1024, .f32⟩
  | .hbm, ⟨19, _⟩ => ⟨S1x512x1024, .f32⟩
  | .hbm, ⟨20, _⟩ => ⟨S512x1024, .f32⟩
  | .hbm, ⟨21, _⟩ => ⟨S8192x1024, .f32⟩
  | .hbm, ⟨22, _⟩ => ⟨S1x512x1024, .f32⟩
  | .hbm, ⟨23, _⟩ => ⟨S512x1024, .f32⟩
  | .hbm, ⟨24, _⟩ => ⟨S8192x1024, .f32⟩
  | .hbm, ⟨25, _⟩ => ⟨S1x512x1024, .f32⟩
  | .hbm, ⟨26, _⟩ => ⟨S512x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .bf16⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192x1024, .f32⟩
  | .hbm, ⟨84, _⟩ => ⟨S8192x1024, .f32⟩
  | .hbm, ⟨85, _⟩ => ⟨S1x8192x1024, .f32⟩
  | .hbm, ⟨86, _⟩ => ⟨S1x8192x1024, .f32⟩
  | .hbm, ⟨87, _⟩ => ⟨S1x8192x1024, .f32⟩
  | .hbm, ⟨88, _⟩ => ⟨S3x8192x1024, .f32⟩
  | .hbm, ⟨89, _⟩ => ⟨S3x8192x1024, .bf16⟩
  | .hbm, ⟨90, _⟩ => ⟨S1x8192x1024, .f32⟩
  | .hbm, ⟨91, _⟩ => ⟨S1x8192x1024, .f32⟩
  | .hbm, ⟨92, _⟩ => ⟨S1x8192x1024, .f32⟩
  | .hbm, ⟨93, _⟩ => ⟨S3x8192x1024, .f32⟩
  | .hbm, ⟨94, _⟩ => ⟨S3x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== MergeDwg.lean ====
abbrev S8192x1024 : Shape := ⟨2, ![8192, 1024]⟩
abbrev S3x8192x1024 : Shape := ⟨3, ![3, 8192, 1024]⟩
abbrev S3x1024x1024 : Shape := ⟨3, ![3, 1024, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S3x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![3, 1, 1, 4], ![false, false, false, false]⟩

def k0_cond3 (i : grid0.Coords) : BitVec 1 :=
  let arg3 : BitVec 32 := BitVec.ofNat 32 (i 3).val
  let c3_i32_7 : BitVec 32 := 3#32
  let v12 : BitVec 1 := Scalar.cmpi .eq arg3 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MergeDwgRefIdeal.lean ====
abbrev S8192x1024 : Shape := ⟨2, ![8192, 1024]⟩
abbrev S3x8192x1024 : Shape := ⟨3, ![3, 8192, 1024]⟩
abbrev S_ : Shape := ⟨0, ![]⟩
abbrev S3x1024x1024 : Shape := ⟨3, ![3, 1024, 1024]⟩
abbrev S3x1024x8192 : Shape := ⟨3, ![3, 1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S_, .f32⟩
  | .hbm, ⟨3, _⟩ => ⟨S3x1024x1024, .f32⟩
  | .hbm, ⟨4, _⟩ => ⟨S8192x1024, .f32⟩
  | .hbm, ⟨5, _⟩ => ⟨S3x1024x8192, .f32⟩
  | .hbm, ⟨6, _⟩ => ⟨S3x8192x1024, .f32⟩
  | .hbm, ⟨7, _⟩ => ⟨S3x8192x1024, .f32⟩
  | .hbm, ⟨8, _⟩ => ⟨S3x1024x8192, .f32⟩
  | .hbm, ⟨9, _⟩ => ⟨S3x1024x1024, .f32⟩
  | .hbm, ⟨10, _⟩ => ⟨S3x1024x1024, .f32⟩
  | .hbm, ⟨11, _⟩ => ⟨S3x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MergeDwb.lean ====
abbrev S3x8192x1024 : Shape := ⟨3, ![3, 8192, 1024]⟩
abbrev S8192x512 : Shape := ⟨2, ![8192, 512]⟩
abbrev S3x1024x512 : Shape := ⟨3, ![3, 1024, 512]⟩
abbrev S1x2048x1024 : Shape := ⟨3, ![1, 2048, 1024]⟩
abbrev S2048x512 : Shape := ⟨2, ![2048, 512]⟩
abbrev S1x1024x512 : Shape := ⟨3, ![1, 1024, 512]⟩
abbrev S1024x512 : Shape := ⟨2, ![1024, 512]⟩
abbrev S2048x1024 : Shape := ⟨2, ![2048, 1024]⟩

abbrev nBuf : Space → Nat
  | .hbm => 5
  | .vmem => 11
  | .smem => 0
  | _ => 0

abbrev bufTy : (tb : Table) → Fin (tcTables nBuf tb) → BufTy
  | .hbm, ⟨0, _⟩ => ⟨S3x8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S3x1024x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1024x512, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 1, 4], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond4 (i : grid0.Coords) : BitVec 1 :=
  let arg2 : BitVec 32 := BitVec.ofNat 32 (i 2).val
  let c3_i32_11 : BitVec 32 := 3#32
  let v21 : BitVec 1 := Scalar.cmpi .eq arg2 c3_i32_11
  let v22 : BitVec 32 := Scalar.extui v21
  let c0_i32_12 : BitVec 32 := 0#32
  let v23 : BitVec 1 := Scalar.cmpi .ne v22 c0_i32_12
  v23

def k0_cond5 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c3_i32_11 : BitVec 32 := 3#32
  let v21 : BitVec 1 := Scalar.cmpi .eq arg2 c3_i32_11
  let v22 : BitVec 32 := Scalar.extui v21
  let c0_i32_12 : BitVec 32 := 0#32
  let v23 : BitVec 1 := Scalar.cmpi .ne v22 c0_i32_12
  v23

def k0_cond9 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond12 (i : grid0.Coords) : BitVec 1 :=
  let arg2 : BitVec 32 := BitVec.ofNat 32 (i 2).val
  let c3_i32_11 : BitVec 32 := 3#32
  let v21 : BitVec 1 := Scalar.cmpi .eq arg2 c3_i32_11
  let v22 : BitVec 32 := Scalar.extui v21
  let c0_i32_12 : BitVec 32 := 0#32
  let v23 : BitVec 1 := Scalar.cmpi .ne v22 c0_i32_12
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg2 v2
  let c0_i32_2 : BitVec 32 := 0#32
  let c0_i32_3 : BitVec 32 := 0#32
  ![v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg2 v2
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c3_i32 : BitVec 32 := 3#32
  let v2 : BitVec 32 := Scalar.select v1 c0_i32 c3_i32
  let v3 : BitVec 32 := Scalar.select v0 arg2 v2
  let c0_i32_1 : BitVec 32 := 0#32
  let c0_i32_2 : BitVec 32 := 0#32
  ![v3.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MergeDwbRefIdeal.lean ====
abbrev S3x8192x1024 : Shape := ⟨3, ![3, 8192, 1024]⟩
abbrev S8192x512 : Shape := ⟨2, ![8192, 512]⟩
abbrev S1x8192x512 : Shape := ⟨3, ![1, 8192, 512]⟩
abbrev S3x8192x512 : Shape := ⟨3, ![3, 8192, 512]⟩
abbrev S_ : Shape := ⟨0, ![]⟩
abbrev S3x512x1024 : Shape := ⟨3, ![3, 512, 1024]⟩
abbrev S3x1024x512 : Shape := ⟨3, ![3, 1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S1x8192x512, .bf16⟩
  | .hbm, ⟨5, _⟩ => ⟨S1x8192x512, .bf16⟩
  | .hbm, ⟨6, _⟩ => ⟨S1x8192x512, .bf16⟩
  | .hbm, ⟨7, _⟩ => ⟨S3x8192x512, .bf16⟩
  | .hbm, ⟨8, _⟩ => ⟨S3x8192x512, .f32⟩
  | .hbm, ⟨9, _⟩ => ⟨S_, .f32⟩
  | .hbm, ⟨10, _⟩ => ⟨S3x512x1024, .f32⟩
  | .hbm, ⟨11, _⟩ => ⟨S3x8192x1024, .f32⟩
  | .hbm, ⟨12, _⟩ => ⟨S3x8192x1024, .f32⟩
  | .hbm, ⟨13, _⟩ => ⟨S3x1024x512, .f32⟩
  | .hbm, ⟨14, _⟩ => ⟨S3x512x1024, .f32⟩
  | .hbm, ⟨15, _⟩ => ⟨S3x1024x512, .f32⟩
  | .hbm, ⟨16, _⟩ => ⟨S3x1024x512, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InFwd.lean ====
abbrev S8192x1024 : Shape := ⟨2, ![8192, 1024]⟩
abbrev S1024x5120 : Shape := ⟨2, ![1024, 5120]⟩
abbrev S5120x1024 : Shape := ⟨2, ![5120, 1024]⟩
abbrev S10x8192x512 : Shape := ⟨3, ![10, 8192, 512]⟩
abbrev S2048x1024 : Shape := ⟨2, ![2048, 1024]⟩
abbrev S512x1024 : Shape := ⟨2, ![512, 1024]⟩
abbrev S1x2048x512 : Shape := ⟨3, ![1, 2048, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .f32⟩
  | .hbm, ⟨2, _⟩ => ⟨S5120x1024, .f32⟩
  | .hbm, ⟨3, _⟩ => ⟨S5120x1024, .bf16⟩
  | .hbm, ⟨4, _⟩ => ⟨S10x8192x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x512, .bf16⟩
  | .local _ .vmem, ⟨5, _⟩ => ⟨S1x2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 10, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InFwdRefIdeal.lean ====
abbrev S8192x1024 : Shape := ⟨2, ![8192, 1024]⟩
abbrev S1024x5120 : Shape := ⟨2, ![1024, 5120]⟩
abbrev S8192x5120 : Shape := ⟨2, ![8192, 5120]⟩
abbrev S8192x512 : Shape := ⟨2, ![8192, 512]⟩
abbrev S1x8192x512 : Shape := ⟨3, ![1, 8192, 512]⟩
abbrev S10x8192x512 : Shape := ⟨3, ![10, 8192, 512]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5120, .f32⟩
  | .hbm, ⟨2, _⟩ => ⟨S8192x1024, .f32⟩
  | .hbm, ⟨3, _⟩ => ⟨S8192x5120, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1x8192x512, .f32⟩
  | .hbm, ⟨15, _⟩ => ⟨S1x8192x512, .f32⟩
  | .hbm, ⟨16, _⟩ => ⟨S1x8192x512, .f32⟩
  | .hbm, ⟨17, _⟩ => ⟨S1x8192x512, .f32⟩
  | .hbm, ⟨18, _⟩ => ⟨S1x8192x512, .f32⟩
  | .hbm, ⟨19, _⟩ => ⟨S1x8192x512, .f32⟩
  | .hbm, ⟨20, _⟩ => ⟨S1x8192x512, .f32⟩
  | .hbm, ⟨21, _⟩ => ⟨S1x8192x512, .f32⟩
  | .hbm, ⟨22, _⟩ => ⟨S1x8192x512, .f32⟩
  | .hbm, ⟨23, _⟩ => ⟨S1x8192x512, .f32⟩
  | .hbm, ⟨24, _⟩ => ⟨S10x8192x512, .f32⟩
  | .hbm, ⟨25, _⟩ => ⟨S10x8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩

abbrev nD : Nat := 1
abbrev τ : Topo := Topo.v7x

variable {F : FTy → Type} [FloatOps F]
-- ==== InDh.lean ====
abbrev S3x8192x512 : Shape := ⟨3, ![3, 8192, 512]⟩
abbrev S4x8192x512 : Shape := ⟨3, ![4, 8192, 512]⟩
abbrev S1024x5120 : Shape := ⟨2, ![1024, 5120]⟩
abbrev S8192x1024 : Shape := ⟨2, ![8192, 1024]⟩
abbrev S5120x1024 : Shape := ⟨2, ![5120, 1024]⟩
abbrev S3x512x512 : Shape := ⟨3, ![3, 512, 512]⟩
abbrev S4x512x512 : Shape := ⟨3, ![4, 512, 512]⟩
abbrev S512x1024 : Shape := ⟨2, ![512, 1024]⟩
abbrev S1x512x512 : Shape := ⟨3, ![1, 512, 512]⟩
abbrev S512x512 : Shape := ⟨2, ![512, 512]⟩
abbrev S512x5120 : Shape := ⟨2, ![512, 5120]⟩

abbrev nBuf : Space → Nat
  | .hbm => 8
  | .vmem => 11
  | .smem => 0
  | _ => 0

abbrev bufTy : (tb : Table) → Fin (tcTables nBuf tb) → BufTy
  | .hbm, ⟨0, _⟩ => ⟨S3x8192x512, .bf16⟩
  | .hbm, ⟨1, _⟩ => ⟨S4x8192x512, .bf16⟩
  | .hbm, ⟨2, _⟩ => ⟨S3x8192x512, .bf16⟩
  | .hbm, ⟨3, _⟩ => ⟨S1024x5120, .f32⟩
  | .hbm, ⟨4, _⟩ => ⟨S8192x1024, .f32⟩
  | .hbm, ⟨5, _⟩ => ⟨S5120x1024, .f32⟩
  | .hbm, ⟨6, _⟩ => ⟨S5120x1024, .bf16⟩
  | .hbm, ⟨7, _⟩ => ⟨S8192x1024, .f32⟩
  | .local _ .vmem, ⟨0, _⟩ => ⟨S3x512x512, .bf16⟩
  | .local _ .vmem, ⟨1, _⟩ => ⟨S3x512x512, .bf16⟩
  | .local _ .vmem, ⟨2, _⟩ => ⟨S4x512x512, .bf16⟩
  | .local _ .vmem, ⟨3, _⟩ => ⟨S4x512x512, .bf16⟩
  | .local _ .vmem, ⟨4, _⟩ => ⟨S3x512x512, .bf16⟩
  | .local _ .vmem, ⟨5, _⟩ => ⟨S3x512x512, .bf16⟩
  | .local _ .vmem, ⟨6, _⟩ => ⟨S5120x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S3x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InDhRefIdeal.lean ====
abbrev S3x8192x512 : Shape := ⟨3, ![3, 8192, 512]⟩
abbrev S4x8192x512 : Shape := ⟨3, ![4, 8192, 512]⟩
abbrev S1024x5120 : Shape := ⟨2, ![1024, 5120]⟩
abbrev S8192x1024 : Shape := ⟨2, ![8192, 1024]⟩
abbrev S1x8192x512 : Shape := ⟨3, ![1, 8192, 512]⟩
abbrev S8192x512 : Shape := ⟨2, ![8192, 512]⟩
abbrev S_ : Shape := ⟨0, ![]⟩
abbrev S8192x5120 : Shape := ⟨2, ![8192, 5120]⟩

abbrev nBuf : Space → Nat
  | .hbm => 51
  | .vmem => 0
  | .smem => 0
  | _ => 0

abbrev bufTy : (tb : Table) → Fin (tcTables nBuf tb) → BufTy
  | .hbm, ⟨0, _⟩ => ⟨S3x8192x512, .bf16⟩
  | .hbm, ⟨1, _⟩ => ⟨S4x8192x512, .bf16⟩
  | .hbm, ⟨2, _⟩ => ⟨S3x8192x512, .bf16⟩
  | .hbm, ⟨3, _⟩ => ⟨S1024x5120, .f32⟩
  | .hbm, ⟨4, _⟩ => ⟨S8192x1024, .f32⟩
  | .hbm, ⟨5, _⟩ => ⟨S1x8192x512, .bf16⟩
  | .hbm, ⟨6, _⟩ => ⟨S8192x512, .bf16⟩
  | .hbm, ⟨7, _⟩ => ⟨S1x8192x512, .bf16⟩
  | .hbm, ⟨8, _⟩ => ⟨S8192x512, .bf16⟩
  | .hbm, ⟨9, _⟩ => ⟨S1x8192x512, .bf16⟩
  | .hbm, ⟨10, _⟩ => ⟨S8192x512, .bf16⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1x8192x512, .bf16⟩
  | .hbm, ⟨15, _⟩ => ⟨S8192x512, .bf16⟩
  | .hbm, ⟨16, _⟩ => ⟨S1x8192x512, .bf16⟩
  | .hbm, ⟨17, _⟩ => ⟨S8192x512, .bf16⟩
  | .hbm, ⟨18, _⟩ => ⟨S1x8192x512, .bf16⟩
  | .hbm, ⟨19, _⟩ => ⟨S8192x512, .bf16⟩
  | .hbm, ⟨20, _⟩ => ⟨S1x8192x512, .bf16⟩
  | .hbm, ⟨21, _⟩ => ⟨S8192x512, .bf16⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S1x8192x512, .bf16⟩
  | .hbm, ⟨27, _⟩ => ⟨S8192x512, .bf16⟩
  | .hbm, ⟨28, _⟩ => ⟨S1x8192x512, .bf16⟩
  | .hbm, ⟨29, _⟩ => ⟨S8192x512, .bf16⟩
  | .hbm, ⟨30, _⟩ => ⟨S1x8192x512, .bf16⟩
  | .hbm, ⟨31, _⟩ => ⟨S8192x512, .bf16⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x1024, .f32⟩
  | .hbm, ⟨37, _⟩ => ⟨S8192x5120, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x5120, .f32⟩
  | .hbm, ⟨49, _⟩ => ⟨S8192x1024, .f32⟩
  | .hbm, ⟨50, _⟩ => ⟨S8192x1024, .f32⟩
  | _, _ => ⟨S3x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== InDwA.lean ====
abbrev S3x8192x512 : Shape := ⟨3, ![3, 8192, 512]⟩
abbrev S8192x1024 : Shape := ⟨2, ![8192, 1024]⟩
abbrev S1536x1024 : Shape := ⟨2, ![1536, 1024]⟩
abbrev S1x2048x512 : Shape := ⟨3, ![1, 2048, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S3x8192x512, .bf16⟩
  | .hbm, ⟨1, _⟩ => ⟨S8192x1024, .bf16⟩
  | .hbm, ⟨2, _⟩ => ⟨S1536x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S3x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 1, 4], ![false, false, false, false]⟩

def k0_cond3 (i : grid0.Coords) : BitVec 1 :=
  let arg3 : BitVec 32 := BitVec.ofNat 32 (i 3).val
  let c3_i32_7 : BitVec 32 := 3#32
  let v12 : BitVec 1 := Scalar.cmpi .eq arg3 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, arg3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InDwAIdeal.lean ====
abbrev S3x8192x512 : Shape := ⟨3, ![3, 8192, 512]⟩
abbrev S8192x1024 : Shape := ⟨2, ![8192, 1024]⟩
abbrev S1536x1024 : Shape := ⟨2, ![1536, 1024]⟩
abbrev S1x2048x512 : Shape := ⟨3, ![1, 2048, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S3x8192x512, .bf16⟩
  | .hbm, ⟨1, _⟩ => ⟨S8192x1024, .bf16⟩
  | .hbm, ⟨2, _⟩ => ⟨S1536x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S3x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 3, 1, 4], ![false, false, false, false]⟩

def k0_cond3 (i : grid0.Coords) : BitVec 1 :=
  let arg3 : BitVec 32 := BitVec.ofNat 32 (i 3).val
  let c3_i32_7 : BitVec 32 := 3#32
  let v12 : BitVec 1 := Scalar.cmpi .eq arg3 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, arg3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InDwARefIdeal.lean ====
abbrev S3x8192x512 : Shape := ⟨3, ![3, 8192, 512]⟩
abbrev S8192x1024 : Shape := ⟨2, ![8192, 1024]⟩
abbrev S_ : Shape := ⟨0, ![]⟩
abbrev S1024x1536 : Shape := ⟨2, ![1024, 1536]⟩
abbrev S8192x1536 : Shape := ⟨2, ![8192, 1536]⟩
abbrev S8192x512 : Shape := ⟨2, ![8192, 512]⟩
abbrev S1x8192x512 : Shape := ⟨3, ![1, 8192, 512]⟩
abbrev S1536x1024 : Shape := ⟨2, ![1536, 1024]⟩

abbrev nBuf : Space → Nat
  | .hbm => 21
  | .vmem => 0
  | .smem => 0
  | _ => 0

abbrev bufTy : (tb : Table) → Fin (tcTables nBuf tb) → BufTy
  | .hbm, ⟨0, _⟩ => ⟨S3x8192x512, .bf16⟩
  | .hbm, ⟨1, _⟩ => ⟨S8192x1024, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S3x8192x512, .f32⟩
  | .hbm, ⟨10, _⟩ => ⟨S1x8192x512, .f32⟩
  | .hbm, ⟨11, _⟩ => ⟨S8192x512, .f32⟩
  | .hbm, ⟨12, _⟩ => ⟨S1x8192x512, .f32⟩
  | .hbm, ⟨13, _⟩ => ⟨S8192x512, .f32⟩
  | .hbm, ⟨14, _⟩ => ⟨S1x8192x512, .f32⟩
  | .hbm, ⟨15, _⟩ => ⟨S8192x512, .f32⟩
  | .hbm, ⟨16, _⟩ => ⟨S8192x1536, .f32⟩
  | .hbm, ⟨17, _⟩ => ⟨S1536x1024, .f32⟩
  | .hbm, ⟨18, _⟩ => ⟨S1024x1536, .f32⟩
  | .hbm, ⟨19, _⟩ => ⟨S1536x1024, .f32⟩
  | .hbm, ⟨20, _⟩ => ⟨S1536x1024, .bf16⟩
  | _, _ => ⟨S3x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== InDwB.lean ====
abbrev S4x8192x512 : Shape := ⟨3, ![4, 8192, 512]⟩
abbrev S8192x1024 : Shape := ⟨2, ![8192, 1024]⟩
abbrev S2048x1024 : Shape := ⟨2, ![2048, 1024]⟩
abbrev S1x2048x512 : Shape := ⟨3, ![1, 2048, 512]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x512, .bf16⟩
  | .hbm, ⟨1, _⟩ => ⟨S8192x1024, .bf16⟩
  | .hbm, ⟨2, _⟩ => ⟨S2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 1, 4], ![false, false, false, false]⟩

def k0_cond3 (i : grid0.Coords) : BitVec 1 :=
  let arg3 : BitVec 32 := BitVec.ofNat 32 (i 3).val
  let c3_i32_7 : BitVec 32 := 3#32
  let v12 : BitVec 1 := Scalar.cmpi .eq arg3 c3_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, arg3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InDwBRefIdeal.lean ====
abbrev S4x8192x512 : Shape := ⟨3, ![4, 8192, 512]⟩
abbrev S8192x1024 : Shape := ⟨2, ![8192, 1024]⟩
abbrev S_ : Shape := ⟨0, ![]⟩
abbrev S1024x2048 : Shape := ⟨2, ![1024, 2048]⟩
abbrev S8192x2048 : Shape := ⟨2, ![8192, 2048]⟩
abbrev S8192x512 : Shape := ⟨2, ![8192, 512]⟩
abbrev S1x8192x512 : Shape := ⟨3, ![1, 8192, 512]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S8192x1024, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S4x8192x512, .f32⟩
  | .hbm, ⟨11, _⟩ => ⟨S1x8192x512, .f32⟩
  | .hbm, ⟨12, _⟩ => ⟨S8192x512, .f32⟩
  | .hbm, ⟨13, _⟩ => ⟨S1x8192x512, .f32⟩
  | .hbm, ⟨14, _⟩ => ⟨S8192x512, .f32⟩
  | .hbm, ⟨15, _⟩ => ⟨S1x8192x512, .f32⟩
  | .hbm, ⟨16, _⟩ => ⟨S8192x512, .f32⟩
  | .hbm, ⟨17, _⟩ => ⟨S1x8192x512, .f32⟩
  | .hbm, ⟨18, _⟩ => ⟨S8192x512, .f32⟩
  | .hbm, ⟨19, _⟩ => ⟨S8192x2048, .f32⟩
  | .hbm, ⟨20, _⟩ => ⟨S2048x1024, .f32⟩
  | .hbm, ⟨21, _⟩ => ⟨S1024x2048, .f32⟩
  | .hbm, ⟨22, _⟩ => ⟨S2048x1024, .f32⟩
  | .hbm, ⟨23, _⟩ => ⟨S2048x1024, .bf16⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== OutFwd.lean ====
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== OutFwdRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutDm.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== OutDmRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 4], ![false, false, false, false]⟩

def k0_cond3 (i : grid0.Coords) : BitVec 1 :=
  let arg3 : BitVec 32 := BitVec.ofNat 32 (i 3).val
  let c3_i32_6 : BitVec 32 := 3#32
  let v12 : BitVec 1 := Scalar.cmpi .eq arg3 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 16
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x1024, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1024, .bf16⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32_23 : BitVec 32 := 1#32
  let v36 : BitVec 1 := Scalar.cmpi .eq arg1 c1_i32_23
  let v37 : BitVec 32 := Scalar.extui v36
  let c0_i32_24 : BitVec 32 := 0#32
  let v38 : BitVec 1 := Scalar.cmpi .ne v37 c0_i32_24
  v38

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFwdRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x2816, .bf16⟩
  | .hbm, ⟨40, _⟩ => ⟨S8192x2816, .bf16⟩
  | .hbm, ⟨41, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== FfnBwd.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 37
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S1x1024, .f32⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S8192x1024, .f32⟩
  | .hbm, ⟨33, _⟩ => ⟨S8192x1024, .bf16⟩
  | .hbm, ⟨34, _⟩ => ⟨S8192x2816, .bf16⟩
  | .hbm, ⟨35, _⟩ => ⟨S8192x2816, .bf16⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S1408x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S1x1024, .f32⟩
  | .local _ .vmem, ⟨24, _⟩ => ⟨S512x1024, .bf16⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32_27 : BitVec 32 := 1#32
  let v49 : BitVec 1 := Scalar.cmpi .eq arg1 c1_i32_27
  let v50 : BitVec 32 := Scalar.extui v49
  let c0_i32_28 : BitVec 32 := 0#32
  let v51 : BitVec 1 := Scalar.cmpi .ne v50 c0_i32_28
  v51

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond5 (i : grid0.Coords) : BitVec 1 :=
  let arg0 : BitVec 32 := BitVec.ofNat 32 (i 0).val
  let c0_i32_45 : BitVec 32 := 0#32
  let v85 : BitVec 1 := Scalar.cmpi .eq arg0 c0_i32_45
  let v86 : BitVec 32 := Scalar.extui v85
  let c0_i32_46 : BitVec 32 := 0#32
  let v87 : BitVec 1 := Scalar.cmpi .ne v86 c0_i32_46
  v87

def k0_cond6 (i : grid0.Coords) : BitVec 1 :=
  let arg0 : BitVec 32 := BitVec.ofNat 32 (i 0).val
  let c0_i32_47 : BitVec 32 := 0#32
  let v88 : BitVec 1 := Scalar.cmpi .sgt arg0 c0_i32_47
  let v89 : BitVec 32 := Scalar.extui v88
  let c0_i32_48 : BitVec 32 := 0#32
  let v90 : BitVec 1 := Scalar.cmpi .ne v89 c0_i32_48
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S8192x2816, .bf16⟩
  | .hbm, ⟨87, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32_15 : BitVec 32 := 0#32
  let v35 : BitVec 1 := Scalar.cmpi .sgt arg0 c0_i32_15
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvFwd.lean ====
abbrev S10x8192x512 : Shape := ⟨3, ![10, 8192, 512]⟩
abbrev S3x512 : Shape := ⟨2, ![3, 512]⟩
abbrev S8192x512 : Shape := ⟨2, ![8192, 512]⟩
abbrev S1x1024x128 : Shape := ⟨3, ![1, 1024, 128]⟩
abbrev S1x16x128 : Shape := ⟨3, ![1, 16, 128]⟩
abbrev S3x128 : Shape := ⟨2, ![3, 128]⟩
abbrev S1024x128 : Shape := ⟨2, ![1024, 128]⟩
abbrev S16x128 : Shape := ⟨2, ![16, 128]⟩
abbrev S1x128 : Shape := ⟨2, ![1, 128]⟩
abbrev S1040x128 : Shape := ⟨2, ![1040, 128]⟩

abbrev nBuf : Space → Nat
  | .hbm => 3
  | .vmem => 14
  | .smem => 0
  | _ => 0

abbrev bufTy : (tb : Table) → Fin (tcTables nBuf tb) → BufTy
  | .hbm, ⟨0, _⟩ => ⟨S10x8192x512, .bf16⟩
  | .hbm, ⟨1, _⟩ => ⟨S3x512, .f32⟩
  | .hbm, ⟨2, _⟩ => ⟨S8192x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x16x128, .bf16⟩
  | .local _ .vmem, ⟨7, _⟩ => ⟨S1x16x128, .bf16⟩
  | .local _ .vmem, ⟨8, _⟩ => ⟨S1x16x128, .bf16⟩
  | .local _ .vmem, ⟨9, _⟩ => ⟨S1x16x128, .bf16⟩
  | .local _ .vmem, ⟨10, _⟩ => ⟨S3x128, .f32⟩
  | .local _ .vmem, ⟨11, _⟩ => ⟨S3x128, .f32⟩
  | .local _ .vmem, ⟨12, _⟩ => ⟨S1024x128, .bf16⟩
  | .local _ .vmem, ⟨13, _⟩ => ⟨S1024x128, .bf16⟩
  | _, _ => ⟨S10x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFwdRefIdeal.lean ====
abbrev S10x8192x512 : Shape := ⟨3, ![10, 8192, 512]⟩
abbrev S3x512 : Shape := ⟨2, ![3, 512]⟩
abbrev S1x8192x512 : Shape := ⟨3, ![1, 8192, 512]⟩
abbrev S8192x512 : Shape := ⟨2, ![8192, 512]⟩
abbrev S_ : Shape := ⟨0, ![]⟩
abbrev S1x2x512 : Shape := ⟨3, ![1, 2, 512]⟩
abbrev S1x8194x512 : Shape := ⟨3, ![1, 8194, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 44
  | .vmem => 0
  | .smem => 0
  | _ => 0

abbrev bufTy : (tb : Table) → Fin (tcTables nBuf tb) → BufTy
  | .hbm, ⟨0, _⟩ => ⟨S10x8192x512, .bf16⟩
  | .hbm, ⟨1, _⟩ => ⟨S3x512, .f32⟩
  | .hbm, ⟨2, _⟩ => ⟨S1x8192x512, .bf16⟩
  | .hbm, ⟨3, _⟩ => ⟨S8192x512, .bf16⟩
  | .hbm, ⟨4, _⟩ => ⟨S8192x512, .f32⟩
  | .hbm, ⟨5, _⟩ => ⟨S1x8192x512, .f32⟩
  | .hbm, ⟨6, _⟩ => ⟨S1x8192x512, .bf16⟩
  | .hbm, ⟨7, _⟩ => ⟨S8192x512, .bf16⟩
  | .hbm, ⟨8, _⟩ => ⟨S8192x512, .f32⟩
  | .hbm, ⟨9, _⟩ => ⟨S1x8192x512, .f32⟩
  | .hbm, ⟨10, _⟩ => ⟨S1x8192x512, .bf16⟩
  | .hbm, ⟨11, _⟩ => ⟨S8192x512, .bf16⟩
  | .hbm, ⟨12, _⟩ => ⟨S8192x512, .f32⟩
  | .hbm, ⟨13, _⟩ => ⟨S1x8192x512, .f32⟩
  | .hbm, ⟨14, _⟩ => ⟨S1x8192x512, .f32⟩
  | .hbm, ⟨15, _⟩ => ⟨S_, .f32⟩
  | .hbm, ⟨16, _⟩ => ⟨S1x2x512, .f32⟩
  | .hbm, ⟨17, _⟩ => ⟨S1x8194x512, .f32⟩
  | .hbm, ⟨18, _⟩ => ⟨S1x512, .f32⟩
  | .hbm, ⟨19, _⟩ => ⟨S512, .f32⟩
  | .hbm, ⟨20, _⟩ => ⟨S1x8192x512, .f32⟩
  | .hbm, ⟨21, _⟩ => ⟨S1x1x512, .f32⟩
  | .hbm, ⟨22, _⟩ => ⟨S1x8192x512, .f32⟩
  | .hbm, ⟨23, _⟩ => ⟨S1x8192x512, .f32⟩
  | .hbm, ⟨24, _⟩ => ⟨S_, .f32⟩
  | .hbm, ⟨25, _⟩ => ⟨S1x8192x512, .f32⟩
  | .hbm, ⟨26, _⟩ => ⟨S1x8192x512, .f32⟩
  | .hbm, ⟨27, _⟩ => ⟨S1x512, .f32⟩
  | .hbm, ⟨28, _⟩ => ⟨S512, .f32⟩
  | .hbm, ⟨29, _⟩ => ⟨S1x8192x512, .f32⟩
  | .hbm, ⟨30, _⟩ => ⟨S1x1x512, .f32⟩
  | .hbm, ⟨31, _⟩ => ⟨S1x8192x512, .f32⟩
  | .hbm, ⟨32, _⟩ => ⟨S1x8192x512, .f32⟩
  | .hbm, ⟨33, _⟩ => ⟨S1x8192x512, .f32⟩
  | .hbm, ⟨34, _⟩ => ⟨S1x512, .f32⟩
  | .hbm, ⟨35, _⟩ => ⟨S512, .f32⟩
  | .hbm, ⟨36, _⟩ => ⟨S1x8192x512, .f32⟩
  | .hbm, ⟨37, _⟩ => ⟨S1x1x512, .f32⟩
  | .hbm, ⟨38, _⟩ => ⟨S1x8192x512, .f32⟩
  | .hbm, ⟨39, _⟩ => ⟨S1x8192x512, .f32⟩
  | .hbm, ⟨40, _⟩ => ⟨S1x8192x512, .f32⟩
  | .hbm, ⟨41, _⟩ => ⟨S1x8192x512, .f32⟩
  | .hbm, ⟨42, _⟩ => ⟨S8192x512, .f32⟩
  | .hbm, ⟨43, _⟩ => ⟨S8192x512, .bf16⟩
  | _, _ => ⟨S10x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_15 : BitVec 32 := 0#32
  let v45 : BitVec 1 := Scalar.cmpi .ne v44 c0_i32_15
  v45

def k0_cond2 (i : grid0.Coords) : BitVec 1 :=
  let arg0 : BitVec 32 := BitVec.ofNat 32 (i 0).val
  let c0_i32_16 : BitVec 32 := 0#32
  let v46 : BitVec 1 := Scalar.cmpi .sgt arg0 c0_i32_16
  let v47 : BitVec 32 := Scalar.extui v46
  let c0_i32_17 : BitVec 32 := 0#32
  let v48 : BitVec 1 := Scalar.cmpi .ne v47 c0_i32_17
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Conv.lean ====
module

public import proofs.«01_k».proof.Proof.Gen.ConvBwdIdeal.Value
public import proofs.«01_k».proof.Proof.Gen.ConvRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Conv

open Cert.ConvBwdIdeal Cert.ConvBwdIdeal.Gen Idealize.ShloMosaic Idealize.ShloMosaic.TcCoe Idealize.SL.Sem Idealize.ShloMosaic.StableHlo

variable (m : (ℓ : Loc nD τ sig) → Buf (Elt Ideal) ℓ)

/-- A host sum over the two unit axes of a `1 × 1 × n` array reads its one row. -/
theorem hostReduceAdd_unit {n : ℕ} (h : (⟨3, ![1, 1, n]⟩ : Shape).ReducesTo [0, 1] ⟨1, ![n]⟩)
    (v : (⟨3, ![1, 1, n]⟩ : Shape).Idx → EReal) (init : EReal) (d : Fin n) :
    Ideal.hostReduceAdd h v init (ix1 d) = init + v (ix3 0 0 d) := by
  refine congrArg (init + ·) ((Finset.sum_filter_eq_sum_of_fiber _ (fun _ : Unit => (ix3 0 0 d : (⟨3, ![1, 1, n]⟩ : Shape).Idx))
    (fun _ _ _ => rfl) (fun i => ?_) v).trans (by simp))
  constructor
  · intro e
    refine ⟨(), ?_⟩
    funext a
    apply Fin.ext
    match a with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
  · rintro ⟨_, rfl⟩
    funext b
    apply Fin.ext
    match b with
    | ⟨0, _⟩ => rfl

/-! ## What the gradients are, index by index -/

/-- The gated input of the convolution. -/
def z (x0 : BufTy.Contents (Elt Ideal) ⟨S10x8192x512, .bf16⟩) (r : Fin 8192) (d : Fin 512) : EReal := x0 (ix3 2 r d) * x0 (ix3 0 r d)

/-- The gated input `k` rows earlier, zero before the first row. -/
def zsh (k : ℕ) (x0 : BufTy.Contents (Elt Ideal) ⟨S10x8192x512, .bf16⟩) (r : Fin 8192) (d : Fin 512) : EReal :=
  if h : r.val < k then 0 else z x0 ⟨r.val - k, by omega⟩ d

/-- The gradient of the convolution's value. -/
def g (x0 : BufTy.Contents (Elt Ideal) ⟨S10x8192x512, .bf16⟩) (x2 : BufTy.Contents (Elt Ideal) ⟨S3x8192x512, .bf16⟩) (r : Fin 8192) (d : Fin 512) : EReal :=
  x0 (ix3 1 r d) * x2 (ix3 0 r d)

/-- The gradient of the convolution's value `k` rows later, zero after the last row. -/
def gsh (k : ℕ) (x0 : BufTy.Contents (Elt Ideal) ⟨S10x8192x512, .bf16⟩) (x2 : BufTy.Contents (Elt Ideal) ⟨S3x8192x512, .bf16⟩) (r : Fin 8192) (d : Fin 512) :
    EReal :=
  if h : r.val + k < 8192 then g x0 x2 ⟨r.val + k, h⟩ d else 0

/-- The convolution of three taps. -/
def conv (x0 : BufTy.Contents (Elt Ideal) ⟨S10x8192x512, .bf16⟩) (x1 : BufTy.Contents (Elt Ideal) ⟨S3x512, .f32⟩) (r : Fin 8192) (d : Fin 512) : EReal :=
  x1 (ix2 0 d) * zsh 2 x0 r d + x1 (ix2 1 d) * zsh 1 x0 r d + x1 (ix2 2 d) * z x0 r d

/-- The gradient of the gated input: the three taps run backwards. -/
def dz (x0 : BufTy.Contents (Elt Ideal) ⟨S10x8192x512, .bf16⟩) (x1 : BufTy.Contents (Elt Ideal) ⟨S3x512, .f32⟩) (x2 : BufTy.Contents (Elt Ideal) ⟨S3x8192x512, .bf16⟩)
    (r : Fin 8192) (d : Fin 512) : EReal :=
  x1 (ix2 2 d) * g x0 x2 r d + x1 (ix2 1 d) * gsh 1 x0 x2 r d + x1 (ix2 0 d) * gsh 2 x0 x2 r d

/-- Which earlier row tap `j` reads. -/
def tap (j : Fin 3) (x0 : BufTy.Contents (Elt Ideal) ⟨S10x8192x512, .bf16⟩) (r : Fin 8192) (d : Fin 512) : EReal :=
  if j.val = 0 then zsh 2 x0 r d else if j.val = 1 then zsh 1 x0 r d else z x0 r d

/-- The reference's convolution. -/
theorem ref_conv (x0 : BufTy.Contents (Elt Ideal) ⟨S10x8192x512, .bf16⟩) (x1 : BufTy.Contents (Elt Ideal) ⟨S3x512, .f32⟩) (b r d) :
    Cert.ConvRefIdeal.Read.val_main_v37 (F := Ideal) x0 x1 (ix3 b r d) = conv x0 x1 r d := by
  pointwise [Cert.ConvRefIdeal.Read.val_main_v0, Cert.ConvRefIdeal.Read.val_main_v1, Cert.ConvRefIdeal.Read.val_main_v2,
    Cert.ConvRefIdeal.Read.val_main_v3, Cert.ConvRefIdeal.Read.val_main_v4, Cert.ConvRefIdeal.Read.val_main_v5,
    Cert.ConvRefIdeal.Read.val_main_v6, Cert.ConvRefIdeal.Read.val_main_v7, Cert.ConvRefIdeal.Read.val_main_v8,
    Cert.ConvRefIdeal.Read.val_main_v9, Cert.ConvRefIdeal.Read.val_main_v10, Cert.ConvRefIdeal.Read.val_main_v11,
    Cert.ConvRefIdeal.Read.val_main_v12, Cert.ConvRefIdeal.Read.val_main_cst, Cert.ConvRefIdeal.Read.val_main_v13,
    Cert.ConvRefIdeal.Read.val_main_v14, Cert.ConvRefIdeal.Read.val_main_cst_0, Cert.ConvRefIdeal.Read.val_main_v15,
    Cert.ConvRefIdeal.Read.val_main_v16, Cert.ConvRefIdeal.Read.val_main_v17, Cert.ConvRefIdeal.Read.val_main_v18,
    Cert.ConvRefIdeal.Read.val_main_v19, Cert.ConvRefIdeal.Read.val_main_v20, Cert.ConvRefIdeal.Read.val_main_v21,
    Cert.ConvRefIdeal.Read.val_main_cst_1, Cert.ConvRefIdeal.Read.val_main_v22, Cert.ConvRefIdeal.Read.val_main_v23,
    Cert.ConvRefIdeal.Read.val_main_v24, Cert.ConvRefIdeal.Read.val_main_v25, Cert.ConvRefIdeal.Read.val_main_v26,
    Cert.ConvRefIdeal.Read.val_main_v27, Cert.ConvRefIdeal.Read.val_main_v28, Cert.ConvRefIdeal.Read.val_main_v29,
    Cert.ConvRefIdeal.Read.val_main_v30, Cert.ConvRefIdeal.Read.val_main_v31, Cert.ConvRefIdeal.Read.val_main_v32,
    Cert.ConvRefIdeal.Read.val_main_v33, Cert.ConvRefIdeal.Read.val_main_v34, Cert.ConvRefIdeal.Read.val_main_v35,
    Cert.ConvRefIdeal.Read.val_main_v36, Cert.ConvRefIdeal.Read.val_main_v37, Cert.ConvRefIdeal.Read.val_main_v38,
    Cert.ConvRefIdeal.Read.val_main_v39, Cert.ConvRefIdeal.Read.val_main_v40, Cert.ConvRefIdeal.Read.val_main_v41,
    Cert.ConvRefIdeal.Read.val_main_v42, Cert.ConvRefIdeal.Read.val_main_v43, Cert.ConvRefIdeal.Read.val_main_v44,
    Cert.ConvRefIdeal.Read.val_main_v45, Cert.ConvRefIdeal.Read.val_main_v46, Cert.ConvRefIdeal.Read.val_main_v47,
    Cert.ConvRefIdeal.Read.val_main_cst_2, Cert.ConvRefIdeal.Read.val_main_v48, Cert.ConvRefIdeal.Read.val_main_v49,
    Cert.ConvRefIdeal.Read.val_main_cst_3, Cert.ConvRefIdeal.Read.val_main_v50, Cert.ConvRefIdeal.Read.val_main_cst_4,
    Cert.ConvRefIdeal.Read.val_main_v51, Cert.ConvRefIdeal.Read.val_main_v52, Cert.ConvRefIdeal.Read.val_main_cst_5,
    Cert.ConvRefIdeal.Read.val_main_v53, Cert.ConvRefIdeal.Read.val_main_v54, Cert.ConvRefIdeal.Read.val_main_v55,
    Cert.ConvRefIdeal.Read.val_main_v56, Cert.ConvRefIdeal.Read.val_main_cst_6, Cert.ConvRefIdeal.Read.val_main_v57,
    Cert.ConvRefIdeal.Read.val_main_v58, Cert.ConvRefIdeal.Read.val_main_cst_7, Cert.ConvRefIdeal.Read.val_main_v59,
    Cert.ConvRefIdeal.Read.val_main_cst_8, Cert.ConvRefIdeal.Read.val_main_v60, Cert.ConvRefIdeal.Read.val_main_v61,
    Cert.ConvRefIdeal.Read.val_main_v62, Cert.ConvRefIdeal.Read.val_main_cst_9, Cert.ConvRefIdeal.Read.val_main_v63,
    Cert.ConvRefIdeal.Read.val_main_v64, Cert.ConvRefIdeal.Read.val_main_v65, Cert.ConvRefIdeal.Read.val_main_v66,
    Cert.ConvRefIdeal.Read.val_main_v67, Cert.ConvRefIdeal.Read.val_main_cst_10, Cert.ConvRefIdeal.Read.val_main_v68,
    Cert.ConvRefIdeal.Read.val_main_v69, Cert.ConvRefIdeal.Read.val_main_cst_11, Cert.ConvRefIdeal.Read.val_main_v70,
    Cert.ConvRefIdeal.Read.val_main_cst_12, Cert.ConvRefIdeal.Read.val_main_v71, Cert.ConvRefIdeal.Read.val_main_v72,
    Cert.ConvRefIdeal.Read.val_main_v73, Cert.ConvRefIdeal.Read.val_main_cst_13, Cert.ConvRefIdeal.Read.val_main_v74,
    Cert.ConvRefIdeal.Read.val_main_v75, Cert.ConvRefIdeal.Read.val_main_v76, Cert.ConvRefIdeal.Read.val_main_v77,
    Cert.ConvRefIdeal.Read.val_main_v78, Cert.ConvRefIdeal.Read.val_main_v79, Cert.ConvRefIdeal.Read.val_main_v80,
    Cert.ConvRefIdeal.Read.val_main_v81]
  unfold conv zsh z
  simp only [Nat.add_comm 1 r.val, Nat.reduceSubDiff]
  congr 2
  congr 1
  split <;> split <;> first | rfl | omega

/-- The reference's gradient of the gated input. -/
theorem ref_dz (x0 : BufTy.Contents (Elt Ideal) ⟨S10x8192x512, .bf16⟩) (x1 : BufTy.Contents (Elt Ideal) ⟨S3x512, .f32⟩) (x2 : BufTy.Contents (Elt Ideal) ⟨S3x8192x512, .bf16⟩) (b r d) :
    Cert.ConvRefIdeal.Read.val_main_v77 (F := Ideal) x0 x1 x2 (ix3 b r d) = dz x0 x1 x2 r d := by
  pointwise [Cert.ConvRefIdeal.Read.val_main_v0, Cert.ConvRefIdeal.Read.val_main_v1, Cert.ConvRefIdeal.Read.val_main_v2,
    Cert.ConvRefIdeal.Read.val_main_v3, Cert.ConvRefIdeal.Read.val_main_v4, Cert.ConvRefIdeal.Read.val_main_v5,
    Cert.ConvRefIdeal.Read.val_main_v6, Cert.ConvRefIdeal.Read.val_main_v7, Cert.ConvRefIdeal.Read.val_main_v8,
    Cert.ConvRefIdeal.Read.val_main_v9, Cert.ConvRefIdeal.Read.val_main_v10, Cert.ConvRefIdeal.Read.val_main_v11,
    Cert.ConvRefIdeal.Read.val_main_v12, Cert.ConvRefIdeal.Read.val_main_cst, Cert.ConvRefIdeal.Read.val_main_v13,
    Cert.ConvRefIdeal.Read.val_main_v14, Cert.ConvRefIdeal.Read.val_main_cst_0, Cert.ConvRefIdeal.Read.val_main_v15,
    Cert.ConvRefIdeal.Read.val_main_v16, Cert.ConvRefIdeal.Read.val_main_v17, Cert.ConvRefIdeal.Read.val_main_v18,
    Cert.ConvRefIdeal.Read.val_main_v19, Cert.ConvRefIdeal.Read.val_main_v20, Cert.ConvRefIdeal.Read.val_main_v21,
    Cert.ConvRefIdeal.Read.val_main_cst_1, Cert.ConvRefIdeal.Read.val_main_v22, Cert.ConvRefIdeal.Read.val_main_v23,
    Cert.ConvRefIdeal.Read.val_main_v24, Cert.ConvRefIdeal.Read.val_main_v25, Cert.ConvRefIdeal.Read.val_main_v26,
    Cert.ConvRefIdeal.Read.val_main_v27, Cert.ConvRefIdeal.Read.val_main_v28, Cert.ConvRefIdeal.Read.val_main_v29,
    Cert.ConvRefIdeal.Read.val_main_v30, Cert.ConvRefIdeal.Read.val_main_v31, Cert.ConvRefIdeal.Read.val_main_v32,
    Cert.ConvRefIdeal.Read.val_main_v33, Cert.ConvRefIdeal.Read.val_main_v34, Cert.ConvRefIdeal.Read.val_main_v35,
    Cert.ConvRefIdeal.Read.val_main_v36, Cert.ConvRefIdeal.Read.val_main_v37, Cert.ConvRefIdeal.Read.val_main_v38,
    Cert.ConvRefIdeal.Read.val_main_v39, Cert.ConvRefIdeal.Read.val_main_v40, Cert.ConvRefIdeal.Read.val_main_v41,
    Cert.ConvRefIdeal.Read.val_main_v42, Cert.ConvRefIdeal.Read.val_main_v43, Cert.ConvRefIdeal.Read.val_main_v44,
    Cert.ConvRefIdeal.Read.val_main_v45, Cert.ConvRefIdeal.Read.val_main_v46, Cert.ConvRefIdeal.Read.val_main_v47,
    Cert.ConvRefIdeal.Read.val_main_cst_2, Cert.ConvRefIdeal.Read.val_main_v48, Cert.ConvRefIdeal.Read.val_main_v49,
    Cert.ConvRefIdeal.Read.val_main_cst_3, Cert.ConvRefIdeal.Read.val_main_v50, Cert.ConvRefIdeal.Read.val_main_cst_4,
    Cert.ConvRefIdeal.Read.val_main_v51, Cert.ConvRefIdeal.Read.val_main_v52, Cert.ConvRefIdeal.Read.val_main_cst_5,
    Cert.ConvRefIdeal.Read.val_main_v53, Cert.ConvRefIdeal.Read.val_main_v54, Cert.ConvRefIdeal.Read.val_main_v55,
    Cert.ConvRefIdeal.Read.val_main_v56, Cert.ConvRefIdeal.Read.val_main_cst_6, Cert.ConvRefIdeal.Read.val_main_v57,
    Cert.ConvRefIdeal.Read.val_main_v58, Cert.ConvRefIdeal.Read.val_main_cst_7, Cert.ConvRefIdeal.Read.val_main_v59,
    Cert.ConvRefIdeal.Read.val_main_cst_8, Cert.ConvRefIdeal.Read.val_main_v60, Cert.ConvRefIdeal.Read.val_main_v61,
    Cert.ConvRefIdeal.Read.val_main_v62, Cert.ConvRefIdeal.Read.val_main_cst_9, Cert.ConvRefIdeal.Read.val_main_v63,
    Cert.ConvRefIdeal.Read.val_main_v64, Cert.ConvRefIdeal.Read.val_main_v65, Cert.ConvRefIdeal.Read.val_main_v66,
    Cert.ConvRefIdeal.Read.val_main_v67, Cert.ConvRefIdeal.Read.val_main_cst_10, Cert.ConvRefIdeal.Read.val_main_v68,
    Cert.ConvRefIdeal.Read.val_main_v69, Cert.ConvRefIdeal.Read.val_main_cst_11, Cert.ConvRefIdeal.Read.val_main_v70,
    Cert.ConvRefIdeal.Read.val_main_cst_12, Cert.ConvRefIdeal.Read.val_main_v71, Cert.ConvRefIdeal.Read.val_main_v72,
    Cert.ConvRefIdeal.Read.val_main_v73, Cert.ConvRefIdeal.Read.val_main_cst_13, Cert.ConvRefIdeal.Read.val_main_v74,
    Cert.ConvRefIdeal.Read.val_main_v75, Cert.ConvRefIdeal.Read.val_main_v76, Cert.ConvRefIdeal.Read.val_main_v77,
    Cert.ConvRefIdeal.Read.val_main_v78, Cert.ConvRefIdeal.Read.val_main_v79, Cert.ConvRefIdeal.Read.val_main_v80,
    Cert.ConvRefIdeal.Read.val_main_v81]
  unfold dz gsh g
  congr 1
  · congr 1
    split <;> split <;> first | (simp only [mul_zero]; done) | omega | skip
    simp only [show 2 + r.val - 1 = r.val + 1 by omega]
  · split <;> split <;> first | (simp only [mul_zero]; done) | omega | skip
    simp only [Nat.add_comm 2 r.val]

/-- The reference's gradients of the three columns. -/
theorem ref_d3 (x0 : BufTy.Contents (Elt Ideal) ⟨S10x8192x512, .bf16⟩) (x1 : BufTy.Contents (Elt Ideal) ⟨S3x512, .f32⟩) (x2 : BufTy.Contents (Elt Ideal) ⟨S3x8192x512, .bf16⟩) (b : Fin 3) (r d) :
    Cert.ConvRefIdeal.Read.val_main_v81 (F := Ideal) x0 x1 x2 (ix3 b r d)
      = if b.val = 0 then x0 (ix3 2 r d) * dz x0 x1 x2 r d else if b.val = 1 then x2 (ix3 0 r d) * conv x0 x1 r d
        else dz x0 x1 x2 r d * x0 (ix3 0 r d) := by
  rw [← ref_dz x0 x1 x2 0 r d, ← ref_conv x0 x1 0 r d]
  pointwise [Cert.ConvRefIdeal.Read.val_main_v0, Cert.ConvRefIdeal.Read.val_main_v1, Cert.ConvRefIdeal.Read.val_main_v2,
    Cert.ConvRefIdeal.Read.val_main_v3, Cert.ConvRefIdeal.Read.val_main_v4, Cert.ConvRefIdeal.Read.val_main_v5,
    Cert.ConvRefIdeal.Read.val_main_v6, Cert.ConvRefIdeal.Read.val_main_v7, Cert.ConvRefIdeal.Read.val_main_v8,
    Cert.ConvRefIdeal.Read.val_main_v9, Cert.ConvRefIdeal.Read.val_main_v10, Cert.ConvRefIdeal.Read.val_main_v11,
    Cert.ConvRefIdeal.Read.val_main_v12, Cert.ConvRefIdeal.Read.val_main_cst, Cert.ConvRefIdeal.Read.val_main_v13,
    Cert.ConvRefIdeal.Read.val_main_v14, Cert.ConvRefIdeal.Read.val_main_cst_0, Cert.ConvRefIdeal.Read.val_main_v15,
    Cert.ConvRefIdeal.Read.val_main_v16, Cert.ConvRefIdeal.Read.val_main_v17, Cert.ConvRefIdeal.Read.val_main_v18,
    Cert.ConvRefIdeal.Read.val_main_v19, Cert.ConvRefIdeal.Read.val_main_v20, Cert.ConvRefIdeal.Read.val_main_v21,
    Cert.ConvRefIdeal.Read.val_main_cst_1, Cert.ConvRefIdeal.Read.val_main_v22, Cert.ConvRefIdeal.Read.val_main_v23,
    Cert.ConvRefIdeal.Read.val_main_v24, Cert.ConvRefIdeal.Read.val_main_v25, Cert.ConvRefIdeal.Read.val_main_v26,
    Cert.ConvRefIdeal.Read.val_main_v27, Cert.ConvRefIdeal.Read.val_main_v28, Cert.ConvRefIdeal.Read.val_main_v29,
    Cert.ConvRefIdeal.Read.val_main_v30, Cert.ConvRefIdeal.Read.val_main_v31, Cert.ConvRefIdeal.Read.val_main_v32,
    Cert.ConvRefIdeal.Read.val_main_v33, Cert.ConvRefIdeal.Read.val_main_v34, Cert.ConvRefIdeal.Read.val_main_v35,
    Cert.ConvRefIdeal.Read.val_main_v36, Cert.ConvRefIdeal.Read.val_main_v37, Cert.ConvRefIdeal.Read.val_main_v38,
    Cert.ConvRefIdeal.Read.val_main_v39, Cert.ConvRefIdeal.Read.val_main_v40, Cert.ConvRefIdeal.Read.val_main_v41,
    Cert.ConvRefIdeal.Read.val_main_v42, Cert.ConvRefIdeal.Read.val_main_v43, Cert.ConvRefIdeal.Read.val_main_v44,
    Cert.ConvRefIdeal.Read.val_main_v45, Cert.ConvRefIdeal.Read.val_main_v46, Cert.ConvRefIdeal.Read.val_main_v47,
    Cert.ConvRefIdeal.Read.val_main_cst_2, Cert.ConvRefIdeal.Read.val_main_v48, Cert.ConvRefIdeal.Read.val_main_v49,
    Cert.ConvRefIdeal.Read.val_main_cst_3, Cert.ConvRefIdeal.Read.val_main_v50, Cert.ConvRefIdeal.Read.val_main_cst_4,
    Cert.ConvRefIdeal.Read.val_main_v51, Cert.ConvRefIdeal.Read.val_main_v52, Cert.ConvRefIdeal.Read.val_main_cst_5,
    Cert.ConvRefIdeal.Read.val_main_v53, Cert.ConvRefIdeal.Read.val_main_v54, Cert.ConvRefIdeal.Read.val_main_v55,
    Cert.ConvRefIdeal.Read.val_main_v56, Cert.ConvRefIdeal.Read.val_main_cst_6, Cert.ConvRefIdeal.Read.val_main_v57,
    Cert.ConvRefIdeal.Read.val_main_v58, Cert.ConvRefIdeal.Read.val_main_cst_7, Cert.ConvRefIdeal.Read.val_main_v59,
    Cert.ConvRefIdeal.Read.val_main_cst_8, Cert.ConvRefIdeal.Read.val_main_v60, Cert.ConvRefIdeal.Read.val_main_v61,
    Cert.ConvRefIdeal.Read.val_main_v62, Cert.ConvRefIdeal.Read.val_main_cst_9, Cert.ConvRefIdeal.Read.val_main_v63,
    Cert.ConvRefIdeal.Read.val_main_v64, Cert.ConvRefIdeal.Read.val_main_v65, Cert.ConvRefIdeal.Read.val_main_v66,
    Cert.ConvRefIdeal.Read.val_main_v67, Cert.ConvRefIdeal.Read.val_main_cst_10, Cert.ConvRefIdeal.Read.val_main_v68,
    Cert.ConvRefIdeal.Read.val_main_v69, Cert.ConvRefIdeal.Read.val_main_cst_11, Cert.ConvRefIdeal.Read.val_main_v70,
    Cert.ConvRefIdeal.Read.val_main_cst_12, Cert.ConvRefIdeal.Read.val_main_v71, Cert.ConvRefIdeal.Read.val_main_v72,
    Cert.ConvRefIdeal.Read.val_main_v73, Cert.ConvRefIdeal.Read.val_main_cst_13, Cert.ConvRefIdeal.Read.val_main_v74,
    Cert.ConvRefIdeal.Read.val_main_v75, Cert.ConvRefIdeal.Read.val_main_v76, Cert.ConvRefIdeal.Read.val_main_v77,
    Cert.ConvRefIdeal.Read.val_main_v78, Cert.ConvRefIdeal.Read.val_main_v79, Cert.ConvRefIdeal.Read.val_main_v80,
    Cert.ConvRefIdeal.Read.val_main_v81]
  fin_vals b with hb
  all_goals simp only [hb, Nat.reduceSub, Nat.reduceLT, Nat.reduceEqDiff, true_and, ↓reduceDIte, ↓reduceIte]

/-- The reference's gradient of the taps. -/
theorem ref_dw (x0 : BufTy.Contents (Elt Ideal) ⟨S10x8192x512, .bf16⟩) (x2 : BufTy.Contents (Elt Ideal) ⟨S3x8192x512, .bf16⟩) (j : Fin 3) (d) :
    Cert.ConvRefIdeal.Read.val_main_v75 (F := Ideal) x0 x2 (ix2 j d) = ∑ r : Fin 8192, g x0 x2 r d * tap j x0 r d := by
  pointwise [Cert.ConvRefIdeal.Read.val_main_v0, Cert.ConvRefIdeal.Read.val_main_v1, Cert.ConvRefIdeal.Read.val_main_v2,
    Cert.ConvRefIdeal.Read.val_main_v3, Cert.ConvRefIdeal.Read.val_main_v4, Cert.ConvRefIdeal.Read.val_main_v5,
    Cert.ConvRefIdeal.Read.val_main_v6, Cert.ConvRefIdeal.Read.val_main_v7, Cert.ConvRefIdeal.Read.val_main_v8,
    Cert.ConvRefIdeal.Read.val_main_v9, Cert.ConvRefIdeal.Read.val_main_v10, Cert.ConvRefIdeal.Read.val_main_v11,
    Cert.ConvRefIdeal.Read.val_main_v12, Cert.ConvRefIdeal.Read.val_main_cst, Cert.ConvRefIdeal.Read.val_main_v13,
    Cert.ConvRefIdeal.Read.val_main_v14, Cert.ConvRefIdeal.Read.val_main_cst_0, Cert.ConvRefIdeal.Read.val_main_v15,
    Cert.ConvRefIdeal.Read.val_main_v16, Cert.ConvRefIdeal.Read.val_main_v17, Cert.ConvRefIdeal.Read.val_main_v18,
    Cert.ConvRefIdeal.Read.val_main_v19, Cert.ConvRefIdeal.Read.val_main_v20, Cert.ConvRefIdeal.Read.val_main_v21,
    Cert.ConvRefIdeal.Read.val_main_cst_1, Cert.ConvRefIdeal.Read.val_main_v22, Cert.ConvRefIdeal.Read.val_main_v23,
    Cert.ConvRefIdeal.Read.val_main_v24, Cert.ConvRefIdeal.Read.val_main_v25, Cert.ConvRefIdeal.Read.val_main_v26,
    Cert.ConvRefIdeal.Read.val_main_v27, Cert.ConvRefIdeal.Read.val_main_v28, Cert.ConvRefIdeal.Read.val_main_v29,
    Cert.ConvRefIdeal.Read.val_main_v30, Cert.ConvRefIdeal.Read.val_main_v31, Cert.ConvRefIdeal.Read.val_main_v32,
    Cert.ConvRefIdeal.Read.val_main_v33, Cert.ConvRefIdeal.Read.val_main_v34, Cert.ConvRefIdeal.Read.val_main_v35,
    Cert.ConvRefIdeal.Read.val_main_v36, Cert.ConvRefIdeal.Read.val_main_v37, Cert.ConvRefIdeal.Read.val_main_v38,
    Cert.ConvRefIdeal.Read.val_main_v39, Cert.ConvRefIdeal.Read.val_main_v40, Cert.ConvRefIdeal.Read.val_main_v41,
    Cert.ConvRefIdeal.Read.val_main_v42, Cert.ConvRefIdeal.Read.val_main_v43, Cert.ConvRefIdeal.Read.val_main_v44,
    Cert.ConvRefIdeal.Read.val_main_v45, Cert.ConvRefIdeal.Read.val_main_v46, Cert.ConvRefIdeal.Read.val_main_v47,
    Cert.ConvRefIdeal.Read.val_main_cst_2, Cert.ConvRefIdeal.Read.val_main_v48, Cert.ConvRefIdeal.Read.val_main_v49,
    Cert.ConvRefIdeal.Read.val_main_cst_3, Cert.ConvRefIdeal.Read.val_main_v50, Cert.ConvRefIdeal.Read.val_main_cst_4,
    Cert.ConvRefIdeal.Read.val_main_v51, Cert.ConvRefIdeal.Read.val_main_v52, Cert.ConvRefIdeal.Read.val_main_cst_5,
    Cert.ConvRefIdeal.Read.val_main_v53, Cert.ConvRefIdeal.Read.val_main_v54, Cert.ConvRefIdeal.Read.val_main_v55,
    Cert.ConvRefIdeal.Read.val_main_v56, Cert.ConvRefIdeal.Read.val_main_cst_6, Cert.ConvRefIdeal.Read.val_main_v57,
    Cert.ConvRefIdeal.Read.val_main_v58, Cert.ConvRefIdeal.Read.val_main_cst_7, Cert.ConvRefIdeal.Read.val_main_v59,
    Cert.ConvRefIdeal.Read.val_main_cst_8, Cert.ConvRefIdeal.Read.val_main_v60, Cert.ConvRefIdeal.Read.val_main_v61,
    Cert.ConvRefIdeal.Read.val_main_v62, Cert.ConvRefIdeal.Read.val_main_cst_9, Cert.ConvRefIdeal.Read.val_main_v63,
    Cert.ConvRefIdeal.Read.val_main_v64, Cert.ConvRefIdeal.Read.val_main_v65, Cert.ConvRefIdeal.Read.val_main_v66,
    Cert.ConvRefIdeal.Read.val_main_v67, Cert.ConvRefIdeal.Read.val_main_cst_10, Cert.ConvRefIdeal.Read.val_main_v68,
    Cert.ConvRefIdeal.Read.val_main_v69, Cert.ConvRefIdeal.Read.val_main_cst_11, Cert.ConvRefIdeal.Read.val_main_v70,
    Cert.ConvRefIdeal.Read.val_main_cst_12, Cert.ConvRefIdeal.Read.val_main_v71, Cert.ConvRefIdeal.Read.val_main_v72,
    Cert.ConvRefIdeal.Read.val_main_v73, Cert.ConvRefIdeal.Read.val_main_cst_13, Cert.ConvRefIdeal.Read.val_main_v74,
    Cert.ConvRefIdeal.Read.val_main_v75, Cert.ConvRefIdeal.Read.val_main_v76, Cert.ConvRefIdeal.Read.val_main_v77,
    Cert.ConvRefIdeal.Read.val_main_v78, Cert.ConvRefIdeal.Read.val_main_v79, Cert.ConvRefIdeal.Read.val_main_v80,
    Cert.ConvRefIdeal.Read.val_main_v81]
  simp only [hostReduceAdd_unit]
  pointwise
  fin_vals j with hj
  all_goals simp only [hj, Nat.reduceSub, Nat.reduceLT, Nat.reduceLeDiff, Nat.reduceEqDiff, true_and, false_and, and_true, and_false, and_self,
    add_zero, zero_add, ↓reduceDIte, ↓reduceIte]
  · obtain rfl : j = 0 := Fin.ext hj
    change _ = ∑ r : Fin 8192, g x0 x2 r d * zsh 2 x0 r d
    pointwise [g, zsh, z]
  · obtain rfl : j = 1 := Fin.ext hj
    refine Finset.sum_congr rfl fun r _ => ?_
    change _ = g x0 x2 r d * zsh 1 x0 r d
    unfold g zsh z
    congr 1
    split <;> split <;> first | rfl | omega | skip
    simp only [show 1 + r.val - 2 = r.val - 1 by omega]
  · obtain rfl : j = 2 := Fin.ext hj
    rfl

/-- Column 0 of the reference's result. -/
theorem ref_d3_0 (x0 : BufTy.Contents (Elt Ideal) ⟨S10x8192x512, .bf16⟩) (x1 : BufTy.Contents (Elt Ideal) ⟨S3x512, .f32⟩) (x2 : BufTy.Contents (Elt Ideal) ⟨S3x8192x512, .bf16⟩) (r d) :
    Cert.ConvRefIdeal.Read.val_main_v81 (F := Ideal) x0 x1 x2 (ix3 0 r d) = x0 (ix3 2 r d) * dz x0 x1 x2 r d :=
  ref_d3 x0 x1 x2 0 r d

/-- Column 1 of the reference's result. -/
theorem ref_d3_1 (x0 : BufTy.Contents (Elt Ideal) ⟨S10x8192x512, .bf16⟩) (x1 : BufTy.Contents (Elt Ideal) ⟨S3x512, .f32⟩) (x2 : BufTy.Contents (Elt Ideal) ⟨S3x8192x512, .bf16⟩) (r d) :
    Cert.ConvRefIdeal.Read.val_main_v81 (F := Ideal) x0 x1 x2 (ix3 1 r d) = x2 (ix3 0 r d) * conv x0 x1 r d :=
  ref_d3 x0 x1 x2 1 r d

/-- Column 2 of the reference's result. -/
theorem ref_d3_2 (x0 : BufTy.Contents (Elt Ideal) ⟨S10x8192x512, .bf16⟩) (x1 : BufTy.Contents (Elt Ideal) ⟨S3x512, .f32⟩) (x2 : BufTy.Contents (Elt Ideal) ⟨S3x8192x512, .bf16⟩) (r d) :
    Cert.ConvRefIdeal.Read.val_main_v81 (F := Ideal) x0 x1 x2 (ix3 2 r d) = dz x0 x1 x2 r d * x0 (ix3 0 r d) :=
  ref_d3 x0 x1 x2 2 r d

/-! ## Which part of its array each block is -/

/-- Which block of its array each window takes at a grid point. -/
theorem idx : ∀ t : Fin grid0.N,
    win0_0.index t = ![0, (grid0.coords t 1).val, (grid0.coords t 0).val] ∧
    win0_1.index t = ![1, (grid0.coords t 1).val, (grid0.coords t 0).val] ∧
    win0_2.index t = ![2, (grid0.coords t 1).val, (grid0.coords t 0).val] ∧
    win0_3.index t = ![0, (grid0.coords t 1).val * 64 - 1, (grid0.coords t 0).val] ∧
    win0_4.index t = ![2, (grid0.coords t 1).val * 64 - 1, (grid0.coords t 0).val] ∧
    win0_5.index t = ![1, min ((grid0.coords t 1).val * 64 + 64) 511, (grid0.coords t 0).val] ∧
    win0_6.index t = ![0, (grid0.coords t 1).val, (grid0.coords t 0).val] ∧
    win0_7.index t = ![0, min ((grid0.coords t 1).val * 64 + 64) 511, (grid0.coords t 0).val] ∧
    win0_8.index t = ![0, (grid0.coords t 0).val] ∧
    win0_9.index t = ![0, (grid0.coords t 1).val, (grid0.coords t 0).val] ∧
    win0_10.index t = ![0, (grid0.coords t 0).val] := by
  decide +kernel

/-- Row `r` of the block of grid point `t`, as a row of the whole array. -/
def row (t : Fin grid0.N) (r : Fin 1024) : Fin 8192 := ⟨(grid0.coords t 1).val * 1024 + r.val, by
  have : (grid0.coords t 1).val < 8 := (grid0.coords t 1).isLt
  omega⟩

/-- Column `d` of the block of grid point `t`, as a column of the whole array. -/
def col (t : Fin grid0.N) (d : Fin 128) : Fin 512 := ⟨(grid0.coords t 0).val * 128 + d.val, by
  have : (grid0.coords t 0).val < 4 := (grid0.coords t 0).isLt
  omega⟩

/-- Row `r` of the sixteen rows before the block, as a row of the whole array. -/
def before (t : Fin grid0.N) (r : Fin 16) : Fin 8192 := ⟨((grid0.coords t 1).val * 64 - 1) * 16 + r.val, by
  have : (grid0.coords t 1).val < 8 := (grid0.coords t 1).isLt
  omega⟩

/-- Row `r` of the sixteen rows after the block, as a row of the whole array. -/
def behind (t : Fin grid0.N) (r : Fin 16) : Fin 8192 := ⟨min ((grid0.coords t 1).val * 64 + 64) 511 * 16 + r.val, by
  omega⟩

theorem blk0 (c : Dev nD) (t : Fin cfg0.N) (r : Fin 1024) (d : Fin 128) :
    iblk m c 0 t (ix3 0 r d) = m (c.tc.loc main_arg0) (ix3 0 (row t r) (col t d)) := by
  blk_point [iblk, V, idx t, row, col]

theorem blk1 (c : Dev nD) (t : Fin cfg0.N) (r : Fin 1024) (d : Fin 128) :
    iblk m c 1 t (ix3 0 r d) = m (c.tc.loc main_arg0) (ix3 1 (row t r) (col t d)) := by
  blk_point [iblk, V, idx t, row, col]

theorem blk2 (c : Dev nD) (t : Fin cfg0.N) (r : Fin 1024) (d : Fin 128) :
    iblk m c 2 t (ix3 0 r d) = m (c.tc.loc main_arg0) (ix3 2 (row t r) (col t d)) := by
  blk_point [iblk, V, idx t, row, col]

theorem blk3 (c : Dev nD) (t : Fin cfg0.N) (r : Fin 16) (d : Fin 128) :
    iblk m c 3 t (ix3 0 r d) = m (c.tc.loc main_arg0) (ix3 0 (before t r) (col t d)) := by
  blk_point [iblk, V, idx t, before, col]

theorem blk4 (c : Dev nD) (t : Fin cfg0.N) (r : Fin 16) (d : Fin 128) :
    iblk m c 4 t (ix3 0 r d) = m (c.tc.loc main_arg0) (ix3 2 (before t r) (col t d)) := by
  blk_point [iblk, V, idx t, before, col]

theorem blk5 (c : Dev nD) (t : Fin cfg0.N) (r : Fin 16) (d : Fin 128) :
    iblk m c 5 t (ix3 0 r d) = m (c.tc.loc main_arg0) (ix3 1 (behind t r) (col t d)) := by
  blk_point [iblk, V, idx t, behind, col]

theorem blk6 (c : Dev nD) (t : Fin cfg0.N) (r : Fin 1024) (d : Fin 128) :
    iblk m c 6 t (ix3 0 r d) = m (c.tc.loc main_arg2) (ix3 0 (row t r) (col t d)) := by
  blk_point [iblk, V, idx t, row, col]

theorem blk7 (c : Dev nD) (t : Fin cfg0.N) (r : Fin 16) (d : Fin 128) :
    iblk m c 7 t (ix3 0 r d) = m (c.tc.loc main_arg2) (ix3 0 (behind t r) (col t d)) := by
  blk_point [iblk, V, idx t, behind, col]

theorem blk8 (c : Dev nD) (t : Fin cfg0.N) (j : Fin 3) (d : Fin 128) :
    iblk m c 8 t (ix2 j d) = m (c.tc.loc main_arg1) (ix2 j (col t d)) := by
  blk_point [iblk, V, idx t, col]

/-- The kernel's test for the first row block. -/
theorem first_eq (t : Fin grid0.N) :
    Scalar.cmpi .eq (BitVec.ofNat 32 (grid0.coords t 1).val) 0#32 = if (grid0.coords t 1).val = 0 then 1#1 else 0#1 := by
  revert t
  decide +kernel

/-- The kernel's test for the last row block. -/
theorem last_eq (t : Fin grid0.N) :
    Scalar.cmpi .eq (BitVec.ofNat 32 (grid0.coords t 1).val) 7#32 = if (grid0.coords t 1).val = 7 then 1#1 else 0#1 := by
  revert t
  decide +kernel

/-- The kernel's read of the gated input 1 row earlier: inside the block, from the rows before it, or zero. -/
theorem zsh1_blk (c : Dev nD) (t : Fin cfg0.N) (r : Fin 1024) (d : Fin 128) :
    (if h : (16 + r.val + 1040 - 1) % 1040 < 16 then
        Scalar.select (Scalar.cmpi .eq (BitVec.ofNat 32 (grid0.coords t 1).val) 0#32) (0 : EReal)
          (@HMul.hMul EReal EReal EReal instHMul (iblk m c 4 t (ix3 0 ⟨(16 + r.val + 1040 - 1) % 1040, h⟩ d)) (iblk m c 3 t (ix3 0 ⟨(16 + r.val + 1040 - 1) % 1040, h⟩ d)))
      else @HMul.hMul EReal EReal EReal instHMul (iblk m c 2 t (ix3 0 ⟨(16 + r.val + 1040 - 1) % 1040 - 16, by omega⟩ d)) (iblk m c 0 t (ix3 0 ⟨(16 + r.val + 1040 - 1) % 1040 - 16, by omega⟩ d)))
      = zsh 1 (m (c.tc.loc main_arg0)) (row t r) (col t d) := by
  have ht : (grid0.coords t 1).val < 8 := (grid0.coords t 1).isLt
  simp only [blk0, blk2, blk3, blk4, first_eq]
  unfold zsh z
  by_cases hr : r.val < 1
  · rw [dif_pos (by omega)]
    by_cases h0 : (grid0.coords t 1).val = 0
    · rw [if_pos h0, dif_pos (by simp only [row]; omega)]
      rfl
    · rw [if_neg h0, dif_neg (by simp only [row]; omega)]
      have e : before t ⟨(16 + r.val + 1040 - 1) % 1040, by omega⟩ = ⟨(row t r).val - 1, by omega⟩ := by
        apply Fin.ext
        simp only [before, row]
        omega
      rw [e]
      rfl
  · rw [dif_neg (by omega), dif_neg (by simp only [row]; omega)]
    have e : row t ⟨(16 + r.val + 1040 - 1) % 1040 - 16, by omega⟩ = ⟨(row t r).val - 1, by omega⟩ := by
      apply Fin.ext
      simp only [row]
      omega
    rw [e]

/-- The kernel's read of the gated input 2 rows earlier: inside the block, from the rows before it, or zero. -/
theorem zsh2_blk (c : Dev nD) (t : Fin cfg0.N) (r : Fin 1024) (d : Fin 128) :
    (if h : (16 + r.val + 1040 - 2) % 1040 < 16 then
        Scalar.select (Scalar.cmpi .eq (BitVec.ofNat 32 (grid0.coords t 1).val) 0#32) (0 : EReal)
          (@HMul.hMul EReal EReal EReal instHMul (iblk m c 4 t (ix3 0 ⟨(16 + r.val + 1040 - 2) % 1040, h⟩ d)) (iblk m c 3 t (ix3 0 ⟨(16 + r.val + 1040 - 2) % 1040, h⟩ d)))
      else @HMul.hMul EReal EReal EReal instHMul (iblk m c 2 t (ix3 0 ⟨(16 + r.val + 1040 - 2) % 1040 - 16, by omega⟩ d)) (iblk m c 0 t (ix3 0 ⟨(16 + r.val + 1040 - 2) % 1040 - 16, by omega⟩ d)))
      = zsh 2 (m (c.tc.loc main_arg0)) (row t r) (col t d) := by
  have ht : (grid0.coords t 1).val < 8 := (grid0.coords t 1).isLt
  simp only [blk0, blk2, blk3, blk4, first_eq]
  unfold zsh z
  by_cases hr : r.val < 2
  · rw [dif_pos (by omega)]
    by_cases h0 : (grid0.coords t 1).val = 0
    · rw [if_pos h0, dif_pos (by simp only [row]; omega)]
      rfl
    · rw [if_neg h0, dif_neg (by simp only [row]; omega)]
      have e : before t ⟨(16 + r.val + 1040 - 2) % 1040, by omega⟩ = ⟨(row t r).val - 2, by omega⟩ := by
        apply Fin.ext
        simp only [before, row]
        omega
      rw [e]
      rfl
  · rw [dif_neg (by omega), dif_neg (by simp only [row]; omega)]
    have e : row t ⟨(16 + r.val + 1040 - 2) % 1040 - 16, by omega⟩ = ⟨(row t r).val - 2, by omega⟩ := by
      apply Fin.ext
      simp only [row]
      omega
    rw [e]

/-- The kernel's read of the convolution's gradient 1 row later: inside the block, from the rows after it, or zero. -/
theorem gsh1_blk (c : Dev nD) (t : Fin cfg0.N) (r : Fin 1024) (d : Fin 128) :
    (if h : (r.val + 1040 - 1039) % 1040 < 1024 then
        @HMul.hMul EReal EReal EReal instHMul (iblk m c 6 t (ix3 0 ⟨(r.val + 1040 - 1039) % 1040, h⟩ d)) (iblk m c 1 t (ix3 0 ⟨(r.val + 1040 - 1039) % 1040, h⟩ d))
      else Scalar.select (Scalar.cmpi .eq (BitVec.ofNat 32 (grid0.coords t 1).val) 7#32) (0 : EReal)
          (@HMul.hMul EReal EReal EReal instHMul (iblk m c 7 t (ix3 0 ⟨(r.val + 1040 - 1039) % 1040 - 1024, by omega⟩ d)) (iblk m c 5 t (ix3 0 ⟨(r.val + 1040 - 1039) % 1040 - 1024, by omega⟩ d))))
      = gsh 1 (m (c.tc.loc main_arg0)) (m (c.tc.loc main_arg2)) (row t r) (col t d) := by
  have ht : (grid0.coords t 1).val < 8 := (grid0.coords t 1).isLt
  simp only [blk1, blk5, blk6, blk7, last_eq]
  unfold gsh g
  by_cases hr : r.val + 1 < 1024
  · rw [dif_pos (by omega), dif_pos (by simp only [row]; omega)]
    have e : row t ⟨(r.val + 1040 - 1039) % 1040, by omega⟩ = ⟨(row t r).val + 1, by simp only [row]; omega⟩ := by
      apply Fin.ext
      simp only [row]
      omega
    rw [e]
    exact mul_comm _ _
  · rw [dif_neg (by omega)]
    by_cases h0 : (grid0.coords t 1).val = 7
    · rw [if_pos h0, dif_neg (by simp only [row]; omega)]
      rfl
    · rw [if_neg h0, dif_pos (by simp only [row]; omega)]
      have e : behind t ⟨(r.val + 1040 - 1039) % 1040 - 1024, by omega⟩ = ⟨(row t r).val + 1, by simp only [row]; omega⟩ := by
        apply Fin.ext
        simp only [behind, row]
        omega
      rw [e]
      exact mul_comm _ _

/-- The kernel's read of the convolution's gradient 2 rows later: inside the block, from the rows after it, or zero. -/
theorem gsh2_blk (c : Dev nD) (t : Fin cfg0.N) (r : Fin 1024) (d : Fin 128) :
    (if h : (r.val + 1040 - 1038) % 1040 < 1024 then
        @HMul.hMul EReal EReal EReal instHMul (iblk m c 6 t (ix3 0 ⟨(r.val + 1040 - 1038) % 1040, h⟩ d)) (iblk m c 1 t (ix3 0 ⟨(r.val + 1040 - 1038) % 1040, h⟩ d))
      else Scalar.select (Scalar.cmpi .eq (BitVec.ofNat 32 (grid0.coords t 1).val) 7#32) (0 : EReal)
          (@HMul.hMul EReal EReal EReal instHMul (iblk m c 7 t (ix3 0 ⟨(r.val + 1040 - 1038) % 1040 - 1024, by omega⟩ d)) (iblk m c 5 t (ix3 0 ⟨(r.val + 1040 - 1038) % 1040 - 1024, by omega⟩ d))))
      = gsh 2 (m (c.tc.loc main_arg0)) (m (c.tc.loc main_arg2)) (row t r) (col t d) := by
  have ht : (grid0.coords t 1).val < 8 := (grid0.coords t 1).isLt
  simp only [blk1, blk5, blk6, blk7, last_eq]
  unfold gsh g
  by_cases hr : r.val + 2 < 1024
  · rw [dif_pos (by omega), dif_pos (by simp only [row]; omega)]
    have e : row t ⟨(r.val + 1040 - 1038) % 1040, by omega⟩ = ⟨(row t r).val + 2, by simp only [row]; omega⟩ := by
      apply Fin.ext
      simp only [row]
      omega
    rw [e]
    exact mul_comm _ _
  · rw [dif_neg (by omega)]
    by_cases h0 : (grid0.coords t 1).val = 7
    · rw [if_pos h0, dif_neg (by simp only [row]; omega)]
      rfl
    · rw [if_neg h0, dif_pos (by simp only [row]; omega)]
      have e : behind t ⟨(r.val + 1040 - 1038) % 1040 - 1024, by omega⟩ = ⟨(row t r).val + 2, by simp only [row]; omega⟩ := by
        apply Fin.ext
        simp only [behind, row]
        omega
      rw [e]
      exact mul_comm _ _

set_option maxHeartbeats 1600000 in
/-- The kernel's array of the three columns' gradients is the reference's. -/
theorem arr_d3 (c : Dev nD) : (dats m 0 c).arrAt 9 cfg0.N =
    Cert.ConvRefIdeal.Read.val_main_v81 (F := Ideal) (m (c.tc.loc main_arg0)) (m (c.tc.loc main_arg1)) (m (c.tc.loc main_arg2)) := by
  refine (dats m 0 c).arrAt_eq_of_covers 9 _ (by decide +kernel) fun t hf y => ?_
  blk_simp
  rw [after0_9]
  by_cases hc : t.val % 8 = 0
  · rw [outsAt0_A m c t hc (by omega)]
    frame_out
    canon_tiles x h
    all_goals idx_vars x
    all_goals pointwise [k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    case piece0 =>
      have e : ((View.whole main_v0_0).slice (win0_9.rect t)).emb y = ix3 2 (row t x1) (col t x2) := by
        blk_ext [idx t, row, col]
      rw [e, ref_d3_2, gsh1_blk, gsh2_blk]
      simp only [blk0, blk1, blk2, blk6, blk8]
      have hg : @HMul.hMul EReal EReal EReal instHMul ((m (c.tc.loc main_arg2)) (ix3 0 (row t x1) (col t x2))) ((m (c.tc.loc main_arg0)) (ix3 1 (row t x1) (col t x2))) = g (m (c.tc.loc main_arg0)) (m (c.tc.loc main_arg2)) (row t x1) (col t x2) := mul_comm _ _
      rw [hg]
      rfl
    case piece2 =>
      have e : ((View.whole main_v0_0).slice (win0_9.rect t)).emb y = ix3 0 (row t x1) (col t x2) := by
        blk_ext [idx t, row, col]
      rw [e, ref_d3_0, gsh1_blk, gsh2_blk]
      simp only [blk0, blk1, blk2, blk6, blk8]
      have hg : @HMul.hMul EReal EReal EReal instHMul ((m (c.tc.loc main_arg2)) (ix3 0 (row t x1) (col t x2))) ((m (c.tc.loc main_arg0)) (ix3 1 (row t x1) (col t x2))) = g (m (c.tc.loc main_arg0)) (m (c.tc.loc main_arg2)) (row t x1) (col t x2) := mul_comm _ _
      rw [hg]
      exact mul_comm _ _
    case piece1 =>
      have e : ((View.whole main_v0_0).slice (win0_9.rect t)).emb y = ix3 1 (row t x1) (col t x2) := by
        blk_ext [idx t, row, col]
      rw [e, ref_d3_1, zsh1_blk, zsh2_blk]
      simp only [blk0, blk1, blk2, blk6, blk8]
      rfl
  · rw [outsAt0_B m c t hc (by omega)]
    frame_out
    canon_tiles x h
    all_goals idx_vars x
    all_goals pointwise [k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
    case piece0 =>
      have e : ((View.whole main_v0_0).slice (win0_9.rect t)).emb y = ix3 2 (row t x1) (col t x2) := by
        blk_ext [idx t, row, col]
      rw [e, ref_d3_2, gsh1_blk, gsh2_blk]
      simp only [blk0, blk1, blk2, blk6, blk8]
      have hg : @HMul.hMul EReal EReal EReal instHMul ((m (c.tc.loc main_arg2)) (ix3 0 (row t x1) (col t x2))) ((m (c.tc.loc main_arg0)) (ix3 1 (row t x1) (col t x2))) = g (m (c.tc.loc main_arg0)) (m (c.tc.loc main_arg2)) (row t x1) (col t x2) := mul_comm _ _
      rw [hg]
      rfl
    case piece2 =>
      have e : ((View.whole main_v0_0).slice (win0_9.rect t)).emb y = ix3 0 (row t x1) (col t x2) := by
        blk_ext [idx t, row, col]
      rw [e, ref_d3_0, gsh1_blk, gsh2_blk]
      simp only [blk0, blk1, blk2, blk6, blk8]
      have hg : @HMul.hMul EReal EReal EReal instHMul ((m (c.tc.loc main_arg2)) (ix3 0 (row t x1) (col t x2))) ((m (c.tc.loc main_arg0)) (ix3 1 (row t x1) (col t x2))) = g (m (c.tc.loc main_arg0)) (m (c.tc.loc main_arg2)) (row t x1) (col t x2) := mul_comm _ _
      rw [hg]
      exact mul_comm _ _
    case piece1 =>
      have e : ((View.whole main_v0_0).slice (win0_9.rect t)).emb y = ix3 1 (row t x1) (col t x2) := by
        blk_ext [idx t, row, col]
      rw [e, ref_d3_1, zsh1_blk, zsh2_blk]
      simp only [blk0, blk1, blk2, blk6, blk8]
      rfl

/-- What one point adds to the gradient of tap `j`. -/
def term (c : Dev nD) (t : Fin cfg0.N) (j : S3x128.Idx) : EReal :=
  ∑ r : Fin 1024, g (m (c.tc.loc main_arg0)) (m (c.tc.loc main_arg2)) (row t r) (col t (j 1)) * tap (j 0) (m (c.tc.loc main_arg0)) (row t r) (col t (j 1))

/-- The first point of a column block leaves its own sum. -/
theorem first_point (c : Dev nD) (t : Fin cfg0.N) (hc : t.val % 8 = 0) (j : S3x128.Idx) :
    (outsAt0 m c t.val t.isLt).2 j = 0 + term m c t j := by
  rw [outsAt0_A m c t hc (by omega), zero_add]
  frame_out
  canon_tiles x h
  all_goals idx_vars x
  all_goals pointwise [k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  case piece0 =>
    obtain rfl : j = ix2 2 x1 := by
      funext a
      apply Fin.ext
      match a with
      | ⟨0, _⟩ => exact h0.trans (congrArg (2 + ·) (Nat.lt_one_iff.mp x0_lt))
      | ⟨1, _⟩ => exact h1
    refine Finset.sum_congr rfl fun r _ => ?_
    change _ = g (m (c.tc.loc main_arg0)) (m (c.tc.loc main_arg2)) (row t r) (col t x1) * z (m (c.tc.loc main_arg0)) (row t r) (col t x1)
    unfold g z
    rw [blk6, blk1, blk2, blk0]
    ac_rfl
  case piece1 =>
    obtain rfl : j = ix2 1 x1 := by
      funext a
      apply Fin.ext
      match a with
      | ⟨0, _⟩ => exact h0.trans (congrArg (1 + ·) (Nat.lt_one_iff.mp x0_lt))
      | ⟨1, _⟩ => exact h1
    refine Finset.sum_congr rfl fun r _ => ?_
    change _ = g (m (c.tc.loc main_arg0)) (m (c.tc.loc main_arg2)) (row t r) (col t x1) * zsh 1 (m (c.tc.loc main_arg0)) (row t r) (col t x1)
    unfold g
    rw [zsh1_blk, blk6, blk1]
    ac_rfl
  case piece2 =>
    obtain rfl : j = ix2 0 x1 := by
      funext a
      apply Fin.ext
      match a with
      | ⟨0, _⟩ => exact h0.trans (Nat.lt_one_iff.mp x0_lt)
      | ⟨1, _⟩ => exact h1
    refine Finset.sum_congr rfl fun r _ => ?_
    change _ = g (m (c.tc.loc main_arg0)) (m (c.tc.loc main_arg2)) (row t r) (col t x1) * zsh 2 (m (c.tc.loc main_arg0)) (row t r) (col t x1)
    unfold g
    rw [zsh2_blk, blk6, blk1]
    ac_rfl

/-- A later point adds its own sum to what the point before left. -/
theorem next_point (c : Dev nD) (t : Fin cfg0.N) (hc : ¬t.val % 8 = 0) (j : S3x128.Idx) :
    (outsAt0 m c t.val t.isLt).2 j = (outsAt0 m c (t.val - 1) (by omega)).2 j + term m c t j := by
  rw [outsAt0_B m c t hc (by omega)]
  frame_out
  canon_tiles x h
  all_goals idx_vars x
  all_goals pointwise [k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  case piece0 =>
    obtain rfl : j = ix2 2 x1 := by
      funext a
      apply Fin.ext
      match a with
      | ⟨0, _⟩ => exact h0.trans (congrArg (2 + ·) (Nat.lt_one_iff.mp x0_lt))
      | ⟨1, _⟩ => exact h1
    refine congrArg₂ (· + ·) rfl (Finset.sum_congr rfl fun r _ => ?_)
    change _ = g (m (c.tc.loc main_arg0)) (m (c.tc.loc main_arg2)) (row t r) (col t x1) * z (m (c.tc.loc main_arg0)) (row t r) (col t x1)
    unfold g z
    rw [blk6, blk1, blk2, blk0]
    ac_rfl
  case piece1 =>
    obtain rfl : j = ix2 1 x1 := by
      funext a
      apply Fin.ext
      match a with
      | ⟨0, _⟩ => exact h0.trans (congrArg (1 + ·) (Nat.lt_one_iff.mp x0_lt))
      | ⟨1, _⟩ => exact h1
    refine congrArg₂ (· + ·) rfl (Finset.sum_congr rfl fun r _ => ?_)
    change _ = g (m (c.tc.loc main_arg0)) (m (c.tc.loc main_arg2)) (row t r) (col t x1) * zsh 1 (m (c.tc.loc main_arg0)) (row t r) (col t x1)
    unfold g
    rw [zsh1_blk, blk6, blk1]
    ac_rfl
  case piece2 =>
    obtain rfl : j = ix2 0 x1 := by
      funext a
      apply Fin.ext
      match a with
      | ⟨0, _⟩ => exact h0.trans (Nat.lt_one_iff.mp x0_lt)
      | ⟨1, _⟩ => exact h1
    refine congrArg₂ (· + ·) rfl (Finset.sum_congr rfl fun r _ => ?_)
    change _ = g (m (c.tc.loc main_arg0)) (m (c.tc.loc main_arg2)) (row t r) (col t x1) * zsh 2 (m (c.tc.loc main_arg0)) (row t r) (col t x1)
    unfold g
    rw [zsh2_blk, blk6, blk1]
    ac_rfl

/-- The grid point's two coordinates. -/
theorem coords_eq : ∀ t : Fin grid0.N, (grid0.coords t 0).val = t.val / 8 ∧ (grid0.coords t 1).val = t.val % 8 := by
  decide +kernel

/-- The kernel's array of the taps' gradients is the reference's. -/
theorem arr_dw (c : Dev nD) : (dats m 0 c).arrAt 10 cfg0.N =
    Cert.ConvRefIdeal.Read.val_main_v75 (F := Ideal) (m (c.tc.loc main_arg0)) (m (c.tc.loc main_arg2)) := by
  refine (dats m 0 c).arrAt_eq_of_covers 10 _ (by decide +kernel) fun t hf y => ?_
  blk_simp
  rw [after0_10]
  change S3x128.Idx at y
  have ht := (flush0_10 t).mp hf
  refine (Pipeline.eq_sum_fin_of_reset_step_apply_of_flush (fun n h => (outsAt0 m c n h).2) 8 (fun _ => 0) (term m c)
    (first_point m c) (next_point m c) t ht y).trans ?_
  idx_vars y
  have e : ((View.whole main_v0_1).slice (win0_10.rect t)).emb (ix2 y0 y1) = ix2 y0 (col t y1) := by
    blk_ext [idx t, col]
  rw [e, ref_dw, zero_add]
  refine Fin.sum_mul_add_congr (n := 1024) (f := fun l => g (m (c.tc.loc main_arg0)) (m (c.tc.loc main_arg2)) l (col t y1) * tap y0 (m (c.tc.loc main_arg0)) l (col t y1)) fun s k hl => ?_
  have hs := s.isLt
  have hN : 8 * (t.val / 8) + s.val < grid0.N := by
    have : t.val < grid0.N := t.isLt
    omega
  have er : row ⟨8 * (t.val / 8) + s.val, hN⟩ k = ⟨s.val * 1024 + k.val, hl⟩ := by
    apply Fin.ext
    simp only [row, (coords_eq ⟨8 * (t.val / 8) + s.val, hN⟩).2]
    omega
  have ec : col ⟨8 * (t.val / 8) + s.val, hN⟩ y1 = col t y1 := by
    apply Fin.ext
    simp only [col, (coords_eq ⟨8 * (t.val / 8) + s.val, hN⟩).1, (coords_eq t).1]
    omega
  simp only [← er, ← ec]
  rfl

end Cert.Conv
-- ==== Proof.ConvClaim.lean ====
module

public import proofs.«01_k».proof.Defs
public import proofs.«01_k».proof.Proof.Conv
public import proofs.«01_k».proof.Proof.Gen.ConvRefIdeal.Run
public import Idealize.ShloMosaic.Lib.Claim
public import Idealize.ShloMosaic.Init

@[expose] public section

noncomputable section

namespace Cert.Conv

open Idealize.ShloMosaic Idealize.SL.Sem

/-- The convolution's backward kernel leaves the two arrays that the gradient of the gated convolution leaves. -/
theorem algebraic : Cert.algebraic_ConvBwdIdeal_ConvRefIdeal
    (hConvBwdIdeal := Cert.ConvBwdIdeal.Gen.facts) (hConvRefIdeal := Cert.ConvRefIdeal.Gen.facts) := by
  pair_intro
  · run_from Cert.ConvBwdIdeal.Value.run_blocks m g
  · run_from Cert.ConvRefIdeal.Value.run m' g'
    all_goals obtain ⟨h0, h1, h2⟩ := hagree c
    · rw [Cert.ConvRefIdeal.Read.val_main_v81_eq, h0, h1, h2]
      exact (arr_d3 m c).symm
    · rw [Cert.ConvRefIdeal.Read.val_main_v75_eq, h0, h2]
      exact (arr_dw m c).symm

/-- The reference runs, leaves its arguments as they were, and counts nothing. -/
theorem ref_frame : Cert.quiescent_ConvRefIdeal (hConvRefIdeal := Cert.ConvRefIdeal.Gen.facts) := fun m ρ _ =>
  (θ_run Cert.ConvRefIdeal.defs _ _).mono (fun r h => ⟨fun c => (h c).2.2, Idealize.ShloMosaic.sem_eq_zero_of_no_sems (by decide) r.2⟩)
    (Cert.ConvRefIdeal.Value.run m ρ)

end Cert.Conv

end
-- ==== Proof.Merge.lean ====
module

public import proofs.«01_k».proof.Proof.Gen.MergeBwdIdeal.Value
public import proofs.«01_k».proof.Proof.Gen.MergeRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.Merge

open Cert.MergeBwdIdeal Cert.MergeBwdIdeal.Gen Idealize.ShloMosaic Idealize.ShloMosaic.TcCoe Idealize.SL.Sem Idealize.ShloMosaic.StableHlo

variable (m : (ℓ : Loc nD τ sig) → Buf (Elt Ideal) ℓ)

/-- The gate: the logistic function of row `r` of `h` times column `d` of the gate matrix of branch `b`. -/
def gate (h : BufTy.Contents (Elt Ideal) ⟨S8192x1024, .bf16⟩) (w : BufTy.Contents (Elt Ideal) ⟨S3x1024x1024, .f32⟩)
    (b : Fin 3) (r : Fin 8192) (d : Fin 1024) : EReal :=
  Ideal.div 1 (1 + Ideal.exp (-∑ x : Fin 1024, h (ix2 r x) * w (ix3 b x d)))

/-- The branch product: row `r` of branch `b` times column `d` of that branch's matrix. -/
def branch (ys : BufTy.Contents (Elt Ideal) ⟨S3x8192x512, .bf16⟩) (w : BufTy.Contents (Elt Ideal) ⟨S3x512x1024, .f32⟩)
    (b : Fin 3) (r : Fin 8192) (d : Fin 1024) : EReal :=
  ∑ x : Fin 512, ys (ix3 b r x) * w (ix3 b x d)

/-! ## What the host hands to the kernel -/

/-- The array of saved gates that the host hands to the kernel. -/
theorem V_gate (c : Dev nD) (b r d) :
    V m c main_v9 (ix3 b r d) = gate (m (c.tc.loc main_arg0)) (m (c.tc.loc main_arg2)) b r d := by
  unfold_abbrev_sides
  after_results
  pointwise
  unfold gate
  congr 4
  exact Finset.sum_congr rfl fun x _ => mul_comm _ _

/-- The array of saved branch products that the host hands to the kernel. -/
theorem V_branch (c : Dev nD) (b r d) :
    V m c main_v12 (ix3 b r d) = branch (m (c.tc.loc main_arg1)) (m (c.tc.loc main_arg3)) b r d := by
  unfold_abbrev_sides
  after_results
  pointwise
  rfl

/-- The gate matrices reach the kernel unchanged. -/
theorem V_wgate (c : Dev nD) (b r d) : V m c main_v13 (ix3 b r d) = m (c.tc.loc main_arg2) (ix3 b r d) := by
  unfold_abbrev_sides
  after_results
  pointwise

/-- The branch matrices reach the kernel with rows and columns exchanged. -/
theorem V_wbranch (c : Dev nD) (b r d) : V m c main_v15 (ix3 b r d) = m (c.tc.loc main_arg3) (ix3 b d r) := by
  unfold_abbrev_sides
  after_results
  pointwise

/-! ## Which part of its array each block is -/

/-- Which block of its array each window takes at a grid point. -/
theorem idx : ∀ t : Fin grid0.N,
    win0_0.index t = ![(grid0.coords t 0).val, 0] ∧ win0_1.index t = ![0, (grid0.coords t 0).val, 0] ∧
    win0_2.index t = ![0, (grid0.coords t 0).val, 0] ∧ win0_3.index t = ![0, 0, 0] ∧ win0_4.index t = ![0, 0, 0] ∧
    win0_5.index t = ![0, (grid0.coords t 0).val, 0] ∧ win0_6.index t = ![0, (grid0.coords t 0).val, 0] ∧
    win0_7.index t = ![0, (grid0.coords t 0).val, 0] ∧ win0_8.index t = ![(grid0.coords t 0).val, 0] := by
  decide +kernel

/-- Row `r` of the block of grid point `t`, as a row of the whole array. -/
def row (t : Fin grid0.N) (r : Fin 512) : Fin 8192 := ⟨(grid0.coords t 0).val * 512 + r.val, by
  have : (grid0.coords t 0).val < 16 := (grid0.coords t 0).isLt
  omega⟩

/-- A grid point's block of the cotangent is its 512 rows. -/
theorem blk0 (c : Dev nD) (t : Fin cfg0.N) (r : Fin 512) (d : Fin 1024) :
    iblk m c 0 t (ix2 r d) = m (c.tc.loc main_arg4) (ix2 (row t r) d) := by
  blk_point [iblk, V, idx t, row]

/-- A grid point's block of the saved gates is their 512 rows of each branch. -/
theorem blk1 (c : Dev nD) (t : Fin cfg0.N) (b : Fin 3) (r : Fin 512) (d : Fin 1024) :
    iblk m c 1 t (ix3 b r d) = gate (m (c.tc.loc main_arg0)) (m (c.tc.loc main_arg2)) b (row t r) d := by
  rw [← V_gate]
  blk_point [iblk, idx t, row]

/-- A grid point's block of the saved branch products is their 512 rows of each branch. -/
theorem blk2 (c : Dev nD) (t : Fin cfg0.N) (b : Fin 3) (r : Fin 512) (d : Fin 1024) :
    iblk m c 2 t (ix3 b r d) = branch (m (c.tc.loc main_arg1)) (m (c.tc.loc main_arg3)) b (row t r) d := by
  rw [← V_branch]
  blk_point [iblk, idx t, row]

/-- Every grid point reads the gate matrices whole. -/
theorem blk3 (c : Dev nD) (t : Fin cfg0.N) (b : Fin 3) (r : Fin 1024) (d : Fin 1024) :
    iblk m c 3 t (ix3 b r d) = m (c.tc.loc main_arg2) (ix3 b r d) := by
  rw [← V_wgate m]
  blk_point [iblk, idx t]

/-- Every grid point reads the exchanged branch matrices whole. -/
theorem blk4 (c : Dev nD) (t : Fin cfg0.N) (b : Fin 3) (r : Fin 1024) (d : Fin 512) :
    iblk m c 4 t (ix3 b r d) = m (c.tc.loc main_arg3) (ix3 b d r) := by
  rw [← V_wbranch m]
  blk_point [iblk, idx t]

/-! ## What the gradients are, index by index -/

/-- Gradient of a gate's argument: the cotangent times the branch product times the slope of the logistic function. -/
def dgate (h : BufTy.Contents (Elt Ideal) ⟨S8192x1024, .bf16⟩) (ys : BufTy.Contents (Elt Ideal) ⟨S3x8192x512, .bf16⟩)
    (wg : BufTy.Contents (Elt Ideal) ⟨S3x1024x1024, .f32⟩) (wb : BufTy.Contents (Elt Ideal) ⟨S3x512x1024, .f32⟩)
    (dm : BufTy.Contents (Elt Ideal) ⟨S8192x1024, .bf16⟩) (b : Fin 3) (r : Fin 8192) (d : Fin 1024) : EReal :=
  dm (ix2 r d) * branch ys wb b r d * (gate h wg b r d * (1 - gate h wg b r d))

/-- Gradient of a branch product: the gate times the cotangent. -/
def dbranch (h : BufTy.Contents (Elt Ideal) ⟨S8192x1024, .bf16⟩)
    (wg : BufTy.Contents (Elt Ideal) ⟨S3x1024x1024, .f32⟩)
    (dm : BufTy.Contents (Elt Ideal) ⟨S8192x1024, .bf16⟩) (b : Fin 3) (r : Fin 8192) (d : Fin 1024) : EReal :=
  gate h wg b r d * dm (ix2 r d)

/-- Gradient of a gate's argument sent back through the gate matrix of its branch. -/
def back (h : BufTy.Contents (Elt Ideal) ⟨S8192x1024, .bf16⟩) (ys : BufTy.Contents (Elt Ideal) ⟨S3x8192x512, .bf16⟩)
    (wg : BufTy.Contents (Elt Ideal) ⟨S3x1024x1024, .f32⟩) (wb : BufTy.Contents (Elt Ideal) ⟨S3x512x1024, .f32⟩)
    (dm : BufTy.Contents (Elt Ideal) ⟨S8192x1024, .bf16⟩) (b : Fin 3) (r : Fin 8192) (d : Fin 1024) : EReal :=
  ∑ x : Fin 1024, dgate h ys wg wb dm b r x * wg (ix3 b d x)

/-- The reference's first result holds the gradients of the gates' arguments. -/
theorem ref_dgate (h : BufTy.Contents (Elt Ideal) ⟨S8192x1024, .bf16⟩) (ys : BufTy.Contents (Elt Ideal) ⟨S3x8192x512, .bf16⟩)
    (wg : BufTy.Contents (Elt Ideal) ⟨S3x1024x1024, .f32⟩) (wb : BufTy.Contents (Elt Ideal) ⟨S3x512x1024, .f32⟩)
    (dm : BufTy.Contents (Elt Ideal) ⟨S8192x1024, .bf16⟩) (b r d) :
    Cert.MergeRefIdeal.Read.val_main_v84 (F := Ideal) h ys wg wb dm (ix3 b r d) = dgate h ys wg wb dm b r d := by
  pointwise [Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_v26, Cert.MergeRefIdeal.Read.val_main_v27, Cert.MergeRefIdeal.Read.val_main_v28, Cert.MergeRefIdeal.Read.val_main_v29, Cert.MergeRefIdeal.Read.val_main_v30, Cert.MergeRefIdeal.Read.val_main_cst, Cert.MergeRefIdeal.Read.val_main_v31, Cert.MergeRefIdeal.Read.val_main_v32, Cert.MergeRefIdeal.Read.val_main_cst_0, Cert.MergeRefIdeal.Read.val_main_v33, Cert.MergeRefIdeal.Read.val_main_v34, Cert.MergeRefIdeal.Read.val_main_cst_1, Cert.MergeRefIdeal.Read.val_main_v35, Cert.MergeRefIdeal.Read.val_main_v36, Cert.MergeRefIdeal.Read.val_main_v37, Cert.MergeRefIdeal.Read.val_main_v38, Cert.MergeRefIdeal.Read.val_main_cst_2, Cert.MergeRefIdeal.Read.val_main_v39, Cert.MergeRefIdeal.Read.val_main_v40, Cert.MergeRefIdeal.Read.val_main_v41, Cert.MergeRefIdeal.Read.val_main_v42, Cert.MergeRefIdeal.Read.val_main_cst_3, Cert.MergeRefIdeal.Read.val_main_v43, Cert.MergeRefIdeal.Read.val_main_v44, Cert.MergeRefIdeal.Read.val_main_cst_4, Cert.MergeRefIdeal.Read.val_main_v45, Cert.MergeRefIdeal.Read.val_main_v46, Cert.MergeRefIdeal.Read.val_main_cst_5, Cert.MergeRefIdeal.Read.val_main_v47, Cert.MergeRefIdeal.Read.val_main_v48, Cert.MergeRefIdeal.Read.val_main_v49, Cert.MergeRefIdeal.Read.val_main_v50, Cert.MergeRefIdeal.Read.val_main_v51, Cert.MergeRefIdeal.Read.val_main_v52, Cert.MergeRefIdeal.Read.val_main_v53, Cert.MergeRefIdeal.Read.val_main_cst_6, Cert.MergeRefIdeal.Read.val_main_v54, Cert.MergeRefIdeal.Read.val_main_v55, Cert.MergeRefIdeal.Read.val_main_cst_7, Cert.MergeRefIdeal.Read.val_main_v56, Cert.MergeRefIdeal.Read.val_main_v57, Cert.MergeRefIdeal.Read.val_main_cst_8, Cert.MergeRefIdeal.Read.val_main_v58, Cert.MergeRefIdeal.Read.val_main_v59, Cert.MergeRefIdeal.Read.val_main_v60, Cert.MergeRefIdeal.Read.val_main_v61, Cert.MergeRefIdeal.Read.val_main_v62, Cert.MergeRefIdeal.Read.val_main_v63, Cert.MergeRefIdeal.Read.val_main_v64, Cert.MergeRefIdeal.Read.val_main_v65, Cert.MergeRefIdeal.Read.val_main_v66, Cert.MergeRefIdeal.Read.val_main_v67, Cert.MergeRefIdeal.Read.val_main_v68, Cert.MergeRefIdeal.Read.val_main_v69, Cert.MergeRefIdeal.Read.val_main_v70, Cert.MergeRefIdeal.Read.val_main_v71, Cert.MergeRefIdeal.Read.val_main_v72, Cert.MergeRefIdeal.Read.val_main_v73, Cert.MergeRefIdeal.Read.val_main_v74, Cert.MergeRefIdeal.Read.val_main_v75, Cert.MergeRefIdeal.Read.val_main_v76, Cert.MergeRefIdeal.Read.val_main_v77, Cert.MergeRefIdeal.Read.val_main_v78, Cert.MergeRefIdeal.Read.val_main_v79, Cert.MergeRefIdeal.Read.val_main_v80, Cert.MergeRefIdeal.Read.val_main_v81, Cert.MergeRefIdeal.Read.val_main_v82, Cert.MergeRefIdeal.Read.val_main_v83, Cert.MergeRefIdeal.Read.val_main_v84, Cert.MergeRefIdeal.Read.val_main_v85, Cert.MergeRefIdeal.Read.val_main_v86, Cert.MergeRefIdeal.Read.val_main_v87, Cert.MergeRefIdeal.Read.val_main_v88, Cert.MergeRefIdeal.Read.val_main_v89, Cert.MergeRefIdeal.Read.val_main_v90, Cert.MergeRefIdeal.Read.val_main_v91, Cert.MergeRefIdeal.Read.val_main_v92, Cert.MergeRefIdeal.Read.val_main_v93, Cert.MergeRefIdeal.Read.val_main_v94]
  fin_vals b with hb
  all_goals simp only [hb, Nat.reduceSub, Nat.reduceLT, ↓reduceDIte]
  · obtain rfl : b = 0 := Fin.ext hb
    rfl
  · obtain rfl : b = 1 := Fin.ext hb
    rfl
  · obtain rfl : b = 2 := Fin.ext hb
    rfl

/-- The reference's second result holds the gradients of the branch products. -/
theorem ref_dbranch (h : BufTy.Contents (Elt Ideal) ⟨S8192x1024, .bf16⟩) (wg : BufTy.Contents (Elt Ideal) ⟨S3x1024x1024, .f32⟩)
    (dm : BufTy.Contents (Elt Ideal) ⟨S8192x1024, .bf16⟩) (b r d) :
    Cert.MergeRefIdeal.Read.val_main_v89 (F := Ideal) h wg dm (ix3 b r d) = dbranch h wg dm b r d := by
  pointwise [Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_v26, Cert.MergeRefIdeal.Read.val_main_v27, Cert.MergeRefIdeal.Read.val_main_v28, Cert.MergeRefIdeal.Read.val_main_v29, Cert.MergeRefIdeal.Read.val_main_v30, Cert.MergeRefIdeal.Read.val_main_cst, Cert.MergeRefIdeal.Read.val_main_v31, Cert.MergeRefIdeal.Read.val_main_v32, Cert.MergeRefIdeal.Read.val_main_cst_0, Cert.MergeRefIdeal.Read.val_main_v33, Cert.MergeRefIdeal.Read.val_main_v34, Cert.MergeRefIdeal.Read.val_main_cst_1, Cert.MergeRefIdeal.Read.val_main_v35, Cert.MergeRefIdeal.Read.val_main_v36, Cert.MergeRefIdeal.Read.val_main_v37, Cert.MergeRefIdeal.Read.val_main_v38, Cert.MergeRefIdeal.Read.val_main_cst_2, Cert.MergeRefIdeal.Read.val_main_v39, Cert.MergeRefIdeal.Read.val_main_v40, Cert.MergeRefIdeal.Read.val_main_v41, Cert.MergeRefIdeal.Read.val_main_v42, Cert.MergeRefIdeal.Read.val_main_cst_3, Cert.MergeRefIdeal.Read.val_main_v43, Cert.MergeRefIdeal.Read.val_main_v44, Cert.MergeRefIdeal.Read.val_main_cst_4, Cert.MergeRefIdeal.Read.val_main_v45, Cert.MergeRefIdeal.Read.val_main_v46, Cert.MergeRefIdeal.Read.val_main_cst_5, Cert.MergeRefIdeal.Read.val_main_v47, Cert.MergeRefIdeal.Read.val_main_v48, Cert.MergeRefIdeal.Read.val_main_v49, Cert.MergeRefIdeal.Read.val_main_v50, Cert.MergeRefIdeal.Read.val_main_v51, Cert.MergeRefIdeal.Read.val_main_v52, Cert.MergeRefIdeal.Read.val_main_v53, Cert.MergeRefIdeal.Read.val_main_cst_6, Cert.MergeRefIdeal.Read.val_main_v54, Cert.MergeRefIdeal.Read.val_main_v55, Cert.MergeRefIdeal.Read.val_main_cst_7, Cert.MergeRefIdeal.Read.val_main_v56, Cert.MergeRefIdeal.Read.val_main_v57, Cert.MergeRefIdeal.Read.val_main_cst_8, Cert.MergeRefIdeal.Read.val_main_v58, Cert.MergeRefIdeal.Read.val_main_v59, Cert.MergeRefIdeal.Read.val_main_v60, Cert.MergeRefIdeal.Read.val_main_v61, Cert.MergeRefIdeal.Read.val_main_v62, Cert.MergeRefIdeal.Read.val_main_v63, Cert.MergeRefIdeal.Read.val_main_v64, Cert.MergeRefIdeal.Read.val_main_v65, Cert.MergeRefIdeal.Read.val_main_v66, Cert.MergeRefIdeal.Read.val_main_v67, Cert.MergeRefIdeal.Read.val_main_v68, Cert.MergeRefIdeal.Read.val_main_v69, Cert.MergeRefIdeal.Read.val_main_v70, Cert.MergeRefIdeal.Read.val_main_v71, Cert.MergeRefIdeal.Read.val_main_v72, Cert.MergeRefIdeal.Read.val_main_v73, Cert.MergeRefIdeal.Read.val_main_v74, Cert.MergeRefIdeal.Read.val_main_v75, Cert.MergeRefIdeal.Read.val_main_v76, Cert.MergeRefIdeal.Read.val_main_v77, Cert.MergeRefIdeal.Read.val_main_v78, Cert.MergeRefIdeal.Read.val_main_v79, Cert.MergeRefIdeal.Read.val_main_v80, Cert.MergeRefIdeal.Read.val_main_v81, Cert.MergeRefIdeal.Read.val_main_v82, Cert.MergeRefIdeal.Read.val_main_v83, Cert.MergeRefIdeal.Read.val_main_v84, Cert.MergeRefIdeal.Read.val_main_v85, Cert.MergeRefIdeal.Read.val_main_v86, Cert.MergeRefIdeal.Read.val_main_v87, Cert.MergeRefIdeal.Read.val_main_v88, Cert.MergeRefIdeal.Read.val_main_v89, Cert.MergeRefIdeal.Read.val_main_v90, Cert.MergeRefIdeal.Read.val_main_v91, Cert.MergeRefIdeal.Read.val_main_v92, Cert.MergeRefIdeal.Read.val_main_v93, Cert.MergeRefIdeal.Read.val_main_v94]
  fin_vals b with hb
  all_goals simp only [hb, Nat.reduceSub, Nat.reduceLT, ↓reduceDIte]
  · obtain rfl : b = 0 := Fin.ext hb
    rfl
  · obtain rfl : b = 1 := Fin.ext hb
    rfl
  · obtain rfl : b = 2 := Fin.ext hb
    rfl

/-- The reference's third result is the gradients of the branch products sent back through the branch matrices. -/
theorem ref_dys (h : BufTy.Contents (Elt Ideal) ⟨S8192x1024, .bf16⟩) (wg : BufTy.Contents (Elt Ideal) ⟨S3x1024x1024, .f32⟩)
    (wb : BufTy.Contents (Elt Ideal) ⟨S3x512x1024, .f32⟩) (dm : BufTy.Contents (Elt Ideal) ⟨S8192x1024, .bf16⟩) (b r) (d : Fin 512) :
    Cert.MergeRefIdeal.Read.val_main_v94 (F := Ideal) h wg wb dm (ix3 b r d)
      = ∑ x : Fin 1024, dbranch h wg dm b r x * wb (ix3 b d x) := by
  pointwise [Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_v26, Cert.MergeRefIdeal.Read.val_main_v27, Cert.MergeRefIdeal.Read.val_main_v28, Cert.MergeRefIdeal.Read.val_main_v29, Cert.MergeRefIdeal.Read.val_main_v30, Cert.MergeRefIdeal.Read.val_main_cst, Cert.MergeRefIdeal.Read.val_main_v31, Cert.MergeRefIdeal.Read.val_main_v32, Cert.MergeRefIdeal.Read.val_main_cst_0, Cert.MergeRefIdeal.Read.val_main_v33, Cert.MergeRefIdeal.Read.val_main_v34, Cert.MergeRefIdeal.Read.val_main_cst_1, Cert.MergeRefIdeal.Read.val_main_v35, Cert.MergeRefIdeal.Read.val_main_v36, Cert.MergeRefIdeal.Read.val_main_v37, Cert.MergeRefIdeal.Read.val_main_v38, Cert.MergeRefIdeal.Read.val_main_cst_2, Cert.MergeRefIdeal.Read.val_main_v39, Cert.MergeRefIdeal.Read.val_main_v40, Cert.MergeRefIdeal.Read.val_main_v41, Cert.MergeRefIdeal.Read.val_main_v42, Cert.MergeRefIdeal.Read.val_main_cst_3, Cert.MergeRefIdeal.Read.val_main_v43, Cert.MergeRefIdeal.Read.val_main_v44, Cert.MergeRefIdeal.Read.val_main_cst_4, Cert.MergeRefIdeal.Read.val_main_v45, Cert.MergeRefIdeal.Read.val_main_v46, Cert.MergeRefIdeal.Read.val_main_cst_5, Cert.MergeRefIdeal.Read.val_main_v47, Cert.MergeRefIdeal.Read.val_main_v48, Cert.MergeRefIdeal.Read.val_main_v49, Cert.MergeRefIdeal.Read.val_main_v50, Cert.MergeRefIdeal.Read.val_main_v51, Cert.MergeRefIdeal.Read.val_main_v52, Cert.MergeRefIdeal.Read.val_main_v53, Cert.MergeRefIdeal.Read.val_main_cst_6, Cert.MergeRefIdeal.Read.val_main_v54, Cert.MergeRefIdeal.Read.val_main_v55, Cert.MergeRefIdeal.Read.val_main_cst_7, Cert.MergeRefIdeal.Read.val_main_v56, Cert.MergeRefIdeal.Read.val_main_v57, Cert.MergeRefIdeal.Read.val_main_cst_8, Cert.MergeRefIdeal.Read.val_main_v58, Cert.MergeRefIdeal.Read.val_main_v59, Cert.MergeRefIdeal.Read.val_main_v60, Cert.MergeRefIdeal.Read.val_main_v61, Cert.MergeRefIdeal.Read.val_main_v62, Cert.MergeRefIdeal.Read.val_main_v63, Cert.MergeRefIdeal.Read.val_main_v64, Cert.MergeRefIdeal.Read.val_main_v65, Cert.MergeRefIdeal.Read.val_main_v66, Cert.MergeRefIdeal.Read.val_main_v67, Cert.MergeRefIdeal.Read.val_main_v68, Cert.MergeRefIdeal.Read.val_main_v69, Cert.MergeRefIdeal.Read.val_main_v70, Cert.MergeRefIdeal.Read.val_main_v71, Cert.MergeRefIdeal.Read.val_main_v72, Cert.MergeRefIdeal.Read.val_main_v73, Cert.MergeRefIdeal.Read.val_main_v74, Cert.MergeRefIdeal.Read.val_main_v75, Cert.MergeRefIdeal.Read.val_main_v76, Cert.MergeRefIdeal.Read.val_main_v77, Cert.MergeRefIdeal.Read.val_main_v78, Cert.MergeRefIdeal.Read.val_main_v79, Cert.MergeRefIdeal.Read.val_main_v80, Cert.MergeRefIdeal.Read.val_main_v81, Cert.MergeRefIdeal.Read.val_main_v82, Cert.MergeRefIdeal.Read.val_main_v83, Cert.MergeRefIdeal.Read.val_main_v84, Cert.MergeRefIdeal.Read.val_main_v85, Cert.MergeRefIdeal.Read.val_main_v86, Cert.MergeRefIdeal.Read.val_main_v87, Cert.MergeRefIdeal.Read.val_main_v88, Cert.MergeRefIdeal.Read.val_main_v89, Cert.MergeRefIdeal.Read.val_main_v90, Cert.MergeRefIdeal.Read.val_main_v91, Cert.MergeRefIdeal.Read.val_main_v92, Cert.MergeRefIdeal.Read.val_main_v93, Cert.MergeRefIdeal.Read.val_main_v94]
  fin_vals b with hb
  all_goals simp only [hb, Nat.reduceSub, Nat.reduceLT, ↓reduceDIte]
  · obtain rfl : b = 0 := Fin.ext hb
    rfl
  · obtain rfl : b = 1 := Fin.ext hb
    rfl
  · obtain rfl : b = 2 := Fin.ext hb
    rfl

/-- The reference's fourth result is the sum over the branches of the gates' gradients sent back. -/
theorem ref_dh (h : BufTy.Contents (Elt Ideal) ⟨S8192x1024, .bf16⟩) (ys : BufTy.Contents (Elt Ideal) ⟨S3x8192x512, .bf16⟩)
    (wg : BufTy.Contents (Elt Ideal) ⟨S3x1024x1024, .f32⟩) (wb : BufTy.Contents (Elt Ideal) ⟨S3x512x1024, .f32⟩)
    (dm : BufTy.Contents (Elt Ideal) ⟨S8192x1024, .bf16⟩) (r d) :
    Cert.MergeRefIdeal.Read.val_main_v79 (F := Ideal) h ys wg wb dm (ix2 r d)
      = back h ys wg wb dm 2 r d + back h ys wg wb dm 1 r d + back h ys wg wb dm 0 r d := by
  pointwise [Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_v23, Cert.MergeRefIdeal.Read.val_main_v24, Cert.MergeRefIdeal.Read.val_main_v25, Cert.MergeRefIdeal.Read.val_main_v26, Cert.MergeRefIdeal.Read.val_main_v27, Cert.MergeRefIdeal.Read.val_main_v28, Cert.MergeRefIdeal.Read.val_main_v29, Cert.MergeRefIdeal.Read.val_main_v30, Cert.MergeRefIdeal.Read.val_main_cst, Cert.MergeRefIdeal.Read.val_main_v31, Cert.MergeRefIdeal.Read.val_main_v32, Cert.MergeRefIdeal.Read.val_main_cst_0, Cert.MergeRefIdeal.Read.val_main_v33, Cert.MergeRefIdeal.Read.val_main_v34, Cert.MergeRefIdeal.Read.val_main_cst_1, Cert.MergeRefIdeal.Read.val_main_v35, Cert.MergeRefIdeal.Read.val_main_v36, Cert.MergeRefIdeal.Read.val_main_v37, Cert.MergeRefIdeal.Read.val_main_v38, Cert.MergeRefIdeal.Read.val_main_cst_2, Cert.MergeRefIdeal.Read.val_main_v39, Cert.MergeRefIdeal.Read.val_main_v40, Cert.MergeRefIdeal.Read.val_main_v41, Cert.MergeRefIdeal.Read.val_main_v42, Cert.MergeRefIdeal.Read.val_main_cst_3, Cert.MergeRefIdeal.Read.val_main_v43, Cert.MergeRefIdeal.Read.val_main_v44, Cert.MergeRefIdeal.Read.val_main_cst_4, Cert.MergeRefIdeal.Read.val_main_v45, Cert.MergeRefIdeal.Read.val_main_v46, Cert.MergeRefIdeal.Read.val_main_cst_5, Cert.MergeRefIdeal.Read.val_main_v47, Cert.MergeRefIdeal.Read.val_main_v48, Cert.MergeRefIdeal.Read.val_main_v49, Cert.MergeRefIdeal.Read.val_main_v50, Cert.MergeRefIdeal.Read.val_main_v51, Cert.MergeRefIdeal.Read.val_main_v52, Cert.MergeRefIdeal.Read.val_main_v53, Cert.MergeRefIdeal.Read.val_main_cst_6, Cert.MergeRefIdeal.Read.val_main_v54, Cert.MergeRefIdeal.Read.val_main_v55, Cert.MergeRefIdeal.Read.val_main_cst_7, Cert.MergeRefIdeal.Read.val_main_v56, Cert.MergeRefIdeal.Read.val_main_v57, Cert.MergeRefIdeal.Read.val_main_cst_8, Cert.MergeRefIdeal.Read.val_main_v58, Cert.MergeRefIdeal.Read.val_main_v59, Cert.MergeRefIdeal.Read.val_main_v60, Cert.MergeRefIdeal.Read.val_main_v61, Cert.MergeRefIdeal.Read.val_main_v62, Cert.MergeRefIdeal.Read.val_main_v63, Cert.MergeRefIdeal.Read.val_main_v64, Cert.MergeRefIdeal.Read.val_main_v65, Cert.MergeRefIdeal.Read.val_main_v66, Cert.MergeRefIdeal.Read.val_main_v67, Cert.MergeRefIdeal.Read.val_main_v68, Cert.MergeRefIdeal.Read.val_main_v69, Cert.MergeRefIdeal.Read.val_main_v70, Cert.MergeRefIdeal.Read.val_main_v71, Cert.MergeRefIdeal.Read.val_main_v72, Cert.MergeRefIdeal.Read.val_main_v73, Cert.MergeRefIdeal.Read.val_main_v74, Cert.MergeRefIdeal.Read.val_main_v75, Cert.MergeRefIdeal.Read.val_main_v76, Cert.MergeRefIdeal.Read.val_main_v77, Cert.MergeRefIdeal.Read.val_main_v78, Cert.MergeRefIdeal.Read.val_main_v79, Cert.MergeRefIdeal.Read.val_main_v80, Cert.MergeRefIdeal.Read.val_main_v81, Cert.MergeRefIdeal.Read.val_main_v82, Cert.MergeRefIdeal.Read.val_main_v83, Cert.MergeRefIdeal.Read.val_main_v84, Cert.MergeRefIdeal.Read.val_main_v85, Cert.MergeRefIdeal.Read.val_main_v86, Cert.MergeRefIdeal.Read.val_main_v87, Cert.MergeRefIdeal.Read.val_main_v88, Cert.MergeRefIdeal.Read.val_main_v89, Cert.MergeRefIdeal.Read.val_main_v90, Cert.MergeRefIdeal.Read.val_main_v91, Cert.MergeRefIdeal.Read.val_main_v92, Cert.MergeRefIdeal.Read.val_main_v93, Cert.MergeRefIdeal.Read.val_main_v94]
  rfl

/-! ## The kernel's four arrays -/

/-- The kernel's array of the gradients of the gates' arguments is the reference's. -/
theorem arr_dgate (c : Dev nD) : (dats m 0 c).arrAt 5 cfg0.N =
    Cert.MergeRefIdeal.Read.val_main_v84 (F := Ideal) (m (c.tc.loc main_arg0)) (m (c.tc.loc main_arg1)) (m (c.tc.loc main_arg2))
      (m (c.tc.loc main_arg3)) (m (c.tc.loc main_arg4)) := by
  refine (dats m 0 c).arrAt_eq_of_covers 5 _ (by decide +kernel) fun t hf y => ?_
  blk_simp
  rw [after0_5]
  frame_out
  canon_tiles x h
  all_goals idx_vars x
  all_goals pointwise [k0_pay26, k0_pay25, k0_pay24, k0_pay23, k0_pay22, k0_pay21, k0_pay20, k0_pay19, k0_pay18, k0_pay17, k0_pay16,
      k0_pay15, k0_pay14, k0_pay13, k0_pay12, k0_pay11, k0_pay10, k0_pay9, k0_pay8, k0_pay7, k0_pay6, k0_pay5,
      k0_pay4, k0_pay3, k0_pay2, k0_pay1]
  · have e : ((View.whole main_v16_0).slice (win0_5.rect t)).emb y = ix3 2 (row t x1) x2 := by
      blk_ext [idx t, row]
    rw [e, ref_dgate, blk0, blk1, blk2]
    unfold dgate
    ac_rfl
  · have e : ((View.whole main_v16_0).slice (win0_5.rect t)).emb y = ix3 1 (row t x1) x2 := by
      blk_ext [idx t, row]
    rw [e, ref_dgate, blk0, blk1, blk2]
    unfold dgate
    ac_rfl
  · have e : ((View.whole main_v16_0).slice (win0_5.rect t)).emb y = ix3 0 (row t x1) x2 := by
      blk_ext [idx t, row]
    rw [e, ref_dgate, blk0, blk1, blk2]
    unfold dgate
    ac_rfl

/-- The kernel's array of the gradients of the branch products is the reference's. -/
theorem arr_dbranch (c : Dev nD) : (dats m 0 c).arrAt 6 cfg0.N =
    Cert.MergeRefIdeal.Read.val_main_v89 (F := Ideal) (m (c.tc.loc main_arg0)) (m (c.tc.loc main_arg2)) (m (c.tc.loc main_arg4))
       := by
  refine (dats m 0 c).arrAt_eq_of_covers 6 _ (by decide +kernel) fun t hf y => ?_
  blk_simp
  rw [after0_6]
  frame_out
  canon_tiles x h
  all_goals idx_vars x
  all_goals pointwise [k0_pay26, k0_pay25, k0_pay24, k0_pay23, k0_pay22, k0_pay21, k0_pay20, k0_pay19, k0_pay18, k0_pay17, k0_pay16,
      k0_pay15, k0_pay14, k0_pay13, k0_pay12, k0_pay11, k0_pay10, k0_pay9, k0_pay8, k0_pay7, k0_pay6, k0_pay5,
      k0_pay4, k0_pay3, k0_pay2, k0_pay1]
  · have e : ((View.whole main_v16_1).slice (win0_6.rect t)).emb y = ix3 2 (row t x1) x2 := by
      blk_ext [idx t, row]
    rw [e, ref_dbranch, blk0, blk1]
    unfold dbranch
    ac_rfl
  · have e : ((View.whole main_v16_1).slice (win0_6.rect t)).emb y = ix3 1 (row t x1) x2 := by
      blk_ext [idx t, row]
    rw [e, ref_dbranch, blk0, blk1]
    unfold dbranch
    ac_rfl
  · have e : ((View.whole main_v16_1).slice (win0_6.rect t)).emb y = ix3 0 (row t x1) x2 := by
      blk_ext [idx t, row]
    rw [e, ref_dbranch, blk0, blk1]
    unfold dbranch
    ac_rfl

/-- The kernel's array of the gradients of the branches is the reference's. -/
theorem arr_dys (c : Dev nD) : (dats m 0 c).arrAt 7 cfg0.N =
    Cert.MergeRefIdeal.Read.val_main_v94 (F := Ideal) (m (c.tc.loc main_arg0)) (m (c.tc.loc main_arg2)) (m (c.tc.loc main_arg3))
      (m (c.tc.loc main_arg4)) := by
  refine (dats m 0 c).arrAt_eq_of_covers 7 _ (by decide +kernel) fun t hf y => ?_
  blk_simp
  rw [after0_7]
  frame_out
  canon_tiles x h
  all_goals idx_vars x
  all_goals pointwise [k0_pay26, k0_pay25, k0_pay24, k0_pay23, k0_pay22, k0_pay21, k0_pay20, k0_pay19, k0_pay18, k0_pay17, k0_pay16,
      k0_pay15, k0_pay14, k0_pay13, k0_pay12, k0_pay11, k0_pay10, k0_pay9, k0_pay8, k0_pay7, k0_pay6, k0_pay5,
      k0_pay4, k0_pay3, k0_pay2, k0_pay1]
  · have e : ((View.whole main_v16_2).slice (win0_7.rect t)).emb y = ix3 2 (row t x1) x2 := by
      blk_ext [idx t, row]
    rw [e, ref_dys]
    refine Finset.sum_congr rfl fun k _ => ?_
    rw [blk0, blk1, blk4]
    unfold dbranch
    ac_rfl
  · have e : ((View.whole main_v16_2).slice (win0_7.rect t)).emb y = ix3 1 (row t x1) x2 := by
      blk_ext [idx t, row]
    rw [e, ref_dys]
    refine Finset.sum_congr rfl fun k _ => ?_
    rw [blk0, blk1, blk4]
    unfold dbranch
    ac_rfl
  · have e : ((View.whole main_v16_2).slice (win0_7.rect t)).emb y = ix3 0 (row t x1) x2 := by
      blk_ext [idx t, row]
    rw [e, ref_dys]
    refine Finset.sum_congr rfl fun k _ => ?_
    rw [blk0, blk1, blk4]
    unfold dbranch
    ac_rfl

/-- The kernel's array of the gradient of `h` is the reference's. -/
theorem arr_dh (c : Dev nD) : (dats m 0 c).arrAt 8 cfg0.N =
    Cert.MergeRefIdeal.Read.val_main_v79 (F := Ideal) (m (c.tc.loc main_arg0)) (m (c.tc.loc main_arg1)) (m (c.tc.loc main_arg2))
      (m (c.tc.loc main_arg3)) (m (c.tc.loc main_arg4)) := by
  refine (dats m 0 c).arrAt_eq_of_covers 8 _ (by decide +kernel) fun t hf y => ?_
  blk_simp
  rw [after0_8]
  frame_out
  change S512x1024.Idx at y
  idx_vars y
  pointwise [k0_pay26, k0_pay25, k0_pay24, k0_pay23, k0_pay22, k0_pay21, k0_pay20, k0_pay19, k0_pay18, k0_pay17, k0_pay16,
      k0_pay15, k0_pay14, k0_pay13, k0_pay12, k0_pay11, k0_pay10, k0_pay9, k0_pay8, k0_pay7, k0_pay6, k0_pay5,
      k0_pay4, k0_pay3, k0_pay2, k0_pay1]
  have e : ((View.whole main_v16_3).slice (win0_8.rect t)).emb (ix2 y0 y1) = ix2 (row t y0) y1 := by
    blk_ext [idx t, row]
  rw [e, ref_dh]
  trans back (m (c.tc.loc main_arg0)) (m (c.tc.loc main_arg1)) (m (c.tc.loc main_arg2)) (m (c.tc.loc main_arg3))
        (m (c.tc.loc main_arg4)) 0 (row t y0) y1 +
      back (m (c.tc.loc main_arg0)) (m (c.tc.loc main_arg1)) (m (c.tc.loc main_arg2)) (m (c.tc.loc main_arg3))
        (m (c.tc.loc main_arg4)) 1 (row t y0) y1 +
      back (m (c.tc.loc main_arg0)) (m (c.tc.loc main_arg1)) (m (c.tc.loc main_arg2)) (m (c.tc.loc main_arg3))
        (m (c.tc.loc main_arg4)) 2 (row t y0) y1
  · refine congrArg₂ (· + ·) (congrArg₂ (· + ·) ?_ ?_) ?_ <;>
    · refine Finset.sum_congr rfl fun k _ => ?_
      rw [blk0, blk1, blk2, blk3]
      unfold dgate
      ac_rfl
  · ac_rfl
end Cert.Merge
-- ==== Proof.MergeClaim.lean ====
module

public import proofs.«01_k».proof.Defs
public import proofs.«01_k».proof.Proof.Merge
public import proofs.«01_k».proof.Proof.Gen.MergeRefIdeal.Run
public import Idealize.ShloMosaic.Lib.Claim
public import Idealize.ShloMosaic.Init

@[expose] public section

noncomputable section

namespace Cert.Merge

open Idealize.ShloMosaic Idealize.SL.Sem

/-- The merge's backward kernel leaves the four arrays that the gradient of the gated sum and of its products leaves. -/
theorem algebraic : Cert.algebraic_MergeBwdIdeal_MergeRefIdeal
    (hMergeBwdIdeal := Cert.MergeBwdIdeal.Gen.facts) (hMergeRefIdeal := Cert.MergeRefIdeal.Gen.facts) := by
  pair_intro
  · run_from Cert.MergeBwdIdeal.Value.run_blocks m g
  · run_from Cert.MergeRefIdeal.Value.run m' g'
    all_goals obtain ⟨h0, h1, h2, h3, h4⟩ := hagree c
    · rw [Cert.MergeRefIdeal.Read.val_main_v84_eq, h0, h1, h2, h3, h4]
      exact (arr_dgate m c).symm
    · refine (Cert.MergeRefIdeal.Read.val_main_v89_eq _ _ _).trans ?_
      rw [h2, h4]
      exact (arr_dbranch m c).symm
    · refine (Cert.MergeRefIdeal.Read.val_main_v94_eq _ _ _ _).trans ?_
      rw [h2, h3, h4]
      exact (arr_dys m c).symm
    · rw [Cert.MergeRefIdeal.Read.val_main_v79_eq, h0, h1, h2, h3, h4]
      exact (arr_dh m c).symm

/-- The reference runs, leaves its arguments as they were, and counts nothing. -/
theorem ref_frame : Cert.quiescent_MergeRefIdeal (hMergeRefIdeal := Cert.MergeRefIdeal.Gen.facts) := fun m ρ _ =>
  (θ_run Cert.MergeRefIdeal.defs _ _).mono (fun r h => ⟨fun c => (h c).2.2.2.2, Idealize.ShloMosaic.sem_eq_zero_of_no_sems (by decide) r.2⟩)
    (Cert.MergeRefIdeal.Value.run m ρ)

end Cert.Merge

end
-- ==== Proof.FfnDw.lean ====
module

public import proofs.«01_k».proof.Proof.Gen.FfnDwIdeal.Value
public import proofs.«01_k».proof.Proof.Gen.FfnDwRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.FfnDw

open Cert.FfnDwIdeal Cert.FfnDwIdeal.Gen Idealize.ShloMosaic Idealize.ShloMosaic.TcCoe Idealize.SL.Sem Idealize.ShloMosaic.StableHlo

variable (m : (ℓ : Loc nD τ sig) → Buf (Elt Ideal) ℓ)

/-- Entry `(i, j)` of the weight's gradient: the sum over all tokens of `a`'s column `i` times `dy`'s column `j`. -/
def prod (a : BufTy.Contents (Elt Ideal) ⟨S8192x2816, .bf16⟩) (b : BufTy.Contents (Elt Ideal) ⟨S8192x1024, .bf16⟩)
    (i : Fin 2816) (j : Fin 1024) (l : Fin 8192) : EReal :=
  @HMul.hMul EReal EReal EReal instHMul (a (ix2 l i)) (b (ix2 l j))

/-- The gradient that the reference takes is that sum. -/
theorem ref_eq (a : BufTy.Contents (Elt Ideal) ⟨S8192x2816, .bf16⟩) (b : BufTy.Contents (Elt Ideal) ⟨S8192x1024, .bf16⟩) (i j) :
    Cert.FfnDwRefIdeal.Read.val_main_v6 (F := Ideal) a b (ix2 i j) = ∑ l : Fin 8192, prod a b i j l := by
  pointwise [Cert.FfnDwRefIdeal.Read.val_main_cst, Cert.FfnDwRefIdeal.Read.val_main_v0, Cert.FfnDwRefIdeal.Read.val_main_v1,
    Cert.FfnDwRefIdeal.Read.val_main_v2, Cert.FfnDwRefIdeal.Read.val_main_v3, Cert.FfnDwRefIdeal.Read.val_main_v4,
    Cert.FfnDwRefIdeal.Read.val_main_v5, Cert.FfnDwRefIdeal.Read.val_main_v6]
  exact Finset.sum_congr rfl fun l _ => mul_comm _ _

/-- The block indices of the windows at each grid point. -/
theorem idx : ∀ t : Fin grid0.N,
    win0_0.index t = ![t.val % 4, t.val / 4] ∧ win0_1.index t = ![t.val % 4, 0] ∧ win0_2.index t = ![t.val / 4, 0] := by
  decide +kernel

/-- Row `r` of the token block of grid point `t`, as a token. -/
def row (t : Fin grid0.N) (r : Fin 2048) : Fin 8192 := ⟨t.val % 4 * 2048 + r.val, by omega⟩

/-- Column `d` of the column block of grid point `t`, as a column of the whole array. -/
def col (t : Fin grid0.N) (d : Fin 1408) : Fin 2816 := ⟨t.val / 4 * 1408 + d.val, by
  have : t.val < 8 := lt_of_lt_of_eq t.isLt N_0
  omega⟩

theorem blk0 (c : Dev nD) (t : Fin cfg0.N) (r : Fin 2048) (d : Fin 1408) :
    iblk m c 0 t (ix2 r d) = m (c.tc.loc main_arg0) (ix2 (row t r) (col t d)) := by
  blk_point [iblk, V, idx t, row, col]

theorem blk1 (c : Dev nD) (t : Fin cfg0.N) (r : Fin 2048) (d : Fin 1024) :
    iblk m c 1 t (ix2 r d) = m (c.tc.loc main_arg1) (ix2 (row t r) d) := by
  blk_point [iblk, V, idx t, row]

/-- What one grid point adds: the sum over its own tokens. -/
def term (c : Dev nD) (t : Fin cfg0.N) (i : Fin 1408) (j : Fin 1024) : EReal :=
  ∑ r : Fin 2048, prod (m (c.tc.loc main_arg0)) (m (c.tc.loc main_arg1)) (col t i) j (row t r)

/-- The first token block leaves its own sum in the accumulator. -/
theorem first_point (c : Dev nD) (t : Fin cfg0.N) (h : t.val % 4 = 0) (i j) :
    (outsAt0 m c t.val t.isLt).2 (ix2 i j) = term m c t i j := by
  rw [outsAt0_A m c t h (by omega) (by omega)]
  frame_out
  pointwise [k0_pay2, k0_pay1]
  exact Finset.sum_congr rfl fun r _ => by rw [blk0, blk1]; rfl

/-- A middle token block adds its own sum. -/
theorem next_point (c : Dev nD) (t : Fin cfg0.N) (h : 1 ≤ t.val % 4 ∧ t.val % 4 ≤ 2) (i j) :
    (outsAt0 m c t.val t.isLt).2 (ix2 i j) = @HAdd.hAdd EReal EReal EReal instHAdd ((outsAt0 m c (t.val - 1) (by omega)).2 (ix2 i j)) (term m c t i j) := by
  rw [outsAt0_B m c t (by omega) h (by omega)]
  frame_out
  pointwise [k0_pay3, k0_pay1]
  exact congrArg₂ (· + ·) (congrFun (Memref.IsWhole.read_unread (Val := Elt Ideal) _ _) _) (Finset.sum_congr rfl fun r _ => by rw [blk0, blk1]; rfl)

/-- The last token block writes the accumulator plus its own sum. -/
theorem last_point (c : Dev nD) (t : Fin cfg0.N) (h : t.val % 4 = 3) (i j) :
    (outsAt0 m c t.val t.isLt).1 (ix2 i j) = @HAdd.hAdd EReal EReal EReal instHAdd ((outsAt0 m c (t.val - 1) (by omega)).2 (ix2 i j)) (term m c t i j) := by
  rw [outsAt0_C m c t (by omega) (by omega) h]
  frame_out
  pointwise [k0_pay4, k0_pay1]
  exact congrArg₂ (· + ·) (congrFun (Memref.IsWhole.read_unread (Val := Elt Ideal) _ _) _) (Finset.sum_congr rfl fun r _ => by rw [blk0, blk1]; rfl)

/-- A sum over all tokens is the sum of those over the four token blocks. -/
theorem sum_blocks (f : Fin 8192 → EReal) :
    (∑ r : Fin 2048, f ⟨0 * 2048 + r.val, by omega⟩) + (∑ r : Fin 2048, f ⟨1 * 2048 + r.val, by omega⟩)
      + (∑ r : Fin 2048, f ⟨2 * 2048 + r.val, by omega⟩) + (∑ r : Fin 2048, f ⟨3 * 2048 + r.val, by omega⟩) = ∑ l, f l := by
  rw [← Fin.sum_mul_add_congr (S := 4) (n := 2048) (F := fun s k => f ⟨s.val * 2048 + k.val, by omega⟩) (f := f) fun s k hl => rfl]
  simp only [Fin.sum_univ_four]
  rfl

/-- The kernel's array is the reference's. -/
theorem arr (c : Dev nD) : (dats m 0 c).arrAt 2 cfg0.N =
    Cert.FfnDwRefIdeal.Read.val_main_v6 (F := Ideal) (m (c.tc.loc main_arg0)) (m (c.tc.loc main_arg1)) := by
  refine (dats m 0 c).arrAt_eq_of_covers 2 _ (by decide +kernel) fun t hf y => ?_
  have ht := (flush0_2 t).mp hf
  have hN : t.val < 8 := lt_of_lt_of_eq t.isLt N_0
  blk_simp
  rw [after0_2]
  change S1408x1024.Idx at y
  idx_vars y
  have e : ((View.whole main_v0).slice (win0_2.rect t)).emb (ix2 y0 y1) = ix2 (col t y0) y1 := by
    blk_ext [idx t, col]
  rw [e, ref_eq, last_point m c t ht]
  have h2 := next_point m c ⟨t.val - 1, by omega⟩ ⟨by simp only; omega, by simp only; omega⟩ y0 y1
  have h1 := next_point m c ⟨t.val - 1 - 1, by omega⟩ ⟨by simp only; omega, by simp only; omega⟩ y0 y1
  have h0 := first_point m c ⟨t.val - 1 - 1 - 1, by omega⟩ (by simp only; omega) y0 y1
  simp only at h0 h1 h2
  rw [h2, h1, h0, ← sum_blocks]
  have ec : ∀ s : Fin grid0.N, s.val / 4 = t.val / 4 → col s y0 = col t y0 := fun s hs => by
    apply Fin.ext
    simp only [col, hs]
  have er : ∀ (s : Fin grid0.N) (q : ℕ) (hq : q < 4), s.val % 4 = q → ∀ r : Fin 2048, row s r = ⟨q * 2048 + r.val, by omega⟩ := fun s q hq hs r => by
    apply Fin.ext
    simp only [row, hs]
  unfold term
  have b1 : t.val - 1 < grid0.N := by have : t.val < grid0.N := t.isLt; omega
  have b2 : t.val - 1 - 1 < grid0.N := by omega
  have b3 : t.val - 1 - 1 - 1 < grid0.N := by omega
  simp only [er ⟨t.val - 1 - 1 - 1, b3⟩ 0 (by omega) (by simp only; omega), er ⟨t.val - 1 - 1, b2⟩ 1 (by omega) (by simp only; omega),
    er ⟨t.val - 1, b1⟩ 2 (by omega) (by simp only; omega), er t 3 (by omega) ht,
    ec ⟨t.val - 1 - 1 - 1, b3⟩ (by simp only; omega), ec ⟨t.val - 1 - 1, b2⟩ (by simp only; omega), ec ⟨t.val - 1, b1⟩ (by simp only; omega)]

end Cert.FfnDw
-- ==== Proof.FfnDwClaim.lean ====
module

public import proofs.«01_k».proof.Defs
public import proofs.«01_k».proof.Proof.FfnDw
public import proofs.«01_k».proof.Proof.Gen.FfnDwRefIdeal.Run
public import Idealize.ShloMosaic.Lib.Claim
public import Idealize.ShloMosaic.Init

@[expose] public section

noncomputable section

namespace Cert.FfnDw

open Idealize.ShloMosaic Idealize.SL.Sem

set_option maxRecDepth 65536 in
/-- The kernel of the feed-forward weight gradient leaves the array that the gradient of the product leaves. -/
theorem algebraic : Cert.algebraic_FfnDwIdeal_FfnDwRefIdeal
    (hFfnDwIdeal := Cert.FfnDwIdeal.Gen.facts) (hFfnDwRefIdeal := Cert.FfnDwRefIdeal.Gen.facts) := by
  pair_intro
  · run_from Cert.FfnDwIdeal.Value.run_blocks m g
  · run_from Cert.FfnDwRefIdeal.Value.run m' g'
    all_goals obtain ⟨h0, h1⟩ := hagree c
    · rw [Cert.FfnDwRefIdeal.Read.val_main_v6_eq]
      try rw [h0]
      try rw [h1]
      exact (arr m c).symm

/-- The reference runs, leaves its arguments as they were, and counts nothing. -/
theorem ref_frame : Cert.quiescent_FfnDwRefIdeal (hFfnDwRefIdeal := Cert.FfnDwRefIdeal.Gen.facts) := fun m ρ _ =>
  (θ_run Cert.FfnDwRefIdeal.defs _ _).mono (fun r h => ⟨fun c => (h c).2, Idealize.ShloMosaic.sem_eq_zero_of_no_sems (by decide) r.2⟩)
    (Cert.FfnDwRefIdeal.Value.run m ρ)

end Cert.FfnDw

end
-- ==== Proof.MergeFwd.lean ====
module

public import proofs.«01_k».proof.Proof.Gen.MergeFwdIdeal.Value
public import proofs.«01_k».proof.Proof.Gen.MergeFwdRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.MergeFwd

open Cert.MergeFwdIdeal Cert.MergeFwdIdeal.Gen Idealize.ShloMosaic Idealize.ShloMosaic.TcCoe Idealize.SL.Sem Idealize.ShloMosaic.StableHlo

variable (m : (ℓ : Loc nD τ sig) → Buf (Elt Ideal) ℓ)

/-- The gate: the logistic function of row `r` of `h` times column `d` of the gate matrix of branch `b`. -/
def gate (h : BufTy.Contents (Elt Ideal) ⟨S8192x1024, .bf16⟩) (w : BufTy.Contents (Elt Ideal) ⟨S3x1024x1024, .f32⟩)
    (b : Fin 3) (r : Fin 8192) (d : Fin 1024) : EReal :=
  Ideal.div 1 (1 + Ideal.exp (-∑ x : Fin 1024, h (ix2 r x) * w (ix3 b x d)))

/-- The branch product: row `r` of a branch's output times column `d` of the matrix of branch `b`. -/
def branch (y : BufTy.Contents (Elt Ideal) ⟨S8192x512, .bf16⟩) (w : BufTy.Contents (Elt Ideal) ⟨S3x512x1024, .f32⟩)
    (b : Fin 3) (r : Fin 8192) (d : Fin 1024) : EReal :=
  ∑ x : Fin 512, y (ix2 r x) * w (ix3 b x d)

/-! ## The reference's results, index by index -/

/-- The merged rows are the branch products, each under its gate, added up. -/
theorem ref_merged (h : BufTy.Contents (Elt Ideal) ⟨S8192x1024, .bf16⟩) (y0 y1 y2 : BufTy.Contents (Elt Ideal) ⟨S8192x512, .bf16⟩)
    (wg : BufTy.Contents (Elt Ideal) ⟨S3x1024x1024, .f32⟩) (wb : BufTy.Contents (Elt Ideal) ⟨S3x512x1024, .f32⟩) (r : Fin 8192) (d : Fin 1024) :
    Cert.MergeFwdRefIdeal.Read.val_main_v47 (F := Ideal) h y0 y1 y2 wg wb (ix2 r d)
      = gate h wg 0 r d * branch y0 wb 0 r d + gate h wg 1 r d * branch y1 wb 1 r d + gate h wg 2 r d * branch y2 wb 2 r d := by
  pointwise [Cert.MergeFwdRefIdeal.Read.val_main_v0, Cert.MergeFwdRefIdeal.Read.val_main_v1,
    Cert.MergeFwdRefIdeal.Read.val_main_v2, Cert.MergeFwdRefIdeal.Read.val_main_v3,
    Cert.MergeFwdRefIdeal.Read.val_main_v4, Cert.MergeFwdRefIdeal.Read.val_main_v5,
    Cert.MergeFwdRefIdeal.Read.val_main_v6, Cert.MergeFwdRefIdeal.Read.val_main_v7,
    Cert.MergeFwdRefIdeal.Read.val_main_v8, Cert.MergeFwdRefIdeal.Read.val_main_v9,
    Cert.MergeFwdRefIdeal.Read.val_main_v10, Cert.MergeFwdRefIdeal.Read.val_main_v11,
    Cert.MergeFwdRefIdeal.Read.val_main_v12, Cert.MergeFwdRefIdeal.Read.val_main_v13,
    Cert.MergeFwdRefIdeal.Read.val_main_v14, Cert.MergeFwdRefIdeal.Read.val_main_v15,
    Cert.MergeFwdRefIdeal.Read.val_main_v16, Cert.MergeFwdRefIdeal.Read.val_main_v17,
    Cert.MergeFwdRefIdeal.Read.val_main_v18, Cert.MergeFwdRefIdeal.Read.val_main_v19,
    Cert.MergeFwdRefIdeal.Read.val_main_v20, Cert.MergeFwdRefIdeal.Read.val_main_v21,
    Cert.MergeFwdRefIdeal.Read.val_main_v22, Cert.MergeFwdRefIdeal.Read.val_main_v23,
    Cert.MergeFwdRefIdeal.Read.val_main_cst, Cert.MergeFwdRefIdeal.Read.val_main_v24,
    Cert.MergeFwdRefIdeal.Read.val_main_v25, Cert.MergeFwdRefIdeal.Read.val_main_cst_0,
    Cert.MergeFwdRefIdeal.Read.val_main_v26, Cert.MergeFwdRefIdeal.Read.val_main_v27,
    Cert.MergeFwdRefIdeal.Read.val_main_v28, Cert.MergeFwdRefIdeal.Read.val_main_cst_1,
    Cert.MergeFwdRefIdeal.Read.val_main_v29, Cert.MergeFwdRefIdeal.Read.val_main_v30,
    Cert.MergeFwdRefIdeal.Read.val_main_v31, Cert.MergeFwdRefIdeal.Read.val_main_v32,
    Cert.MergeFwdRefIdeal.Read.val_main_cst_2, Cert.MergeFwdRefIdeal.Read.val_main_v33,
    Cert.MergeFwdRefIdeal.Read.val_main_v34, Cert.MergeFwdRefIdeal.Read.val_main_cst_3,
    Cert.MergeFwdRefIdeal.Read.val_main_v35, Cert.MergeFwdRefIdeal.Read.val_main_v36,
    Cert.MergeFwdRefIdeal.Read.val_main_v37, Cert.MergeFwdRefIdeal.Read.val_main_v38,
    Cert.MergeFwdRefIdeal.Read.val_main_v39, Cert.MergeFwdRefIdeal.Read.val_main_v40,
    Cert.MergeFwdRefIdeal.Read.val_main_cst_4, Cert.MergeFwdRefIdeal.Read.val_main_v41,
    Cert.MergeFwdRefIdeal.Read.val_main_v42, Cert.MergeFwdRefIdeal.Read.val_main_cst_5,
    Cert.MergeFwdRefIdeal.Read.val_main_v43, Cert.MergeFwdRefIdeal.Read.val_main_v44,
    Cert.MergeFwdRefIdeal.Read.val_main_v45, Cert.MergeFwdRefIdeal.Read.val_main_v46,
    Cert.MergeFwdRefIdeal.Read.val_main_v47, Cert.MergeFwdRefIdeal.Read.val_main_v48,
    Cert.MergeFwdRefIdeal.Read.val_main_v49, Cert.MergeFwdRefIdeal.Read.val_main_cst_6,
    Cert.MergeFwdRefIdeal.Read.val_main_v50, Cert.MergeFwdRefIdeal.Read.val_main_v51,
    Cert.MergeFwdRefIdeal.Read.val_main_cst_7, Cert.MergeFwdRefIdeal.Read.val_main_v52,
    Cert.MergeFwdRefIdeal.Read.val_main_v53, Cert.MergeFwdRefIdeal.Read.val_main_v54,
    Cert.MergeFwdRefIdeal.Read.val_main_v55, Cert.MergeFwdRefIdeal.Read.val_main_cst_8,
    Cert.MergeFwdRefIdeal.Read.val_main_v56, Cert.MergeFwdRefIdeal.Read.val_main_v57,
    Cert.MergeFwdRefIdeal.Read.val_main_cst_9, Cert.MergeFwdRefIdeal.Read.val_main_v58,
    Cert.MergeFwdRefIdeal.Read.val_main_v59, Cert.MergeFwdRefIdeal.Read.val_main_v60,
    Cert.MergeFwdRefIdeal.Read.val_main_v61, Cert.MergeFwdRefIdeal.Read.val_main_cst_10,
    Cert.MergeFwdRefIdeal.Read.val_main_v62, Cert.MergeFwdRefIdeal.Read.val_main_v63,
    Cert.MergeFwdRefIdeal.Read.val_main_cst_11, Cert.MergeFwdRefIdeal.Read.val_main_v64,
    Cert.MergeFwdRefIdeal.Read.val_main_v65, Cert.MergeFwdRefIdeal.Read.val_main_v66,
    Cert.MergeFwdRefIdeal.Read.val_main_v67, Cert.MergeFwdRefIdeal.Read.val_main_v68,
    Cert.MergeFwdRefIdeal.Read.val_main_v69, Cert.MergeFwdRefIdeal.Read.val_main_v70,
    Cert.MergeFwdRefIdeal.Read.val_main_v71, Cert.MergeFwdRefIdeal.Read.val_main_v72,
    Cert.MergeFwdRefIdeal.Read.val_main_v73, Cert.MergeFwdRefIdeal.Read.val_main_v74,
    Cert.MergeFwdRefIdeal.Read.val_main_v75]
  rfl

/-- The second result holds the gates. -/
theorem ref_gate (h : BufTy.Contents (Elt Ideal) ⟨S8192x1024, .bf16⟩) (wg : BufTy.Contents (Elt Ideal) ⟨S3x1024x1024, .f32⟩) (b r d) :
    Cert.MergeFwdRefIdeal.Read.val_main_v70 (F := Ideal) h wg (ix3 b r d) = gate h wg b r d := by
  pointwise [Cert.MergeFwdRefIdeal.Read.val_main_v0, Cert.MergeFwdRefIdeal.Read.val_main_v1,
    Cert.MergeFwdRefIdeal.Read.val_main_v2, Cert.MergeFwdRefIdeal.Read.val_main_v3,
    Cert.MergeFwdRefIdeal.Read.val_main_v4, Cert.MergeFwdRefIdeal.Read.val_main_v5,
    Cert.MergeFwdRefIdeal.Read.val_main_v6, Cert.MergeFwdRefIdeal.Read.val_main_v7,
    Cert.MergeFwdRefIdeal.Read.val_main_v8, Cert.MergeFwdRefIdeal.Read.val_main_v9,
    Cert.MergeFwdRefIdeal.Read.val_main_v10, Cert.MergeFwdRefIdeal.Read.val_main_v11,
    Cert.MergeFwdRefIdeal.Read.val_main_v12, Cert.MergeFwdRefIdeal.Read.val_main_v13,
    Cert.MergeFwdRefIdeal.Read.val_main_v14, Cert.MergeFwdRefIdeal.Read.val_main_v15,
    Cert.MergeFwdRefIdeal.Read.val_main_v16, Cert.MergeFwdRefIdeal.Read.val_main_v17,
    Cert.MergeFwdRefIdeal.Read.val_main_v18, Cert.MergeFwdRefIdeal.Read.val_main_v19,
    Cert.MergeFwdRefIdeal.Read.val_main_v20, Cert.MergeFwdRefIdeal.Read.val_main_v21,
    Cert.MergeFwdRefIdeal.Read.val_main_v22, Cert.MergeFwdRefIdeal.Read.val_main_v23,
    Cert.MergeFwdRefIdeal.Read.val_main_cst, Cert.MergeFwdRefIdeal.Read.val_main_v24,
    Cert.MergeFwdRefIdeal.Read.val_main_v25, Cert.MergeFwdRefIdeal.Read.val_main_cst_0,
    Cert.MergeFwdRefIdeal.Read.val_main_v26, Cert.MergeFwdRefIdeal.Read.val_main_v27,
    Cert.MergeFwdRefIdeal.Read.val_main_v28, Cert.MergeFwdRefIdeal.Read.val_main_cst_1,
    Cert.MergeFwdRefIdeal.Read.val_main_v29, Cert.MergeFwdRefIdeal.Read.val_main_v30,
    Cert.MergeFwdRefIdeal.Read.val_main_v31, Cert.MergeFwdRefIdeal.Read.val_main_v32,
    Cert.MergeFwdRefIdeal.Read.val_main_cst_2, Cert.MergeFwdRefIdeal.Read.val_main_v33,
    Cert.MergeFwdRefIdeal.Read.val_main_v34, Cert.MergeFwdRefIdeal.Read.val_main_cst_3,
    Cert.MergeFwdRefIdeal.Read.val_main_v35, Cert.MergeFwdRefIdeal.Read.val_main_v36,
    Cert.MergeFwdRefIdeal.Read.val_main_v37, Cert.MergeFwdRefIdeal.Read.val_main_v38,
    Cert.MergeFwdRefIdeal.Read.val_main_v39, Cert.MergeFwdRefIdeal.Read.val_main_v40,
    Cert.MergeFwdRefIdeal.Read.val_main_cst_4, Cert.MergeFwdRefIdeal.Read.val_main_v41,
    Cert.MergeFwdRefIdeal.Read.val_main_v42, Cert.MergeFwdRefIdeal.Read.val_main_cst_5,
    Cert.MergeFwdRefIdeal.Read.val_main_v43, Cert.MergeFwdRefIdeal.Read.val_main_v44,
    Cert.MergeFwdRefIdeal.Read.val_main_v45, Cert.MergeFwdRefIdeal.Read.val_main_v46,
    Cert.MergeFwdRefIdeal.Read.val_main_v47, Cert.MergeFwdRefIdeal.Read.val_main_v48,
    Cert.MergeFwdRefIdeal.Read.val_main_v49, Cert.MergeFwdRefIdeal.Read.val_main_cst_6,
    Cert.MergeFwdRefIdeal.Read.val_main_v50, Cert.MergeFwdRefIdeal.Read.val_main_v51,
    Cert.MergeFwdRefIdeal.Read.val_main_cst_7, Cert.MergeFwdRefIdeal.Read.val_main_v52,
    Cert.MergeFwdRefIdeal.Read.val_main_v53, Cert.MergeFwdRefIdeal.Read.val_main_v54,
    Cert.MergeFwdRefIdeal.Read.val_main_v55, Cert.MergeFwdRefIdeal.Read.val_main_cst_8,
    Cert.MergeFwdRefIdeal.Read.val_main_v56, Cert.MergeFwdRefIdeal.Read.val_main_v57,
    Cert.MergeFwdRefIdeal.Read.val_main_cst_9, Cert.MergeFwdRefIdeal.Read.val_main_v58,
    Cert.MergeFwdRefIdeal.Read.val_main_v59, Cert.MergeFwdRefIdeal.Read.val_main_v60,
    Cert.MergeFwdRefIdeal.Read.val_main_v61, Cert.MergeFwdRefIdeal.Read.val_main_cst_10,
    Cert.MergeFwdRefIdeal.Read.val_main_v62, Cert.MergeFwdRefIdeal.Read.val_main_v63,
    Cert.MergeFwdRefIdeal.Read.val_main_cst_11, Cert.MergeFwdRefIdeal.Read.val_main_v64,
    Cert.MergeFwdRefIdeal.Read.val_main_v65, Cert.MergeFwdRefIdeal.Read.val_main_v66,
    Cert.MergeFwdRefIdeal.Read.val_main_v67, Cert.MergeFwdRefIdeal.Read.val_main_v68,
    Cert.MergeFwdRefIdeal.Read.val_main_v69, Cert.MergeFwdRefIdeal.Read.val_main_v70,
    Cert.MergeFwdRefIdeal.Read.val_main_v71, Cert.MergeFwdRefIdeal.Read.val_main_v72,
    Cert.MergeFwdRefIdeal.Read.val_main_v73, Cert.MergeFwdRefIdeal.Read.val_main_v74,
    Cert.MergeFwdRefIdeal.Read.val_main_v75]
  fin_vals b with hb
  all_goals simp only [hb, Nat.reduceSub, Nat.reduceLT, ↓reduceDIte]
  · obtain rfl : b = 0 := Fin.ext hb
    rfl
  · obtain rfl : b = 1 := Fin.ext hb
    rfl
  · obtain rfl : b = 2 := Fin.ext hb
    rfl

/-- The third result holds the branch products. -/
theorem ref_branch (y0 y1 y2 : BufTy.Contents (Elt Ideal) ⟨S8192x512, .bf16⟩) (wb : BufTy.Contents (Elt Ideal) ⟨S3x512x1024, .f32⟩) (b r d) :
    Cert.MergeFwdRefIdeal.Read.val_main_v75 (F := Ideal) y0 y1 y2 wb (ix3 b r d) = branch (if b = 0 then y0 else if b = 1 then y1 else y2) wb b r d := by
  pointwise [Cert.MergeFwdRefIdeal.Read.val_main_v0, Cert.MergeFwdRefIdeal.Read.val_main_v1,
    Cert.MergeFwdRefIdeal.Read.val_main_v2, Cert.MergeFwdRefIdeal.Read.val_main_v3,
    Cert.MergeFwdRefIdeal.Read.val_main_v4, Cert.MergeFwdRefIdeal.Read.val_main_v5,
    Cert.MergeFwdRefIdeal.Read.val_main_v6, Cert.MergeFwdRefIdeal.Read.val_main_v7,
    Cert.MergeFwdRefIdeal.Read.val_main_v8, Cert.MergeFwdRefIdeal.Read.val_main_v9,
    Cert.MergeFwdRefIdeal.Read.val_main_v10, Cert.MergeFwdRefIdeal.Read.val_main_v11,
    Cert.MergeFwdRefIdeal.Read.val_main_v12, Cert.MergeFwdRefIdeal.Read.val_main_v13,
    Cert.MergeFwdRefIdeal.Read.val_main_v14, Cert.MergeFwdRefIdeal.Read.val_main_v15,
    Cert.MergeFwdRefIdeal.Read.val_main_v16, Cert.MergeFwdRefIdeal.Read.val_main_v17,
    Cert.MergeFwdRefIdeal.Read.val_main_v18, Cert.MergeFwdRefIdeal.Read.val_main_v19,
    Cert.MergeFwdRefIdeal.Read.val_main_v20, Cert.MergeFwdRefIdeal.Read.val_main_v21,
    Cert.MergeFwdRefIdeal.Read.val_main_v22, Cert.MergeFwdRefIdeal.Read.val_main_v23,
    Cert.MergeFwdRefIdeal.Read.val_main_cst, Cert.MergeFwdRefIdeal.Read.val_main_v24,
    Cert.MergeFwdRefIdeal.Read.val_main_v25, Cert.MergeFwdRefIdeal.Read.val_main_cst_0,
    Cert.MergeFwdRefIdeal.Read.val_main_v26, Cert.MergeFwdRefIdeal.Read.val_main_v27,
    Cert.MergeFwdRefIdeal.Read.val_main_v28, Cert.MergeFwdRefIdeal.Read.val_main_cst_1,
    Cert.MergeFwdRefIdeal.Read.val_main_v29, Cert.MergeFwdRefIdeal.Read.val_main_v30,
    Cert.MergeFwdRefIdeal.Read.val_main_v31, Cert.MergeFwdRefIdeal.Read.val_main_v32,
    Cert.MergeFwdRefIdeal.Read.val_main_cst_2, Cert.MergeFwdRefIdeal.Read.val_main_v33,
    Cert.MergeFwdRefIdeal.Read.val_main_v34, Cert.MergeFwdRefIdeal.Read.val_main_cst_3,
    Cert.MergeFwdRefIdeal.Read.val_main_v35, Cert.MergeFwdRefIdeal.Read.val_main_v36,
    Cert.MergeFwdRefIdeal.Read.val_main_v37, Cert.MergeFwdRefIdeal.Read.val_main_v38,
    Cert.MergeFwdRefIdeal.Read.val_main_v39, Cert.MergeFwdRefIdeal.Read.val_main_v40,
    Cert.MergeFwdRefIdeal.Read.val_main_cst_4, Cert.MergeFwdRefIdeal.Read.val_main_v41,
    Cert.MergeFwdRefIdeal.Read.val_main_v42, Cert.MergeFwdRefIdeal.Read.val_main_cst_5,
    Cert.MergeFwdRefIdeal.Read.val_main_v43, Cert.MergeFwdRefIdeal.Read.val_main_v44,
    Cert.MergeFwdRefIdeal.Read.val_main_v45, Cert.MergeFwdRefIdeal.Read.val_main_v46,
    Cert.MergeFwdRefIdeal.Read.val_main_v47, Cert.MergeFwdRefIdeal.Read.val_main_v48,
    Cert.MergeFwdRefIdeal.Read.val_main_v49, Cert.MergeFwdRefIdeal.Read.val_main_cst_6,
    Cert.MergeFwdRefIdeal.Read.val_main_v50, Cert.MergeFwdRefIdeal.Read.val_main_v51,
    Cert.MergeFwdRefIdeal.Read.val_main_cst_7, Cert.MergeFwdRefIdeal.Read.val_main_v52,
    Cert.MergeFwdRefIdeal.Read.val_main_v53, Cert.MergeFwdRefIdeal.Read.val_main_v54,
    Cert.MergeFwdRefIdeal.Read.val_main_v55, Cert.MergeFwdRefIdeal.Read.val_main_cst_8,
    Cert.MergeFwdRefIdeal.Read.val_main_v56, Cert.MergeFwdRefIdeal.Read.val_main_v57,
    Cert.MergeFwdRefIdeal.Read.val_main_cst_9, Cert.MergeFwdRefIdeal.Read.val_main_v58,
    Cert.MergeFwdRefIdeal.Read.val_main_v59, Cert.MergeFwdRefIdeal.Read.val_main_v60,
    Cert.MergeFwdRefIdeal.Read.val_main_v61, Cert.MergeFwdRefIdeal.Read.val_main_cst_10,
    Cert.MergeFwdRefIdeal.Read.val_main_v62, Cert.MergeFwdRefIdeal.Read.val_main_v63,
    Cert.MergeFwdRefIdeal.Read.val_main_cst_11, Cert.MergeFwdRefIdeal.Read.val_main_v64,
    Cert.MergeFwdRefIdeal.Read.val_main_v65, Cert.MergeFwdRefIdeal.Read.val_main_v66,
    Cert.MergeFwdRefIdeal.Read.val_main_v67, Cert.MergeFwdRefIdeal.Read.val_main_v68,
    Cert.MergeFwdRefIdeal.Read.val_main_v69, Cert.MergeFwdRefIdeal.Read.val_main_v70,
    Cert.MergeFwdRefIdeal.Read.val_main_v71, Cert.MergeFwdRefIdeal.Read.val_main_v72,
    Cert.MergeFwdRefIdeal.Read.val_main_v73, Cert.MergeFwdRefIdeal.Read.val_main_v74,
    Cert.MergeFwdRefIdeal.Read.val_main_v75]
  fin_vals b with hb
  all_goals simp only [hb, Nat.reduceSub, Nat.reduceLT, ↓reduceDIte]
  · obtain rfl : b = 0 := Fin.ext hb
    rfl
  · obtain rfl : b = 1 := Fin.ext hb
    rfl
  · obtain rfl : b = 2 := Fin.ext hb
    rfl

/-! ## What the host hands to the kernel -/

/-- The gate matrices reach the kernel unchanged. -/
theorem V_wgate (c : Dev nD) (b r d) : V m c main_v0 (ix3 b r d) = m (c.tc.loc main_arg4) (ix3 b r d) := by
  unfold_abbrev_sides
  after_results
  pointwise

/-- The branch matrices reach the kernel with rows and columns exchanged. -/
theorem V_wbranch (c : Dev nD) (b r d) : V m c main_v2 (ix3 b r d) = m (c.tc.loc main_arg5) (ix3 b d r) := by
  unfold_abbrev_sides
  after_results
  pointwise

/-! ## Which part of its array each block is -/

/-- Which block of its array each window takes at a grid point. -/
theorem idx : ∀ t : Fin grid0.N,
    win0_0.index t = ![t.val, 0] ∧ win0_1.index t = ![t.val, 0] ∧ win0_2.index t = ![t.val, 0] ∧ win0_3.index t = ![t.val, 0] ∧
    win0_4.index t = ![0, 0, 0] ∧ win0_5.index t = ![0, 0, 0] ∧ win0_6.index t = ![t.val, 0] ∧
    win0_7.index t = ![0, t.val, 0] ∧ win0_8.index t = ![0, t.val, 0] := by
  decide +kernel

/-- Row `r` of the block of grid point `t`, as a row of the whole array. -/
def row (t : Fin grid0.N) (r : Fin 512) : Fin 8192 := ⟨t.val * 512 + r.val, by
  have : t.val < 16 := lt_of_lt_of_eq t.isLt N_0
  omega⟩

/-- A grid point's block of the normalised input is its 512 rows. -/
theorem blk0 (c : Dev nD) (t : Fin cfg0.N) (r : Fin 512) (d : Fin 1024) :
    iblk m c 0 t (ix2 r d) = m (c.tc.loc main_arg0) (ix2 (row t r) d) := by
  blk_point [iblk, V, idx t, row]

/-- A grid point's blocks of the three branches are their 512 rows. -/
theorem blk1 (c : Dev nD) (t : Fin cfg0.N) (r : Fin 512) (d : Fin 512) :
    iblk m c 1 t (ix2 r d) = m (c.tc.loc main_arg1) (ix2 (row t r) d) := by
  blk_point [iblk, V, idx t, row]

theorem blk2 (c : Dev nD) (t : Fin cfg0.N) (r : Fin 512) (d : Fin 512) :
    iblk m c 2 t (ix2 r d) = m (c.tc.loc main_arg2) (ix2 (row t r) d) := by
  blk_point [iblk, V, idx t, row]

theorem blk3 (c : Dev nD) (t : Fin cfg0.N) (r : Fin 512) (d : Fin 512) :
    iblk m c 3 t (ix2 r d) = m (c.tc.loc main_arg3) (ix2 (row t r) d) := by
  blk_point [iblk, V, idx t, row]

/-- Every grid point reads the gate matrices whole. -/
theorem blk4 (c : Dev nD) (t : Fin cfg0.N) (b : Fin 3) (r : Fin 1024) (d : Fin 1024) :
    iblk m c 4 t (ix3 b r d) = m (c.tc.loc main_arg4) (ix3 b r d) := by
  rw [← V_wgate m]
  blk_point [iblk, idx t]

/-- Every grid point reads the exchanged branch matrices whole. -/
theorem blk5 (c : Dev nD) (t : Fin cfg0.N) (b : Fin 3) (r : Fin 1024) (d : Fin 512) :
    iblk m c 5 t (ix3 b r d) = m (c.tc.loc main_arg5) (ix3 b d r) := by
  rw [← V_wbranch m]
  blk_point [iblk, idx t]

/-! ## The kernel's three arrays -/

set_option maxHeartbeats 1000000 in
/-- The kernel's array of gates is the reference's. -/
theorem arr_gate (c : Dev nD) : (dats m 0 c).arrAt 7 cfg0.N =
    Cert.MergeFwdRefIdeal.Read.val_main_v70 (F := Ideal) (m (c.tc.loc main_arg0)) (m (c.tc.loc main_arg4)) := by
  refine (dats m 0 c).arrAt_eq_of_covers 7 _ (by decide +kernel) fun t hf y => ?_
  blk_simp
  rw [after0_7]
  frame_out
  canon_tiles x h
  all_goals idx_vars x
  all_goals pointwise [k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  · have e : ((View.whole main_v3_1).slice (win0_7.rect t)).emb y = ix3 2 (row t x1) x2 := by
      blk_ext [idx t, row]
    rw [e, ref_gate]
    unfold gate
    simp only [blk0, blk4, zero_sub]
  · have e : ((View.whole main_v3_1).slice (win0_7.rect t)).emb y = ix3 1 (row t x1) x2 := by
      blk_ext [idx t, row]
    rw [e, ref_gate]
    unfold gate
    simp only [blk0, blk4, zero_sub]
  · have e : ((View.whole main_v3_1).slice (win0_7.rect t)).emb y = ix3 0 (row t x1) x2 := by
      blk_ext [idx t, row]
    rw [e, ref_gate]
    unfold gate
    simp only [blk0, blk4, zero_sub]

set_option maxHeartbeats 1000000 in
/-- The kernel's array of branch products is the reference's. -/
theorem arr_branch (c : Dev nD) : (dats m 0 c).arrAt 8 cfg0.N =
    Cert.MergeFwdRefIdeal.Read.val_main_v75 (F := Ideal) (m (c.tc.loc main_arg1)) (m (c.tc.loc main_arg2)) (m (c.tc.loc main_arg3))
      (m (c.tc.loc main_arg5)) := by
  refine (dats m 0 c).arrAt_eq_of_covers 8 _ (by decide +kernel) fun t hf y => ?_
  blk_simp
  rw [after0_8]
  frame_out
  canon_tiles x h
  all_goals idx_vars x
  all_goals pointwise [k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  · have e : ((View.whole main_v3_2).slice (win0_8.rect t)).emb y = ix3 2 (row t x1) x2 := by
      blk_ext [idx t, row]
    rw [e, ref_branch]
    unfold branch
    change @Eq EReal _ _
    exact Finset.sum_congr rfl fun k _ => by rw [blk3, blk5]; rfl
  · have e : ((View.whole main_v3_2).slice (win0_8.rect t)).emb y = ix3 1 (row t x1) x2 := by
      blk_ext [idx t, row]
    rw [e, ref_branch]
    unfold branch
    change @Eq EReal _ _
    exact Finset.sum_congr rfl fun k _ => by rw [blk2, blk5]; rfl
  · have e : ((View.whole main_v3_2).slice (win0_8.rect t)).emb y = ix3 0 (row t x1) x2 := by
      blk_ext [idx t, row]
    rw [e, ref_branch]
    unfold branch
    change @Eq EReal _ _
    exact Finset.sum_congr rfl fun k _ => by rw [blk1, blk5]; rfl

set_option maxHeartbeats 1000000 in
/-- The kernel's array of merged rows is the reference's. -/
theorem arr_merged (c : Dev nD) : (dats m 0 c).arrAt 6 cfg0.N =
    Cert.MergeFwdRefIdeal.Read.val_main_v47 (F := Ideal) (m (c.tc.loc main_arg0)) (m (c.tc.loc main_arg1)) (m (c.tc.loc main_arg2)) (m (c.tc.loc main_arg3))
      (m (c.tc.loc main_arg4)) (m (c.tc.loc main_arg5)) := by
  refine (dats m 0 c).arrAt_eq_of_covers 6 _ (by decide +kernel) fun t hf y => ?_
  blk_simp
  rw [after0_6]
  change S512x1024.Idx at y
  idx_vars y
  have e : ((View.whole main_v3_0).slice (win0_6.rect t)).emb (ix2 y0 y1) = ix2 (row t y0) y1 := by
    blk_ext [idx t, row]
  rw [e, ref_merged]
  frame_out
  pointwise [k0_pay20, k0_pay19, k0_pay18, k0_pay17, k0_pay16, k0_pay15, k0_pay14, k0_pay13, k0_pay12, k0_pay11, k0_pay10, k0_pay9, k0_pay8, k0_pay7, k0_pay6, k0_pay5, k0_pay4, k0_pay3, k0_pay2, k0_pay1]
  unfold gate branch
  simp only [blk0, blk1, blk2, blk3, blk4, blk5, zero_sub]

end Cert.MergeFwd
-- ==== Proof.MergeFwdClaim.lean ====
module

public import proofs.«01_k».proof.Defs
public import proofs.«01_k».proof.Proof.MergeFwd
public import proofs.«01_k».proof.Proof.Gen.MergeFwdRefIdeal.Run
public import Idealize.ShloMosaic.Lib.Claim
public import Idealize.ShloMosaic.Init

@[expose] public section

noncomputable section

namespace Cert.MergeFwd

open Idealize.ShloMosaic Idealize.SL.Sem

set_option maxRecDepth 65536 in
/-- The forward kernel of the gated merge leaves the merged rows, the gates and the branch products. -/
theorem algebraic : Cert.algebraic_MergeFwdIdeal_MergeFwdRefIdeal
    (hMergeFwdIdeal := Cert.MergeFwdIdeal.Gen.facts) (hMergeFwdRefIdeal := Cert.MergeFwdRefIdeal.Gen.facts) := by
  pair_intro
  · run_from Cert.MergeFwdIdeal.Value.run_blocks m g
  · run_from Cert.MergeFwdRefIdeal.Value.run m' g'
    all_goals obtain ⟨h0, h1, h2, h3, h4, h5⟩ := hagree c
    · rw [Cert.MergeFwdRefIdeal.Read.val_main_v47_eq]
      try rw [h0]
      try rw [h1]
      try rw [h2]
      try rw [h3]
      try rw [h4]
      try rw [h5]
      exact (arr_merged m c).symm
    · rw [Cert.MergeFwdRefIdeal.Read.val_main_v70_eq]
      try rw [h0]
      try rw [h4]
      exact (arr_gate m c).symm
    · rw [Cert.MergeFwdRefIdeal.Read.val_main_v75_eq]
      try rw [h1]
      try rw [h2]
      try rw [h3]
      try rw [h5]
      exact (arr_branch m c).symm

/-- The reference runs, leaves its arguments as they were, and counts nothing. -/
theorem ref_frame : Cert.quiescent_MergeFwdRefIdeal (hMergeFwdRefIdeal := Cert.MergeFwdRefIdeal.Gen.facts) := fun m ρ _ =>
  (θ_run Cert.MergeFwdRefIdeal.defs _ _).mono (fun r h => ⟨fun c => (h c).2.2.2, Idealize.ShloMosaic.sem_eq_zero_of_no_sems (by decide) r.2⟩)
    (Cert.MergeFwdRefIdeal.Value.run m ρ)

end Cert.MergeFwd

end
-- ==== Proof.Tokens.lean ====
module

public import Mathlib.Algebra.BigOperators.Fin
public import Idealize.ShloMosaic.Lib.Pipeline.ValueKit

@[expose] public section

noncomputable section

namespace Cert.Tokens

/-- A sum over all tokens is the sum of those over the four token blocks. -/
theorem sum_blocks (f : Fin 8192 → EReal) :
    (∑ r : Fin 2048, f ⟨0 * 2048 + r.val, by omega⟩) + (∑ r : Fin 2048, f ⟨1 * 2048 + r.val, by omega⟩)
      + (∑ r : Fin 2048, f ⟨2 * 2048 + r.val, by omega⟩) + (∑ r : Fin 2048, f ⟨3 * 2048 + r.val, by omega⟩) = ∑ l, f l := by
  rw [← Fin.sum_mul_add_congr (S := 4) (n := 2048) (F := fun s k => f ⟨s.val * 2048 + k.val, by omega⟩) (f := f) fun s k hl => rfl]
  simp only [Fin.sum_univ_four]
  rfl

end Cert.Tokens

end
-- ==== Proof.MergeDwg.lean ====
module

public import proofs.«01_k».proof.Proof.Gen.MergeDwgIdeal.Value
public import proofs.«01_k».proof.Proof.Gen.MergeDwgRefIdeal.Read
public import proofs.«01_k».proof.Proof.Tokens
public import Idealize.ShloMosaic.Lib.Pipeline.ValueKit
public import Idealize.ShloMosaic.Lib.Pointwise
public import Idealize.ShloMosaic.Lib.Tactic

@[expose] public section

set_option maxRecDepth 16384

noncomputable section

namespace Cert.MergeDwg

open Cert.MergeDwgIdeal Cert.MergeDwgIdeal.Gen Idealize.ShloMosaic Idealize.ShloMosaic.TcCoe Idealize.SL.Sem Idealize.ShloMosaic.StableHlo

variable (m : (ℓ : Loc nD τ sig) → Buf (Elt Ideal) ℓ)

/-- What token `l` adds to an entry of the weight's gradient. -/
def prod (a : BufTy.Contents (Elt Ideal) ⟨S8192x1024, .bf16⟩) (b : BufTy.Contents (Elt Ideal) ⟨S3x8192x1024, .bf16⟩)
    (s : Fin 3) (i : Fin 1024) (j : Fin 1024) (l : Fin 8192) : EReal :=
  @HMul.hMul EReal EReal EReal instHMul (a (ix2 l i)) (b (ix3 s l j))

/-- The gradient that the reference takes is the sum over all tokens. -/
theorem ref_eq (a : BufTy.Contents (Elt Ideal) ⟨S8192x1024, .bf16⟩) (b : BufTy.Contents (Elt Ideal) ⟨S3x8192x1024, .bf16⟩) (s : Fin 3) (i : Fin 1024) (j : Fin 1024) :
    Cert.MergeDwgRefIdeal.Read.val_main_v8 (F := Ideal) a b (ix3 s i j) = ∑ l : Fin 8192, prod a b s i j l := by
  pointwise [Cert.MergeDwgRefIdeal.Read.val_main_cst, Cert.MergeDwgRefIdeal.Read.val_main_v0,
    Cert.MergeDwgRefIdeal.Read.val_main_v1, Cert.MergeDwgRefIdeal.Read.val_main_v2,
    Cert.MergeDwgRefIdeal.Read.val_main_v3, Cert.MergeDwgRefIdeal.Read.val_main_v4,
    Cert.MergeDwgRefIdeal.Read.val_main_v5, Cert.MergeDwgRefIdeal.Read.val_main_v6,
    Cert.MergeDwgRefIdeal.Read.val_main_v7, Cert.MergeDwgRefIdeal.Read.val_main_v8]
  exact Finset.sum_congr rfl fun l _ => mul_comm _ _

/-- The block indices of the windows at each grid point. -/
theorem idx : ∀ t : Fin grid0.N,
    win0_0.index t = ![t.val % 4, 0] ∧ win0_1.index t = ![t.val / 4, t.val % 4, 0] ∧ win0_2.index t = ![t.val / 4, 0, 0] := by
  decide +kernel

/-- Row `r` of the token block of grid point `t`, as a token. -/
def row (t : Fin grid0.N) (r : Fin 2048) : Fin 8192 := ⟨t.val % 4 * 2048 + r.val, by omega⟩

/-- The slice that grid point `t` works on. -/
def slice (t : Fin grid0.N) : Fin 3 := ⟨t.val / 4, by
  have : t.val < 12 := lt_of_lt_of_eq t.isLt N_0
  omega⟩

theorem blk0 (c : Dev nD) (t : Fin cfg0.N) (r : Fin 2048) (i : Fin 1024) :
    iblk m c 0 t (ix2 r i) = m (c.tc.loc main_arg0) (ix2 (row t r) i) := by
  blk_point [iblk, V, idx t, row, slice]

theorem blk1 (c : Dev nD) (t : Fin cfg0.N) (r : Fin 2048) (j : Fin 1024) :
    iblk m c 1 t (ix3 0 r j) = m (c.tc.loc main_arg1) (ix3 (slice t) (row t r) j) := by
  blk_point [iblk, V, idx t, row, slice]

/-- What one grid point adds: the sum over its own tokens. -/
def term (c : Dev nD) (t : Fin cfg0.N) (i : Fin 1024) (j : Fin 1024) : EReal :=
  ∑ r : Fin 2048, prod (m (c.tc.loc main_arg0)) (m (c.tc.loc main_arg1)) (slice t) i j (row t r)

/-- The first token block leaves its own sum in the accumulator. -/
theorem first_point (c : Dev nD) (t : Fin cfg0.N) (h : t.val % 4 = 0) (i j) :
    (outsAt0 m c t.val t.isLt).2 (ix2 i j) = term m c t i j := by
  rw [outsAt0_A m c t h (by omega) (by omega)]
  frame_out
  pointwise [k0_pay2, k0_pay1]
  exact Finset.sum_congr rfl fun r _ => by rw [blk0, blk1]; rfl

/-- A middle token block adds its own sum. -/
theorem next_point (c : Dev nD) (t : Fin cfg0.N) (h : 1 ≤ t.val % 4 ∧ t.val % 4 ≤ 2) (i j) :
    (outsAt0 m c t.val t.isLt).2 (ix2 i j) = @HAdd.hAdd EReal EReal EReal instHAdd ((outsAt0 m c (t.val - 1) (by omega)).2 (ix2 i j)) (term m c t i j) := by
  rw [outsAt0_B m c t (by omega) h (by omega)]
  frame_out
  pointwise [k0_pay3, k0_pay1]
  exact congrArg₂ (· + ·) (congrFun (Memref.IsWhole.read_unread (Val := Elt Ideal) _ _) _) (Finset.sum_congr rfl fun r _ => by rw [blk0, blk1]; rfl)

/-- The last token block writes the accumulator plus its own sum. -/
theorem last_point (c : Dev nD) (t : Fin cfg0.N) (h : t.val % 4 = 3) (i j) :
    (outsAt0 m c t.val t.isLt).1 (ix3 0 i j) = @HAdd.hAdd EReal EReal EReal instHAdd ((outsAt0 m c (t.val - 1) (by omega)).2 (ix2 i j)) (term m c t i j) := by
  rw [outsAt0_C m c t (by omega) (by omega) h]
  frame_out
  pointwise [k0_pay4, k0_pay1]
  exact congrArg₂ (· + ·) (congrFun (Memref.IsWhole.read_unread (Val := Elt Ideal) _ _) _) (Finset.sum_congr rfl fun r _ => by rw [blk0, blk1]; rfl)

/-- The kernel's array is the reference's. -/
theorem arr (c : Dev nD) : (dats m 0 c).arrAt 2 cfg0.N =
    Cert.MergeDwgRefIdeal.Read.val_main_v8 (F := Ideal) (m (c.tc.loc main_arg0)) (m (c.tc.loc main_arg1)) := by
  refine (dats m 0 c).arrAt_eq_of_covers 2 _ (by decide +kernel) fun t hf y => ?_
  have hN : t.val < 12 := lt_of_lt_of_eq t.isLt N_0
  have hlt : t.val < cfg0.N := t.isLt
  have ht : t.val % 4 = 3 := (flush0_2 t).mp hf
  blk_simp
  rw [after0_2]
  change S1x1024x1024.Idx at y
  idx_vars y
  obtain rfl : y0 = 0 := Subsingleton.elim _ _
  have e : ((View.whole main_v0).slice (win0_2.rect t)).emb (ix3 0 y1 y2) = ix3 (slice t) y1 y2 := by
    blk_ext [idx t, slice]
  rw [e, ref_eq, last_point m c t ht]
  have h2 := next_point m c ⟨t.val - 1, by omega⟩ ⟨by simp only; omega, by simp only; omega⟩ y1 y2
  have h1 := next_point m c ⟨t.val - 1 - 1, by omega⟩ ⟨by simp only; omega, by simp only; omega⟩ y1 y2
  have h0 := first_point m c ⟨t.val - 1 - 1 - 1, by omega⟩ (by simp only; omega) y1 y2
  simp only at h0 h1 h2
  rw [h2, h1, h0, ← Cert.Tokens.sum_blocks]
  have ec : ∀ s : Fin grid0.N, s.val / 4 = t.val / 4 → slice s = slice t := fun s hs => by
    apply Fin.ext
    simp only [slice, hs]
  have er : ∀ (s : Fin grid0.N) (q : ℕ) (hq : q < 4), s.val % 4 = q → ∀ r : Fin 2048, row s r = ⟨q * 2048 + r.val, by omega⟩ := fun s q hq hs r => by
    apply Fin.ext
    simp only [row, hs]
  unfold term
  have b1 : t.val - 1 < grid0.N := by have : t.val < grid0.N := t.isLt; omega
  have b2 : t.val - 1 - 1 < grid0.N := by omega
  have b3 : t.val - 1 - 1 - 1 < grid0.N := by omega
  simp only [er ⟨t.val - 1 - 1 - 1, b3⟩ 0 (by omega) (by simp only; omega), er ⟨t.val - 1 - 1, b2⟩ 1 (by omega) (by simp only; omega),
    er ⟨t.val - 1, b1⟩ 2 (by omega) (by simp only; omega), er t 3 (by omega) ht,
    ec ⟨t.val - 1 - 1 - 1, b3⟩ (by simp only; omega), ec ⟨t.val - 1 - 1, b2⟩ (by simp only; omega), ec ⟨t.val - 1, b1⟩ (by simp only; omega)]

end Cert.MergeDwg
-- ==== Proof.MergeDwgClaim.lean ====
module

public import proofs.«01_k».proof.Defs
public import proofs.«01_k».proof.Proof.MergeDwg
public import proofs.«01_k».proof.Proof.Gen.MergeDwgRefIdeal.Run
public import Idealize.ShloMosaic.Lib.Claim
public import Idealize.ShloMosaic.Init

@[expose] public section

noncomputable section

namespace Cert.MergeDwg

open Idealize.ShloMosaic Idealize.SL.Sem

set_option maxRecDepth 65536 in
/-- The kernel of the gate matrices' gradient leaves the array that the gradient of the gates' products leaves. -/
theorem algebraic : Cert.algebraic_MergeDwgIdeal_MergeDwgRefIdeal
    (hMergeDwgIdeal := Cert.MergeDwgIdeal.Gen.facts) (hMergeDwgRefIdeal := Cert.MergeDwgRefIdeal.Gen.facts) := by
  pair_intro
  · run_from Cert.MergeDwgIdeal.Value.run_blocks m g
  · run_from Cert.MergeDwgRefIdeal.Value.run m' g'
    all_goals obtain ⟨h0, h1⟩ := hagree c
    · rw [Cert.MergeDwgRefIdeal.Read.val_main_v8_eq]
      try rw [h0]
      try rw [h1]
      exact (arr m c).symm

/-- The reference runs, leaves its arguments as they were, and counts nothing. -/
theorem ref_frame : Cert.quiescent_MergeDwgRefIdeal (hMergeDwgRefIdeal := Cert.MergeDwgRefIdeal.Gen.facts) := fun m ρ _ =>
  (θ_run Cert.MergeDwgRefIdeal.defs _ _).mono (fun r h => ⟨fun c => (h c).2, Idealize.ShloMosaic.sem_eq_zero_of_no_sems (by decide) r.2⟩)
    (Cert.MergeDwgRefIdeal.Value.run m ρ)

end Cert.MergeDwg

end
-- ==== Proof.MergeDwb.lean ====
module

public import proofs.«01_k».proof.Proof.Gen.MergeDwbIdeal.Value
public import proofs.«01_k».proof.Proof.Gen.MergeDwbRefIdeal.Read
public import proofs.«01_k».proof.Proof.Tokens
public import Idealize.ShloMosaic.Lib.Pipeline.ValueKit
public import Idealize.ShloMosaic.Lib.Pointwise
public import Idealize.ShloMosaic.Lib.Tactic

@[expose] public section

set_option maxRecDepth 16384

noncomputable section

namespace Cert.MergeDwb

open Cert.MergeDwbIdeal Cert.MergeDwbIdeal.Gen Idealize.ShloMosaic Idealize.ShloMosaic.TcCoe Idealize.SL.Sem Idealize.ShloMosaic.StableHlo

variable (m : (ℓ : Loc nD τ sig) → Buf (Elt Ideal) ℓ)

/-- The output of branch `s`. -/
def pick (y0 y1 y2 : BufTy.Contents (Elt Ideal) ⟨S8192x512, .bf16⟩) (s : Fin 3) : BufTy.Contents (Elt Ideal) ⟨S8192x512, .bf16⟩ :=
  if s = 0 then y0 else if s = 1 then y1 else y2

/-- What token `l` adds to an entry of the gradient of the matrix of branch `s`. -/
def prod (a : BufTy.Contents (Elt Ideal) ⟨S3x8192x1024, .bf16⟩) (y0 y1 y2 : BufTy.Contents (Elt Ideal) ⟨S8192x512, .bf16⟩)
    (s : Fin 3) (i : Fin 1024) (j : Fin 512) (l : Fin 8192) : EReal :=
  @HMul.hMul EReal EReal EReal instHMul (a (ix3 s l i)) (pick y0 y1 y2 s (ix2 l j))

/-- The gradient that the reference takes is the sum over all tokens. -/
theorem ref_eq (a : BufTy.Contents (Elt Ideal) ⟨S3x8192x1024, .bf16⟩) (y0 y1 y2 : BufTy.Contents (Elt Ideal) ⟨S8192x512, .bf16⟩)
    (s : Fin 3) (i : Fin 1024) (j : Fin 512) :
    Cert.MergeDwbRefIdeal.Read.val_main_v11 (F := Ideal) a y0 y1 y2 (ix3 s i j) = ∑ l : Fin 8192, prod a y0 y1 y2 s i j l := by
  fin_cases s
  all_goals
    pointwise [Cert.MergeDwbRefIdeal.Read.val_main_v0, Cert.MergeDwbRefIdeal.Read.val_main_v1,
    Cert.MergeDwbRefIdeal.Read.val_main_v2, Cert.MergeDwbRefIdeal.Read.val_main_v3,
    Cert.MergeDwbRefIdeal.Read.val_main_v4, Cert.MergeDwbRefIdeal.Read.val_main_cst,
    Cert.MergeDwbRefIdeal.Read.val_main_v5, Cert.MergeDwbRefIdeal.Read.val_main_v6,
    Cert.MergeDwbRefIdeal.Read.val_main_v7, Cert.MergeDwbRefIdeal.Read.val_main_v8,
    Cert.MergeDwbRefIdeal.Read.val_main_v9, Cert.MergeDwbRefIdeal.Read.val_main_v10,
    Cert.MergeDwbRefIdeal.Read.val_main_v11]
    refine Finset.sum_congr rfl fun l _ => ?_
    try rfl

/-- The block indices of the windows of the cotangent and of the result at each grid point. -/
theorem idx : ∀ t : Fin grid0.N,
    win0_0.index t = ![t.val / 4, t.val % 4, 0] ∧ win0_4.index t = ![t.val / 4, 0, 0] := by
  decide +kernel

/-- While branch 0 is worked on, its window follows the token blocks. -/
theorem idx_0 : ∀ t : Fin grid0.N, t.val < 4 → win0_1.index t = ![t.val % 4, 0] := by
  decide +kernel

/-- While branch 1 is worked on, its window follows the token blocks. -/
theorem idx_1 : ∀ t : Fin grid0.N, 4 ≤ t.val ∧ t.val < 8 → win0_2.index t = ![t.val % 4, 0] := by
  decide +kernel

/-- While branch 2 is worked on, its window follows the token blocks. -/
theorem idx_2 : ∀ t : Fin grid0.N, 8 ≤ t.val → win0_3.index t = ![t.val % 4, 0] := by
  decide +kernel

/-- Row `r` of the token block of grid point `t`, as a token. -/
def row (t : Fin grid0.N) (r : Fin 2048) : Fin 8192 := ⟨t.val % 4 * 2048 + r.val, by omega⟩

/-- The branch that grid point `t` works on. -/
def slice (t : Fin grid0.N) : Fin 3 := ⟨t.val / 4, by
  have : t.val < 12 := lt_of_lt_of_eq t.isLt N_0
  omega⟩

theorem blk0 (c : Dev nD) (t : Fin cfg0.N) (r : Fin 2048) (i : Fin 1024) :
    iblk m c 0 t (ix3 0 r i) = m (c.tc.loc main_arg0) (ix3 (slice t) (row t r) i) := by
  blk_point [iblk, V, idx t, row, slice]

theorem blk1 (c : Dev nD) (t : Fin cfg0.N) (h : t.val < 4) (r : Fin 2048) (j : Fin 512) :
    iblk m c 1 t (ix2 r j) = m (c.tc.loc main_arg1) (ix2 (row t r) j) := by
  blk_point [iblk, V, idx_0 t h, row]

/-- The branch that the grid point works on is then branch 0. -/
theorem pick_0 (c : Dev nD) (t : Fin cfg0.N) (h : t.val < 4) :
    pick (m (c.tc.loc main_arg1)) (m (c.tc.loc main_arg2)) (m (c.tc.loc main_arg3)) (slice t) = m (c.tc.loc main_arg1) := by
  have hN : t.val < 12 := lt_of_lt_of_eq t.isLt N_0
  have e : slice t = 0 := Fin.ext (by show t.val / 4 = 0; omega)
  rw [e]
  rfl

theorem blk2 (c : Dev nD) (t : Fin cfg0.N) (h : 4 ≤ t.val ∧ t.val < 8) (r : Fin 2048) (j : Fin 512) :
    iblk m c 2 t (ix2 r j) = m (c.tc.loc main_arg2) (ix2 (row t r) j) := by
  blk_point [iblk, V, idx_1 t h, row]

/-- The branch that the grid point works on is then branch 1. -/
theorem pick_1 (c : Dev nD) (t : Fin cfg0.N) (h : 4 ≤ t.val ∧ t.val < 8) :
    pick (m (c.tc.loc main_arg1)) (m (c.tc.loc main_arg2)) (m (c.tc.loc main_arg3)) (slice t) = m (c.tc.loc main_arg2) := by
  have hN : t.val < 12 := lt_of_lt_of_eq t.isLt N_0
  have e : slice t = 1 := Fin.ext (by show t.val / 4 = 1; omega)
  rw [e]
  rfl

theorem blk3 (c : Dev nD) (t : Fin cfg0.N) (h : 8 ≤ t.val) (r : Fin 2048) (j : Fin 512) :
    iblk m c 3 t (ix2 r j) = m (c.tc.loc main_arg3) (ix2 (row t r) j) := by
  blk_point [iblk, V, idx_2 t h, row]

/-- The branch that the grid point works on is then branch 2. -/
theorem pick_2 (c : Dev nD) (t : Fin cfg0.N) (h : 8 ≤ t.val) :
    pick (m (c.tc.loc main_arg1)) (m (c.tc.loc main_arg2)) (m (c.tc.loc main_arg3)) (slice t) = m (c.tc.loc main_arg3) := by
  have hN : t.val < 12 := lt_of_lt_of_eq t.isLt N_0
  have e : slice t = 2 := Fin.ext (by show t.val / 4 = 2; omega)
  rw [e]
  rfl

/-- What one grid point adds: the sum over its own tokens. -/
def term (c : Dev nD) (t : Fin cfg0.N) (i : Fin 1024) (j : Fin 512) : EReal :=
  ∑ r : Fin 2048, prod (m (c.tc.loc main_arg0)) (m (c.tc.loc main_arg1)) (m (c.tc.loc main_arg2)) (m (c.tc.loc main_arg3)) (slice t) i j (row t r)

/-- Branch 0: the first token block leaves its own sum in the accumulator. -/
theorem first_0 (c : Dev nD) (t : Fin cfg0.N) (hs : t.val < 4) (h : t.val % 4 = 0) (i j) :
    (outsAt0 m c t.val t.isLt).2 (ix2 i j) = term m c t i j := by
  have hN : t.val < 12 := lt_of_lt_of_eq t.isLt N_0
  rw [outsAt0_A m c t (by omega) h (by omega) (by omega) (by omega) (by omega)]
  frame_out
  pointwise [k0_pay2, k0_pay1]
  exact (Finset.sum_congr rfl fun r _ => by rw [blk0, blk1 m c t hs]; unfold prod; rw [pick_0 m c t hs])

/-- Branch 0: a middle token block adds its own sum. -/
theorem next_0 (c : Dev nD) (t : Fin cfg0.N) (hs : t.val < 4) (h : 1 ≤ t.val % 4 ∧ t.val % 4 ≤ 2) (i j) :
    (outsAt0 m c t.val t.isLt).2 (ix2 i j) =
      @HAdd.hAdd EReal EReal EReal instHAdd ((outsAt0 m c (t.val - 1) (by omega)).2 (ix2 i j)) (term m c t i j) := by
  have hN : t.val < 12 := lt_of_lt_of_eq t.isLt N_0
  rw [outsAt0_B m c t (by omega) (by omega) h (by omega) (by omega) (by omega)]
  frame_out
  pointwise [k0_pay3, k0_pay1]
  exact congrArg₂ (· + ·) (congrFun (Memref.IsWhole.read_unread (Val := Elt Ideal) _ _) _)
    (Finset.sum_congr rfl fun r _ => by rw [blk0, blk1 m c t hs]; unfold prod; rw [pick_0 m c t hs])

/-- Branch 0: the last token block writes the accumulator plus its own sum. -/
theorem last_0 (c : Dev nD) (t : Fin cfg0.N) (hs : t.val < 4) (h : t.val % 4 = 3) (i j) :
    (outsAt0 m c t.val t.isLt).1 (ix3 0 i j) =
      @HAdd.hAdd EReal EReal EReal instHAdd ((outsAt0 m c (t.val - 1) (by omega)).2 (ix2 i j)) (term m c t i j) := by
  have hN : t.val < 12 := lt_of_lt_of_eq t.isLt N_0
  rw [outsAt0_C m c t (by omega) (by omega) (by omega) h (by omega) (by omega)]
  frame_out
  pointwise [k0_pay4, k0_pay1]
  exact congrArg₂ (· + ·) (congrFun (Memref.IsWhole.read_unread (Val := Elt Ideal) _ _) _)
    (Finset.sum_congr rfl fun r _ => by rw [blk0, blk1 m c t hs]; unfold prod; rw [pick_0 m c t hs])

/-- Branch 1: the first token block leaves its own sum in the accumulator. -/
theorem first_1 (c : Dev nD) (t : Fin cfg0.N) (hs : 4 ≤ t.val ∧ t.val < 8) (h : t.val % 4 = 0) (i j) :
    (outsAt0 m c t.val t.isLt).2 (ix2 i j) = term m c t i j := by
  have hN : t.val < 12 := lt_of_lt_of_eq t.isLt N_0
  rw [outsAt0_D m c t (by omega) (by omega) (by omega) h (by omega) (by omega)]
  frame_out
  pointwise [k0_pay6, k0_pay5]
  exact (Finset.sum_congr rfl fun r _ => by rw [blk0, blk2 m c t hs]; unfold prod; rw [pick_1 m c t hs])

/-- Branch 1: a middle token block adds its own sum. -/
theorem next_1 (c : Dev nD) (t : Fin cfg0.N) (hs : 4 ≤ t.val ∧ t.val < 8) (h : 1 ≤ t.val % 4 ∧ t.val % 4 ≤ 2) (i j) :
    (outsAt0 m c t.val t.isLt).2 (ix2 i j) =
      @HAdd.hAdd EReal EReal EReal instHAdd ((outsAt0 m c (t.val - 1) (by omega)).2 (ix2 i j)) (term m c t i j) := by
  have hN : t.val < 12 := lt_of_lt_of_eq t.isLt N_0
  rw [outsAt0_E m c t (by omega) (by omega) (by omega) (by omega) h (by omega)]
  frame_out
  pointwise [k0_pay7, k0_pay5]
  exact congrArg₂ (· + ·) (congrFun (Memref.IsWhole.read_unread (Val := Elt Ideal) _ _) _)
    (Finset.sum_congr rfl fun r _ => by rw [blk0, blk2 m c t hs]; unfold prod; rw [pick_1 m c t hs])

/-- Branch 1: the last token block writes the accumulator plus its own sum. -/
theorem last_1 (c : Dev nD) (t : Fin cfg0.N) (hs : 4 ≤ t.val ∧ t.val < 8) (h : t.val % 4 = 3) (i j) :
    (outsAt0 m c t.val t.isLt).1 (ix3 0 i j) =
      @HAdd.hAdd EReal EReal EReal instHAdd ((outsAt0 m c (t.val - 1) (by omega)).2 (ix2 i j)) (term m c t i j) := by
  have hN : t.val < 12 := lt_of_lt_of_eq t.isLt N_0
  rw [outsAt0_F m c t (by omega) (by omega) (by omega) (by omega) (by omega) h]
  frame_out
  pointwise [k0_pay8, k0_pay5]
  exact congrArg₂ (· + ·) (congrFun (Memref.IsWhole.read_unread (Val := Elt Ideal) _ _) _)
    (Finset.sum_congr rfl fun r _ => by rw [blk0, blk2 m c t hs]; unfold prod; rw [pick_1 m c t hs])

/-- Branch 2: the first token block leaves its own sum in the accumulator. -/
theorem first_2 (c : Dev nD) (t : Fin cfg0.N) (hs : 8 ≤ t.val) (h : t.val % 4 = 0) (i j) :
    (outsAt0 m c t.val t.isLt).2 (ix2 i j) = term m c t i j := by
  have hN : t.val < 12 := lt_of_lt_of_eq t.isLt N_0
  rw [outsAt0_G m c t (by omega) (by omega) (by omega) h (by omega) (by omega)]
  frame_out
  pointwise [k0_pay10, k0_pay9]
  exact (Finset.sum_congr rfl fun r _ => by rw [blk0, blk3 m c t hs]; unfold prod; rw [pick_2 m c t hs])

/-- Branch 2: a middle token block adds its own sum. -/
theorem next_2 (c : Dev nD) (t : Fin cfg0.N) (hs : 8 ≤ t.val) (h : 1 ≤ t.val % 4 ∧ t.val % 4 ≤ 2) (i j) :
    (outsAt0 m c t.val t.isLt).2 (ix2 i j) =
      @HAdd.hAdd EReal EReal EReal instHAdd ((outsAt0 m c (t.val - 1) (by omega)).2 (ix2 i j)) (term m c t i j) := by
  have hN : t.val < 12 := lt_of_lt_of_eq t.isLt N_0
  rw [outsAt0_H m c t (by omega) (by omega) (by omega) (by omega) h (by omega)]
  frame_out
  pointwise [k0_pay11, k0_pay9]
  exact congrArg₂ (· + ·) (congrFun (Memref.IsWhole.read_unread (Val := Elt Ideal) _ _) _)
    (Finset.sum_congr rfl fun r _ => by rw [blk0, blk3 m c t hs]; unfold prod; rw [pick_2 m c t hs])

/-- Branch 2: the last token block writes the accumulator plus its own sum. -/
theorem last_2 (c : Dev nD) (t : Fin cfg0.N) (hs : 8 ≤ t.val) (h : t.val % 4 = 3) (i j) :
    (outsAt0 m c t.val t.isLt).1 (ix3 0 i j) =
      @HAdd.hAdd EReal EReal EReal instHAdd ((outsAt0 m c (t.val - 1) (by omega)).2 (ix2 i j)) (term m c t i j) := by
  have hN : t.val < 12 := lt_of_lt_of_eq t.isLt N_0
  rw [outsAt0_I m c t (by omega) (by omega) (by omega) (by omega) (by omega) h]
  frame_out
  pointwise [k0_pay12, k0_pay9]
  exact congrArg₂ (· + ·) (congrFun (Memref.IsWhole.read_unread (Val := Elt Ideal) _ _) _)
    (Finset.sum_congr rfl fun r _ => by rw [blk0, blk3 m c t hs]; unfold prod; rw [pick_2 m c t hs])

/-- Whichever branch it works on, the first token block leaves its own sum in the accumulator. -/
theorem first_point (c : Dev nD) (t : Fin cfg0.N) (h : t.val % 4 = 0) (i j) :
    (outsAt0 m c t.val t.isLt).2 (ix2 i j) = term m c t i j := by
  have hN : t.val < 12 := lt_of_lt_of_eq t.isLt N_0
  by_cases h4 : t.val < 4
  · exact first_0 m c t h4 h i j
  by_cases h8 : t.val < 8
  · exact first_1 m c t ⟨by omega, h8⟩ h i j
  · exact first_2 m c t (by omega) h i j

/-- Whichever branch it works on, a middle token block adds its own sum. -/
theorem next_point (c : Dev nD) (t : Fin cfg0.N) (h : 1 ≤ t.val % 4 ∧ t.val % 4 ≤ 2) (i j) :
    (outsAt0 m c t.val t.isLt).2 (ix2 i j) =
      @HAdd.hAdd EReal EReal EReal instHAdd ((outsAt0 m c (t.val - 1) (by omega)).2 (ix2 i j)) (term m c t i j) := by
  have hN : t.val < 12 := lt_of_lt_of_eq t.isLt N_0
  by_cases h4 : t.val < 4
  · exact next_0 m c t h4 h i j
  by_cases h8 : t.val < 8
  · exact next_1 m c t ⟨by omega, h8⟩ h i j
  · exact next_2 m c t (by omega) h i j

/-- Whichever branch it works on, the last token block writes the accumulator plus its own sum. -/
theorem last_point (c : Dev nD) (t : Fin cfg0.N) (h : t.val % 4 = 3) (i j) :
    (outsAt0 m c t.val t.isLt).1 (ix3 0 i j) =
      @HAdd.hAdd EReal EReal EReal instHAdd ((outsAt0 m c (t.val - 1) (by omega)).2 (ix2 i j)) (term m c t i j) := by
  have hN : t.val < 12 := lt_of_lt_of_eq t.isLt N_0
  by_cases h4 : t.val < 4
  · exact last_0 m c t h4 h i j
  by_cases h8 : t.val < 8
  · exact last_1 m c t ⟨by omega, h8⟩ h i j
  · exact last_2 m c t (by omega) h i j

/-- The kernel's array is the reference's. -/
theorem arr (c : Dev nD) : (dats m 0 c).arrAt 4 cfg0.N =
    Cert.MergeDwbRefIdeal.Read.val_main_v11 (F := Ideal) (m (c.tc.loc main_arg0))
      (m (c.tc.loc main_arg1)) (m (c.tc.loc main_arg2)) (m (c.tc.loc main_arg3)) := by
  refine (dats m 0 c).arrAt_eq_of_covers 4 _ (by decide +kernel) fun t hf y => ?_
  have hN : t.val < 12 := lt_of_lt_of_eq t.isLt N_0
  have hlt : t.val < cfg0.N := t.isLt
  have ht : t.val % 4 = 3 := (flush0_4 t).mp hf
  blk_simp
  rw [after0_4]
  change S1x1024x512.Idx at y
  idx_vars y
  obtain rfl : y0 = 0 := Subsingleton.elim _ _
  have e : ((View.whole main_v0).slice (win0_4.rect t)).emb (ix3 0 y1 y2) = ix3 (slice t) y1 y2 := by
    blk_ext [idx t, slice]
  rw [e, ref_eq, last_point m c t ht]
  have h2 := next_point m c ⟨t.val - 1, by omega⟩ ⟨by simp only; omega, by simp only; omega⟩ y1 y2
  have h1 := next_point m c ⟨t.val - 1 - 1, by omega⟩ ⟨by simp only; omega, by simp only; omega⟩ y1 y2
  have h0 := first_point m c ⟨t.val - 1 - 1 - 1, by omega⟩ (by simp only; omega) y1 y2
  simp only at h0 h1 h2
  rw [h2, h1, h0, ← Cert.Tokens.sum_blocks]
  have ec : ∀ s : Fin grid0.N, s.val / 4 = t.val / 4 → slice s = slice t := fun s hs => by
    apply Fin.ext
    simp only [slice, hs]
  have er : ∀ (s : Fin grid0.N) (q : ℕ) (hq : q < 4), s.val % 4 = q → ∀ r : Fin 2048, row s r = ⟨q * 2048 + r.val, by omega⟩ := fun s q hq hs r => by
    apply Fin.ext
    simp only [row, hs]
  unfold term
  have b1 : t.val - 1 < grid0.N := by have : t.val < grid0.N := t.isLt; omega
  have b2 : t.val - 1 - 1 < grid0.N := by omega
  have b3 : t.val - 1 - 1 - 1 < grid0.N := by omega
  simp only [er ⟨t.val - 1 - 1 - 1, b3⟩ 0 (by omega) (by simp only; omega), er ⟨t.val - 1 - 1, b2⟩ 1 (by omega) (by simp only; omega),
    er ⟨t.val - 1, b1⟩ 2 (by omega) (by simp only; omega), er t 3 (by omega) ht,
    ec ⟨t.val - 1 - 1 - 1, b3⟩ (by simp only; omega), ec ⟨t.val - 1 - 1, b2⟩ (by simp only; omega), ec ⟨t.val - 1, b1⟩ (by simp only; omega)]

end Cert.MergeDwb
-- ==== Proof.MergeDwbClaim.lean ====
module

public import proofs.«01_k».proof.Defs
public import proofs.«01_k».proof.Proof.MergeDwb
public import proofs.«01_k».proof.Proof.Gen.MergeDwbRefIdeal.Run
public import Idealize.ShloMosaic.Lib.Claim
public import Idealize.ShloMosaic.Init

@[expose] public section

noncomputable section

namespace Cert.MergeDwb

open Idealize.ShloMosaic Idealize.SL.Sem

set_option maxRecDepth 65536 in
/-- The kernel of the branch matrices' gradient leaves the array that the gradient of the branch products leaves. -/
theorem algebraic : Cert.algebraic_MergeDwbIdeal_MergeDwbRefIdeal
    (hMergeDwbIdeal := Cert.MergeDwbIdeal.Gen.facts) (hMergeDwbRefIdeal := Cert.MergeDwbRefIdeal.Gen.facts) := by
  pair_intro
  · run_from Cert.MergeDwbIdeal.Value.run_blocks m g
  · run_from Cert.MergeDwbRefIdeal.Value.run m' g'
    all_goals obtain ⟨h0, h1, h2, h3⟩ := hagree c
    · rw [Cert.MergeDwbRefIdeal.Read.val_main_v11_eq]
      try rw [h0]
      try rw [h1]
      try rw [h2]
      try rw [h3]
      exact (arr m c).symm

/-- The reference runs, leaves its arguments as they were, and counts nothing. -/
theorem ref_frame : Cert.quiescent_MergeDwbRefIdeal (hMergeDwbRefIdeal := Cert.MergeDwbRefIdeal.Gen.facts) := fun m ρ _ =>
  (θ_run Cert.MergeDwbRefIdeal.defs _ _).mono (fun r h => ⟨fun c => (h c).2, Idealize.ShloMosaic.sem_eq_zero_of_no_sems (by decide) r.2⟩)
    (Cert.MergeDwbRefIdeal.Value.run m ρ)

end Cert.MergeDwb

end
-- ==== Proof.InFwd.lean ====
module

public import proofs.«01_k».proof.Proof.Gen.InFwdIdeal.Value
public import proofs.«01_k».proof.Proof.Gen.InFwdRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.InFwd

open Cert.InFwdIdeal Cert.InFwdIdeal.Gen Idealize.ShloMosaic Idealize.ShloMosaic.TcCoe Idealize.SL.Sem Idealize.ShloMosaic.StableHlo

variable (m : (ℓ : Loc nD τ sig) → Buf (Elt Ideal) ℓ)

/-- The input projection: a row of the normalised input times column `s * 512 + j` of the weight. -/
def proj (h : BufTy.Contents (Elt Ideal) ⟨S8192x1024, .bf16⟩) (w : BufTy.Contents (Elt Ideal) ⟨S1024x5120, .f32⟩)
    (s : Fin 10) (r : Fin 8192) (j : Fin 512) : EReal :=
  ∑ k : Fin 1024, @HMul.hMul EReal EReal EReal instHMul (h (ix2 r k)) (w (ix2 k ⟨s.val * 512 + j.val, by omega⟩))

/-- The reference's slices are those columns. -/
theorem ref_eq (h : BufTy.Contents (Elt Ideal) ⟨S8192x1024, .bf16⟩) (w : BufTy.Contents (Elt Ideal) ⟨S1024x5120, .f32⟩)
    (s : Fin 10) (r : Fin 8192) (j : Fin 512) :
    Cert.InFwdRefIdeal.Read.val_main_v23 (F := Ideal) h w (ix3 s r j) = proj h w s r j := by
  fin_cases s
  all_goals
    unfold proj
    pointwise [Cert.InFwdRefIdeal.Read.val_main_v0, Cert.InFwdRefIdeal.Read.val_main_v1,
    Cert.InFwdRefIdeal.Read.val_main_v2, Cert.InFwdRefIdeal.Read.val_main_v3,
    Cert.InFwdRefIdeal.Read.val_main_v4, Cert.InFwdRefIdeal.Read.val_main_v5,
    Cert.InFwdRefIdeal.Read.val_main_v6, Cert.InFwdRefIdeal.Read.val_main_v7,
    Cert.InFwdRefIdeal.Read.val_main_v8, Cert.InFwdRefIdeal.Read.val_main_v9,
    Cert.InFwdRefIdeal.Read.val_main_v10, Cert.InFwdRefIdeal.Read.val_main_v11,
    Cert.InFwdRefIdeal.Read.val_main_v12, Cert.InFwdRefIdeal.Read.val_main_v13,
    Cert.InFwdRefIdeal.Read.val_main_v14, Cert.InFwdRefIdeal.Read.val_main_v15,
    Cert.InFwdRefIdeal.Read.val_main_v16, Cert.InFwdRefIdeal.Read.val_main_v17,
    Cert.InFwdRefIdeal.Read.val_main_v18, Cert.InFwdRefIdeal.Read.val_main_v19,
    Cert.InFwdRefIdeal.Read.val_main_v20, Cert.InFwdRefIdeal.Read.val_main_v21,
    Cert.InFwdRefIdeal.Read.val_main_v22, Cert.InFwdRefIdeal.Read.val_main_v23]

/-- The weight reaches the kernel with rows and columns exchanged. -/
theorem V_w (c : Dev nD) (j : Fin 5120) (k : Fin 1024) : V m c main_v1 (ix2 j k) = m (c.tc.loc main_arg1) (ix2 k j) := by
  unfold_abbrev_sides
  after_results
  pointwise

/-- Which block of its array each window takes at a grid point. -/
theorem idx : ∀ t : Fin grid0.N,
    win0_0.index t = ![t.val / 10, 0] ∧ win0_1.index t = ![t.val % 10, 0] ∧ win0_2.index t = ![t.val % 10, t.val / 10, 0] := by
  decide +kernel

/-- Row `r` of the block of grid point `t`, as a row of the whole array. -/
def row (t : Fin grid0.N) (r : Fin 2048) : Fin 8192 := ⟨t.val / 10 * 2048 + r.val, by
  have : t.val < 40 := lt_of_lt_of_eq t.isLt N_0
  omega⟩

/-- The slice that grid point `t` writes. -/
def slice (t : Fin grid0.N) : Fin 10 := ⟨t.val % 10, by omega⟩

theorem blk0 (c : Dev nD) (t : Fin cfg0.N) (r : Fin 2048) (k : Fin 1024) :
    iblk m c 0 t (ix2 r k) = m (c.tc.loc main_arg0) (ix2 (row t r) k) := by
  blk_point [iblk, V, idx t, row]

theorem blk1 (c : Dev nD) (t : Fin cfg0.N) (j : Fin 512) (k : Fin 1024) :
    iblk m c 1 t (ix2 j k) = m (c.tc.loc main_arg1) (ix2 k ⟨(slice t).val * 512 + j.val, by omega⟩) := by
  rw [← V_w m]
  blk_point [iblk, idx t, slice]

/-- The kernel's array is the reference's. -/
theorem arr (c : Dev nD) : (dats m 0 c).arrAt 2 cfg0.N =
    Cert.InFwdRefIdeal.Read.val_main_v23 (F := Ideal) (m (c.tc.loc main_arg0)) (m (c.tc.loc main_arg1)) := by
  refine (dats m 0 c).arrAt_eq_of_covers 2 _ (by decide +kernel) fun t hf y => ?_
  blk_simp
  rw [after0_2]
  change S1x2048x512.Idx at y
  idx_vars y
  have e : ((View.whole main_v2).slice (win0_2.rect t)).emb (ix3 y0 y1 y2) = ix3 (slice t) (row t y1) y2 := by
    blk_ext [idx t, row, slice]
  rw [e, ref_eq]
  frame_out
  pointwise [k0_pay1]
  unfold proj
  change @Eq EReal _ _
  exact Finset.sum_congr rfl fun k _ => by rw [blk0, blk1]

end Cert.InFwd
-- ==== Proof.InFwdClaim.lean ====
module

public import proofs.«01_k».proof.Defs
public import proofs.«01_k».proof.Proof.InFwd
public import proofs.«01_k».proof.Proof.Gen.InFwdRefIdeal.Run
public import Idealize.ShloMosaic.Lib.Claim
public import Idealize.ShloMosaic.Init

@[expose] public section

noncomputable section

namespace Cert.InFwd

open Idealize.ShloMosaic Idealize.SL.Sem

set_option maxRecDepth 65536 in
/-- The forward kernel of the input projection leaves the ten slices of the product. -/
theorem algebraic : Cert.algebraic_InFwdIdeal_InFwdRefIdeal
    (hInFwdIdeal := Cert.InFwdIdeal.Gen.facts) (hInFwdRefIdeal := Cert.InFwdRefIdeal.Gen.facts) := by
  pair_intro
  · run_from Cert.InFwdIdeal.Value.run_blocks m g
  · run_from Cert.InFwdRefIdeal.Value.run m' g'
    all_goals obtain ⟨h0, h1⟩ := hagree c
    · rw [Cert.InFwdRefIdeal.Read.val_main_v23_eq]
      try rw [h0]
      try rw [h1]
      exact (arr m c).symm

/-- The reference runs, leaves its arguments as they were, and counts nothing. -/
theorem ref_frame : Cert.quiescent_InFwdRefIdeal (hInFwdRefIdeal := Cert.InFwdRefIdeal.Gen.facts) := fun m ρ _ =>
  (θ_run Cert.InFwdRefIdeal.defs _ _).mono (fun r h => ⟨fun c => (h c).2, Idealize.ShloMosaic.sem_eq_zero_of_no_sems (by decide) r.2⟩)
    (Cert.InFwdRefIdeal.Value.run m ρ)

end Cert.InFwd

end
-- ==== Proof.InDh.lean ====
module

public import proofs.«01_k».proof.Proof.Gen.InDhIdeal.Value
public import proofs.«01_k».proof.Proof.Gen.InDhRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.InDh

open Cert.InDhIdeal Cert.InDhIdeal.Gen Idealize.ShloMosaic Idealize.ShloMosaic.TcCoe Idealize.SL.Sem Idealize.ShloMosaic.StableHlo

variable (m : (ℓ : Loc nD τ sig) → Buf (Elt Ideal) ℓ)

/-- The weight reaches the kernel with rows and columns exchanged. -/
theorem V_w (c : Dev nD) (j : Fin 5120) (k : Fin 1024) : V m c main_v1 (ix2 j k) = m (c.tc.loc main_arg3) (ix2 k j) := by
  unfold_abbrev_sides
  after_results
  pointwise

/-- Which block of its array each window takes at a grid point. -/
theorem idx : ∀ t : Fin grid0.N,
    win0_0.index t = ![0, t.val, 0] ∧ win0_1.index t = ![0, t.val, 0] ∧ win0_2.index t = ![0, t.val, 0] ∧
    win0_3.index t = ![0, 0] ∧ win0_4.index t = ![t.val, 0] ∧ win0_5.index t = ![t.val, 0] := by
  decide +kernel

/-- Row `r` of the block of grid point `t`, as a row of the whole array. -/
def row (t : Fin grid0.N) (r : Fin 512) : Fin 8192 := ⟨t.val * 512 + r.val, by
  have : t.val < 16 := lt_of_lt_of_eq t.isLt N_0
  omega⟩

theorem blk0 (c : Dev nD) (t : Fin cfg0.N) (s : Fin 3) (r k : Fin 512) :
    iblk m c 0 t (ix3 s r k) = m (c.tc.loc main_arg0) (ix3 s (row t r) k) := by
  blk_point [iblk, V, idx t, row]

theorem blk1 (c : Dev nD) (t : Fin cfg0.N) (s : Fin 4) (r k : Fin 512) :
    iblk m c 1 t (ix3 s r k) = m (c.tc.loc main_arg1) (ix3 s (row t r) k) := by
  blk_point [iblk, V, idx t, row]

theorem blk2 (c : Dev nD) (t : Fin cfg0.N) (s : Fin 3) (r k : Fin 512) :
    iblk m c 2 t (ix3 s r k) = m (c.tc.loc main_arg2) (ix3 s (row t r) k) := by
  blk_point [iblk, V, idx t, row]

theorem blk3 (c : Dev nD) (t : Fin cfg0.N) (j : Fin 5120) (k : Fin 1024) :
    iblk m c 3 t (ix2 j k) = m (c.tc.loc main_arg3) (ix2 k j) := by
  rw [← V_w m]
  blk_point [iblk, idx t]

theorem blk4 (c : Dev nD) (t : Fin cfg0.N) (r : Fin 512) (d : Fin 1024) :
    iblk m c 4 t (ix2 r d) = m (c.tc.loc main_arg4) (ix2 (row t r) d) := by
  blk_point [iblk, V, idx t, row]

set_option maxHeartbeats 4000000 in
/-- The kernel's array is the reference's. -/
theorem arr (c : Dev nD) : (dats m 0 c).arrAt 5 cfg0.N =
    Cert.InDhRefIdeal.Read.val_main_v44 (F := Ideal) (m (c.tc.loc main_arg0)) (m (c.tc.loc main_arg1))
      (m (c.tc.loc main_arg2)) (m (c.tc.loc main_arg3)) (m (c.tc.loc main_arg4)) := by
  refine (dats m 0 c).arrAt_eq_of_covers 5 _ (by decide +kernel) fun t hf y => ?_
  blk_simp
  rw [after0_5]
  change S512x1024.Idx at y
  idx_vars y
  have e : ((View.whole main_v2).slice (win0_5.rect t)).emb (ix2 y0 y1) = ix2 (row t y0) y1 := by
    blk_ext [idx t, row]
  rw [e]
  frame_out
  pointwise [k0_pay1, k0_pay2, k0_pay3, Cert.InDhRefIdeal.Read.val_main_v0, Cert.InDhRefIdeal.Read.val_main_v1,
    Cert.InDhRefIdeal.Read.val_main_v2, Cert.InDhRefIdeal.Read.val_main_v3,
    Cert.InDhRefIdeal.Read.val_main_v4, Cert.InDhRefIdeal.Read.val_main_v5,
    Cert.InDhRefIdeal.Read.val_main_v6, Cert.InDhRefIdeal.Read.val_main_v7,
    Cert.InDhRefIdeal.Read.val_main_v8, Cert.InDhRefIdeal.Read.val_main_v9,
    Cert.InDhRefIdeal.Read.val_main_v10, Cert.InDhRefIdeal.Read.val_main_v11,
    Cert.InDhRefIdeal.Read.val_main_v12, Cert.InDhRefIdeal.Read.val_main_v13,
    Cert.InDhRefIdeal.Read.val_main_v14, Cert.InDhRefIdeal.Read.val_main_v15,
    Cert.InDhRefIdeal.Read.val_main_v16, Cert.InDhRefIdeal.Read.val_main_v17,
    Cert.InDhRefIdeal.Read.val_main_v18, Cert.InDhRefIdeal.Read.val_main_v19,
    Cert.InDhRefIdeal.Read.val_main_v20, Cert.InDhRefIdeal.Read.val_main_v21,
    Cert.InDhRefIdeal.Read.val_main_v22, Cert.InDhRefIdeal.Read.val_main_v23,
    Cert.InDhRefIdeal.Read.val_main_v24, Cert.InDhRefIdeal.Read.val_main_v25,
    Cert.InDhRefIdeal.Read.val_main_v26, Cert.InDhRefIdeal.Read.val_main_v27,
    Cert.InDhRefIdeal.Read.val_main_v28, Cert.InDhRefIdeal.Read.val_main_v29,
    Cert.InDhRefIdeal.Read.val_main_cst, Cert.InDhRefIdeal.Read.val_main_v30,
    Cert.InDhRefIdeal.Read.val_main_v31, Cert.InDhRefIdeal.Read.val_main_v32,
    Cert.InDhRefIdeal.Read.val_main_v33, Cert.InDhRefIdeal.Read.val_main_v34,
    Cert.InDhRefIdeal.Read.val_main_v35, Cert.InDhRefIdeal.Read.val_main_v36,
    Cert.InDhRefIdeal.Read.val_main_v37, Cert.InDhRefIdeal.Read.val_main_v38,
    Cert.InDhRefIdeal.Read.val_main_v39, Cert.InDhRefIdeal.Read.val_main_v40,
    Cert.InDhRefIdeal.Read.val_main_v41, Cert.InDhRefIdeal.Read.val_main_v42,
    Cert.InDhRefIdeal.Read.val_main_v43, Cert.InDhRefIdeal.Read.val_main_v44]
  rw [blk4]
  simp only [blk0, blk1, blk2, blk3]

end Cert.InDh
-- ==== Proof.InDhClaim.lean ====
module

public import proofs.«01_k».proof.Defs
public import proofs.«01_k».proof.Proof.InDh
public import proofs.«01_k».proof.Proof.Gen.InDhRefIdeal.Run
public import Idealize.ShloMosaic.Lib.Claim
public import Idealize.ShloMosaic.Init

@[expose] public section

noncomputable section

namespace Cert.InDh

open Idealize.ShloMosaic Idealize.SL.Sem

set_option maxRecDepth 65536 in
/-- The kernel of the input projection's row gradient leaves the gradient in the rows, added to what it was given. -/
theorem algebraic : Cert.algebraic_InDhIdeal_InDhRefIdeal
    (hInDhIdeal := Cert.InDhIdeal.Gen.facts) (hInDhRefIdeal := Cert.InDhRefIdeal.Gen.facts) := by
  pair_intro
  · run_from Cert.InDhIdeal.Value.run_blocks m g
  · run_from Cert.InDhRefIdeal.Value.run m' g'
    all_goals obtain ⟨h0, h1, h2, h3, h4⟩ := hagree c
    · rw [Cert.InDhRefIdeal.Read.val_main_v44_eq]
      try rw [h0]
      try rw [h1]
      try rw [h2]
      try rw [h3]
      try rw [h4]
      exact (arr m c).symm

/-- The reference runs, leaves its arguments as they were, and counts nothing. -/
theorem ref_frame : Cert.quiescent_InDhRefIdeal (hInDhRefIdeal := Cert.InDhRefIdeal.Gen.facts) := fun m ρ _ =>
  (θ_run Cert.InDhRefIdeal.defs _ _).mono (fun r h => ⟨fun c => (h c).2, Idealize.ShloMosaic.sem_eq_zero_of_no_sems (by decide) r.2⟩)
    (Cert.InDhRefIdeal.Value.run m ρ)

end Cert.InDh

end
-- ==== Proof.InDwA.lean ====
module

public import proofs.«01_k».proof.Proof.Gen.InDwAIdeal.Value
public import proofs.«01_k».proof.Proof.Gen.InDwARefIdeal.Read
public import proofs.«01_k».proof.Proof.Tokens
public import Idealize.ShloMosaic.Lib.Pipeline.ValueKit
public import Idealize.ShloMosaic.Lib.Pointwise
public import Idealize.ShloMosaic.Lib.Tactic

@[expose] public section

set_option maxRecDepth 16384

noncomputable section

namespace Cert.InDwA

open Cert.InDwAIdeal Cert.InDwAIdeal.Gen Idealize.ShloMosaic Idealize.ShloMosaic.TcCoe Idealize.SL.Sem Idealize.ShloMosaic.StableHlo

variable (m : (ℓ : Loc nD τ sig) → Buf (Elt Ideal) ℓ)

/-- What token `l` adds to an entry of the weight's gradient. -/
def prod (a : BufTy.Contents (Elt Ideal) ⟨S3x8192x512, .bf16⟩) (b : BufTy.Contents (Elt Ideal) ⟨S8192x1024, .bf16⟩)
    (s : Fin 3) (i : Fin 512) (j : Fin 1024) (l : Fin 8192) : EReal :=
  @HMul.hMul EReal EReal EReal instHMul (a (ix3 s l i)) (b (ix2 l j))

/-- Column `i` of slice `s`, as a column of the projection. -/
def entry (s : Fin 3) (i : Fin 512) : Fin 1536 := ⟨s.val * 512 + i.val, by omega⟩

/-- The gradient that the reference takes is the sum over all tokens. -/
theorem ref_eq (a : BufTy.Contents (Elt Ideal) ⟨S3x8192x512, .bf16⟩) (b : BufTy.Contents (Elt Ideal) ⟨S8192x1024, .bf16⟩) (s : Fin 3) (i : Fin 512) (j : Fin 1024) :
    Cert.InDwARefIdeal.Read.val_main_v17 (F := Ideal) a b (ix2 (entry s i) j) = ∑ l : Fin 8192, prod a b s i j l := by
  fin_cases s
  all_goals
    unfold entry
    pointwise [Cert.InDwARefIdeal.Read.val_main_cst, Cert.InDwARefIdeal.Read.val_main_v0, Cert.InDwARefIdeal.Read.val_main_v1,
      Cert.InDwARefIdeal.Read.val_main_v2, Cert.InDwARefIdeal.Read.val_main_v3, Cert.InDwARefIdeal.Read.val_main_v4,
      Cert.InDwARefIdeal.Read.val_main_v5, Cert.InDwARefIdeal.Read.val_main_v6, Cert.InDwARefIdeal.Read.val_main_v7,
      Cert.InDwARefIdeal.Read.val_main_v8, Cert.InDwARefIdeal.Read.val_main_v9, Cert.InDwARefIdeal.Read.val_main_v10,
      Cert.InDwARefIdeal.Read.val_main_v11, Cert.InDwARefIdeal.Read.val_main_v12,
      Cert.InDwARefIdeal.Read.val_main_v13, Cert.InDwARefIdeal.Read.val_main_v14,
      Cert.InDwARefIdeal.Read.val_main_v15, Cert.InDwARefIdeal.Read.val_main_v16, Cert.InDwARefIdeal.Read.val_main_v17]
    refine Finset.sum_congr rfl fun l _ => ?_
  · rfl
  · rfl
  · rw [dif_neg (by omega), dif_neg (by omega)]
    exact congrArg (fun k => @HMul.hMul EReal EReal EReal instHMul (a (ix3 2 l k)) (b (ix2 l j))) (Fin.ext (by simp only; omega))

/-- The block indices of the windows at each grid point. -/
theorem idx : ∀ t : Fin grid0.N,
    win0_0.index t = ![t.val / 4, t.val % 4, 0] ∧ win0_1.index t = ![t.val % 4, 0] ∧ win0_2.index t = ![t.val / 4, 0] := by
  decide +kernel

/-- Row `r` of the token block of grid point `t`, as a token. -/
def row (t : Fin grid0.N) (r : Fin 2048) : Fin 8192 := ⟨t.val % 4 * 2048 + r.val, by omega⟩

/-- The slice that grid point `t` works on. -/
def slice (t : Fin grid0.N) : Fin 3 := ⟨t.val / 4, by
  have : t.val < 12 := lt_of_lt_of_eq t.isLt N_0
  omega⟩

theorem blk0 (c : Dev nD) (t : Fin cfg0.N) (r : Fin 2048) (i : Fin 512) :
    iblk m c 0 t (ix3 0 r i) = m (c.tc.loc main_arg0) (ix3 (slice t) (row t r) i) := by
  blk_point [iblk, V, idx t, row, slice]

theorem blk1 (c : Dev nD) (t : Fin cfg0.N) (r : Fin 2048) (j : Fin 1024) :
    iblk m c 1 t (ix2 r j) = m (c.tc.loc main_arg1) (ix2 (row t r) j) := by
  blk_point [iblk, V, idx t, row, slice]

/-- What one grid point adds: the sum over its own tokens. -/
def term (c : Dev nD) (t : Fin cfg0.N) (i : Fin 512) (j : Fin 1024) : EReal :=
  ∑ r : Fin 2048, prod (m (c.tc.loc main_arg0)) (m (c.tc.loc main_arg1)) (slice t) i j (row t r)

/-- The first token block leaves its own sum in the accumulator. -/
theorem first_point (c : Dev nD) (t : Fin cfg0.N) (h : t.val % 4 = 0) (i j) :
    (outsAt0 m c t.val t.isLt).2 (ix2 i j) = term m c t i j := by
  rw [outsAt0_A m c t h (by omega) (by omega)]
  frame_out
  pointwise [k0_pay2, k0_pay1]
  exact Finset.sum_congr rfl fun r _ => by rw [blk0, blk1]; rfl

/-- A middle token block adds its own sum. -/
theorem next_point (c : Dev nD) (t : Fin cfg0.N) (h : 1 ≤ t.val % 4 ∧ t.val % 4 ≤ 2) (i j) :
    (outsAt0 m c t.val t.isLt).2 (ix2 i j) = @HAdd.hAdd EReal EReal EReal instHAdd ((outsAt0 m c (t.val - 1) (by omega)).2 (ix2 i j)) (term m c t i j) := by
  rw [outsAt0_B m c t (by omega) h (by omega)]
  frame_out
  pointwise [k0_pay3, k0_pay1]
  exact congrArg₂ (· + ·) (congrFun (Memref.IsWhole.read_unread (Val := Elt Ideal) _ _) _) (Finset.sum_congr rfl fun r _ => by rw [blk0, blk1]; rfl)

/-- The last token block writes the accumulator plus its own sum. -/
theorem last_point (c : Dev nD) (t : Fin cfg0.N) (h : t.val % 4 = 3) (i j) :
    (outsAt0 m c t.val t.isLt).1 (ix2 i j) = @HAdd.hAdd EReal EReal EReal instHAdd ((outsAt0 m c (t.val - 1) (by omega)).2 (ix2 i j)) (term m c t i j) := by
  rw [outsAt0_C m c t (by omega) (by omega) h]
  frame_out
  pointwise [k0_pay4, k0_pay1]
  exact congrArg₂ (· + ·) (congrFun (Memref.IsWhole.read_unread (Val := Elt Ideal) _ _) _) (Finset.sum_congr rfl fun r _ => by rw [blk0, blk1]; rfl)

/-- The kernel's array is the reference's. -/
theorem arr (c : Dev nD) : (dats m 0 c).arrAt 2 cfg0.N =
    Cert.InDwARefIdeal.Read.val_main_v17 (F := Ideal) (m (c.tc.loc main_arg0)) (m (c.tc.loc main_arg1)) := by
  refine (dats m 0 c).arrAt_eq_of_covers 2 _ (by decide +kernel) fun t hf y => ?_
  have hN : t.val < 12 := lt_of_lt_of_eq t.isLt N_0
  have hlt : t.val < cfg0.N := t.isLt
  have ht : t.val % 4 = 3 := (flush0_2 t).mp hf
  blk_simp
  rw [after0_2]
  change S512x1024.Idx at y
  idx_vars y
  have e : ((View.whole main_v0).slice (win0_2.rect t)).emb (ix2 y0 y1) = ix2 (entry (slice t) y0) y1 := by
    blk_ext [idx t, slice, entry]
  rw [e, ref_eq, last_point m c t ht]
  have h2 := next_point m c ⟨t.val - 1, by omega⟩ ⟨by simp only; omega, by simp only; omega⟩ y0 y1
  have h1 := next_point m c ⟨t.val - 1 - 1, by omega⟩ ⟨by simp only; omega, by simp only; omega⟩ y0 y1
  have h0 := first_point m c ⟨t.val - 1 - 1 - 1, by omega⟩ (by simp only; omega) y0 y1
  simp only at h0 h1 h2
  rw [h2, h1, h0, ← Cert.Tokens.sum_blocks]
  have ec : ∀ s : Fin grid0.N, s.val / 4 = t.val / 4 → slice s = slice t := fun s hs => by
    apply Fin.ext
    simp only [slice, hs]
  have er : ∀ (s : Fin grid0.N) (q : ℕ) (hq : q < 4), s.val % 4 = q → ∀ r : Fin 2048, row s r = ⟨q * 2048 + r.val, by omega⟩ := fun s q hq hs r => by
    apply Fin.ext
    simp only [row, hs]
  unfold term
  have b1 : t.val - 1 < grid0.N := by have : t.val < grid0.N := t.isLt; omega
  have b2 : t.val - 1 - 1 < grid0.N := by omega
  have b3 : t.val - 1 - 1 - 1 < grid0.N := by omega
  simp only [er ⟨t.val - 1 - 1 - 1, b3⟩ 0 (by omega) (by simp only; omega), er ⟨t.val - 1 - 1, b2⟩ 1 (by omega) (by simp only; omega),
    er ⟨t.val - 1, b1⟩ 2 (by omega) (by simp only; omega), er t 3 (by omega) ht,
    ec ⟨t.val - 1 - 1 - 1, b3⟩ (by simp only; omega), ec ⟨t.val - 1 - 1, b2⟩ (by simp only; omega), ec ⟨t.val - 1, b1⟩ (by simp only; omega)]

end Cert.InDwA
-- ==== Proof.InDwAClaim.lean ====
module

public import proofs.«01_k».proof.Defs
public import proofs.«01_k».proof.Proof.InDwA
public import proofs.«01_k».proof.Proof.Gen.InDwARefIdeal.Run
public import Idealize.ShloMosaic.Lib.Claim
public import Idealize.ShloMosaic.Init

@[expose] public section

noncomputable section

namespace Cert.InDwA

open Idealize.ShloMosaic Idealize.SL.Sem

set_option maxRecDepth 65536 in
/-- The kernel of the input projection's weight gradient leaves, for three slices, the gradient in the weight. -/
theorem algebraic : Cert.algebraic_InDwAIdeal_InDwARefIdeal
    (hInDwAIdeal := Cert.InDwAIdeal.Gen.facts) (hInDwARefIdeal := Cert.InDwARefIdeal.Gen.facts) := by
  pair_intro
  · run_from Cert.InDwAIdeal.Value.run_blocks m g
  · run_from Cert.InDwARefIdeal.Value.run m' g'
    all_goals obtain ⟨h0, h1⟩ := hagree c
    · rw [Cert.InDwARefIdeal.Read.val_main_v17_eq]
      try rw [h0]
      try rw [h1]
      exact (arr m c).symm

/-- The reference runs, leaves its arguments as they were, and counts nothing. -/
theorem ref_frame : Cert.quiescent_InDwARefIdeal (hInDwARefIdeal := Cert.InDwARefIdeal.Gen.facts) := fun m ρ _ =>
  (θ_run Cert.InDwARefIdeal.defs _ _).mono (fun r h => ⟨fun c => (h c).2, Idealize.ShloMosaic.sem_eq_zero_of_no_sems (by decide) r.2⟩)
    (Cert.InDwARefIdeal.Value.run m ρ)

end Cert.InDwA

end
-- ==== Proof.InDwB.lean ====
module

public import proofs.«01_k».proof.Proof.Gen.InDwBIdeal.Value
public import proofs.«01_k».proof.Proof.Gen.InDwBRefIdeal.Read
public import proofs.«01_k».proof.Proof.Tokens
public import Idealize.ShloMosaic.Lib.Pipeline.ValueKit
public import Idealize.ShloMosaic.Lib.Pointwise
public import Idealize.ShloMosaic.Lib.Tactic

@[expose] public section

set_option maxRecDepth 16384

noncomputable section

namespace Cert.InDwB

open Cert.InDwBIdeal Cert.InDwBIdeal.Gen Idealize.ShloMosaic Idealize.ShloMosaic.TcCoe Idealize.SL.Sem Idealize.ShloMosaic.StableHlo

variable (m : (ℓ : Loc nD τ sig) → Buf (Elt Ideal) ℓ)

/-- What token `l` adds to an entry of the weight's gradient. -/
def prod (a : BufTy.Contents (Elt Ideal) ⟨S4x8192x512, .bf16⟩) (b : BufTy.Contents (Elt Ideal) ⟨S8192x1024, .bf16⟩)
    (s : Fin 4) (i : Fin 512) (j : Fin 1024) (l : Fin 8192) : EReal :=
  @HMul.hMul EReal EReal EReal instHMul (a (ix3 s l i)) (b (ix2 l j))

/-- Column `i` of slice `s`, as a column of the projection. -/
def entry (s : Fin 4) (i : Fin 512) : Fin 2048 := ⟨s.val * 512 + i.val, by omega⟩

/-- The gradient that the reference takes is the sum over all tokens. -/
theorem ref_eq (a : BufTy.Contents (Elt Ideal) ⟨S4x8192x512, .bf16⟩) (b : BufTy.Contents (Elt Ideal) ⟨S8192x1024, .bf16⟩) (s : Fin 4) (i : Fin 512) (j : Fin 1024) :
    Cert.InDwBRefIdeal.Read.val_main_v20 (F := Ideal) a b (ix2 (entry s i) j) = ∑ l : Fin 8192, prod a b s i j l := by
  fin_cases s
  all_goals
    unfold entry
    pointwise [Cert.InDwBRefIdeal.Read.val_main_cst, Cert.InDwBRefIdeal.Read.val_main_v0, Cert.InDwBRefIdeal.Read.val_main_v1,
      Cert.InDwBRefIdeal.Read.val_main_v2, Cert.InDwBRefIdeal.Read.val_main_v3, Cert.InDwBRefIdeal.Read.val_main_v4,
      Cert.InDwBRefIdeal.Read.val_main_v5, Cert.InDwBRefIdeal.Read.val_main_v6, Cert.InDwBRefIdeal.Read.val_main_v7,
      Cert.InDwBRefIdeal.Read.val_main_v8, Cert.InDwBRefIdeal.Read.val_main_v9, Cert.InDwBRefIdeal.Read.val_main_v10,
      Cert.InDwBRefIdeal.Read.val_main_v11, Cert.InDwBRefIdeal.Read.val_main_v12,
      Cert.InDwBRefIdeal.Read.val_main_v13, Cert.InDwBRefIdeal.Read.val_main_v14,
      Cert.InDwBRefIdeal.Read.val_main_v15, Cert.InDwBRefIdeal.Read.val_main_v16,
      Cert.InDwBRefIdeal.Read.val_main_v17, Cert.InDwBRefIdeal.Read.val_main_v18,
      Cert.InDwBRefIdeal.Read.val_main_v19, Cert.InDwBRefIdeal.Read.val_main_v20]
    refine Finset.sum_congr rfl fun l _ => ?_
  · rfl
  · rfl
  · rw [dif_neg (by omega), dif_neg (by omega), dif_pos (by omega)]
    exact congrArg (fun k => @HMul.hMul EReal EReal EReal instHMul (a (ix3 2 l k)) (b (ix2 l j))) (Fin.ext (by simp only; omega))
  · rw [dif_neg (by omega), dif_neg (by omega), dif_neg (by omega)]
    have e : (⟨1536 + i.val - 512 - 512 - 512, by omega⟩ : Fin 512) = i := Fin.ext (by simp only; omega)
    exact congrArg (fun k => @HMul.hMul EReal EReal EReal instHMul (a (ix3 3 l k)) (b (ix2 l j))) e

/-- The block indices of the windows at each grid point. -/
theorem idx : ∀ t : Fin grid0.N,
    win0_0.index t = ![t.val / 4, t.val % 4, 0] ∧ win0_1.index t = ![t.val % 4, 0] ∧ win0_2.index t = ![t.val / 4, 0] := by
  decide +kernel

/-- Row `r` of the token block of grid point `t`, as a token. -/
def row (t : Fin grid0.N) (r : Fin 2048) : Fin 8192 := ⟨t.val % 4 * 2048 + r.val, by omega⟩

/-- The slice that grid point `t` works on. -/
def slice (t : Fin grid0.N) : Fin 4 := ⟨t.val / 4, by
  have : t.val < 16 := lt_of_lt_of_eq t.isLt N_0
  omega⟩

theorem blk0 (c : Dev nD) (t : Fin cfg0.N) (r : Fin 2048) (i : Fin 512) :
    iblk m c 0 t (ix3 0 r i) = m (c.tc.loc main_arg0) (ix3 (slice t) (row t r) i) := by
  blk_point [iblk, V, idx t, row, slice]

theorem blk1 (c : Dev nD) (t : Fin cfg0.N) (r : Fin 2048) (j : Fin 1024) :
    iblk m c 1 t (ix2 r j) = m (c.tc.loc main_arg1) (ix2 (row t r) j) := by
  blk_point [iblk, V, idx t, row, slice]

/-- What one grid point adds: the sum over its own tokens. -/
def term (c : Dev nD) (t : Fin cfg0.N) (i : Fin 512) (j : Fin 1024) : EReal :=
  ∑ r : Fin 2048, prod (m (c.tc.loc main_arg0)) (m (c.tc.loc main_arg1)) (slice t) i j (row t r)

/-- The first token block leaves its own sum in the accumulator. -/
theorem first_point (c : Dev nD) (t : Fin cfg0.N) (h : t.val % 4 = 0) (i j) :
    (outsAt0 m c t.val t.isLt).2 (ix2 i j) = term m c t i j := by
  rw [outsAt0_A m c t h (by omega) (by omega)]
  frame_out
  pointwise [k0_pay2, k0_pay1]
  exact Finset.sum_congr rfl fun r _ => by rw [blk0, blk1]; rfl

/-- A middle token block adds its own sum. -/
theorem next_point (c : Dev nD) (t : Fin cfg0.N) (h : 1 ≤ t.val % 4 ∧ t.val % 4 ≤ 2) (i j) :
    (outsAt0 m c t.val t.isLt).2 (ix2 i j) = @HAdd.hAdd EReal EReal EReal instHAdd ((outsAt0 m c (t.val - 1) (by omega)).2 (ix2 i j)) (term m c t i j) := by
  rw [outsAt0_B m c t (by omega) h (by omega)]
  frame_out
  pointwise [k0_pay3, k0_pay1]
  exact congrArg₂ (· + ·) (congrFun (Memref.IsWhole.read_unread (Val := Elt Ideal) _ _) _) (Finset.sum_congr rfl fun r _ => by rw [blk0, blk1]; rfl)

/-- The last token block writes the accumulator plus its own sum. -/
theorem last_point (c : Dev nD) (t : Fin cfg0.N) (h : t.val % 4 = 3) (i j) :
    (outsAt0 m c t.val t.isLt).1 (ix2 i j) = @HAdd.hAdd EReal EReal EReal instHAdd ((outsAt0 m c (t.val - 1) (by omega)).2 (ix2 i j)) (term m c t i j) := by
  rw [outsAt0_C m c t (by omega) (by omega) h]
  frame_out
  pointwise [k0_pay4, k0_pay1]
  exact congrArg₂ (· + ·) (congrFun (Memref.IsWhole.read_unread (Val := Elt Ideal) _ _) _) (Finset.sum_congr rfl fun r _ => by rw [blk0, blk1]; rfl)

/-- The kernel's array is the reference's. -/
theorem arr (c : Dev nD) : (dats m 0 c).arrAt 2 cfg0.N =
    Cert.InDwBRefIdeal.Read.val_main_v20 (F := Ideal) (m (c.tc.loc main_arg0)) (m (c.tc.loc main_arg1)) := by
  refine (dats m 0 c).arrAt_eq_of_covers 2 _ (by decide +kernel) fun t hf y => ?_
  have hN : t.val < 16 := lt_of_lt_of_eq t.isLt N_0
  have hlt : t.val < cfg0.N := t.isLt
  have ht : t.val % 4 = 3 := (flush0_2 t).mp hf
  blk_simp
  rw [after0_2]
  change S512x1024.Idx at y
  idx_vars y
  have e : ((View.whole main_v0).slice (win0_2.rect t)).emb (ix2 y0 y1) = ix2 (entry (slice t) y0) y1 := by
    blk_ext [idx t, slice, entry]
  rw [e, ref_eq, last_point m c t ht]
  have h2 := next_point m c ⟨t.val - 1, by omega⟩ ⟨by simp only; omega, by simp only; omega⟩ y0 y1
  have h1 := next_point m c ⟨t.val - 1 - 1, by omega⟩ ⟨by simp only; omega, by simp only; omega⟩ y0 y1
  have h0 := first_point m c ⟨t.val - 1 - 1 - 1, by omega⟩ (by simp only; omega) y0 y1
  simp only at h0 h1 h2
  rw [h2, h1, h0, ← Cert.Tokens.sum_blocks]
  have ec : ∀ s : Fin grid0.N, s.val / 4 = t.val / 4 → slice s = slice t := fun s hs => by
    apply Fin.ext
    simp only [slice, hs]
  have er : ∀ (s : Fin grid0.N) (q : ℕ) (hq : q < 4), s.val % 4 = q → ∀ r : Fin 2048, row s r = ⟨q * 2048 + r.val, by omega⟩ := fun s q hq hs r => by
    apply Fin.ext
    simp only [row, hs]
  unfold term
  have b1 : t.val - 1 < grid0.N := by have : t.val < grid0.N := t.isLt; omega
  have b2 : t.val - 1 - 1 < grid0.N := by omega
  have b3 : t.val - 1 - 1 - 1 < grid0.N := by omega
  simp only [er ⟨t.val - 1 - 1 - 1, b3⟩ 0 (by omega) (by simp only; omega), er ⟨t.val - 1 - 1, b2⟩ 1 (by omega) (by simp only; omega),
    er ⟨t.val - 1, b1⟩ 2 (by omega) (by simp only; omega), er t 3 (by omega) ht,
    ec ⟨t.val - 1 - 1 - 1, b3⟩ (by simp only; omega), ec ⟨t.val - 1 - 1, b2⟩ (by simp only; omega), ec ⟨t.val - 1, b1⟩ (by simp only; omega)]

end Cert.InDwB
-- ==== Proof.InDwBClaim.lean ====
module

public import proofs.«01_k».proof.Defs
public import proofs.«01_k».proof.Proof.InDwB
public import proofs.«01_k».proof.Proof.Gen.InDwBRefIdeal.Run
public import Idealize.ShloMosaic.Lib.Claim
public import Idealize.ShloMosaic.Init

@[expose] public section

noncomputable section

namespace Cert.InDwB

open Idealize.ShloMosaic Idealize.SL.Sem

set_option maxRecDepth 65536 in
/-- The kernel of the input projection's weight gradient leaves, for four slices, the gradient in the weight. -/
theorem algebraic : Cert.algebraic_InDwBIdeal_InDwBRefIdeal
    (hInDwBIdeal := Cert.InDwBIdeal.Gen.facts) (hInDwBRefIdeal := Cert.InDwBRefIdeal.Gen.facts) := by
  pair_intro
  · run_from Cert.InDwBIdeal.Value.run_blocks m g
  · run_from Cert.InDwBRefIdeal.Value.run m' g'
    all_goals obtain ⟨h0, h1⟩ := hagree c
    · rw [Cert.InDwBRefIdeal.Read.val_main_v20_eq]
      try rw [h0]
      try rw [h1]
      exact (arr m c).symm

/-- The reference runs, leaves its arguments as they were, and counts nothing. -/
theorem ref_frame : Cert.quiescent_InDwBRefIdeal (hInDwBRefIdeal := Cert.InDwBRefIdeal.Gen.facts) := fun m ρ _ =>
  (θ_run Cert.InDwBRefIdeal.defs _ _).mono (fun r h => ⟨fun c => (h c).2, Idealize.ShloMosaic.sem_eq_zero_of_no_sems (by decide) r.2⟩)
    (Cert.InDwBRefIdeal.Value.run m ρ)

end Cert.InDwB

end
-- ==== Proof.OutFwd.lean ====
module

public import proofs.«01_k».proof.Proof.Gen.OutFwdIdeal.Value
public import proofs.«01_k».proof.Proof.Gen.OutFwdRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.OutFwd

open Cert.OutFwdIdeal Cert.OutFwdIdeal.Gen Idealize.ShloMosaic Idealize.ShloMosaic.TcCoe Idealize.SL.Sem Idealize.ShloMosaic.StableHlo

variable (m : (ℓ : Loc nD τ sig) → Buf (Elt Ideal) ℓ)

/-- The output projection: a row of the merged branches times a column of the weight, on top of the residual. -/
def proj (a : BufTy.Contents (Elt Ideal) ⟨S8192x1024, .bf16⟩) (w : BufTy.Contents (Elt Ideal) ⟨S1024x1024, .f32⟩)
    (x : BufTy.Contents (Elt Ideal) ⟨S8192x1024, .f32⟩) (r : Fin 8192) (d : Fin 1024) : EReal :=
  @HAdd.hAdd EReal EReal EReal instHAdd (x (ix2 r d)) (∑ k : Fin 1024, @HMul.hMul EReal EReal EReal instHMul (a (ix2 r k)) (w (ix2 k d)))

theorem ref_eq (a : BufTy.Contents (Elt Ideal) ⟨S8192x1024, .bf16⟩) (w : BufTy.Contents (Elt Ideal) ⟨S1024x1024, .f32⟩)
    (x : BufTy.Contents (Elt Ideal) ⟨S8192x1024, .f32⟩) (r : Fin 8192) (d : Fin 1024) :
    Cert.OutFwdRefIdeal.Read.val_main_v2 (F := Ideal) a w x (ix2 r d) = proj a w x r d := by
  pointwise [Cert.OutFwdRefIdeal.Read.val_main_v0, Cert.OutFwdRefIdeal.Read.val_main_v1,
    Cert.OutFwdRefIdeal.Read.val_main_v2]
  rfl

/-- The weight reaches the kernel with nothing but its format changed. -/
theorem V_w (c : Dev nD) (k d : Fin 1024) : V m c main_v0 (ix2 k d) = m (c.tc.loc main_arg1) (ix2 k d) := by
  unfold_abbrev_sides
  after_results
  pointwise

/-- Which block of its array each window takes at a grid point. -/
theorem idx : ∀ t : Fin grid0.N,
    win0_0.index t = ![t.val, 0] ∧ win0_1.index t = ![0, 0] ∧ win0_2.index t = ![t.val, 0] ∧ win0_3.index t = ![t.val, 0] := by
  decide +kernel

/-- Row `r` of the block of grid point `t`, as a row of the whole array. -/
def row (t : Fin grid0.N) (r : Fin 1024) : Fin 8192 := ⟨t.val * 1024 + r.val, by
  have : t.val < 8 := lt_of_lt_of_eq t.isLt N_0
  omega⟩

theorem blk0 (c : Dev nD) (t : Fin cfg0.N) (r k : Fin 1024) :
    iblk m c 0 t (ix2 r k) = m (c.tc.loc main_arg0) (ix2 (row t r) k) := by
  blk_point [iblk, V, idx t, row]

theorem blk1 (c : Dev nD) (t : Fin cfg0.N) (k d : Fin 1024) :
    iblk m c 1 t (ix2 k d) = m (c.tc.loc main_arg1) (ix2 k d) := by
  rw [← V_w m]
  blk_point [iblk, idx t]

theorem blk2 (c : Dev nD) (t : Fin cfg0.N) (r d : Fin 1024) :
    iblk m c 2 t (ix2 r d) = m (c.tc.loc main_arg2) (ix2 (row t r) d) := by
  blk_point [iblk, V, idx t, row]

/-- The kernel's array is the reference's. -/
theorem arr (c : Dev nD) : (dats m 0 c).arrAt 3 cfg0.N =
    Cert.OutFwdRefIdeal.Read.val_main_v2 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3]
  change S1024x1024.Idx at y
  idx_vars y
  have e : ((View.whole main_v1).slice (win0_3.rect t)).emb (ix2 y0 y1) = ix2 (row t y0) y1 := by
    blk_ext [idx t, row]
  rw [e, ref_eq]
  frame_out
  pointwise [k0_pay1]
  unfold proj
  rw [add_comm, blk2]
  exact congrArg _ (Finset.sum_congr rfl fun k _ => by rw [blk0, blk1])

end Cert.OutFwd
-- ==== Proof.OutFwdClaim.lean ====
module

public import proofs.«01_k».proof.Defs
public import proofs.«01_k».proof.Proof.OutFwd
public import proofs.«01_k».proof.Proof.Gen.OutFwdRefIdeal.Run
public import Idealize.ShloMosaic.Lib.Claim
public import Idealize.ShloMosaic.Init

@[expose] public section

noncomputable section

namespace Cert.OutFwd

open Idealize.ShloMosaic Idealize.SL.Sem

set_option maxRecDepth 65536 in
/-- The forward kernel of the output projection leaves the product on top of the residual. -/
theorem algebraic : Cert.algebraic_OutFwdIdeal_OutFwdRefIdeal
    (hOutFwdIdeal := Cert.OutFwdIdeal.Gen.facts) (hOutFwdRefIdeal := Cert.OutFwdRefIdeal.Gen.facts) := by
  pair_intro
  · run_from Cert.OutFwdIdeal.Value.run_blocks m g
  · run_from Cert.OutFwdRefIdeal.Value.run m' g'
    all_goals obtain ⟨h0, h1, h2⟩ := hagree c
    · rw [Cert.OutFwdRefIdeal.Read.val_main_v2_eq]
      try rw [h0]
      try rw [h1]
      try rw [h2]
      exact (arr m c).symm

/-- The reference runs, leaves its arguments as they were, and counts nothing. -/
theorem ref_frame : Cert.quiescent_OutFwdRefIdeal (hOutFwdRefIdeal := Cert.OutFwdRefIdeal.Gen.facts) := fun m ρ _ =>
  (θ_run Cert.OutFwdRefIdeal.defs _ _).mono (fun r h => ⟨fun c => (h c).2, Idealize.ShloMosaic.sem_eq_zero_of_no_sems (by decide) r.2⟩)
    (Cert.OutFwdRefIdeal.Value.run m ρ)

end Cert.OutFwd

end
-- ==== Proof.OutDm.lean ====
module

public import proofs.«01_k».proof.Proof.Gen.OutDmIdeal.Value
public import proofs.«01_k».proof.Proof.Gen.OutDmRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.OutDm

open Cert.OutDmIdeal Cert.OutDmIdeal.Gen Idealize.ShloMosaic Idealize.ShloMosaic.TcCoe Idealize.SL.Sem Idealize.ShloMosaic.StableHlo

variable (m : (ℓ : Loc nD τ sig) → Buf (Elt Ideal) ℓ)

/-- The gradient of the merged branches: a row of the cotangent times a row of the weight. -/
def back (x : BufTy.Contents (Elt Ideal) ⟨S8192x1024, .f32⟩) (w : BufTy.Contents (Elt Ideal) ⟨S1024x1024, .f32⟩)
    (r : Fin 8192) (d : Fin 1024) : EReal :=
  ∑ k : Fin 1024, @HMul.hMul EReal EReal EReal instHMul (x (ix2 r k)) (w (ix2 d k))

theorem ref_eq (x : BufTy.Contents (Elt Ideal) ⟨S8192x1024, .f32⟩) (w : BufTy.Contents (Elt Ideal) ⟨S1024x1024, .f32⟩)
    (r : Fin 8192) (d : Fin 1024) :
    Cert.OutDmRefIdeal.Read.val_main_v3 (F := Ideal) x w (ix2 r d) = back x w r d := by
  pointwise [Cert.OutDmRefIdeal.Read.val_main_cst, Cert.OutDmRefIdeal.Read.val_main_v0,
    Cert.OutDmRefIdeal.Read.val_main_v1, Cert.OutDmRefIdeal.Read.val_main_v2,
    Cert.OutDmRefIdeal.Read.val_main_v3]
  rfl

/-- The weight reaches the kernel with nothing but its format changed. -/
theorem V_w (c : Dev nD) (k d : Fin 1024) : V m c main_v0 (ix2 k d) = m (c.tc.loc main_arg1) (ix2 k d) := by
  unfold_abbrev_sides
  after_results
  pointwise

/-- Which block of its array each window takes at a grid point. -/
theorem idx : ∀ t : Fin grid0.N,
    win0_0.index t = ![t.val, 0] ∧ win0_1.index t = ![0, 0] ∧ win0_2.index t = ![t.val, 0] := by
  decide +kernel

/-- Row `r` of the block of grid point `t`, as a row of the whole array. -/
def row (t : Fin grid0.N) (r : Fin 1024) : Fin 8192 := ⟨t.val * 1024 + r.val, by
  have : t.val < 8 := lt_of_lt_of_eq t.isLt N_0
  omega⟩

theorem blk0 (c : Dev nD) (t : Fin cfg0.N) (r k : Fin 1024) :
    iblk m c 0 t (ix2 r k) = m (c.tc.loc main_arg0) (ix2 (row t r) k) := by
  blk_point [iblk, V, idx t, row]

theorem blk1 (c : Dev nD) (t : Fin cfg0.N) (k d : Fin 1024) :
    iblk m c 1 t (ix2 k d) = m (c.tc.loc main_arg1) (ix2 k d) := by
  rw [← V_w m]
  blk_point [iblk, idx t]

/-- The kernel's array is the reference's. -/
theorem arr (c : Dev nD) : (dats m 0 c).arrAt 2 cfg0.N =
    Cert.OutDmRefIdeal.Read.val_main_v3 (F := Ideal) (m (c.tc.loc main_arg0)) (m (c.tc.loc main_arg1)) := by
  refine (dats m 0 c).arrAt_eq_of_covers 2 _ (by decide +kernel) fun t hf y => ?_
  blk_simp
  rw [after0_2]
  change S1024x1024.Idx at y
  idx_vars y
  have e : ((View.whole main_v1).slice (win0_2.rect t)).emb (ix2 y0 y1) = ix2 (row t y0) y1 := by
    blk_ext [idx t, row]
  rw [e, ref_eq]
  frame_out
  pointwise [k0_pay1]
  unfold back
  change @Eq EReal _ _
  exact Finset.sum_congr rfl fun k _ => by rw [blk0, blk1]

end Cert.OutDm
-- ==== Proof.OutDmClaim.lean ====
module

public import proofs.«01_k».proof.Defs
public import proofs.«01_k».proof.Proof.OutDm
public import proofs.«01_k».proof.Proof.Gen.OutDmRefIdeal.Run
public import Idealize.ShloMosaic.Lib.Claim
public import Idealize.ShloMosaic.Init

@[expose] public section

noncomputable section

namespace Cert.OutDm

open Idealize.ShloMosaic Idealize.SL.Sem

set_option maxRecDepth 65536 in
/-- The kernel of the output projection's row gradient leaves the gradient in the merged rows. -/
theorem algebraic : Cert.algebraic_OutDmIdeal_OutDmRefIdeal
    (hOutDmIdeal := Cert.OutDmIdeal.Gen.facts) (hOutDmRefIdeal := Cert.OutDmRefIdeal.Gen.facts) := by
  pair_intro
  · run_from Cert.OutDmIdeal.Value.run_blocks m g
  · run_from Cert.OutDmRefIdeal.Value.run m' g'
    all_goals obtain ⟨h0, h1⟩ := hagree c
    · rw [Cert.OutDmRefIdeal.Read.val_main_v3_eq]
      try rw [h0]
      try rw [h1]
      exact (arr m c).symm

/-- The reference runs, leaves its arguments as they were, and counts nothing. -/
theorem ref_frame : Cert.quiescent_OutDmRefIdeal (hOutDmRefIdeal := Cert.OutDmRefIdeal.Gen.facts) := fun m ρ _ =>
  (θ_run Cert.OutDmRefIdeal.defs _ _).mono (fun r h => ⟨fun c => (h c).2, Idealize.ShloMosaic.sem_eq_zero_of_no_sems (by decide) r.2⟩)
    (Cert.OutDmRefIdeal.Value.run m ρ)

end Cert.OutDm

end
-- ==== Proof.OutDw.lean ====
module

public import proofs.«01_k».proof.Proof.Gen.OutDwIdeal.Value
public import proofs.«01_k».proof.Proof.Gen.OutDwRefIdeal.Read
public import proofs.«01_k».proof.Proof.Tokens
public import Idealize.ShloMosaic.Lib.Pipeline.ValueKit
public import Idealize.ShloMosaic.Lib.Pointwise
public import Idealize.ShloMosaic.Lib.Tactic

@[expose] public section

set_option maxRecDepth 16384

noncomputable section

namespace Cert.OutDw

open Cert.OutDwIdeal Cert.OutDwIdeal.Gen Idealize.ShloMosaic Idealize.ShloMosaic.TcCoe Idealize.SL.Sem Idealize.ShloMosaic.StableHlo

variable (m : (ℓ : Loc nD τ sig) → Buf (Elt Ideal) ℓ)

/-- What token `l` adds to an entry of the weight's gradient. -/
def prod (a : BufTy.Contents (Elt Ideal) ⟨S8192x1024, .bf16⟩) (b : BufTy.Contents (Elt Ideal) ⟨S8192x1024, .f32⟩)
    (i : Fin 1024) (j : Fin 1024) (l : Fin 8192) : EReal :=
  @HMul.hMul EReal EReal EReal instHMul (a (ix2 l i)) (b (ix2 l j))

/-- The gradient that the reference takes is the sum over all tokens. -/
theorem ref_eq (a : BufTy.Contents (Elt Ideal) ⟨S8192x1024, .bf16⟩) (b : BufTy.Contents (Elt Ideal) ⟨S8192x1024, .f32⟩) (i : Fin 1024) (j : Fin 1024) :
    Cert.OutDwRefIdeal.Read.val_main_v5 (F := Ideal) a b (ix2 i j) = ∑ l : Fin 8192, prod a b i j l := by
  pointwise [Cert.OutDwRefIdeal.Read.val_main_cst, Cert.OutDwRefIdeal.Read.val_main_v0, Cert.OutDwRefIdeal.Read.val_main_v1,
    Cert.OutDwRefIdeal.Read.val_main_v2, Cert.OutDwRefIdeal.Read.val_main_v3, Cert.OutDwRefIdeal.Read.val_main_v4,
    Cert.OutDwRefIdeal.Read.val_main_v5]
  exact Finset.sum_congr rfl fun l _ => mul_comm _ _

/-- The block indices of the windows at each grid point. -/
theorem idx : ∀ t : Fin grid0.N,
    win0_0.index t = ![t.val, 0] ∧ win0_1.index t = ![t.val, 0] ∧ win0_2.index t = ![0, 0] := by
  decide +kernel

/-- Row `r` of the token block of grid point `t`, as a token. -/
def row (t : Fin grid0.N) (r : Fin 2048) : Fin 8192 := ⟨t.val % 4 * 2048 + r.val, by omega⟩

theorem blk0 (c : Dev nD) (t : Fin cfg0.N) (r : Fin 2048) (i : Fin 1024) :
    iblk m c 0 t (ix2 r i) = m (c.tc.loc main_arg0) (ix2 (row t r) i) := by
  blk_point [iblk, V, idx t, row]

theorem blk1 (c : Dev nD) (t : Fin cfg0.N) (r : Fin 2048) (j : Fin 1024) :
    iblk m c 1 t (ix2 r j) = m (c.tc.loc main_arg1) (ix2 (row t r) j) := by
  blk_point [iblk, V, idx t, row]

/-- What one grid point adds: the sum over its own tokens. -/
def term (c : Dev nD) (t : Fin cfg0.N) (i : Fin 1024) (j : Fin 1024) : EReal :=
  ∑ r : Fin 2048, prod (m (c.tc.loc main_arg0)) (m (c.tc.loc main_arg1)) i j (row t r)

/-- The first token block leaves its own sum in the accumulator. -/
theorem first_point (c : Dev nD) (t : Fin cfg0.N) (h : t.val % 4 = 0) (i j) :
    (outsAt0 m c t.val t.isLt).2 (ix2 i j) = term m c t i j := by
  rw [outsAt0_A m c t h (by omega) (by omega)]
  frame_out
  pointwise [k0_pay2, k0_pay1]
  exact Finset.sum_congr rfl fun r _ => by rw [blk0, blk1]; rfl

/-- A middle token block adds its own sum. -/
theorem next_point (c : Dev nD) (t : Fin cfg0.N) (h : 1 ≤ t.val % 4 ∧ t.val % 4 ≤ 2) (i j) :
    (outsAt0 m c t.val t.isLt).2 (ix2 i j) = @HAdd.hAdd EReal EReal EReal instHAdd ((outsAt0 m c (t.val - 1) (by omega)).2 (ix2 i j)) (term m c t i j) := by
  rw [outsAt0_B m c t (by omega) h (by omega)]
  frame_out
  pointwise [k0_pay3, k0_pay1]
  exact congrArg₂ (· + ·) (congrFun (Memref.IsWhole.read_unread (Val := Elt Ideal) _ _) _) (Finset.sum_congr rfl fun r _ => by rw [blk0, blk1]; rfl)

/-- The last token block writes the accumulator plus its own sum. -/
theorem last_point (c : Dev nD) (t : Fin cfg0.N) (h : t.val % 4 = 3) (i j) :
    (outsAt0 m c t.val t.isLt).1 (ix2 i j) = @HAdd.hAdd EReal EReal EReal instHAdd ((outsAt0 m c (t.val - 1) (by omega)).2 (ix2 i j)) (term m c t i j) := by
  rw [outsAt0_C m c t (by omega) (by omega) h]
  frame_out
  pointwise [k0_pay4, k0_pay1]
  exact congrArg₂ (· + ·) (congrFun (Memref.IsWhole.read_unread (Val := Elt Ideal) _ _) _) (Finset.sum_congr rfl fun r _ => by rw [blk0, blk1]; rfl)

/-- The kernel's array is the reference's. -/
theorem arr (c : Dev nD) : (dats m 0 c).arrAt 2 cfg0.N =
    Cert.OutDwRefIdeal.Read.val_main_v5 (F := Ideal) (m (c.tc.loc main_arg0)) (m (c.tc.loc main_arg1)) := by
  refine (dats m 0 c).arrAt_eq_of_covers 2 _ (by decide +kernel) fun t hf y => ?_
  have hN : t.val < 4 := lt_of_lt_of_eq t.isLt N_0
  have hlt : t.val < cfg0.N := t.isLt
  have ht : t.val % 4 = 3 := by have := (flush0_2 t).mp hf; omega
  blk_simp
  rw [after0_2]
  change S1024x1024.Idx at y
  idx_vars y
  have e : ((View.whole main_v0).slice (win0_2.rect t)).emb (ix2 y0 y1) = ix2 y0 y1 := by
    blk_ext [idx t]
  rw [e, ref_eq, last_point m c t ht]
  have h2 := next_point m c ⟨t.val - 1, by omega⟩ ⟨by simp only; omega, by simp only; omega⟩ y0 y1
  have h1 := next_point m c ⟨t.val - 1 - 1, by omega⟩ ⟨by simp only; omega, by simp only; omega⟩ y0 y1
  have h0 := first_point m c ⟨t.val - 1 - 1 - 1, by omega⟩ (by simp only; omega) y0 y1
  simp only at h0 h1 h2
  rw [h2, h1, h0, ← Cert.Tokens.sum_blocks]
  have er : ∀ (s : Fin grid0.N) (q : ℕ) (hq : q < 4), s.val % 4 = q → ∀ r : Fin 2048, row s r = ⟨q * 2048 + r.val, by omega⟩ := fun s q hq hs r => by
    apply Fin.ext
    simp only [row, hs]
  unfold term
  have b1 : t.val - 1 < grid0.N := by have : t.val < grid0.N := t.isLt; omega
  have b2 : t.val - 1 - 1 < grid0.N := by omega
  have b3 : t.val - 1 - 1 - 1 < grid0.N := by omega
  simp only [er ⟨t.val - 1 - 1 - 1, b3⟩ 0 (by omega) (by simp only; omega), er ⟨t.val - 1 - 1, b2⟩ 1 (by omega) (by simp only; omega),
    er ⟨t.val - 1, b1⟩ 2 (by omega) (by simp only; omega), er t 3 (by omega) ht]

end Cert.OutDw
-- ==== Proof.OutDwClaim.lean ====
module

public import proofs.«01_k».proof.Defs
public import proofs.«01_k».proof.Proof.OutDw
public import proofs.«01_k».proof.Proof.Gen.OutDwRefIdeal.Run
public import Idealize.ShloMosaic.Lib.Claim
public import Idealize.ShloMosaic.Init

@[expose] public section

noncomputable section

namespace Cert.OutDw

open Idealize.ShloMosaic Idealize.SL.Sem

set_option maxRecDepth 65536 in
/-- The kernel of the output projection's weight gradient leaves the gradient in the weight. -/
theorem algebraic : Cert.algebraic_OutDwIdeal_OutDwRefIdeal
    (hOutDwIdeal := Cert.OutDwIdeal.Gen.facts) (hOutDwRefIdeal := Cert.OutDwRefIdeal.Gen.facts) := by
  pair_intro
  · run_from Cert.OutDwIdeal.Value.run_blocks m g
  · run_from Cert.OutDwRefIdeal.Value.run m' g'
    all_goals obtain ⟨h0, h1⟩ := hagree c
    · rw [Cert.OutDwRefIdeal.Read.val_main_v5_eq]
      try rw [h0]
      try rw [h1]
      exact (arr m c).symm

/-- The reference runs, leaves its arguments as they were, and counts nothing. -/
theorem ref_frame : Cert.quiescent_OutDwRefIdeal (hOutDwRefIdeal := Cert.OutDwRefIdeal.Gen.facts) := fun m ρ _ =>
  (θ_run Cert.OutDwRefIdeal.defs _ _).mono (fun r h => ⟨fun c => (h c).2, Idealize.ShloMosaic.sem_eq_zero_of_no_sems (by decide) r.2⟩)
    (Cert.OutDwRefIdeal.Value.run m ρ)

end Cert.OutDw

end
-- ==== Proof.FfnFwdRun.lean ====
module

public import proofs.«01_k».proof.Defs
public import proofs.«01_k».proof.Proof.Gen.FfnFwd
public import proofs.«01_k».proof.Proof.Gen.FfnFwdIdeal
public import proofs.«01_k».proof.Proof.Gen.FfnFwdIdeal.Skeleton
public import proofs.«01_k».proof.Proof.Gen.FfnFwdIdeal.Points
public import proofs.«01_k».proof.Proof.Gen.FfnFwdIdeal.Launch
public import proofs.«01_k».proof.Proof.Gen.FfnFwdIdeal.Frame
public import proofs.«01_k».proof.Proof.Gen.FfnFwdRefIdeal
public import proofs.«01_k».proof.Proof.Gen.FfnFwdRefIdeal.Run
public import Idealize.ShloMosaic.Lib.Pipeline.FrameBody
public import Idealize.ShloMosaic.Lib.Claim
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.FfnFwdRun

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four conditions at a grid point -/

/-- The accumulator is set: the condition of the body's second conditional. -/
abbrev sets (i : grid0.Coords) : Prop := Scalar.cmpi .ne (Scalar.extui (Scalar.cmpi .eq (BitVec.ofNat 32 (i 1).val) 0#32)) 0#32 = 1#1

/-- The accumulator is added to: the condition of the third, which never holds. -/
abbrev adds (i : grid0.Coords) : Prop :=
  Scalar.cmpi .ne (Scalar.extui (Scalar.andi (Scalar.cmpi .sgt (BitVec.ofNat 32 (i 1).val) 0#32) (Scalar.cmpi .slt (BitVec.ofNat 32 (i 1).val) 1#32))) 0#32 = 1#1

/-- The norm is taken at the first of a row block's two points. -/
theorem norm_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The accumulator is set at the first of the two points, -/
theorem sets_iff : ∀ t : Fin cfg0.N, sets (grid0.coords t) ↔ t.val % 2 = 0 :=
  (by decide +kernel : ∀ t : Fin grid0.N, sets (grid0.coords t) ↔ t.val % 2 = 0)

/-- never added to, -/
theorem not_adds : ∀ t : Fin cfg0.N, ¬adds (grid0.coords t) :=
  (by decide +kernel : ∀ t : Fin grid0.N, ¬adds (grid0.coords t))

/-- and the result is written at the second. -/
theorem last_iff : ∀ t : Fin cfg0.N, k0_cond4 (grid0.coords t) = 1#1 ↔ t.val % 2 = 1 :=
  (by decide +kernel : ∀ t : Fin grid0.N, k0_cond4 (grid0.coords t) = 1#1 ↔ t.val % 2 = 1)

/-! ## The body at the two points of a row block -/

set_option maxHeartbeats 1000000 in
/-- At the first point of a row block the body leaves the norm's rows in their buffer and in the scratch, the three tiles it stores, and its part of the sum in the accumulator; the result's buffer it does not touch. -/
theorem run_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (h1 : k0_cond1 i = 1#1) (h2 : sets i) (h3 : ¬adds i) (h4 : ¬k0_cond4 i = 1#1)
    (x xo : Vec F S512x1024 .f32) (w : Vec F S1x1024 .f32) (wg wu wd : Vec F S1408x1024 .bf16) (E : Set ℕ) (K : PUnit → sProp 𝕄) :
    iprop(owns (c : Thread nD τ) arg2 fullShare x ∗ owns (c : Thread nD τ) arg3 fullShare w ∗ owns (c : Thread nD τ) arg4 fullShare wg ∗ owns (c : Thread nD τ) arg5 fullShare wu ∗ owns (c : Thread nD τ) arg6 fullShare wd ∗ owns (c : Thread nD τ) arg7 fullShare xo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x ∗ owns (c : Thread nD τ) arg3 fullShare w ∗ owns (c : Thread nD τ) arg4 fullShare wg ∗ owns (c : Thread nD τ) arg5 fullShare wu ∗ owns (c : Thread nD τ) arg6 fullShare wd ∗ owns (c : Thread nD τ) arg7 fullShare xo ∗ owns (c : Thread nD τ) arg8 fullShare (k0_pay4 x w) ∗ owns (c : Thread nD τ) arg9 fullShare (k0_pay9 (k0_pay5 x w) wg) ∗ owns (c : Thread nD τ) arg10 fullShare (k0_pay10 (k0_pay5 x w) wu) ∗ owns (c : Thread nD τ) arg11 fullShare (k0_pay8 (k0_pay5 x w) wg wu) ∗ owns (c : Thread nD τ) arg12 fullShare (k0_pay5 x w) ∗ owns (c : Thread nD τ) arg13 fullShare (k0_pay1 (k0_pay11 (k0_pay5 x w) wg wu wd))) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]
  unfold cc0_ffn_fwd_skel
  simp only [k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact h1 | sl_exact h2 | sl_exact h3 | sl_exact h4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; refine (View.read_writes_full _ _ _ _ _).trans ?_; (try unfold run_first.sl.v3); (try unfold run_first.sl.H12_1); repeat first | rw [View.readAt_full] | rw [View.readCov_full]
    simp only [Memref.IsWhole.read_unread]
  isplitl [H9]
  · iexists _; isplitr
    swap; · iexact H9
    ipureintro; refine (View.read_writes_full _ _ _ _ _).trans ?_; (try unfold run_first.sl.v3); (try unfold run_first.sl.H12_1); repeat first | rw [View.readAt_full] | rw [View.readCov_full]
    simp only [Memref.IsWhole.read_unread]
  isplitl [H10]
  · iexists _; isplitr
    swap; · iexact H10
    ipureintro; refine (View.read_writes_full _ _ _ _ _).trans ?_; (try unfold run_first.sl.v3); (try unfold run_first.sl.H12_1); repeat first | rw [View.readAt_full] | rw [View.readCov_full]
    simp only [Memref.IsWhole.read_unread]
  isplitl [H11]
  · iexists _; isplitr
    swap; · iexact H11
    ipureintro; refine (View.read_writes_full _ _ _ _ _).trans ?_; (try unfold run_first.sl.v3); (try unfold run_first.sl.H12_1); repeat first | rw [View.readAt_full] | rw [View.readCov_full]
    simp only [Memref.IsWhole.read_unread]
  isplitl [H12]
  · iexists _; isplitr
    swap; · iexact H12
    ipureintro; refine (View.read_writes_full _ _ _ _ _).trans ?_; (try unfold run_first.sl.v3); (try unfold run_first.sl.H12_1); repeat first | rw [View.readAt_full] | rw [View.readCov_full]
    simp only [Memref.IsWhole.read_unread]
  iexists _; isplitr
  swap; · iexact H13
  ipureintro; refine (View.read_writes_full _ _ _ _ _).trans ?_; (try unfold run_first.sl.v3); (try unfold run_first.sl.H12_1); repeat first | rw [View.readAt_full] | rw [View.readCov_full]
  simp only [Memref.IsWhole.read_unread]

set_option maxHeartbeats 1000000 in
/-- At the second point it leaves the three tiles and the result, from the scratch and the accumulator that the first point left; the norm's buffer it does not touch. -/
theorem run_second (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole) (arg13 : Memref sig .tc .vmem S512x1024 .f32) (harg13 : arg13.IsWhole)
    (h1 : ¬k0_cond1 i = 1#1) (h2 : ¬sets i) (h3 : ¬adds i) (h4 : k0_cond4 i = 1#1)
    (x acc : Vec F S512x1024 .f32) (w : Vec F S1x1024 .f32) (wg wu wd : Vec F S1408x1024 .bf16) (xh hs : Vec F S512x1024 .bf16) (E : Set ℕ) (K : PUnit → sProp 𝕄) :
    iprop(owns (c : Thread nD τ) arg2 fullShare x ∗ owns (c : Thread nD τ) arg3 fullShare w ∗ owns (c : Thread nD τ) arg4 fullShare wg ∗ owns (c : Thread nD τ) arg5 fullShare wu ∗ owns (c : Thread nD τ) arg6 fullShare wd ∗ (∃ d, owns (c : Thread nD τ) arg7 fullShare d) ∗ owns (c : Thread nD τ) arg8 fullShare xh ∗ (∃ d, owns (c : Thread nD τ) arg9 fullShare d) ∗ (∃ d, owns (c : Thread nD τ) arg10 fullShare d) ∗ (∃ d, owns (c : Thread nD τ) arg11 fullShare d) ∗ owns (c : Thread nD τ) arg12 fullShare hs ∗ owns (c : Thread nD τ) arg13 fullShare acc
        ∗ (iprop(owns (c : Thread nD τ) arg2 fullShare x ∗ owns (c : Thread nD τ) arg3 fullShare w ∗ owns (c : Thread nD τ) arg4 fullShare wg ∗ owns (c : Thread nD τ) arg5 fullShare wu ∗ owns (c : Thread nD τ) arg6 fullShare wd ∗ owns (c : Thread nD τ) arg7 fullShare (k0_pay3 (k0_pay11 hs wg wu wd) acc x) ∗ owns (c : Thread nD τ) arg8 fullShare xh ∗ owns (c : Thread nD τ) arg9 fullShare (k0_pay9 hs wg) ∗ owns (c : Thread nD τ) arg10 fullShare (k0_pay10 hs wu) ∗ owns (c : Thread nD τ) arg11 fullShare (k0_pay8 hs wg wu) ∗ owns (c : Thread nD τ) arg12 fullShare hs ∗ owns (c : Thread nD τ) arg13 fullShare acc) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]
  unfold cc0_ffn_fwd_skel
  simp only [k0_part1_eq_skeleton]
  unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%d9, %f9, %hf9, H9⟩, ⟨%d10, %f10, %hf10, H10⟩, ⟨%d11, %f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg12.eq_unread hf12; obtain rfl := harg13.eq_unread hf13
  sl_exec (disch := first | sl_exact h1 | sl_exact h2 | sl_exact h3 | sl_exact h4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; refine (View.read_writes_full _ _ _ _ _).trans ?_; repeat first | rw [View.readAt_full] | rw [View.readCov_full]
    simp only [Memref.IsWhole.read_unread]
  isplitl [H8]
  · iexists _; isplitr
    swap; · iexact H8
    ipureintro; exact harg8.read_unread _
  isplitl [H9]
  · iexists _; isplitr
    swap; · iexact H9
    ipureintro; refine (View.read_writes_full _ _ _ _ _).trans ?_; repeat first | rw [View.readAt_full] | rw [View.readCov_full]
    simp only [Memref.IsWhole.read_unread]
  isplitl [H10]
  · iexists _; isplitr
    swap; · iexact H10
    ipureintro; refine (View.read_writes_full _ _ _ _ _).trans ?_; repeat first | rw [View.readAt_full] | rw [View.readCov_full]
    simp only [Memref.IsWhole.read_unread]
  isplitl [H11]
  · iexists _; isplitr
    swap; · iexact H11
    ipureintro; refine (View.read_writes_full _ _ _ _ _).trans ?_; repeat first | rw [View.readAt_full] | rw [View.readCov_full]
    simp only [Memref.IsWhole.read_unread]
  isplitl [H12]
  · iexists _; isplitr
    swap; · iexact H12
    ipureintro; exact harg12.read_unread _
  iexists _; isplitr
  swap; · iexact H13
  ipureintro; exact harg13.read_unread _

/-! ## Where the windows are idle -/

theorem live (w : Fin cfg0.W) (hw : w.val < 5 ∨ 6 < w.val) : ∀ t : Fin cfg0.N, cfg0.idle w (grid0.coords t) = false := by
  have h : ∀ w : Fin 10, (w.val < 5 ∨ 6 < w.val) → ∀ t : Fin grid0.N, cfg0.idle w (grid0.coords t) = false := by decide +kernel
  exact h w hw

theorem idle5 : ∀ t : Fin cfg0.N, t.val % 2 = 0 → cfg0.idle 5 (grid0.coords t) = true :=
  (by decide +kernel : ∀ t : Fin grid0.N, t.val % 2 = 0 → cfg0.idle 5 (grid0.coords t) = true)

theorem live5 : ∀ t : Fin cfg0.N, t.val % 2 = 1 → cfg0.idle 5 (grid0.coords t) = false :=
  (by decide +kernel : ∀ t : Fin grid0.N, t.val % 2 = 1 → cfg0.idle 5 (grid0.coords t) = false)

theorem live6 : ∀ t : Fin cfg0.N, t.val % 2 = 0 → cfg0.idle 6 (grid0.coords t) = false :=
  (by decide +kernel : ∀ t : Fin grid0.N, t.val % 2 = 0 → cfg0.idle 6 (grid0.coords t) = false)

theorem idle6 : ∀ t : Fin cfg0.N, t.val % 2 = 1 → cfg0.idle 6 (grid0.coords t) = true :=
  (by decide +kernel : ∀ t : Fin grid0.N, t.val % 2 = 1 → cfg0.idle 6 (grid0.coords t) = true)

theorem not_flush (w : Fin cfg0.W) (hw : w = 5 ∨ w = 6) (t : Fin cfg0.N) (h : t.val % 2 = 0) : (cfg0.win w).flush t = false := by
  rcases hw with rfl | rfl
  · exact Bool.eq_false_iff.mpr fun hf => by have := (flush0_5 t).mp hf; omega
  · exact Bool.eq_false_iff.mpr fun hf => by have := (flush0_6 t).mp hf; omega

/-! ## What the buffers hold after each point -/

/-- The first point of the row block that point `t` belongs to. -/
def first (t : Fin cfg0.N) : Fin cfg0.N := ⟨t.val - t.val % 2, Nat.lt_of_le_of_lt (Nat.sub_le _ _) t.isLt⟩

theorem first_of_even (t : Fin cfg0.N) (h : t.val % 2 = 0) : first t = t := Fin.ext (by simp only [first]; omega)

theorem first_of_odd (t : Fin cfg0.N) (h : t.val % 2 = 1) :
    first ⟨t.val - 1, Nat.lt_of_le_of_lt (Nat.sub_le _ _) t.isLt⟩ = first t := Fin.ext (by simp only [first]; omega)

/-- The norm's rows, as the result's block and as the scratch holds them, -/
def normed (c : Dev nD) (t : Fin cfg0.N) : Vec F S512x1024 .bf16 := k0_pay4 (iblk m c 0 (first t)) (iblk m c 1 (first t))

def hid (c : Dev nD) (t : Fin cfg0.N) : Vec F S512x1024 .bf16 := k0_pay5 (iblk m c 0 (first t)) (iblk m c 1 (first t))

/-- one tile's part of the sum, -/
def part (c : Dev nD) (t : Fin cfg0.N) : Vec F S512x1024 .f32 := k0_pay11 (hid m c t) (iblk m c 2 t) (iblk m c 3 t) (iblk m c 4 t)

/-- and the accumulator, set at the first point. -/
def acc (c : Dev nD) (t : Fin cfg0.N) : Vec F S512x1024 .f32 := k0_pay1 (part m c (first t))

theorem hid_first (c : Dev nD) (t : Fin cfg0.N) : hid m c (first t) = hid m c t := by
  have : first (first t) = first t := Fin.ext (by simp only [first]; omega)
  unfold hid; rw [this]

/-- The two scratch buffers, whole. -/
abbrev scH : Memref sig .tc .vmem S512x1024 .bf16 := Memref.whole cc0_scratch0
abbrev scA : Memref sig .tc .vmem S512x1024 .f32 := Memref.whole cc0_scratch1

theorem start_eq (c : Dev nD) : (Pipeline.ΦA spec0 c : sProp 𝕄)
    = iprop(iprop((∃ d, owns (c : Thread nD τ) scH fullShare d) ∗ (∃ d, owns (c : Thread nD τ) scA fullShare d)) ∗ (∃ r, prngReg c r)) := by
  unfold Pipeline.ΦA; rw [scopedRest0_eq]; simp only [scH, scA, owns_whole]; try rfl

/-- Between points: before the first anything, afterwards the scratch buffers at what the point before left. -/
def between (c : Dev nD) : (n : ℕ) → n ≤ cfg0.N → sProp 𝕄
  | 0, _ => Pipeline.ΦA spec0 c
  | n + 1, hn => iprop(iprop(owns (c : Thread nD τ) scH fullShare (hid m c ⟨n, hn⟩) ∗ owns (c : Thread nD τ) scA fullShare (acc m c ⟨n, hn⟩)) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) : between m c n h
    = iprop(iprop(owns (c : Thread nD τ) scH fullShare (hid m c ⟨n - 1, by omega⟩) ∗ owns (c : Thread nD τ) scA fullShare (acc m c ⟨n - 1, by omega⟩)) ∗ (∃ r, prngReg c r)) := by
  cases n with
  | zero => exact absurd rfl hz
  | succ n => rfl

/-- The pipeline's proof data: each input at its block, each output at what the row block's points make of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (part m c t) (acc m c t) (iblk m c 0 t)
    | ⟨6, _⟩ => normed m c t
    | ⟨7, _⟩ => k0_pay9 (hid m c t) (iblk m c 2 t)
    | ⟨8, _⟩ => k0_pay10 (hid m c t) (iblk m c 3 t)
    | ⟨9, _⟩ => k0_pay8 (hid m c t) (iblk m c 2 t) (iblk m c 3 t)
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_here (c : Dev nD) (t : Fin cfg0.N) : (dats m 0 c).Φ t.castSucc = between m c t.val (Nat.le_of_lt t.isLt) := by
  dsimp only [dats]; exact Pipeline.Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay3 (part m c t) (acc m c t) (iblk m c 0 t) := by dsimp only [dats]
theorem after6 (c : Dev nD) (t : Fin cfg0.N) : (dats m 0 c).after 6 t = normed m c t := by dsimp only [dats]
theorem after7 (c : Dev nD) (t : Fin cfg0.N) : (dats m 0 c).after 7 t = k0_pay9 (hid m c t) (iblk m c 2 t) := by dsimp only [dats]
theorem after8 (c : Dev nD) (t : Fin cfg0.N) : (dats m 0 c).after 8 t = k0_pay10 (hid m c t) (iblk m c 3 t) := by dsimp only [dats]
theorem after9 (c : Dev nD) (t : Fin cfg0.N) : (dats m 0 c).after 9 t = k0_pay8 (hid m c t) (iblk m c 2 t) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- At the second point the norm's buffer still holds what the first left. -/
theorem before6 (c : Dev nD) (t : Fin cfg0.N) (h : t.val % 2 = 1) (d) : (dats m 0 c).before 6 t d = normed m c t := by
  have hp : (⟨t.val - 1, Nat.lt_of_le_of_lt (Nat.sub_le _ _) t.isLt⟩ : Fin cfg0.N).val % 2 = 0 := by simp only; omega
  rw [(dats m 0 c).before_of_pos 6 t (by omega) ((cfg0.win 6).fetch_out rfl t), not_flush 6 (.inr rfl) _ hp, if_neg Bool.false_ne_true]
  unfold Dat.left
  rw [live6 _ hp]
  unfold normed
  rw [← first_of_odd t h]
  rfl

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- A window that is live at a point is left at its contents there. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So is one that is idle at a point where it is written back. -/
theorem leaves_back (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 4800000 in
/-- The body does what the proof data says: the two cases are the two points of a row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = iprop(iprop(owns (c : Thread nD τ) scH fullShare (hid m c t) ∗ owns (c : Thread nD τ) scA fullShare (acc m c t)) ∗ (∃ r, prngReg c r)) from rfl]
  rw [leaves_live m c 0 t (live 0 (by decide) t), after0]
  rw [leaves_live m c 1 t (live 1 (by decide) t), after1]
  rw [leaves_live m c 2 t (live 2 (by decide) t), after2]
  rw [leaves_live m c 3 t (live 3 (by decide) t), after3]
  rw [leaves_live m c 4 t (live 4 (by decide) t), after4]
  rw [leaves_live m c 7 t (live 7 (by decide) t), after7]
  rw [leaves_live m c 8 t (live 8 (by decide) t), after8]
  rw [leaves_live m c 9 t (live 9 (by decide) t), after9]
  by_cases h : t.val % 2 = 0
  · rw [Dat.leavesExact_idle (dats m 0 c) 5 t (idle5 t h) (not_flush 5 (.inl rfl) t h), leaves_live m c 6 t (live6 t h), after6]
    have e := first_of_even t h
    unfold acc normed part hid
    rw [e, e]
    by_cases hz : t.val = 0
    · rw [between_here, between_zero m c _ _ hz, start_eq]
      iintro ⟨⟨⟨HS, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ _ _ ((norm_iff t).mpr h) ((sets_iff t).mpr h) (not_adds t) (fun h4 => by have := (last_iff t).mp h4; omega) (iblk m c 0 t) _ (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS]; · iexact HS
      isplitl [HA]; · iexact HA
      iintro ⟨H0, H1, H2, H3, H4, H5, H6, H7, H8, H9, HS, HA⟩
      isplitl [HS HA Hg]
      · isplitl [HS HA]
        · isplitl [HS]; · iexact HS
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      iexact H9
    · rw [between_here, between_pos m c _ _ hz]
      iintro ⟨⟨⟨HS, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ _ _ ((norm_iff t).mpr h) ((sets_iff t).mpr h) (not_adds t) (fun h4 => by have := (last_iff t).mp h4; omega) (iblk m c 0 t) _ (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS]; · iexists _; iexact HS
      isplitl [HA]; · iexists _; iexact HA
      iintro ⟨H0, H1, H2, H3, H4, H5, H6, H7, H8, H9, HS, HA⟩
      isplitl [HS HA Hg]
      · isplitl [HS HA]
        · isplitl [HS]; · iexact HS
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexact H8
      iexact H9
  · have h' : t.val % 2 = 1 := by omega
    simp only [before6 m c t h']
    rw [leaves_live m c 5 t (live5 t h'), after5, leaves_back m c 6 t (idle6 t h') ((flush0_6 t).mpr h'), after6]
    rw [between_here, between_pos m c _ _ (by omega)]
    have eh : hid m c ⟨t.val - 1, Nat.lt_of_le_of_lt (Nat.sub_le _ _) t.isLt⟩ = hid m c t := by unfold hid; rw [first_of_odd t h']
    have ea : acc m c ⟨t.val - 1, Nat.lt_of_le_of_lt (Nat.sub_le _ _) t.isLt⟩ = acc m c t := by unfold acc; rw [first_of_odd t h']
    rw [eh, ea]
    unfold part
    iintro ⟨⟨⟨HS, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_second c (grid0.coords t) _ _ _ _ _ _ _ _ _ _ _ _ _ _ _ _ _ _ _ _ _ _ _ _ (fun h1 => h ((norm_iff t).mp h1)) (fun h2 => h ((sets_iff t).mp h2)) (not_adds t) ((last_iff t).mpr h') (iblk m c 0 t) (acc m c t) (iblk m c 1 t) (iblk m c 2 t) (iblk m c 3 t) (iblk m c 4 t) (normed m c t) (hid m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    isplitl [H8]; · iexists _; iexact H8
    isplitl [H9]; · iexists _; iexact H9
    isplitl [HS]; · iexact HS
    isplitl [HA]; · iexact HA
    iintro ⟨H0, H1, H2, H3, H4, H5, H6, H7, H8, H9, HS, HA⟩
    isplitl [HS HA Hg]
    · isplitl [HS HA]
      · isplitl [HS]; · iexact HS
        iexact HA
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem leave (c : Dev nD) : (dats m 0 c).Φ (Fin.last cfg0.N) ⊢ Pipeline.ΦA spec0 c := by
  have hN : cfg0.N = 32 := N_0
  rw [show (dats m 0 c).Φ (Fin.last cfg0.N) = between m c cfg0.N le_rfl from rfl, between_pos m c _ _ (by omega), start_eq]
  iintro ⟨⟨HS, HA⟩, Hg⟩
  isplitl [HS HA]
  · isplitl [HS]
    · iexists _; iexact HS
    iexists _; iexact HA
  iexact Hg

/-! ## The run and the frame -/

set_option backward.isDefEq.respectTransparency.types false in
/-- The launch: every array of the pipeline ends at what the proof data says, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The arguments end as they were launched, and the semaphores at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))
/-! ## The kernel as the problem gives it: the same program text at the machine's numbers -/

section Same
variable [hk : Cert.FfnFwd.Facts] [hi : Cert.FfnFwdIdeal.Facts]

/-- The two bodies are one. -/
theorem body_same : @Cert.FfnFwd.cc0_ffn_fwd F _ _ = @Cert.FfnFwdIdeal.cc0_ffn_fwd F _ _ := rfl

/-- So are the two tables that hold them: each has the one label, and calls the body with the same arguments. -/
theorem table_same : @Cert.FfnFwd.defs₀ F _ _ = @Cert.FfnFwdIdeal.defs₀ F _ _ := by
  unfold Cert.FfnFwd.defs₀ Cert.FfnFwdIdeal.defs₀
  refine congrArg Defs.onTc (funext fun p => funext fun x => ?_)
  obtain ⟨k, hk⟩ := p
  cases k with
  | succ n => exact absurd hk (by omega)
  | zero =>
    obtain ⟨t, z⟩ := x
    first | rfl | rw [body_same]

/-- And the tables with the pipeline's own entries added. -/
theorem defs_same : @Cert.FfnFwd.defs F _ _ = @Cert.FfnFwdIdeal.defs F _ _ := by
  unfold Cert.FfnFwd.defs Cert.FfnFwdIdeal.defs
  exact congrArg (Pipeline.defs (Cert.FfnFwdIdeal.pcfgs (F := F))) table_same

end Same

/-- So its frame is the run's. -/
theorem frame_kernel : Cert.quiescent_FfnFwd := by
  intro m ρ _
  rw [defs_same (F := Bits)]
  exact frame_ideal (F := Bits) m ρ

end Cert.FfnFwdRun
-- ==== Proof.FfnFwd.lean ====
module

public import proofs.«01_k».proof.Proof.FfnFwdRun
public import proofs.«01_k».proof.Proof.Gen.FfnFwdRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.FfnFwdValue

open Cert.FfnFwdIdeal Cert.FfnFwdIdeal.Gen Cert.FfnFwdRun Idealize.ShloMosaic Idealize.ShloMosaic.TcCoe Idealize.SL.Sem Idealize.ShloMosaic.StableHlo

variable (m : (ℓ : Loc nD τ sig) → Buf (Elt Ideal) ℓ)

/-! ## The mathematics -/

/-- Entry `(r, d)` of the normed input. -/
def nrm (x : BufTy.Contents (Elt Ideal) ⟨S8192x1024, .f32⟩) (w : BufTy.Contents (Elt Ideal) ⟨S1024, .f32⟩) (r : Fin 8192) (d : Fin 1024) : EReal :=
  x (ix2 r d) * Ideal.rsqrt (Ideal.div (∑ k, x (ix2 r k) * x (ix2 r k)) (Ideal.ofBits FTy.f32 0x44800000#32) + Ideal.ofBits FTy.f32 0x358637BD#32) * w (ix1 d)

/-- Entry `(r, j)` of the normed input times a matrix. -/
def proj (x : BufTy.Contents (Elt Ideal) ⟨S8192x1024, .f32⟩) (w : BufTy.Contents (Elt Ideal) ⟨S1024, .f32⟩)
    (a : BufTy.Contents (Elt Ideal) ⟨S1024x2816, .f32⟩) (r : Fin 8192) (j : Fin 2816) : EReal :=
  ∑ k : Fin 1024, nrm x w r k * a (ix2 k j)

/-- Entry `(r, j)` of the hidden layer: `g / (1 + exp (-g))` times `u`. -/
def act (x : BufTy.Contents (Elt Ideal) ⟨S8192x1024, .f32⟩) (w : BufTy.Contents (Elt Ideal) ⟨S1024, .f32⟩)
    (a b : BufTy.Contents (Elt Ideal) ⟨S1024x2816, .f32⟩) (r : Fin 8192) (j : Fin 2816) : EReal :=
  proj x w a r j * Ideal.div 1 (1 + Ideal.exp (-proj x w a r j)) * proj x w b r j

/-- Entry `(r, d)` of the result: the input plus half the hidden layer times the last matrix. -/
def out (x : BufTy.Contents (Elt Ideal) ⟨S8192x1024, .f32⟩) (w : BufTy.Contents (Elt Ideal) ⟨S1024, .f32⟩)
    (a b : BufTy.Contents (Elt Ideal) ⟨S1024x2816, .f32⟩) (e : BufTy.Contents (Elt Ideal) ⟨S2816x1024, .f32⟩) (r : Fin 8192) (d : Fin 1024) : EReal :=
  x (ix2 r d) + Ideal.ofBits FTy.f32 0x3F000000#32 * ∑ j : Fin 2816, act x w a b r j * e (ix2 j d)

/-! ## The reference's results, index by index -/

theorem ref_nrm (x : BufTy.Contents (Elt Ideal) ⟨S8192x1024, .f32⟩) (w : BufTy.Contents (Elt Ideal) ⟨S1024, .f32⟩) (r d) :
    Cert.FfnFwdRefIdeal.Read.val_main_v12 (F := Ideal) x w (ix2 r d) = nrm x w r d := by
  pointwise [Cert.FfnFwdRefIdeal.Read.val_main_v0, Cert.FfnFwdRefIdeal.Read.val_main_cst,
    Cert.FfnFwdRefIdeal.Read.val_main_v1, Cert.FfnFwdRefIdeal.Read.val_main_v2,
    Cert.FfnFwdRefIdeal.Read.val_main_cst_0, Cert.FfnFwdRefIdeal.Read.val_main_v3,
    Cert.FfnFwdRefIdeal.Read.val_main_v4, Cert.FfnFwdRefIdeal.Read.val_main_cst_1,
    Cert.FfnFwdRefIdeal.Read.val_main_v5, Cert.FfnFwdRefIdeal.Read.val_main_v6,
    Cert.FfnFwdRefIdeal.Read.val_main_v7, Cert.FfnFwdRefIdeal.Read.val_main_v8,
    Cert.FfnFwdRefIdeal.Read.val_main_v9, Cert.FfnFwdRefIdeal.Read.val_main_v10,
    Cert.FfnFwdRefIdeal.Read.val_main_v11, Cert.FfnFwdRefIdeal.Read.val_main_v12,
    Cert.FfnFwdRefIdeal.Read.val_main_v13, Cert.FfnFwdRefIdeal.Read.val_main_v14,
    Cert.FfnFwdRefIdeal.Read.val_main_call0_v0, Cert.FfnFwdRefIdeal.Read.val_main_call0_v1,
    Cert.FfnFwdRefIdeal.Read.val_main_call0_cst, Cert.FfnFwdRefIdeal.Read.val_main_call0_v2,
    Cert.FfnFwdRefIdeal.Read.val_main_call0_v3, Cert.FfnFwdRefIdeal.Read.val_main_call0_cst_0,
    Cert.FfnFwdRefIdeal.Read.val_main_call0_v4, Cert.FfnFwdRefIdeal.Read.val_main_call0_v5,
    Cert.FfnFwdRefIdeal.Read.val_main_v15, Cert.FfnFwdRefIdeal.Read.val_main_v16,
    Cert.FfnFwdRefIdeal.Read.val_main_v17, Cert.FfnFwdRefIdeal.Read.val_main_cst_2,
    Cert.FfnFwdRefIdeal.Read.val_main_v18, Cert.FfnFwdRefIdeal.Read.val_main_v19,
    Cert.FfnFwdRefIdeal.Read.val_main_v20, Cert.FfnFwdRefIdeal.Read.val_main_v21,
    Cert.FfnFwdRefIdeal.Read.val_main_v22, Cert.FfnFwdRefIdeal.Read.val_main_v23,
    Cert.FfnFwdRefIdeal.Read.val_main_v24]
  rfl

theorem ref_h (x : BufTy.Contents (Elt Ideal) ⟨S8192x1024, .f32⟩) (w : BufTy.Contents (Elt Ideal) ⟨S1024, .f32⟩) (r d) :
    Cert.FfnFwdRefIdeal.Read.val_main_v21 (F := Ideal) x w (ix2 r d) = nrm x w r d := by
  pointwise [Cert.FfnFwdRefIdeal.Read.val_main_v0, Cert.FfnFwdRefIdeal.Read.val_main_cst,
    Cert.FfnFwdRefIdeal.Read.val_main_v1, Cert.FfnFwdRefIdeal.Read.val_main_v2,
    Cert.FfnFwdRefIdeal.Read.val_main_cst_0, Cert.FfnFwdRefIdeal.Read.val_main_v3,
    Cert.FfnFwdRefIdeal.Read.val_main_v4, Cert.FfnFwdRefIdeal.Read.val_main_cst_1,
    Cert.FfnFwdRefIdeal.Read.val_main_v5, Cert.FfnFwdRefIdeal.Read.val_main_v6,
    Cert.FfnFwdRefIdeal.Read.val_main_v7, Cert.FfnFwdRefIdeal.Read.val_main_v8,
    Cert.FfnFwdRefIdeal.Read.val_main_v9, Cert.FfnFwdRefIdeal.Read.val_main_v10,
    Cert.FfnFwdRefIdeal.Read.val_main_v11, Cert.FfnFwdRefIdeal.Read.val_main_v12,
    Cert.FfnFwdRefIdeal.Read.val_main_v13, Cert.FfnFwdRefIdeal.Read.val_main_v14,
    Cert.FfnFwdRefIdeal.Read.val_main_call0_v0, Cert.FfnFwdRefIdeal.Read.val_main_call0_v1,
    Cert.FfnFwdRefIdeal.Read.val_main_call0_cst, Cert.FfnFwdRefIdeal.Read.val_main_call0_v2,
    Cert.FfnFwdRefIdeal.Read.val_main_call0_v3, Cert.FfnFwdRefIdeal.Read.val_main_call0_cst_0,
    Cert.FfnFwdRefIdeal.Read.val_main_call0_v4, Cert.FfnFwdRefIdeal.Read.val_main_call0_v5,
    Cert.FfnFwdRefIdeal.Read.val_main_v15, Cert.FfnFwdRefIdeal.Read.val_main_v16,
    Cert.FfnFwdRefIdeal.Read.val_main_v17, Cert.FfnFwdRefIdeal.Read.val_main_cst_2,
    Cert.FfnFwdRefIdeal.Read.val_main_v18, Cert.FfnFwdRefIdeal.Read.val_main_v19,
    Cert.FfnFwdRefIdeal.Read.val_main_v20, Cert.FfnFwdRefIdeal.Read.val_main_v21,
    Cert.FfnFwdRefIdeal.Read.val_main_v22, Cert.FfnFwdRefIdeal.Read.val_main_v23,
    Cert.FfnFwdRefIdeal.Read.val_main_v24]
  rfl

theorem ref_g (x : BufTy.Contents (Elt Ideal) ⟨S8192x1024, .f32⟩) (w : BufTy.Contents (Elt Ideal) ⟨S1024, .f32⟩)
    (a : BufTy.Contents (Elt Ideal) ⟨S1024x2816, .f32⟩) (r j) :
    Cert.FfnFwdRefIdeal.Read.val_main_v22 (F := Ideal) x w a (ix2 r j) = proj x w a r j := by
  pointwise [Cert.FfnFwdRefIdeal.Read.val_main_v0, Cert.FfnFwdRefIdeal.Read.val_main_cst,
    Cert.FfnFwdRefIdeal.Read.val_main_v1, Cert.FfnFwdRefIdeal.Read.val_main_v2,
    Cert.FfnFwdRefIdeal.Read.val_main_cst_0, Cert.FfnFwdRefIdeal.Read.val_main_v3,
    Cert.FfnFwdRefIdeal.Read.val_main_v4, Cert.FfnFwdRefIdeal.Read.val_main_cst_1,
    Cert.FfnFwdRefIdeal.Read.val_main_v5, Cert.FfnFwdRefIdeal.Read.val_main_v6,
    Cert.FfnFwdRefIdeal.Read.val_main_v7, Cert.FfnFwdRefIdeal.Read.val_main_v8,
    Cert.FfnFwdRefIdeal.Read.val_main_v9, Cert.FfnFwdRefIdeal.Read.val_main_v10,
    Cert.FfnFwdRefIdeal.Read.val_main_v11, Cert.FfnFwdRefIdeal.Read.val_main_v12,
    Cert.FfnFwdRefIdeal.Read.val_main_v13, Cert.FfnFwdRefIdeal.Read.val_main_v14,
    Cert.FfnFwdRefIdeal.Read.val_main_call0_v0, Cert.FfnFwdRefIdeal.Read.val_main_call0_v1,
    Cert.FfnFwdRefIdeal.Read.val_main_call0_cst, Cert.FfnFwdRefIdeal.Read.val_main_call0_v2,
    Cert.FfnFwdRefIdeal.Read.val_main_call0_v3, Cert.FfnFwdRefIdeal.Read.val_main_call0_cst_0,
    Cert.FfnFwdRefIdeal.Read.val_main_call0_v4, Cert.FfnFwdRefIdeal.Read.val_main_call0_v5,
    Cert.FfnFwdRefIdeal.Read.val_main_v15, Cert.FfnFwdRefIdeal.Read.val_main_v16,
    Cert.FfnFwdRefIdeal.Read.val_main_v17, Cert.FfnFwdRefIdeal.Read.val_main_cst_2,
    Cert.FfnFwdRefIdeal.Read.val_main_v18, Cert.FfnFwdRefIdeal.Read.val_main_v19,
    Cert.FfnFwdRefIdeal.Read.val_main_v20, Cert.FfnFwdRefIdeal.Read.val_main_v21,
    Cert.FfnFwdRefIdeal.Read.val_main_v22, Cert.FfnFwdRefIdeal.Read.val_main_v23,
    Cert.FfnFwdRefIdeal.Read.val_main_v24]
  rfl

theorem ref_u (x : BufTy.Contents (Elt Ideal) ⟨S8192x1024, .f32⟩) (w : BufTy.Contents (Elt Ideal) ⟨S1024, .f32⟩)
    (a : BufTy.Contents (Elt Ideal) ⟨S1024x2816, .f32⟩) (r j) :
    Cert.FfnFwdRefIdeal.Read.val_main_v23 (F := Ideal) x w a (ix2 r j) = proj x w a r j := by
  pointwise [Cert.FfnFwdRefIdeal.Read.val_main_v0, Cert.FfnFwdRefIdeal.Read.val_main_cst,
    Cert.FfnFwdRefIdeal.Read.val_main_v1, Cert.FfnFwdRefIdeal.Read.val_main_v2,
    Cert.FfnFwdRefIdeal.Read.val_main_cst_0, Cert.FfnFwdRefIdeal.Read.val_main_v3,
    Cert.FfnFwdRefIdeal.Read.val_main_v4, Cert.FfnFwdRefIdeal.Read.val_main_cst_1,
    Cert.FfnFwdRefIdeal.Read.val_main_v5, Cert.FfnFwdRefIdeal.Read.val_main_v6,
    Cert.FfnFwdRefIdeal.Read.val_main_v7, Cert.FfnFwdRefIdeal.Read.val_main_v8,
    Cert.FfnFwdRefIdeal.Read.val_main_v9, Cert.FfnFwdRefIdeal.Read.val_main_v10,
    Cert.FfnFwdRefIdeal.Read.val_main_v11, Cert.FfnFwdRefIdeal.Read.val_main_v12,
    Cert.FfnFwdRefIdeal.Read.val_main_v13, Cert.FfnFwdRefIdeal.Read.val_main_v14,
    Cert.FfnFwdRefIdeal.Read.val_main_call0_v0, Cert.FfnFwdRefIdeal.Read.val_main_call0_v1,
    Cert.FfnFwdRefIdeal.Read.val_main_call0_cst, Cert.FfnFwdRefIdeal.Read.val_main_call0_v2,
    Cert.FfnFwdRefIdeal.Read.val_main_call0_v3, Cert.FfnFwdRefIdeal.Read.val_main_call0_cst_0,
    Cert.FfnFwdRefIdeal.Read.val_main_call0_v4, Cert.FfnFwdRefIdeal.Read.val_main_call0_v5,
    Cert.FfnFwdRefIdeal.Read.val_main_v15, Cert.FfnFwdRefIdeal.Read.val_main_v16,
    Cert.FfnFwdRefIdeal.Read.val_main_v17, Cert.FfnFwdRefIdeal.Read.val_main_cst_2,
    Cert.FfnFwdRefIdeal.Read.val_main_v18, Cert.FfnFwdRefIdeal.Read.val_main_v19,
    Cert.FfnFwdRefIdeal.Read.val_main_v20, Cert.FfnFwdRefIdeal.Read.val_main_v21,
    Cert.FfnFwdRefIdeal.Read.val_main_v22, Cert.FfnFwdRefIdeal.Read.val_main_v23,
    Cert.FfnFwdRefIdeal.Read.val_main_v24]
  rfl

theorem ref_a (x : BufTy.Contents (Elt Ideal) ⟨S8192x1024, .f32⟩) (w : BufTy.Contents (Elt Ideal) ⟨S1024, .f32⟩)
    (a b : BufTy.Contents (Elt Ideal) ⟨S1024x2816, .f32⟩) (r j) :
    Cert.FfnFwdRefIdeal.Read.val_main_v24 (F := Ideal) x w a b (ix2 r j) = act x w a b r j := by
  pointwise [Cert.FfnFwdRefIdeal.Read.val_main_v0, Cert.FfnFwdRefIdeal.Read.val_main_cst,
    Cert.FfnFwdRefIdeal.Read.val_main_v1, Cert.FfnFwdRefIdeal.Read.val_main_v2,
    Cert.FfnFwdRefIdeal.Read.val_main_cst_0, Cert.FfnFwdRefIdeal.Read.val_main_v3,
    Cert.FfnFwdRefIdeal.Read.val_main_v4, Cert.FfnFwdRefIdeal.Read.val_main_cst_1,
    Cert.FfnFwdRefIdeal.Read.val_main_v5, Cert.FfnFwdRefIdeal.Read.val_main_v6,
    Cert.FfnFwdRefIdeal.Read.val_main_v7, Cert.FfnFwdRefIdeal.Read.val_main_v8,
    Cert.FfnFwdRefIdeal.Read.val_main_v9, Cert.FfnFwdRefIdeal.Read.val_main_v10,
    Cert.FfnFwdRefIdeal.Read.val_main_v11, Cert.FfnFwdRefIdeal.Read.val_main_v12,
    Cert.FfnFwdRefIdeal.Read.val_main_v13, Cert.FfnFwdRefIdeal.Read.val_main_v14,
    Cert.FfnFwdRefIdeal.Read.val_main_call0_v0, Cert.FfnFwdRefIdeal.Read.val_main_call0_v1,
    Cert.FfnFwdRefIdeal.Read.val_main_call0_cst, Cert.FfnFwdRefIdeal.Read.val_main_call0_v2,
    Cert.FfnFwdRefIdeal.Read.val_main_call0_v3, Cert.FfnFwdRefIdeal.Read.val_main_call0_cst_0,
    Cert.FfnFwdRefIdeal.Read.val_main_call0_v4, Cert.FfnFwdRefIdeal.Read.val_main_call0_v5,
    Cert.FfnFwdRefIdeal.Read.val_main_v15, Cert.FfnFwdRefIdeal.Read.val_main_v16,
    Cert.FfnFwdRefIdeal.Read.val_main_v17, Cert.FfnFwdRefIdeal.Read.val_main_cst_2,
    Cert.FfnFwdRefIdeal.Read.val_main_v18, Cert.FfnFwdRefIdeal.Read.val_main_v19,
    Cert.FfnFwdRefIdeal.Read.val_main_v20, Cert.FfnFwdRefIdeal.Read.val_main_v21,
    Cert.FfnFwdRefIdeal.Read.val_main_v22, Cert.FfnFwdRefIdeal.Read.val_main_v23,
    Cert.FfnFwdRefIdeal.Read.val_main_v24]
  rfl

theorem ref_x (x : BufTy.Contents (Elt Ideal) ⟨S8192x1024, .f32⟩) (w : BufTy.Contents (Elt Ideal) ⟨S1024, .f32⟩)
    (a b : BufTy.Contents (Elt Ideal) ⟨S1024x2816, .f32⟩) (e : BufTy.Contents (Elt Ideal) ⟨S2816x1024, .f32⟩) (r d) :
    Cert.FfnFwdRefIdeal.Read.val_main_v20 (F := Ideal) x w a b e (ix2 r d) = out x w a b e r d := by
  pointwise [Cert.FfnFwdRefIdeal.Read.val_main_v0, Cert.FfnFwdRefIdeal.Read.val_main_cst,
    Cert.FfnFwdRefIdeal.Read.val_main_v1, Cert.FfnFwdRefIdeal.Read.val_main_v2,
    Cert.FfnFwdRefIdeal.Read.val_main_cst_0, Cert.FfnFwdRefIdeal.Read.val_main_v3,
    Cert.FfnFwdRefIdeal.Read.val_main_v4, Cert.FfnFwdRefIdeal.Read.val_main_cst_1,
    Cert.FfnFwdRefIdeal.Read.val_main_v5, Cert.FfnFwdRefIdeal.Read.val_main_v6,
    Cert.FfnFwdRefIdeal.Read.val_main_v7, Cert.FfnFwdRefIdeal.Read.val_main_v8,
    Cert.FfnFwdRefIdeal.Read.val_main_v9, Cert.FfnFwdRefIdeal.Read.val_main_v10,
    Cert.FfnFwdRefIdeal.Read.val_main_v11, Cert.FfnFwdRefIdeal.Read.val_main_v12,
    Cert.FfnFwdRefIdeal.Read.val_main_v13, Cert.FfnFwdRefIdeal.Read.val_main_v14,
    Cert.FfnFwdRefIdeal.Read.val_main_call0_v0, Cert.FfnFwdRefIdeal.Read.val_main_call0_v1,
    Cert.FfnFwdRefIdeal.Read.val_main_call0_cst, Cert.FfnFwdRefIdeal.Read.val_main_call0_v2,
    Cert.FfnFwdRefIdeal.Read.val_main_call0_v3, Cert.FfnFwdRefIdeal.Read.val_main_call0_cst_0,
    Cert.FfnFwdRefIdeal.Read.val_main_call0_v4, Cert.FfnFwdRefIdeal.Read.val_main_call0_v5,
    Cert.FfnFwdRefIdeal.Read.val_main_v15, Cert.FfnFwdRefIdeal.Read.val_main_v16,
    Cert.FfnFwdRefIdeal.Read.val_main_v17, Cert.FfnFwdRefIdeal.Read.val_main_cst_2,
    Cert.FfnFwdRefIdeal.Read.val_main_v18, Cert.FfnFwdRefIdeal.Read.val_main_v19,
    Cert.FfnFwdRefIdeal.Read.val_main_v20, Cert.FfnFwdRefIdeal.Read.val_main_v21,
    Cert.FfnFwdRefIdeal.Read.val_main_v22, Cert.FfnFwdRefIdeal.Read.val_main_v23,
    Cert.FfnFwdRefIdeal.Read.val_main_v24]
  rfl

/-! ## What the host hands to the kernel -/

/-- The norm's weight reaches the kernel as one row. -/
theorem V_n (c : Dev nD) (d : Fin 1024) : V m c main_v0 (ix2 0 d) = m (c.tc.loc main_arg1) (ix1 d) := by
  unfold_abbrev_sides
  after_results
  pointwise

/-- The two matrices of the first products reach it with rows and columns exchanged, -/
theorem V_g (c : Dev nD) (j : Fin 2816) (k : Fin 1024) : V m c main_v2 (ix2 j k) = m (c.tc.loc main_arg2) (ix2 k j) := by
  unfold_abbrev_sides
  after_results
  pointwise

theorem V_u (c : Dev nD) (j : Fin 2816) (k : Fin 1024) : V m c main_v4 (ix2 j k) = m (c.tc.loc main_arg3) (ix2 k j) := by
  unfold_abbrev_sides
  after_results
  pointwise

/-- the one of the last product as it is. -/
theorem V_d (c : Dev nD) (j : Fin 2816) (k : Fin 1024) : V m c main_v5 (ix2 j k) = m (c.tc.loc main_arg4) (ix2 j k) := by
  unfold_abbrev_sides
  after_results
  pointwise

/-! ## Which part of its array each block is -/

/-- Which block of its array each window takes at a grid point. -/
theorem idx : ∀ t : Fin grid0.N,
    win0_0.index t = ![t.val / 2, 0] ∧ win0_1.index t = ![0, 0] ∧ win0_2.index t = ![t.val % 2, 0] ∧ win0_3.index t = ![t.val % 2, 0] ∧
    win0_4.index t = ![t.val % 2, 0] ∧ win0_5.index t = ![t.val / 2, 0] ∧ win0_6.index t = ![t.val / 2, 0] ∧
    win0_7.index t = ![t.val / 2, t.val % 2] ∧ win0_8.index t = ![t.val / 2, t.val % 2] ∧ win0_9.index t = ![t.val / 2, t.val % 2] := by
  decide +kernel

/-- Row `r` of the block of grid point `t`, as a row of the whole array. -/
def row (t : Fin grid0.N) (r : Fin 512) : Fin 8192 := ⟨t.val / 2 * 512 + r.val, by
  have : t.val < 32 := lt_of_lt_of_eq t.isLt N_0
  omega⟩

/-- Column `d` of the tile of grid point `t`, as a column of the whole array. -/
def col (t : Fin grid0.N) (d : Fin 1408) : Fin 2816 := ⟨t.val % 2 * 1408 + d.val, by omega⟩

/-- A grid point's block of the input is its 512 rows. -/
theorem blk0 (c : Dev nD) (t : Fin cfg0.N) (r : Fin 512) (d : Fin 1024) :
    iblk m c 0 t (ix2 r d) = m (c.tc.loc main_arg0) (ix2 (row t r) d) := by
  blk_point [iblk, V, idx t, row]

theorem blk1 (c : Dev nD) (t : Fin cfg0.N) (d : Fin 1024) :
    iblk m c 1 t (ix2 0 d) = m (c.tc.loc main_arg1) (ix1 d) := by
  rw [← V_n m]
  blk_point [iblk, idx t]

/-- Its tiles of the matrices are its 1408 columns of the first two and rows of the third. -/
theorem blk2 (c : Dev nD) (t : Fin cfg0.N) (j : Fin 1408) (k : Fin 1024) :
    iblk m c 2 t (ix2 j k) = m (c.tc.loc main_arg2) (ix2 k (col t j)) := by
  rw [← V_g m]
  blk_point [iblk, idx t, col]

theorem blk3 (c : Dev nD) (t : Fin cfg0.N) (j : Fin 1408) (k : Fin 1024) :
    iblk m c 3 t (ix2 j k) = m (c.tc.loc main_arg3) (ix2 k (col t j)) := by
  rw [← V_u m]
  blk_point [iblk, idx t, col]

theorem blk4 (c : Dev nD) (t : Fin cfg0.N) (j : Fin 1408) (k : Fin 1024) :
    iblk m c 4 t (ix2 j k) = m (c.tc.loc main_arg4) (ix2 (col t j) k) := by
  rw [← V_d m]
  blk_point [iblk, idx t, col]

/-! ## What the points compute -/

theorem first_row (t : Fin cfg0.N) (r : Fin 512) : row (first t) r = row t r := Fin.ext (by simp only [row, first]; omega)

/-- The normed rows of a row block. -/
theorem normed_eq (c : Dev nD) (t : Fin cfg0.N) (r : Fin 512) (d : Fin 1024) :
    normed m c t (ix2 r d) = nrm (m (c.tc.loc main_arg0)) (m (c.tc.loc main_arg1)) (row t r) d := by
  unfold normed
  pointwise [k0_pay4]
  simp only [blk0, blk1, first_row]
  rfl

theorem hid_eq (c : Dev nD) (t : Fin cfg0.N) (r : Fin 512) (d : Fin 1024) :
    hid m c t (ix2 r d) = nrm (m (c.tc.loc main_arg0)) (m (c.tc.loc main_arg1)) (row t r) d := by
  rw [← normed_eq]
  unfold hid normed
  pointwise [k0_pay5]

/-- The two products at a point, -/
theorem gate_eq (c : Dev nD) (t : Fin cfg0.N) (r : Fin 512) (j : Fin 1408) :
    k0_pay6 (hid m c t) (iblk m c 2 t) (ix2 r j) = proj (m (c.tc.loc main_arg0)) (m (c.tc.loc main_arg1)) (m (c.tc.loc main_arg2)) (row t r) (col t j) := by
  pointwise [k0_pay6]
  unfold proj
  change @Eq EReal _ _
  exact Finset.sum_congr rfl fun k _ => by rw [hid_eq, blk2]

theorem up_eq (c : Dev nD) (t : Fin cfg0.N) (r : Fin 512) (j : Fin 1408) :
    k0_pay7 (hid m c t) (iblk m c 3 t) (ix2 r j) = proj (m (c.tc.loc main_arg0)) (m (c.tc.loc main_arg1)) (m (c.tc.loc main_arg3)) (row t r) (col t j) := by
  pointwise [k0_pay7]
  unfold proj
  change @Eq EReal _ _
  exact Finset.sum_congr rfl fun k _ => by rw [hid_eq, blk3]

/-- its tile of the hidden layer, -/
theorem act_eq (c : Dev nD) (t : Fin cfg0.N) (r : Fin 512) (j : Fin 1408) :
    k0_pay8 (hid m c t) (iblk m c 2 t) (iblk m c 3 t) (ix2 r j) = act (m (c.tc.loc main_arg0)) (m (c.tc.loc main_arg1)) (m (c.tc.loc main_arg2)) (m (c.tc.loc main_arg3)) (row t r) (col t j) := by
  pointwise [k0_pay8]
  rw [gate_eq, up_eq, zero_sub]
  rfl

/-- and what it adds to the last product. -/
theorem part_eq (c : Dev nD) (t : Fin cfg0.N) (r : Fin 512) (d : Fin 1024) :
    part m c t (ix2 r d) = ∑ j : Fin 1408, act (m (c.tc.loc main_arg0)) (m (c.tc.loc main_arg1)) (m (c.tc.loc main_arg2)) (m (c.tc.loc main_arg3)) (row t r) (col t j) * (m (c.tc.loc main_arg4)) (ix2 (col t j) d) := by
  unfold part
  pointwise [k0_pay11]
  change @Eq EReal _ _
  exact Finset.sum_congr rfl fun k _ => by rw [act_eq, blk4]

theorem acc_eq (c : Dev nD) (t : Fin cfg0.N) (r : Fin 512) (d : Fin 1024) :
    acc m c t (ix2 r d) = part m c (first t) (ix2 r d) := by
  unfold acc
  pointwise [k0_pay1]

/-- A sum over the hidden layer is the two tiles' sums. -/
theorem sum_tiles (f : Fin 2816 → EReal) :
    (∑ j : Fin 1408, f ⟨0 * 1408 + j.val, by omega⟩) + (∑ j : Fin 1408, f ⟨1 * 1408 + j.val, by omega⟩) = ∑ l, f l := by
  rw [← Fin.sum_mul_add_congr (S := 2) (n := 1408) (F := fun s k => f ⟨s.val * 1408 + k.val, by omega⟩) (f := f) fun s k hl => rfl]
  simp only [Fin.sum_univ_two]
  rfl

/-! ## The kernel's five arrays -/

/-- The kernel's array of the normed input is the reference's. -/
theorem arr_h (c : Dev nD) : (dats m 0 c).arrAt 6 cfg0.N = Cert.FfnFwdRefIdeal.Read.val_main_v21 (F := Ideal) (m (c.tc.loc main_arg0)) (m (c.tc.loc main_arg1)) := by
  refine (dats m 0 c).arrAt_eq_of_covers 6 _ (by decide +kernel) fun t hf y => ?_
  blk_simp
  rw [after6]
  change S512x1024.Idx at y
  idx_vars y
  have e : ((View.whole main_v6_1).slice (win0_6.rect t)).emb (ix2 y0 y1) = ix2 (row t y0) y1 := by
    blk_ext [idx t, row, col]
  rw [e, ref_h]
  exact normed_eq m c t y0 y1

/-- The kernel's array of the first product is the reference's. -/
theorem arr_g (c : Dev nD) : (dats m 0 c).arrAt 7 cfg0.N = Cert.FfnFwdRefIdeal.Read.val_main_v22 (F := Ideal) (m (c.tc.loc main_arg0)) (m (c.tc.loc main_arg1)) (m (c.tc.loc main_arg2)) := by
  refine (dats m 0 c).arrAt_eq_of_covers 7 _ (by decide +kernel) fun t hf y => ?_
  blk_simp
  rw [after7]
  change S512x1408.Idx at y
  idx_vars y
  have e : ((View.whole main_v6_2).slice (win0_7.rect t)).emb (ix2 y0 y1) = ix2 (row t y0) (col t y1) := by
    blk_ext [idx t, row, col]
  rw [e, ref_g]
  pointwise [k0_pay9]
  exact gate_eq m c t y0 y1

/-- The kernel's array of the second product is the reference's. -/
theorem arr_u (c : Dev nD) : (dats m 0 c).arrAt 8 cfg0.N = Cert.FfnFwdRefIdeal.Read.val_main_v23 (F := Ideal) (m (c.tc.loc main_arg0)) (m (c.tc.loc main_arg1)) (m (c.tc.loc main_arg3)) := by
  refine (dats m 0 c).arrAt_eq_of_covers 8 _ (by decide +kernel) fun t hf y => ?_
  blk_simp
  rw [after8]
  change S512x1408.Idx at y
  idx_vars y
  have e : ((View.whole main_v6_3).slice (win0_8.rect t)).emb (ix2 y0 y1) = ix2 (row t y0) (col t y1) := by
    blk_ext [idx t, row, col]
  rw [e, ref_u]
  pointwise [k0_pay10]
  exact up_eq m c t y0 y1

/-- The kernel's array of the hidden layer is the reference's. -/
theorem arr_a (c : Dev nD) : (dats m 0 c).arrAt 9 cfg0.N = Cert.FfnFwdRefIdeal.Read.val_main_v24 (F := Ideal) (m (c.tc.loc main_arg0)) (m (c.tc.loc main_arg1)) (m (c.tc.loc main_arg2)) (m (c.tc.loc main_arg3)) := by
  refine (dats m 0 c).arrAt_eq_of_covers 9 _ (by decide +kernel) fun t hf y => ?_
  blk_simp
  rw [after9]
  change S512x1408.Idx at y
  idx_vars y
  have e : ((View.whole main_v6_4).slice (win0_9.rect t)).emb (ix2 y0 y1) = ix2 (row t y0) (col t y1) := by
    blk_ext [idx t, row, col]
  rw [e, ref_a]
  exact act_eq m c t y0 y1

/-- The kernel's array of the layer's result is the reference's. -/
theorem arr_x (c : Dev nD) : (dats m 0 c).arrAt 5 cfg0.N = Cert.FfnFwdRefIdeal.Read.val_main_v20 (F := Ideal) (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t hf y => ?_
  have ht := (flush0_5 t).mp hf
  blk_simp
  rw [after5]
  change S512x1024.Idx at y
  idx_vars y
  have e : ((View.whole main_v6_0).slice (win0_5.rect t)).emb (ix2 y0 y1) = ix2 (row t y0) y1 := by
    blk_ext [idx t, row]
  rw [e, ref_x]
  pointwise [k0_pay3]
  rw [acc_eq, part_eq, part_eq, blk0]
  unfold out
  rw [← sum_tiles]
  have e0 : ∀ j : Fin 1408, col (first t) j = ⟨0 * 1408 + j.val, by omega⟩ := fun j => Fin.ext (by simp only [col, first]; omega)
  have e1 : ∀ j : Fin 1408, col t j = ⟨1 * 1408 + j.val, by omega⟩ := fun j => Fin.ext (by simp only [col]; omega)
  simp only [e0, e1, first_row]

/-! ## The run, with its arrays named -/

variable (ρ : Dev nD → PrngReg)

/-- The launch leaves the five arrays, and the arguments as they were. -/
theorem run_blocks : θ_run defs (onTc (τ := τ) (main (F := Ideal))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_v6_3) = (dats m 0 c).arrAt 8 cfg0.N
      ∧ r.2.mem ((c : Thread nD τ).loc main_v6_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 5, (h.1 c).1 6, (h.1 c).1 7, (h.1 c).1 8, (h.1 c).1 9, h.2.1 c⟩)
    (θ_run_and ((θ_run defs _ _).mono (fun _ h => h.1) (run_main m ρ)) (frame_ideal m ρ))

end Cert.FfnFwdValue
-- ==== Proof.FfnFwdClaim.lean ====
module

public import proofs.«01_k».proof.Defs
public import proofs.«01_k».proof.Proof.FfnFwd
public import proofs.«01_k».proof.Proof.Gen.FfnFwdRefIdeal.Run
public import Idealize.ShloMosaic.Lib.Claim
public import Idealize.ShloMosaic.Init

@[expose] public section

noncomputable section

namespace Cert.FfnFwdValue

open Idealize.ShloMosaic Idealize.SL.Sem

set_option maxRecDepth 65536 in
/-- The feed-forward kernel leaves the layer's result, the normed input, the two products and the hidden layer that the reference leaves. -/
theorem algebraic : Cert.algebraic_FfnFwdIdeal_FfnFwdRefIdeal
    (hFfnFwdIdeal := Cert.FfnFwdIdeal.Gen.facts) (hFfnFwdRefIdeal := Cert.FfnFwdRefIdeal.Gen.facts) := by
  pair_intro
  · run_from run_blocks m g
  · run_from Cert.FfnFwdRefIdeal.Value.run m' g'
    all_goals obtain ⟨h0, h1, h2, h3, h4⟩ := hagree c
    · rw [Cert.FfnFwdRefIdeal.Read.val_main_v20_eq]
      try rw [h0]
      try rw [h1]
      try rw [h2]
      try rw [h3]
      try rw [h4]
      exact (arr_x m c).symm
    · rw [Cert.FfnFwdRefIdeal.Read.val_main_v21_eq]
      try rw [h0]
      try rw [h1]
      exact (arr_h m c).symm
    · rw [Cert.FfnFwdRefIdeal.Read.val_main_v22_eq]
      try rw [h0]
      try rw [h1]
      try rw [h2]
      exact (arr_g m c).symm
    · rw [Cert.FfnFwdRefIdeal.Read.val_main_v23_eq]
      try rw [h0]
      try rw [h1]
      try rw [h3]
      exact (arr_u m c).symm
    · rw [Cert.FfnFwdRefIdeal.Read.val_main_v24_eq]
      try rw [h0]
      try rw [h1]
      try rw [h2]
      try rw [h3]
      exact (arr_a m c).symm

/-- The reference runs, leaves its arguments as they were, and counts nothing. -/
theorem ref_frame : Cert.quiescent_FfnFwdRefIdeal (hFfnFwdRefIdeal := Cert.FfnFwdRefIdeal.Gen.facts) := fun m ρ _ =>
  (θ_run Cert.FfnFwdRefIdeal.defs _ _).mono (fun r h => ⟨fun c => (h c).2.2.2.2.2, Idealize.ShloMosaic.sem_eq_zero_of_no_sems (by decide) r.2⟩)
    (Cert.FfnFwdRefIdeal.Value.run m ρ)

end Cert.FfnFwdValue

end
-- ==== Proof.FfnBwdRun.lean ====
module

public import proofs.«01_k».proof.Defs
public import proofs.«01_k».proof.Proof.Gen.FfnBwd
public import proofs.«01_k».proof.Proof.Gen.FfnBwdIdeal
public import proofs.«01_k».proof.Proof.Gen.FfnBwdIdeal.Skeleton
public import proofs.«01_k».proof.Proof.Gen.FfnBwdIdeal.Points
public import proofs.«01_k».proof.Proof.Gen.FfnBwdIdeal.Launch
public import proofs.«01_k».proof.Proof.Gen.FfnBwdIdeal.Frame
public import proofs.«01_k».proof.Proof.Gen.FfnRefIdeal
public import proofs.«01_k».proof.Proof.Gen.FfnRefIdeal.Run
public import Idealize.ShloMosaic.Lib.Pipeline.FrameBody
public import Idealize.ShloMosaic.Lib.Claim
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.FfnBwdRun

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions at a grid point -/

/-- The accumulator is set: the condition of the body's second conditional. -/
abbrev sets (i : grid0.Coords) : Prop := Scalar.cmpi .ne (Scalar.extui (Scalar.cmpi .eq (BitVec.ofNat 32 (i 1).val) 0#32)) 0#32 = 1#1

/-- The accumulator is added to: the condition of the third, which never holds. -/
abbrev adds (i : grid0.Coords) : Prop :=
  Scalar.cmpi .ne (Scalar.extui (Scalar.andi (Scalar.cmpi .sgt (BitVec.ofNat 32 (i 1).val) 0#32) (Scalar.cmpi .slt (BitVec.ofNat 32 (i 1).val) 1#32))) 0#32 = 1#1

/-- The half gradient is taken at the first of a row block's two points. -/
theorem half_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The accumulator is set at the first of the two points, -/
theorem sets_iff : ∀ t : Fin cfg0.N, sets (grid0.coords t) ↔ t.val % 2 = 0 :=
  (by decide +kernel : ∀ t : Fin grid0.N, sets (grid0.coords t) ↔ t.val % 2 = 0)

/-- never added to, -/
theorem not_adds : ∀ t : Fin cfg0.N, ¬adds (grid0.coords t) :=
  (by decide +kernel : ∀ t : Fin grid0.N, ¬adds (grid0.coords t))

/-- and the two sums over the whole row are written at the second: -/
theorem last_iff : ∀ t : Fin cfg0.N, k0_cond4 (grid0.coords t) = 1#1 ↔ t.val % 2 = 1 :=
  (by decide +kernel : ∀ t : Fin grid0.N, k0_cond4 (grid0.coords t) = 1#1 ↔ t.val % 2 = 1)

/-- the norm's gradient is set in the first row block -/
theorem opens_iff : ∀ t : Fin cfg0.N, k0_cond5 (grid0.coords t) = 1#1 ↔ t.val < 2 :=
  (by decide +kernel : ∀ t : Fin grid0.N, k0_cond5 (grid0.coords t) = 1#1 ↔ t.val < 2)

/-- and added to in the others. -/
theorem goes_iff : ∀ t : Fin cfg0.N, k0_cond6 (grid0.coords t) = 1#1 ↔ 2 ≤ t.val :=
  (by decide +kernel : ∀ t : Fin grid0.N, k0_cond6 (grid0.coords t) = 1#1 ↔ 2 ≤ t.val)

/-! ## The body at a row block's two points -/

set_option maxHeartbeats 2000000 in
/-- At the first point of a row block the body leaves the half gradient in its buffer and in the scratch, the two tiles it stores, and its part of the sum in the accumulator; the two sums' buffers it does not touch. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (h1 : k0_cond1 i = 1#1) (h2 : sets i) (h3 : ¬adds i) (h4 : ¬k0_cond4 i = 1#1)
    (dxo x : Vec F S512x1024 .f32) (nw : Vec F S1x1024 .f32) (g u : Vec F S512x1408 .bf16) (wg wu wd : Vec F S1408x1024 .bf16) (xo : Vec F S512x1024 .f32) (no : Vec F S1x1024 .f32) (E : Set ℕ) (K : PUnit → sProp 𝕄) :
    iprop(owns (c : Thread nD τ) arg2 fullShare dxo ∗ owns (c : Thread nD τ) arg3 fullShare x ∗ owns (c : Thread nD τ) arg4 fullShare nw ∗ owns (c : Thread nD τ) arg5 fullShare g ∗ owns (c : Thread nD τ) arg6 fullShare u ∗ owns (c : Thread nD τ) arg7 fullShare wg ∗ owns (c : Thread nD τ) arg8 fullShare wu ∗ owns (c : Thread nD τ) arg9 fullShare wd ∗ owns (c : Thread nD τ) arg10 fullShare xo ∗ (∃ d, owns (c : Thread nD τ) arg11 fullShare d) ∗ (∃ d, owns (c : Thread nD τ) arg12 fullShare d) ∗ (∃ d, owns (c : Thread nD τ) arg13 fullShare d) ∗ owns (c : Thread nD τ) arg14 fullShare no ∗ (∃ d, owns (c : Thread nD τ) arg15 fullShare d) ∗ (∃ d, owns (c : Thread nD τ) arg16 fullShare d)
        ∗ (iprop(owns (c : Thread nD τ) arg2 fullShare dxo ∗ owns (c : Thread nD τ) arg3 fullShare x ∗ owns (c : Thread nD τ) arg4 fullShare nw ∗ owns (c : Thread nD τ) arg5 fullShare g ∗ owns (c : Thread nD τ) arg6 fullShare u ∗ owns (c : Thread nD τ) arg7 fullShare wg ∗ owns (c : Thread nD τ) arg8 fullShare wu ∗ owns (c : Thread nD τ) arg9 fullShare wd ∗ owns (c : Thread nD τ) arg10 fullShare xo ∗ owns (c : Thread nD τ) arg11 fullShare (k0_pay10 dxo) ∗ owns (c : Thread nD τ) arg12 fullShare (k0_pay15 (k0_pay11 dxo) wd g u) ∗ owns (c : Thread nD τ) arg13 fullShare (k0_pay16 (k0_pay11 dxo) wd g) ∗ owns (c : Thread nD τ) arg14 fullShare no ∗ owns (c : Thread nD τ) arg15 fullShare (k0_pay11 dxo) ∗ owns (c : Thread nD τ) arg16 fullShare (k0_pay2 (k0_pay15 (k0_pay11 dxo) wd g u) (k0_pay16 (k0_pay11 dxo) wd g) wg wu)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]
  unfold cc0_ffn_bwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%d12, %f12, %hf12, H12⟩, ⟨%d13, %f13, %hf13, H13⟩, ⟨%f14, %hf14, H14⟩, ⟨%d15, %f15, %hf15, H15⟩, ⟨%d16, %f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14
  sl_exec (disch := first | sl_exact h1 | sl_exact h2 | sl_exact h3 | sl_exact h4)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; exact harg10.read_unread _
  isplitl [H11]
  · iexists _; isplitr
    swap; · iexact H11
    ipureintro; refine (View.read_writes_full _ _ _ _ _).trans ?_; (try unfold run_first.sl.v3); (try unfold run_first.sl.H15_1); repeat first | rw [View.readAt_full] | rw [View.readCov_full]
    simp only [Memref.IsWhole.read_unread]
  isplitl [H12]
  · iexists _; isplitr
    swap; · iexact H12
    ipureintro; refine (View.read_writes_full _ _ _ _ _).trans ?_; (try unfold run_first.sl.v3); (try unfold run_first.sl.H15_1); repeat first | rw [View.readAt_full] | rw [View.readCov_full]
    simp only [Memref.IsWhole.read_unread]
  isplitl [H13]
  · iexists _; isplitr
    swap; · iexact H13
    ipureintro; refine (View.read_writes_full _ _ _ _ _).trans ?_; (try unfold run_first.sl.v3); (try unfold run_first.sl.H15_1); repeat first | rw [View.readAt_full] | rw [View.readCov_full]
    simp only [Memref.IsWhole.read_unread]
  isplitl [H14]
  · iexists _; isplitr
    swap; · iexact H14
    ipureintro; exact harg14.read_unread _
  isplitl [H15]
  · iexists _; isplitr
    swap; · iexact H15
    ipureintro; refine (View.read_writes_full _ _ _ _ _).trans ?_; (try unfold run_first.sl.v3); (try unfold run_first.sl.H15_1); repeat first | rw [View.readAt_full] | rw [View.readCov_full]
    simp only [Memref.IsWhole.read_unread]
  iexists _; isplitr
  swap; · iexact H16
  ipureintro; refine (View.read_writes_full _ _ _ _ _).trans ?_; (try unfold run_first.sl.v3); (try unfold run_first.sl.H15_1); repeat first | rw [View.readAt_full] | rw [View.readCov_full]
  simp only [Memref.IsWhole.read_unread]

set_option maxHeartbeats 2000000 in
/-- At the second point of the first row block it leaves the two tiles, the gradient's rows, and the norm's gradient set. -/
theorem run_open (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (h1 : ¬k0_cond1 i = 1#1) (h2 : ¬sets i) (h3 : ¬adds i) (h4 : k0_cond4 i = 1#1) (h5 : k0_cond5 i = 1#1) (h6 : ¬k0_cond6 i = 1#1)
    (dxo x : Vec F S512x1024 .f32) (nw : Vec F S1x1024 .f32) (g u : Vec F S512x1408 .bf16) (wg wu wd : Vec F S1408x1024 .bf16) (dy ds : Vec F S512x1024 .bf16) (ac : Vec F S512x1024 .f32) (E : Set ℕ) (K : PUnit → sProp 𝕄) :
    iprop(owns (c : Thread nD τ) arg2 fullShare dxo ∗ owns (c : Thread nD τ) arg3 fullShare x ∗ owns (c : Thread nD τ) arg4 fullShare nw ∗ owns (c : Thread nD τ) arg5 fullShare g ∗ owns (c : Thread nD τ) arg6 fullShare u ∗ owns (c : Thread nD τ) arg7 fullShare wg ∗ owns (c : Thread nD τ) arg8 fullShare wu ∗ owns (c : Thread nD τ) arg9 fullShare wd ∗ (∃ d, owns (c : Thread nD τ) arg10 fullShare d) ∗ owns (c : Thread nD τ) arg11 fullShare dy ∗ (∃ d, owns (c : Thread nD τ) arg12 fullShare d) ∗ (∃ d, owns (c : Thread nD τ) arg13 fullShare d) ∗ (∃ d, owns (c : Thread nD τ) arg14 fullShare d) ∗ owns (c : Thread nD τ) arg15 fullShare ds ∗ owns (c : Thread nD τ) arg16 fullShare ac
        ∗ (iprop(owns (c : Thread nD τ) arg2 fullShare dxo ∗ owns (c : Thread nD τ) arg3 fullShare x ∗ owns (c : Thread nD τ) arg4 fullShare nw ∗ owns (c : Thread nD τ) arg5 fullShare g ∗ owns (c : Thread nD τ) arg6 fullShare u ∗ owns (c : Thread nD τ) arg7 fullShare wg ∗ owns (c : Thread nD τ) arg8 fullShare wu ∗ owns (c : Thread nD τ) arg9 fullShare wd ∗ owns (c : Thread nD τ) arg10 fullShare (k0_pay9 (k0_pay1 (k0_pay15 ds wd g u) (k0_pay16 ds wd g) wg wu) ac x nw dxo) ∗ owns (c : Thread nD τ) arg11 fullShare dy ∗ owns (c : Thread nD τ) arg12 fullShare (k0_pay15 ds wd g u) ∗ owns (c : Thread nD τ) arg13 fullShare (k0_pay16 ds wd g) ∗ owns (c : Thread nD τ) arg14 fullShare (k0_pay8 (k0_pay1 (k0_pay15 ds wd g u) (k0_pay16 ds wd g) wg wu) ac x) ∗ owns (c : Thread nD τ) arg15 fullShare ds ∗ owns (c : Thread nD τ) arg16 fullShare ac) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]
  unfold cc0_ffn_bwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%f11, %hf11, H11⟩, ⟨%d12, %f12, %hf12, H12⟩, ⟨%d13, %f13, %hf13, H13⟩, ⟨%d14, %f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg15.eq_unread hf15; obtain rfl := harg16.eq_unread hf16
  sl_exec (disch := first | sl_exact h1 | sl_exact h2 | sl_exact h3 | sl_exact h4 | sl_exact h5 | sl_exact h6)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; refine (View.read_writes_full _ _ _ _ _).trans ?_; (try unfold run_open.sl.v3); (try unfold run_open.sl.H15_1); repeat first | rw [View.readAt_full] | rw [View.readCov_full]
    simp only [Memref.IsWhole.read_unread]
  isplitl [H11]
  · iexists _; isplitr
    swap; · iexact H11
    ipureintro; exact harg11.read_unread _
  isplitl [H12]
  · iexists _; isplitr
    swap; · iexact H12
    ipureintro; refine (View.read_writes_full _ _ _ _ _).trans ?_; (try unfold run_open.sl.v3); (try unfold run_open.sl.H15_1); repeat first | rw [View.readAt_full] | rw [View.readCov_full]
    simp only [Memref.IsWhole.read_unread]
  isplitl [H13]
  · iexists _; isplitr
    swap; · iexact H13
    ipureintro; refine (View.read_writes_full _ _ _ _ _).trans ?_; (try unfold run_open.sl.v3); (try unfold run_open.sl.H15_1); repeat first | rw [View.readAt_full] | rw [View.readCov_full]
    simp only [Memref.IsWhole.read_unread]
  isplitl [H14]
  · iexists _; isplitr
    swap; · iexact H14
    ipureintro; refine (View.read_writes_full _ _ _ _ _).trans ?_; (try unfold run_open.sl.v3); (try unfold run_open.sl.H15_1); repeat first | rw [View.readAt_full] | rw [View.readCov_full]
    simp only [Memref.IsWhole.read_unread]
  isplitl [H15]
  · iexists _; isplitr
    swap; · iexact H15
    ipureintro; exact harg15.read_unread _
  iexists _; isplitr
  swap; · iexact H16
  ipureintro; exact harg16.read_unread _

set_option maxHeartbeats 2000000 in
/-- At the second point of any other row block it adds to the norm's gradient what it set in the first. -/
theorem run_on (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S1408x1024 .bf16) (harg7 : arg7.IsWhole) (arg8 : Memref sig .tc .vmem S1408x1024 .bf16) (harg8 : arg8.IsWhole) (arg9 : Memref sig .tc .vmem S1408x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x1408 .bf16) (harg12 : arg12.IsWhole) (arg13 : Memref sig .tc .vmem S512x1408 .bf16) (harg13 : arg13.IsWhole) (arg14 : Memref sig .tc .vmem S1x1024 .f32) (harg14 : arg14.IsWhole) (arg15 : Memref sig .tc .vmem S512x1024 .bf16) (harg15 : arg15.IsWhole) (arg16 : Memref sig .tc .vmem S512x1024 .f32) (harg16 : arg16.IsWhole)
    (h1 : ¬k0_cond1 i = 1#1) (h2 : ¬sets i) (h3 : ¬adds i) (h4 : k0_cond4 i = 1#1) (h5 : ¬k0_cond5 i = 1#1) (h6 : k0_cond6 i = 1#1)
    (dxo x : Vec F S512x1024 .f32) (nw : Vec F S1x1024 .f32) (g u : Vec F S512x1408 .bf16) (wg wu wd : Vec F S1408x1024 .bf16) (dy ds : Vec F S512x1024 .bf16) (ac : Vec F S512x1024 .f32) (vo : Vec F S1x1024 .f32) (E : Set ℕ) (K : PUnit → sProp 𝕄) :
    iprop(owns (c : Thread nD τ) arg2 fullShare dxo ∗ owns (c : Thread nD τ) arg3 fullShare x ∗ owns (c : Thread nD τ) arg4 fullShare nw ∗ owns (c : Thread nD τ) arg5 fullShare g ∗ owns (c : Thread nD τ) arg6 fullShare u ∗ owns (c : Thread nD τ) arg7 fullShare wg ∗ owns (c : Thread nD τ) arg8 fullShare wu ∗ owns (c : Thread nD τ) arg9 fullShare wd ∗ (∃ d, owns (c : Thread nD τ) arg10 fullShare d) ∗ owns (c : Thread nD τ) arg11 fullShare dy ∗ (∃ d, owns (c : Thread nD τ) arg12 fullShare d) ∗ (∃ d, owns (c : Thread nD τ) arg13 fullShare d) ∗ owns (c : Thread nD τ) arg14 fullShare vo ∗ owns (c : Thread nD τ) arg15 fullShare ds ∗ owns (c : Thread nD τ) arg16 fullShare ac
        ∗ (iprop(owns (c : Thread nD τ) arg2 fullShare dxo ∗ owns (c : Thread nD τ) arg3 fullShare x ∗ owns (c : Thread nD τ) arg4 fullShare nw ∗ owns (c : Thread nD τ) arg5 fullShare g ∗ owns (c : Thread nD τ) arg6 fullShare u ∗ owns (c : Thread nD τ) arg7 fullShare wg ∗ owns (c : Thread nD τ) arg8 fullShare wu ∗ owns (c : Thread nD τ) arg9 fullShare wd ∗ owns (c : Thread nD τ) arg10 fullShare (k0_pay9 (k0_pay1 (k0_pay15 ds wd g u) (k0_pay16 ds wd g) wg wu) ac x nw dxo) ∗ owns (c : Thread nD τ) arg11 fullShare dy ∗ owns (c : Thread nD τ) arg12 fullShare (k0_pay15 ds wd g u) ∗ owns (c : Thread nD τ) arg13 fullShare (k0_pay16 ds wd g) ∗ owns (c : Thread nD τ) arg14 fullShare (k0_pay4 (k0_pay8 (k0_pay1 (k0_pay15 ds wd g u) (k0_pay16 ds wd g) wg wu) ac x) vo) ∗ owns (c : Thread nD τ) arg15 fullShare ds ∗ owns (c : Thread nD τ) arg16 fullShare ac) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_bwd_eq_skeleton]
  unfold cc0_ffn_bwd_skel
  simp only [k0_part1_eq_skeleton, k0_part2_eq_skeleton]
  unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%f11, %hf11, H11⟩, ⟨%d12, %f12, %hf12, H12⟩, ⟨%d13, %f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg14.eq_unread hf14; obtain rfl := harg15.eq_unread hf15; obtain rfl := harg16.eq_unread hf16
  sl_exec (disch := first | sl_exact h1 | sl_exact h2 | sl_exact h3 | sl_exact h4 | sl_exact h5 | sl_exact h6)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact harg5.read_unread _
  isplitl [H6]
  · iexists _; isplitr
    swap; · iexact H6
    ipureintro; exact harg6.read_unread _
  isplitl [H7]
  · iexists _; isplitr
    swap; · iexact H7
    ipureintro; exact harg7.read_unread _
  isplitl [H8]
  · iexists _; isplitr
    swap; · iexact H8
    ipureintro; exact harg8.read_unread _
  isplitl [H9]
  · iexists _; isplitr
    swap; · iexact H9
    ipureintro; exact harg9.read_unread _
  isplitl [H10]
  · iexists _; isplitr
    swap; · iexact H10
    ipureintro; refine (View.read_writes_full _ _ _ _ _).trans ?_; (try unfold run_on.sl.v3); (try unfold run_on.sl.H15_1); repeat first | rw [View.readAt_full] | rw [View.readCov_full]
    simp only [Memref.IsWhole.read_unread]
  isplitl [H11]
  · iexists _; isplitr
    swap; · iexact H11
    ipureintro; exact harg11.read_unread _
  isplitl [H12]
  · iexists _; isplitr
    swap; · iexact H12
    ipureintro; refine (View.read_writes_full _ _ _ _ _).trans ?_; (try unfold run_on.sl.v3); (try unfold run_on.sl.H15_1); repeat first | rw [View.readAt_full] | rw [View.readCov_full]
    simp only [Memref.IsWhole.read_unread]
  isplitl [H13]
  · iexists _; isplitr
    swap; · iexact H13
    ipureintro; refine (View.read_writes_full _ _ _ _ _).trans ?_; (try unfold run_on.sl.v3); (try unfold run_on.sl.H15_1); repeat first | rw [View.readAt_full] | rw [View.readCov_full]
    simp only [Memref.IsWhole.read_unread]
  isplitl [H14]
  · iexists _; isplitr
    swap; · iexact H14
    ipureintro; refine (View.read_writes_full _ _ _ _ _).trans ?_; (try unfold run_on.sl.v3); (try unfold run_on.sl.H15_1); repeat first | rw [View.readAt_full] | rw [View.readCov_full]
    simp only [Memref.IsWhole.read_unread]
  isplitl [H15]
  · iexists _; isplitr
    swap; · iexact H15
    ipureintro; exact harg15.read_unread _
  iexists _; isplitr
  swap; · iexact H16
  ipureintro; exact harg16.read_unread _

/-! ## Where the windows are idle -/

theorem live (w : Fin cfg0.W) (hw : w ≠ 8 ∧ w ≠ 9 ∧ w ≠ 12) : ∀ t : Fin cfg0.N, cfg0.idle w (grid0.coords t) = false := by
  have h : ∀ w : Fin 13, (w ≠ 8 ∧ w ≠ 9 ∧ w ≠ 12) → ∀ t : Fin grid0.N, cfg0.idle w (grid0.coords t) = false := by decide +kernel
  exact h w hw

theorem idle8 : ∀ t : Fin cfg0.N, t.val % 2 = 0 → cfg0.idle 8 (grid0.coords t) = true :=
  (by decide +kernel : ∀ t : Fin grid0.N, t.val % 2 = 0 → cfg0.idle 8 (grid0.coords t) = true)

theorem live8 : ∀ t : Fin cfg0.N, t.val % 2 = 1 → cfg0.idle 8 (grid0.coords t) = false :=
  (by decide +kernel : ∀ t : Fin grid0.N, t.val % 2 = 1 → cfg0.idle 8 (grid0.coords t) = false)

theorem live9 : ∀ t : Fin cfg0.N, t.val % 2 = 0 → cfg0.idle 9 (grid0.coords t) = false :=
  (by decide +kernel : ∀ t : Fin grid0.N, t.val % 2 = 0 → cfg0.idle 9 (grid0.coords t) = false)

theorem idle9 : ∀ t : Fin cfg0.N, t.val % 2 = 1 → cfg0.idle 9 (grid0.coords t) = true :=
  (by decide +kernel : ∀ t : Fin grid0.N, t.val % 2 = 1 → cfg0.idle 9 (grid0.coords t) = true)

theorem idle12 : ∀ t : Fin cfg0.N, t.val % 2 = 0 → cfg0.idle 12 (grid0.coords t) = true :=
  (by decide +kernel : ∀ t : Fin grid0.N, t.val % 2 = 0 → cfg0.idle 12 (grid0.coords t) = true)

theorem live12 : ∀ t : Fin cfg0.N, t.val % 2 = 1 → cfg0.idle 12 (grid0.coords t) = false :=
  (by decide +kernel : ∀ t : Fin grid0.N, t.val % 2 = 1 → cfg0.idle 12 (grid0.coords t) = false)

theorem not_flush8 (t : Fin cfg0.N) (h : t.val % 2 = 0) : (cfg0.win 8).flush t = false :=
  Bool.eq_false_iff.mpr fun hf => by have := (flush0_8 t).mp hf; omega

theorem not_flush9 (t : Fin cfg0.N) (h : t.val % 2 = 0) : (cfg0.win 9).flush t = false :=
  Bool.eq_false_iff.mpr fun hf => by have := (flush0_9 t).mp hf; omega

theorem not_flush12 (t : Fin cfg0.N) (h : t.val < 31) : (cfg0.win 12).flush t = false :=
  Bool.eq_false_iff.mpr fun hf => by have := (flush0_12 t).mp hf; omega

/-! ## What the buffers hold after each point -/

/-- The first point of the row block that point `t` belongs to. -/
def first (t : Fin cfg0.N) : Fin cfg0.N := ⟨t.val - t.val % 2, Nat.lt_of_le_of_lt (Nat.sub_le _ _) t.isLt⟩

theorem first_of_even (t : Fin cfg0.N) (h : t.val % 2 = 0) : first t = t := Fin.ext (by simp only [first]; omega)

theorem first_of_odd (t : Fin cfg0.N) (h : t.val % 2 = 1) :
    first ⟨t.val - 1, Nat.lt_of_le_of_lt (Nat.sub_le _ _) t.isLt⟩ = first t := Fin.ext (by simp only [first]; omega)

theorem first_first (t : Fin cfg0.N) : first (first t) = first t := Fin.ext (by simp only [first]; omega)

/-- The half gradient, as its block and as the scratch holds it, -/
def half (c : Dev nD) (t : Fin cfg0.N) : Vec F S512x1024 .bf16 := k0_pay10 (iblk m c 0 (first t))

def hid (c : Dev nD) (t : Fin cfg0.N) : Vec F S512x1024 .bf16 := k0_pay11 (iblk m c 0 (first t))

/-- the two tiles, -/
def tileG (c : Dev nD) (t : Fin cfg0.N) : Vec F S512x1408 .bf16 := k0_pay15 (hid m c t) (iblk m c 7 t) (iblk m c 3 t) (iblk m c 4 t)

def tileU (c : Dev nD) (t : Fin cfg0.N) : Vec F S512x1408 .bf16 := k0_pay16 (hid m c t) (iblk m c 7 t) (iblk m c 3 t)

/-- one tile's part of the sum, -/
def part (c : Dev nD) (t : Fin cfg0.N) : Vec F S512x1024 .f32 := k0_pay1 (tileG m c t) (tileU m c t) (iblk m c 5 t) (iblk m c 6 t)

/-- the accumulator, set at the first point, -/
def acc (c : Dev nD) (t : Fin cfg0.N) : Vec F S512x1024 .f32 :=
  k0_pay2 (tileG m c (first t)) (tileU m c (first t)) (iblk m c 5 (first t)) (iblk m c 6 (first t))

/-- a row block's part of the norm's gradient, -/
def row (c : Dev nD) (t : Fin cfg0.N) : Vec F S1x1024 .f32 := k0_pay8 (part m c t) (acc m c t) (iblk m c 1 t)

/-- the second point of the `n`th row block, -/
def second (n : ℕ) : Fin cfg0.N := ⟨(2 * n + 1) % 32, lt_of_lt_of_eq (Nat.mod_lt _ (by decide)) N_0.symm⟩

/-- and the norm's gradient after it. -/
def vec (c : Dev nD) : ℕ → Vec F S1x1024 .f32
  | 0 => row m c (second 0)
  | n + 1 => k0_pay4 (row m c (second (n + 1))) (vec c n)

theorem second_of_odd (t : Fin cfg0.N) (h : t.val % 2 = 1) : second (t.val / 2) = t :=
  Fin.ext (by have := t.isLt; have hN : cfg0.N = 32 := N_0; simp only [second]; omega)

theorem hid_first (c : Dev nD) (t : Fin cfg0.N) : hid m c (first t) = hid m c t := by
  unfold hid; rw [first_first]

/-- The two scratch buffers, whole. -/
abbrev scH : Memref sig .tc .vmem S512x1024 .bf16 := Memref.whole cc0_scratch0
abbrev scA : Memref sig .tc .vmem S512x1024 .f32 := Memref.whole cc0_scratch1

theorem start_eq (c : Dev nD) : (Pipeline.ΦA spec0 c : sProp 𝕄)
    = iprop(iprop((∃ d, owns (c : Thread nD τ) scH fullShare d) ∗ (∃ d, owns (c : Thread nD τ) scA fullShare d)) ∗ (∃ r, prngReg c r)) := by
  unfold Pipeline.ΦA; rw [scopedRest0_eq]; simp only [scH, scA, owns_whole]; try rfl

/-- Between points: before the first anything, afterwards the scratch buffers at what the point before left. -/
def between (c : Dev nD) : (n : ℕ) → n ≤ cfg0.N → sProp 𝕄
  | 0, _ => Pipeline.ΦA spec0 c
  | n + 1, hn => iprop(iprop(owns (c : Thread nD τ) scH fullShare (hid m c ⟨n, hn⟩) ∗ owns (c : Thread nD τ) scA fullShare (acc m c ⟨n, hn⟩)) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) : between m c n h
    = iprop(iprop(owns (c : Thread nD τ) scH fullShare (hid m c ⟨n - 1, by omega⟩) ∗ owns (c : Thread nD τ) scA fullShare (acc m c ⟨n - 1, by omega⟩)) ∗ (∃ r, prngReg c r)) := by
  cases n with
  | zero => exact absurd rfl hz
  | succ n => rfl

/-- The pipeline's proof data: each input at its block, each output at what the row block's points make of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay9 (part m c t) (acc m c t) (iblk m c 1 t) (iblk m c 2 t) (iblk m c 0 t)
    | ⟨9, _⟩ => half m c t
    | ⟨10, _⟩ => tileG m c t
    | ⟨11, _⟩ => tileU m c t
    | ⟨12, _⟩ => vec m c (t.val / 2)
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem between_here (c : Dev nD) (t : Fin cfg0.N) : (dats m 0 c).Φ t.castSucc = between m c t.val (Nat.le_of_lt t.isLt) := by
  dsimp only [dats]; exact Pipeline.Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = k0_pay9 (part m c t) (acc m c t) (iblk m c 1 t) (iblk m c 2 t) (iblk m c 0 t) := by dsimp only [dats]
theorem after9 (c : Dev nD) (t : Fin cfg0.N) : (dats m 0 c).after 9 t = half m c t := by dsimp only [dats]
theorem after10 (c : Dev nD) (t : Fin cfg0.N) : (dats m 0 c).after 10 t = tileG m c t := by dsimp only [dats]
theorem after11 (c : Dev nD) (t : Fin cfg0.N) : (dats m 0 c).after 11 t = tileU m c t := by dsimp only [dats]
theorem after12 (c : Dev nD) (t : Fin cfg0.N) : (dats m 0 c).after 12 t = vec m c (t.val / 2) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- At the second point the half gradient's buffer still holds what the first left. -/
theorem before9 (c : Dev nD) (t : Fin cfg0.N) (h : t.val % 2 = 1) (d) : (dats m 0 c).before 9 t d = half m c t := by
  have hp : (⟨t.val - 1, Nat.lt_of_le_of_lt (Nat.sub_le _ _) t.isLt⟩ : Fin cfg0.N).val % 2 = 0 := by simp only; omega
  rw [(dats m 0 c).before_of_pos 9 t (by omega) ((cfg0.win 9).fetch_out rfl t), not_flush9 _ hp, if_neg Bool.false_ne_true]
  unfold Dat.left
  rw [live9 _ hp]
  unfold half
  rw [← first_of_odd t h]
  rfl

/-- At the first point of a row block but the first, the norm's gradient's buffer holds what the row block before left, -/
theorem before12_even (c : Dev nD) (t : Fin cfg0.N) (h : t.val % 2 = 0) (hz : t.val ≠ 0) (d) :
    (dats m 0 c).before 12 t d = vec m c (t.val / 2 - 1) := by
  have hN : cfg0.N = 32 := N_0
  have hp : (⟨t.val - 1, Nat.lt_of_le_of_lt (Nat.sub_le _ _) t.isLt⟩ : Fin cfg0.N).val % 2 = 1 := by simp only; omega
  rw [(dats m 0 c).before_of_pos 12 t hz ((cfg0.win 12).fetch_out rfl t), not_flush12 _ (by have := t.isLt; simp only; omega), if_neg Bool.false_ne_true]
  unfold Dat.left
  rw [live12 _ hp]
  have e : (t.val - 1) / 2 = t.val / 2 - 1 := by omega
  rw [← e]
  rfl

/-- and the first point leaves it so. -/
theorem before12_odd (c : Dev nD) (t : Fin cfg0.N) (h : t.val % 2 = 1) (hz : 2 ≤ t.val) (d) :
    (dats m 0 c).before 12 t d = vec m c (t.val / 2 - 1) := by
  have hN : cfg0.N = 32 := N_0
  have hp : (⟨t.val - 1, Nat.lt_of_le_of_lt (Nat.sub_le _ _) t.isLt⟩ : Fin cfg0.N).val % 2 = 0 := by simp only; omega
  rw [(dats m 0 c).before_of_pos 12 t (by omega) ((cfg0.win 12).fetch_out rfl t), not_flush12 _ (by have := t.isLt; simp only; omega), if_neg Bool.false_ne_true]
  unfold Dat.left
  rw [idle12 _ hp]
  refine (before12_even m c _ hp (by simp only; omega) d).trans ?_
  have e : (t.val - 1) / 2 - 1 = t.val / 2 - 1 := by omega
  rw [← e]

/-! ## The body at any point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A window that is live at a point is left at its contents there. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- So is one that is idle at a point where it is written back. -/
theorem leaves_back (c : Dev nD) (w : Fin cfg0.W) (t : Fin cfg0.N) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 9600000 in
/-- The body does what the proof data says: the cases are the two points of a row block, and the first row block and the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = iprop(iprop(owns (c : Thread nD τ) scH fullShare (hid m c t) ∗ owns (c : Thread nD τ) scA fullShare (acc m c t)) ∗ (∃ r, prngReg c r)) from rfl]
  rw [leaves_live m c 0 t (live 0 (by decide) t), after0]
  rw [leaves_live m c 1 t (live 1 (by decide) t), after1]
  rw [leaves_live m c 2 t (live 2 (by decide) t), after2]
  rw [leaves_live m c 3 t (live 3 (by decide) t), after3]
  rw [leaves_live m c 4 t (live 4 (by decide) t), after4]
  rw [leaves_live m c 5 t (live 5 (by decide) t), after5]
  rw [leaves_live m c 6 t (live 6 (by decide) t), after6]
  rw [leaves_live m c 7 t (live 7 (by decide) t), after7]
  rw [leaves_live m c 10 t (live 10 (by decide) t), after10]
  rw [leaves_live m c 11 t (live 11 (by decide) t), after11]
  by_cases h : t.val % 2 = 0
  · have hN : cfg0.N = 32 := N_0
    rw [Dat.leavesExact_idle (dats m 0 c) 8 t (idle8 t h) (not_flush8 t h), leaves_live m c 9 t (live9 t h), after9,
      Dat.leavesExact_idle (dats m 0 c) 12 t (idle12 t h) (not_flush12 t (by have := t.isLt; omega))]
    have e := first_of_even t h
    unfold acc half tileG tileU hid
    rw [e, e]
    by_cases hz : t.val = 0
    · rw [between_here, between_zero m c _ _ hz, start_eq]
      iintro ⟨⟨⟨HS, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c (grid0.coords t) _ _ _ _ _ _ _ _ _ _ _ _ _ _ _ _ _ _ _ _ _ _ _ _ _ _ _ _ _ _ ((half_iff t).mpr h) ((sets_iff t).mpr h) (not_adds t) (fun h4 => by have := (last_iff t).mp h4; omega) (iblk m c 0 t) (iblk m c 1 t) (iblk m c 2 t) (iblk m c 3 t) (iblk m c 4 t) (iblk m c 5 t) (iblk m c 6 t) (iblk m c 7 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [HS]; · iexact HS
      isplitl [HA]; · iexact HA
      iintro ⟨H0, H1, H2, H3, H4, H5, H6, H7, H8, H9, H10, H11, H12, HS, HA⟩
      isplitl [HS HA Hg]
      · isplitl [HS HA]
        · isplitl [HS]; · iexact HS
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexact H11
      iexists _; iexact H12
    · rw [between_here, between_pos m c _ _ hz]
      iintro ⟨⟨⟨HS, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_first c (grid0.coords t) _ _ _ _ _ _ _ _ _ _ _ _ _ _ _ _ _ _ _ _ _ _ _ _ _ _ _ _ _ _ ((half_iff t).mpr h) ((sets_iff t).mpr h) (not_adds t) (fun h4 => by have := (last_iff t).mp h4; omega) (iblk m c 0 t) (iblk m c 1 t) (iblk m c 2 t) (iblk m c 3 t) (iblk m c 4 t) (iblk m c 5 t) (iblk m c 6 t) (iblk m c 7 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexact H12
      isplitl [HS]; · iexists _; iexact HS
      isplitl [HA]; · iexists _; iexact HA
      iintro ⟨H0, H1, H2, H3, H4, H5, H6, H7, H8, H9, H10, H11, H12, HS, HA⟩
      isplitl [HS HA Hg]
      · isplitl [HS HA]
        · isplitl [HS]; · iexact HS
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [H11]; · iexact H11
      iexists _; iexact H12
  · have h' : t.val % 2 = 1 := by omega
    simp only [before9 m c t h']
    rw [leaves_live m c 8 t (live8 t h'), after8, leaves_back m c 9 t (idle9 t h') ((flush0_9 t).mpr h'), after9, leaves_live m c 12 t (live12 t h'), after12]
    rw [between_here, between_pos m c _ _ (by omega)]
    have eh : hid m c ⟨t.val - 1, Nat.lt_of_le_of_lt (Nat.sub_le _ _) t.isLt⟩ = hid m c t := by unfold hid; rw [first_of_odd t h']
    have ea : acc m c ⟨t.val - 1, Nat.lt_of_le_of_lt (Nat.sub_le _ _) t.isLt⟩ = acc m c t := by unfold acc; rw [first_of_odd t h']
    rw [eh, ea]
    have es := second_of_odd t h'
    by_cases hz : t.val < 2
    · have e0 : t.val / 2 = 0 := by omega
      rw [show vec m c (t.val / 2) = row m c t by rw [e0] at es ⊢; exact congrArg (row m c) es]
      unfold row part tileG tileU
      iintro ⟨⟨⟨HS, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_open c (grid0.coords t) _ _ _ _ _ _ _ _ _ _ _ _ _ _ _ _ _ _ _ _ _ _ _ _ _ _ _ _ _ _ (fun h1 => h ((half_iff t).mp h1)) (fun h2 => h ((sets_iff t).mp h2)) (not_adds t) ((last_iff t).mpr h') ((opens_iff t).mpr hz) (fun h6 => by have := (goes_iff t).mp h6; omega) (iblk m c 0 t) (iblk m c 1 t) (iblk m c 2 t) (iblk m c 3 t) (iblk m c 4 t) (iblk m c 5 t) (iblk m c 6 t) (iblk m c 7 t) (half m c t) (hid m c t) (acc m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [H11]; · iexists _; iexact H11
      isplitl [H12]; · iexists _; iexact H12
      isplitl [HS]; · iexact HS
      isplitl [HA]; · iexact HA
      iintro ⟨H0, H1, H2, H3, H4, H5, H6, H7, H8, H9, H10, H11, H12, HS, HA⟩
      isplitl [HS HA Hg]
      · isplitl [HS HA]
        · isplitl [HS]; · iexact HS
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · have e1 : t.val / 2 = (t.val / 2 - 1) + 1 := by omega
      simp only [before12_odd m c t h' (by omega)]
      rw [show vec m c (t.val / 2) = k0_pay4 (row m c t) (vec m c (t.val / 2 - 1)) by
        rw [e1] at es
        refine (congrArg (vec m c) e1).trans ?_
        exact congrArg (fun s => k0_pay4 (row m c s) (vec m c (t.val / 2 - 1))) es]
      unfold row part tileG tileU
      iintro ⟨⟨⟨HS, HA⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run_on c (grid0.coords t) _ _ _ _ _ _ _ _ _ _ _ _ _ _ _ _ _ _ _ _ _ _ _ _ _ _ _ _ _ _ (fun h1 => h ((half_iff t).mp h1)) (fun h2 => h ((sets_iff t).mp h2)) (not_adds t) ((last_iff t).mpr h') (fun h5 => hz ((opens_iff t).mp h5)) ((goes_iff t).mpr (by omega)) (iblk m c 0 t) (iblk m c 1 t) (iblk m c 2 t) (iblk m c 3 t) (iblk m c 4 t) (iblk m c 5 t) (iblk m c 6 t) (iblk m c 7 t) (half m c t) (hid m c t) (acc m c t) (vec m c (t.val / 2 - 1)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexists _; iexact H10
      isplitl [H11]; · iexists _; iexact H11
      isplitl [H12]; · iexact H12
      isplitl [HS]; · iexact HS
      isplitl [HA]; · iexact HA
      iintro ⟨H0, H1, H2, H3, H4, H5, H6, H7, H8, H9, H10, H11, H12, HS, HA⟩
      isplitl [HS HA Hg]
      · isplitl [HS HA]
        · isplitl [HS]; · iexact HS
          iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem enter (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem leave (c : Dev nD) : (dats m 0 c).Φ (Fin.last cfg0.N) ⊢ Pipeline.ΦA spec0 c := by
  have hN : cfg0.N = 32 := N_0
  rw [show (dats m 0 c).Φ (Fin.last cfg0.N) = between m c cfg0.N le_rfl from rfl, between_pos m c _ _ (by omega), start_eq]
  iintro ⟨⟨HS, HA⟩, Hg⟩
  isplitl [HS HA]
  · isplitl [HS]
    · iexists _; iexact HS
    iexists _; iexact HA
  iexact Hg

/-! ## The run and the frame -/

set_option backward.isDefEq.respectTransparency.types false in
/-- The launch: every array of the pipeline ends at what the proof data says, and every semaphore at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The arguments end as they were launched, and the semaphores at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.FfnBwdRun
-- ==== Proof.FfnBwdAlg.lean ====
module

public import Idealize.ShloMosaic.PureOps.Ideal
public import Idealize.ShloMosaic.Lib.Tactic

@[expose] public section

noncomputable section

namespace Cert.FfnBwdAlg

open Idealize.ShloMosaic

/-! ## Values that are real -/

/-- The value is a real number: neither infinity. -/
def Real' (z : EReal) : Prop := ∃ r : ℝ, z = (r : EReal)

theorem real_coe (r : ℝ) : Real' (r : EReal) := ⟨r, rfl⟩

theorem real_mul {a b : EReal} (ha : Real' a) (hb : Real' b) : Real' (a * b) := by
  obtain ⟨a, rfl⟩ := ha; obtain ⟨b, rfl⟩ := hb
  exact ⟨a * b, (EReal.coe_mul a b).symm⟩

theorem real_add {a b : EReal} (ha : Real' a) (hb : Real' b) : Real' (a + b) := by
  obtain ⟨a, rfl⟩ := ha; obtain ⟨b, rfl⟩ := hb
  exact ⟨a + b, (EReal.coe_add a b).symm⟩

theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

theorem real_sum {n : ℕ} {f : Fin n → EReal} (h : ∀ k, Real' (f k)) : Real' (∑ k, f k) := by
  choose g hg using h
  exact ⟨∑ k, g k, by rw [← coe_sum]; exact Finset.sum_congr rfl fun k _ => hg k⟩

/-- A value whose absolute value is below infinity is real. -/
theorem real_of_abs {z : EReal} (h : max z (-z) < ⊤) : Real' z := by
  induction z with
  | bot => simp at h
  | top => simp at h
  | coe r => exact ⟨r, rfl⟩

/-! ## The constants -/

theorem c_1024 : Ideal.ofBits .f32 0x44800000#32 = ((1024 : ℝ) : EReal) := by
  simp [Ideal.ofBits, Ideal.ieee, -EReal.coe_mul]; norm_num

theorem c_one : Ideal.ofBits .f32 0x3F800000#32 = ((1 : ℝ) : EReal) := by
  simp [Ideal.ofBits, Ideal.ieee, -EReal.coe_mul]; norm_num

theorem c_half : Ideal.ofBits .f32 0x3F000000#32 = ((1 / 2 : ℝ) : EReal) := by
  simp [Ideal.ofBits, Ideal.ieee, -EReal.coe_mul]; norm_num

theorem c_neg_half : Ideal.ofBits .f32 0xBF000000#32 = ((-(1 / 2) : ℝ) : EReal) := by
  simp [Ideal.ofBits, Ideal.ieee, -EReal.coe_mul, -EReal.coe_neg]; norm_num

theorem c_top : Ideal.ofBits .f32 0x7F800000#32 = ⊤ := by
  simp [Ideal.ofBits, Ideal.ieee]

/-- The norm's small addend is a positive real. -/
theorem c_eps : ∃ e : ℝ, 0 < e ∧ Ideal.ofBits .f32 0x358637BD#32 = (e : EReal) := by
  refine ⟨8796093 * (1 / 8796093022208), by norm_num, ?_⟩
  simp [Ideal.ofBits, Ideal.ieee, -EReal.coe_mul]; norm_num

/-! ## The derivative of the gate -/

/-- The logistic function of a real. -/
theorem logistic_real (g : ℝ) : Ideal.div ((1 : ℝ) : EReal) (((1 : ℝ) : EReal) + Ideal.exp (-(g : EReal))) = ((1 / (1 + Real.exp (-g)) : ℝ) : EReal) := by
  have h : (1 + Real.exp (-g)) ≠ 0 := by positivity
  rw [← EReal.coe_neg, Ideal.exp_coe, ← EReal.coe_add, Ideal.div_coe h, ← EReal.coe_mul, one_mul]

/-- The gate's gradient, factored, is the sum of the product rule's two terms. -/
theorem gate_same {p g : EReal} (hp : Real' p) (hg : Real' g) :
    p * (Ideal.div ((1 : ℝ) : EReal) (((1 : ℝ) : EReal) + Ideal.exp (-g)) * (((1 : ℝ) : EReal) + g * (((1 : ℝ) : EReal) - Ideal.div ((1 : ℝ) : EReal) (((1 : ℝ) : EReal) + Ideal.exp (-g)))))
    = p * Ideal.div ((1 : ℝ) : EReal) (((1 : ℝ) : EReal) + Ideal.exp (-g))
      + g * p * (Ideal.div ((1 : ℝ) : EReal) (((1 : ℝ) : EReal) + Ideal.exp (-g)) * (((1 : ℝ) : EReal) - Ideal.div ((1 : ℝ) : EReal) (((1 : ℝ) : EReal) + Ideal.exp (-g)))) := by
  obtain ⟨p, rfl⟩ := hp; obtain ⟨g, rfl⟩ := hg
  rw [logistic_real]
  generalize 1 / (1 + Real.exp (-g)) = s
  simp only [← EReal.coe_mul, ← EReal.coe_add, ← EReal.coe_sub]
  exact congrArg _ (by ring)

theorem real_gate {g : EReal} (hg : Real' g) : Real' (Ideal.div ((1 : ℝ) : EReal) (((1 : ℝ) : EReal) + Ideal.exp (-g))) := by
  obtain ⟨g, rfl⟩ := hg
  exact ⟨_, logistic_real g⟩

/-- The logistic function. -/
def sig (g : EReal) : EReal := Ideal.div 1 (1 + Ideal.exp (-g))

theorem sig_same {p g : EReal} (hp : Real' p) (hg : Real' g) : p * (sig g * (1 + g * (1 - sig g))) = p * sig g + g * p * (sig g * (1 - sig g)) :=
  gate_same hp hg

theorem real_sig {g : EReal} (hg : Real' g) : Real' (sig g) := real_gate hg

theorem real_sub {a b : EReal} (ha : Real' a) (hb : Real' b) : Real' (a - b) := by
  obtain ⟨a, rfl⟩ := ha; obtain ⟨b, rfl⟩ := hb
  exact ⟨a - b, (EReal.coe_sub a b).symm⟩

theorem real_one : Real' 1 := ⟨1, rfl⟩

theorem real_half : Real' (Ideal.ofBits .f32 0x3F000000#32) := ⟨_, c_half⟩

/-! ## The derivative of the norm -/

/-- The mean of a row's squares, and the small addend. -/
def mean (x : Fin 1024 → EReal) : EReal := Ideal.div (∑ k, x k * x k) (Ideal.ofBits .f32 0x44800000#32) + Ideal.ofBits .f32 0x358637BD#32

theorem mean_real (x : Fin 1024 → ℝ) : ∃ v : ℝ, 0 < v ∧ mean (fun k => (x k : EReal)) = (v : EReal) := by
  obtain ⟨e, he, h⟩ := c_eps
  refine ⟨(∑ k, x k * x k) * (1 / 1024) + e, ?_, ?_⟩
  · have : 0 ≤ ∑ k, x k * x k := Finset.sum_nonneg fun k _ => mul_self_nonneg _
    positivity
  · unfold mean
    rw [h, c_1024, Ideal.div_coe (by norm_num)]
    simp only [← EReal.coe_mul, coe_sum, ← EReal.coe_add]

theorem rsqrt_real {v : ℝ} (h : 0 < v) : Ideal.rsqrt (v : EReal) = (((Real.sqrt v)⁻¹ : ℝ) : EReal) := by
  rw [Ideal.rsqrt_coe, if_neg (not_lt.mpr h.le), if_neg h.ne']

theorem real_rsqrt {x : Fin 1024 → EReal} (hx : ∀ k, Real' (x k)) : Real' (Ideal.rsqrt (mean x)) := by
  choose y hy using hx
  obtain ⟨v, hv, e⟩ := mean_real y
  rw [show x = fun k => (y k : EReal) from funext hy, e, rsqrt_real hv]
  exact real_coe _

/-- The gradient through the norm in one entry: the centred form is the sum of the product rule's terms. -/
theorem norm_same {x q : Fin 1024 → EReal} (hx : ∀ k, Real' (x k)) (hq : ∀ k, Real' (q k)) (d : Fin 1024) :
    Ideal.rsqrt (mean x) * (q d - x d * Ideal.rsqrt (mean x) * Ideal.div (∑ k, q k * (x k * Ideal.rsqrt (mean x))) (Ideal.ofBits .f32 0x44800000#32))
    = q d * Ideal.rsqrt (mean x)
      + x d * Ideal.div ((∑ k, x k * q k) * (Ideal.ofBits .f32 0xBF000000#32 * Ideal.div (Ideal.rsqrt (mean x)) (mean x))) (Ideal.ofBits .f32 0x44800000#32)
      + Ideal.div ((∑ k, x k * q k) * (Ideal.ofBits .f32 0xBF000000#32 * Ideal.div (Ideal.rsqrt (mean x)) (mean x))) (Ideal.ofBits .f32 0x44800000#32) * x d := by
  choose y hy using hx
  choose p hp using hq
  obtain ⟨v, hv, e⟩ := mean_real y
  obtain rfl : x = fun k => (y k : EReal) := funext hy
  obtain rfl : q = fun k => (p k : EReal) := funext hp
  rw [e, rsqrt_real hv, c_1024, c_neg_half, Ideal.div_coe hv.ne', Ideal.div_coe (by norm_num : (1024 : ℝ) ≠ 0), Ideal.div_coe (by norm_num : (1024 : ℝ) ≠ 0)]
  simp only [← EReal.coe_mul, coe_sum, ← EReal.coe_add, ← EReal.coe_sub]
  refine congrArg _ ?_
  have hr : (Real.sqrt v)⁻¹ * (Real.sqrt v)⁻¹ = 1 / v := by
    rw [← mul_inv, Real.mul_self_sqrt hv.le, one_div]
  have hs : ∑ k, p k * (y k * (Real.sqrt v)⁻¹) = (∑ k, y k * p k) * (Real.sqrt v)⁻¹ := by
    rw [Finset.sum_mul]; exact Finset.sum_congr rfl fun k _ => by ring
  rw [hs, ← hr]
  ring

end Cert.FfnBwdAlg
-- ==== Proof.FfnBwdRef.lean ====
module

public import proofs.«01_k».proof.FfnBwdIdeal
public import proofs.«01_k».proof.Proof.FfnBwdAlg
public import proofs.«01_k».proof.Proof.Gen.FfnRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.FfnBwdValue

open Cert.FfnBwdIdeal Cert.FfnBwdAlg Cert.FfnRefIdeal.Read Idealize.ShloMosaic Idealize.ShloMosaic.TcCoe Idealize.ShloMosaic.StableHlo

/-- The arrays: the tokens' rows, the norm's weight, the first two matrices, the last one. -/
abbrev Rows := BufTy.Contents (Elt Ideal) ⟨S8192x1024, .f32⟩
abbrev Wt := BufTy.Contents (Elt Ideal) ⟨S1024, .f32⟩
abbrev In := BufTy.Contents (Elt Ideal) ⟨S1024x2816, .f32⟩
abbrev Out := BufTy.Contents (Elt Ideal) ⟨S2816x1024, .f32⟩

variable (y x : Rows) (w : Wt) (a b : In) (e : Out)

/-! ## The mathematics -/

/-- One over the root of the mean square of row `r`. -/
def rs (r : Fin 8192) : EReal := Ideal.rsqrt (mean fun k => x (ix2 r k))

/-- Entry `(r, d)` of the normed input, -/
def nrm (r : Fin 8192) (d : Fin 1024) : EReal := x (ix2 r d) * rs x r * w (ix1 d)

/-- entry `(r, j)` of its product with a matrix. -/
def proj (r : Fin 8192) (j : Fin 2816) : EReal := ∑ k : Fin 1024, nrm x w r k * a (ix2 k j)

/-- The gradient at the last product, -/
def dy (r : Fin 8192) (d : Fin 1024) : EReal := Ideal.ofBits FTy.f32 0x3F000000#32 * y (ix2 r d)

/-- at the hidden layer, -/
def da (r : Fin 8192) (j : Fin 2816) : EReal := ∑ d : Fin 1024, dy y r d * e (ix2 j d)

/-- at the second of the first two products, -/
def du (r : Fin 8192) (j : Fin 2816) : EReal := proj x w a r j * sig (proj x w a r j) * da y e r j

/-- at the first of them, -/
def dg (r : Fin 8192) (j : Fin 2816) : EReal :=
  da y e r j * proj x w b r j * sig (proj x w a r j)
    + proj x w a r j * (da y e r j * proj x w b r j) * (sig (proj x w a r j) * (1 - sig (proj x w a r j)))

/-- at the normed input, -/
def dn (r : Fin 8192) (d : Fin 1024) : EReal := (∑ j : Fin 2816, du y x w a e r j * b (ix2 d j)) + ∑ j : Fin 2816, dg y x w a b e r j * a (ix2 d j)

/-- at the norm's weight, -/
def dw (d : Fin 1024) : EReal := ∑ r : Fin 8192, x (ix2 r d) * rs x r * dn y x w a b e r d

/-- at the mean square's square root, per entry of the row, -/
def coef (r : Fin 8192) : EReal :=
  Ideal.div ((∑ k, x (ix2 r k) * (dn y x w a b e r k * w (ix1 k))) * (Ideal.ofBits FTy.f32 0xBF000000#32 * Ideal.div (rs x r) (mean fun k => x (ix2 r k)))) (Ideal.ofBits FTy.f32 0x44800000#32)

/-- and at the input. -/
def dx (r : Fin 8192) (d : Fin 1024) : EReal :=
  y (ix2 r d) + (dn y x w a b e r d * w (ix1 d) * rs x r + x (ix2 r d) * coef y x w a b e r + coef y x w a b e r * x (ix2 r d))

/-! ## The reference's results, index by index -/

theorem ref_nrm (r d) : val_main_v15 (F := Ideal) x w (ix2 r d) = nrm x w r d := by
  pointwise [val_main_v0, val_main_v1, val_main_cst, val_main_v2, val_main_v3, val_main_cst_0, val_main_v4, val_main_v5, val_main_cst_1, val_main_v6, val_main_v7,
    val_main_v8, val_main_v12, val_main_v13, val_main_v14, val_main_v15]
  rfl

theorem ref_g (r j) : val_main_v16 (F := Ideal) x w a (ix2 r j) = proj x w a r j := by
  pointwise [val_main_v16]
  simp only [ref_nrm]
  rfl

theorem ref_u (r j) : val_main_v17 (F := Ideal) x w a (ix2 r j) = proj x w a r j := by
  pointwise [val_main_v17]
  simp only [ref_nrm]
  rfl

theorem ref_dy (r d) : val_main_v26 (F := Ideal) y (ix2 r d) = dy y r d := by
  pointwise [val_main_v24, val_main_cst_4, val_main_v25, val_main_v26]
  rfl

theorem ref_da (r j) : val_main_v27 (F := Ideal) y e (ix2 r j) = da y e r j := by
  pointwise [val_main_v27]
  simp only [ref_dy]
  rfl

theorem ref_du (r j) : val_main_v28 (F := Ideal) y x w a e (ix2 r j) = du y x w a e r j := by
  pointwise [val_main_call0_v0, val_main_call0_v1, val_main_call0_cst, val_main_call0_v2, val_main_call0_v3, val_main_call0_cst_0, val_main_call0_v4,
    val_main_v18_2, val_main_call0_cst_1, val_main_call0_v6, val_main_call0_v7, val_main_v18_1, val_main_v18_0, val_main_v28]
  simp only [ref_g, ref_da]
  rfl

theorem ref_dg (r j) : val_main_v30 (F := Ideal) y x w a b e (ix2 r j) = dg y x w a b e r j := by
  pointwise [val_main_call0_v0, val_main_call0_v1, val_main_call0_cst, val_main_call0_v2, val_main_call0_v3, val_main_call0_cst_0, val_main_call0_v4,
    val_main_v18_2, val_main_call0_cst_1, val_main_call0_v6, val_main_call0_v7, val_main_v18_1, val_main_v18_0, val_main_v29, val_main_call1_v0,
    val_main_call1_v1, val_main_call1_v2, val_main_v30]
  simp only [ref_g, ref_u, ref_da]
  rfl

theorem ref_dn (r d) : val_main_v33 (F := Ideal) y x w a b e (ix2 r d) = dn y x w a b e r d := by
  pointwise [val_main_v31, val_main_v32, val_main_v33]
  simp only [ref_du, ref_dg]
  rfl

theorem ref_dw (d) : val_main_v36 (F := Ideal) y x w a b e (ix2 0 d) = dw y x w a b e d := by
  pointwise [val_main_v0, val_main_v1, val_main_cst, val_main_v2, val_main_v3, val_main_cst_0, val_main_v4, val_main_v5, val_main_cst_1, val_main_v6, val_main_v7,
    val_main_v8, val_main_v12, val_main_v13, val_main_v34, val_main_cst_5, val_main_v35, val_main_v36]
  simp only [ref_dn]
  rfl

theorem ref_dx (r d) : val_main_v53 (F := Ideal) y x w a b e (ix2 r d) = dx y x w a b e r d := by
  pointwise [val_main_v0, val_main_v1, val_main_cst, val_main_v2, val_main_v3, val_main_cst_0, val_main_v4, val_main_v5, val_main_cst_1, val_main_v6, val_main_v7,
    val_main_v8, val_main_v9, val_main_cst_2, val_main_v10, val_main_v11, val_main_v12, val_main_v13, val_main_v37, val_main_v38, val_main_v39,
    val_main_cst_6, val_main_v40, val_main_v41, val_main_v42, val_main_v43, val_main_v44, val_main_cst_7, val_main_v45, val_main_v46, val_main_cst_8,
    val_main_v47, val_main_v48, val_main_v49, val_main_v50, val_main_v51, val_main_v52, val_main_v53]
  simp only [ref_dn, Finset.sum_const, Finset.card_univ, Fintype.card_fin, one_nsmul]
  rfl

theorem ref_dy' (r d) : val_main_v54 (F := Ideal) y (ix2 r d) = dy y r d := by
  pointwise [val_main_v54]
  rw [ref_dy]

theorem ref_dg' (r j) : val_main_v55 (F := Ideal) y x w a b e (ix2 r j) = dg y x w a b e r j := by
  pointwise [val_main_v55]
  rw [ref_dg]

theorem ref_du' (r j) : val_main_v56 (F := Ideal) y x w a e (ix2 r j) = du y x w a e r j := by
  pointwise [val_main_v56]
  rw [ref_du]

end Cert.FfnBwdValue
-- ==== Proof.FfnBwd.lean ====
module

public import proofs.«01_k».proof.Proof.FfnBwdRun
public import proofs.«01_k».proof.Proof.FfnBwdRef
public import Idealize.ShloMosaic.Lib.Pipeline.ValueKit
public import Idealize.ShloMosaic.Lib.Pointwise
public import Idealize.ShloMosaic.Lib.Tactic

@[expose] public section

set_option maxRecDepth 16384

noncomputable section

namespace Cert.FfnBwdValue

open Cert.FfnBwdIdeal Cert.FfnBwdIdeal.Gen Cert.FfnBwdRun Cert.FfnBwdAlg Idealize.ShloMosaic Idealize.ShloMosaic.TcCoe Idealize.SL.Sem Idealize.ShloMosaic.StableHlo

variable (m : (ℓ : Loc nD τ sig) → Buf (Elt Ideal) ℓ)

/-! ## The arguments, and that they are real -/

abbrev aY (c : Dev nD) : Rows := m (c.tc.loc main_arg0)
abbrev aX (c : Dev nD) : Rows := m (c.tc.loc main_arg1)
abbrev aN (c : Dev nD) : Wt := m (c.tc.loc main_arg2)
abbrev aG (c : Dev nD) : In := m (c.tc.loc main_arg3)
abbrev aU (c : Dev nD) : In := m (c.tc.loc main_arg4)
abbrev aD (c : Dev nD) : Out := m (c.tc.loc main_arg5)

section Reals

variable {y x : Rows} {w : Wt} {a b : In} {e : Out}
  (hy : ∀ i, Real' (y i)) (hx : ∀ i, Real' (x i)) (hw : ∀ i, Real' (w i)) (ha : ∀ i, Real' (a i)) (hb : ∀ i, Real' (b i)) (he : ∀ i, Real' (e i))

include hx in
theorem real_rs (r) : Real' (rs x r) := real_rsqrt fun k => hx _

include hx hw ha in
theorem real_proj (r j) : Real' (proj x w a r j) :=
  real_sum fun k => real_mul (real_mul (real_mul (hx _) (real_rs hx r)) (hw _)) (ha _)

include hy he in
theorem real_da (r j) : Real' (da y e r j) :=
  real_sum fun d => real_mul (real_mul real_half (hy _)) (he _)

include hy hx hw ha he in
theorem real_du (r j) : Real' (du y x w a e r j) :=
  real_mul (real_mul (real_proj hx hw ha r j) (real_sig (real_proj hx hw ha r j))) (real_da hy he r j)

include hy hx hw ha hb he in
theorem real_dg (r j) : Real' (dg y x w a b e r j) := by
  have hg := real_proj hx hw ha r j
  have hp := real_mul (real_da hy he r j) (real_proj hx hw hb r j)
  exact real_add (real_mul hp (real_sig hg)) (real_mul (real_mul hg hp) (real_mul (real_sig hg) (real_sub real_one (real_sig hg))))

include hy hx hw ha hb he in
theorem real_dn (r d) : Real' (dn y x w a b e r d) :=
  real_add (real_sum fun j => real_mul (real_du hy hx hw ha he r j) (hb _)) (real_sum fun j => real_mul (real_dg hy hx hw ha hb he r j) (ha _))

end Reals

/-! ## What the host hands to the kernel -/

/-- The first product reaches the kernel, -/
theorem V_g (c : Dev nD) (r : Fin 8192) (j : Fin 2816) : V m c main_v14 (ix2 r j) = proj (aX m c) (aN m c) (aG m c) r j := by
  unfold_abbrev_sides
  after_results
  pointwise
  rfl

/-- the second, -/
theorem V_u (c : Dev nD) (r : Fin 8192) (j : Fin 2816) : V m c main_v16 (ix2 r j) = proj (aX m c) (aN m c) (aU m c) r j := by
  unfold_abbrev_sides
  after_results
  pointwise
  rfl

/-- the norm's weight as one row, -/
theorem V_n (c : Dev nD) (d : Fin 1024) : V m c main_v17 (ix2 0 d) = aN m c (ix1 d) := by
  unfold_abbrev_sides
  after_results
  pointwise

/-- the two matrices of the first products with rows and columns exchanged, -/
theorem V_wg (c : Dev nD) (j : Fin 2816) (k : Fin 1024) : V m c main_v19 (ix2 j k) = aG m c (ix2 k j) := by
  unfold_abbrev_sides
  after_results
  pointwise

theorem V_wu (c : Dev nD) (j : Fin 2816) (k : Fin 1024) : V m c main_v21 (ix2 j k) = aU m c (ix2 k j) := by
  unfold_abbrev_sides
  after_results
  pointwise

/-- and the one of the last product as it is. -/
theorem V_wd (c : Dev nD) (j : Fin 2816) (k : Fin 1024) : V m c main_v22 (ix2 j k) = aD m c (ix2 j k) := by
  unfold_abbrev_sides
  after_results
  pointwise

/-! ## Which part of its array each block is -/

/-- Which block of its array each window takes at a grid point. -/
theorem idx : ∀ t : Fin grid0.N,
    win0_0.index t = ![t.val / 2, 0] ∧ win0_1.index t = ![t.val / 2, 0] ∧ win0_2.index t = ![0, 0] ∧ win0_3.index t = ![t.val / 2, t.val % 2] ∧
    win0_4.index t = ![t.val / 2, t.val % 2] ∧ win0_5.index t = ![t.val % 2, 0] ∧ win0_6.index t = ![t.val % 2, 0] ∧ win0_7.index t = ![t.val % 2, 0] ∧
    win0_8.index t = ![t.val / 2, 0] ∧ win0_9.index t = ![t.val / 2, 0] ∧ win0_10.index t = ![t.val / 2, t.val % 2] ∧
    win0_11.index t = ![t.val / 2, t.val % 2] ∧ win0_12.index t = ![0, 0] := by
  decide +kernel

/-- Row `r` of the block of grid point `t`, as a row of the whole array. -/
def tok (t : Fin grid0.N) (r : Fin 512) : Fin 8192 := ⟨t.val / 2 * 512 + r.val, by
  have : t.val < 32 := lt_of_lt_of_eq t.isLt N_0
  omega⟩

/-- Column `d` of the tile of grid point `t`, as a column of the whole array. -/
def col (t : Fin grid0.N) (d : Fin 1408) : Fin 2816 := ⟨t.val % 2 * 1408 + d.val, by omega⟩

/-- A grid point's blocks of the gradient and of the input are its 512 rows, -/
theorem blk0 (c : Dev nD) (t : Fin cfg0.N) (r : Fin 512) (d : Fin 1024) :
    iblk m c 0 t (ix2 r d) = aY m c (ix2 (tok t r) d) := by
  blk_point [iblk, V, idx t, tok]

theorem blk1 (c : Dev nD) (t : Fin cfg0.N) (r : Fin 512) (d : Fin 1024) :
    iblk m c 1 t (ix2 r d) = aX m c (ix2 (tok t r) d) := by
  blk_point [iblk, V, idx t, tok]

theorem blk2 (c : Dev nD) (t : Fin cfg0.N) (d : Fin 1024) : iblk m c 2 t (ix2 0 d) = aN m c (ix1 d) := by
  rw [← V_n m]
  blk_point [iblk, idx t]

/-- its tiles of the two products those rows of its 1408 columns, -/
theorem blk3 (c : Dev nD) (t : Fin cfg0.N) (r : Fin 512) (j : Fin 1408) :
    iblk m c 3 t (ix2 r j) = proj (aX m c) (aN m c) (aG m c) (tok t r) (col t j) := by
  rw [← V_g m]
  blk_point [iblk, idx t, tok, col]

theorem blk4 (c : Dev nD) (t : Fin cfg0.N) (r : Fin 512) (j : Fin 1408) :
    iblk m c 4 t (ix2 r j) = proj (aX m c) (aN m c) (aU m c) (tok t r) (col t j) := by
  rw [← V_u m]
  blk_point [iblk, idx t, tok, col]

/-- and its tiles of the matrices those columns of the first two and rows of the third. -/
theorem blk5 (c : Dev nD) (t : Fin cfg0.N) (j : Fin 1408) (k : Fin 1024) : iblk m c 5 t (ix2 j k) = aG m c (ix2 k (col t j)) := by
  rw [← V_wg m]
  blk_point [iblk, idx t, col]

theorem blk6 (c : Dev nD) (t : Fin cfg0.N) (j : Fin 1408) (k : Fin 1024) : iblk m c 6 t (ix2 j k) = aU m c (ix2 k (col t j)) := by
  rw [← V_wu m]
  blk_point [iblk, idx t, col]

theorem blk7 (c : Dev nD) (t : Fin cfg0.N) (j : Fin 1408) (k : Fin 1024) : iblk m c 7 t (ix2 j k) = aD m c (ix2 (col t j) k) := by
  rw [← V_wd m]
  blk_point [iblk, idx t, col]

/-! ## What the points compute -/

theorem first_tok (t : Fin cfg0.N) (r : Fin 512) : tok (first t) r = tok t r := Fin.ext (by simp only [tok, first]; omega)

/-- The half gradient, -/
theorem half_eq (c : Dev nD) (t : Fin cfg0.N) (r : Fin 512) (d : Fin 1024) : half m c t (ix2 r d) = dy (aY m c) (tok t r) d := by
  unfold half
  pointwise [k0_pay10]
  rw [blk0, first_tok]
  rfl

theorem hid_eq (c : Dev nD) (t : Fin cfg0.N) (r : Fin 512) (d : Fin 1024) : hid m c t (ix2 r d) = dy (aY m c) (tok t r) d := by
  rw [← half_eq]
  unfold hid half
  pointwise [k0_pay11]

/-- a tile of the hidden layer's gradient, -/
theorem da_eq (c : Dev nD) (t : Fin cfg0.N) (r : Fin 512) (j : Fin 1408) :
    k0_pay12 (hid m c t) (iblk m c 7 t) (ix2 r j) = da (aY m c) (aD m c) (tok t r) (col t j) := by
  pointwise [k0_pay12]
  unfold da
  change @Eq EReal _ _
  exact Finset.sum_congr rfl fun k _ => by rw [hid_eq, blk7]

/-- of the logistic function of the first product, -/
theorem sig_eq (c : Dev nD) (t : Fin cfg0.N) (r : Fin 512) (j : Fin 1408) :
    k0_pay14 (iblk m c 3 t) (ix2 r j) = sig (proj (aX m c) (aN m c) (aG m c) (tok t r) (col t j)) := by
  pointwise [k0_pay14, k0_pay13]
  rw [blk3, zero_sub]
  rfl

/-- of the second product's gradient, -/
theorem tileU_eq (c : Dev nD) (t : Fin cfg0.N) (r : Fin 512) (j : Fin 1408) :
    tileU m c t (ix2 r j) = du (aY m c) (aX m c) (aN m c) (aG m c) (aD m c) (tok t r) (col t j) := by
  unfold tileU
  pointwise [k0_pay16, k0_pay13]
  rw [da_eq, sig_eq, blk3]
  exact mul_comm (G := EReal) _ _

section Finite

variable (c : Dev nD) (hy : ∀ i, Real' (aY m c i)) (hx : ∀ i, Real' (aX m c i)) (hw : ∀ i, Real' (aN m c i))
  (ha : ∀ i, Real' (aG m c i)) (hb : ∀ i, Real' (aU m c i)) (he : ∀ i, Real' (aD m c i))

include hy hx hw ha hb he

/-- and of the first product's. -/
theorem tileG_eq (t : Fin cfg0.N) (r : Fin 512) (j : Fin 1408) :
    tileG m c t (ix2 r j) = dg (aY m c) (aX m c) (aN m c) (aG m c) (aU m c) (aD m c) (tok t r) (col t j) := by
  unfold tileG
  pointwise [k0_pay15, k0_pay13]
  rw [da_eq, sig_eq, blk3, blk4]
  exact sig_same (real_mul (real_da hy he _ _) (real_proj hx hw hb _ _)) (real_proj hx hw ha _ _)

/-- A point's part of the gradient at the normed input. -/
theorem part_eq (t : Fin cfg0.N) (r : Fin 512) (d : Fin 1024) :
    part m c t (ix2 r d) = (∑ j : Fin 1408, dg (aY m c) (aX m c) (aN m c) (aG m c) (aU m c) (aD m c) (tok t r) (col t j) * aG m c (ix2 d (col t j)))
      + ∑ j : Fin 1408, du (aY m c) (aX m c) (aN m c) (aG m c) (aD m c) (tok t r) (col t j) * aU m c (ix2 d (col t j)) := by
  unfold part
  pointwise [k0_pay1]
  simp only [tileG_eq m c hy hx hw ha hb he, tileU_eq, blk5, blk6]

omit hy hx hw ha hb he in
theorem acc_eq (t : Fin cfg0.N) (r : Fin 512) (d : Fin 1024) : acc m c t (ix2 r d) = part m c (first t) (ix2 r d) := by
  unfold acc part
  pointwise [k0_pay2]

omit hy hx hw ha hb he in
/-- A sum over the hidden layer is the two tiles' sums. -/
theorem sum_tiles (f : Fin 2816 → EReal) :
    (∑ j : Fin 1408, f ⟨0 * 1408 + j.val, by omega⟩) + (∑ j : Fin 1408, f ⟨1 * 1408 + j.val, by omega⟩) = ∑ l, f l := by
  rw [← Fin.sum_mul_add_congr (S := 2) (n := 1408) (F := fun s k => f ⟨s.val * 1408 + k.val, by omega⟩) (f := f) fun s k hl => rfl]
  simp only [Fin.sum_univ_two]
  rfl

/-- The two points' parts make the gradient at the normed input. -/
theorem total_eq (t : Fin cfg0.N) (h : t.val % 2 = 1) (r : Fin 512) (d : Fin 1024) :
    k0_pay5 (part m c t) (acc m c t) (ix2 r d) = dn (aY m c) (aX m c) (aN m c) (aG m c) (aU m c) (aD m c) (tok t r) d := by
  pointwise [k0_pay5]
  rw [acc_eq, part_eq m c hy hx hw ha hb he, part_eq m c hy hx hw ha hb he]
  have e0 : ∀ j : Fin 1408, col (first t) j = ⟨0 * 1408 + j.val, by omega⟩ := fun j => Fin.ext (by simp only [col, first]; omega)
  have e1 : ∀ j : Fin 1408, col t j = ⟨1 * 1408 + j.val, by omega⟩ := fun j => Fin.ext (by simp only [col]; omega)
  unfold dn
  rw [← sum_tiles, ← sum_tiles]
  simp only [e0, e1, first_tok]
  refine Eq.trans (add_add_add_comm (G := EReal) _ _ _ _) ?_
  exact add_comm (G := EReal) _ _

/-- A row block's part of the gradient at the norm's weight. -/
theorem row_eq' (t : Fin cfg0.N) (h : t.val % 2 = 1) (d : Fin 1024) :
    row m c t (ix2 0 d) = ∑ r : Fin 512, aX m c (ix2 (tok t r) d) * rs (aX m c) (tok t r) * dn (aY m c) (aX m c) (aN m c) (aG m c) (aU m c) (aD m c) (tok t r) d := by
  unfold row
  pointwise [k0_pay8, k0_pay7, k0_pay6]
  simp only [total_eq m c hy hx hw ha hb he t h, blk1]
  exact Finset.sum_congr rfl fun k _ => mul_comm (G := EReal) _ _

omit hy hx hw ha hb he in
/-- After a row block the buffer holds the sum of the row blocks' parts so far. -/
theorem vec_eq (n : ℕ) (d : Fin 1024) : vec m c n (ix2 0 d) = ∑ s ∈ Finset.range (n + 1), (row m c (second s) (ix2 0 d) : EReal) := by
  induction n with
  | zero =>
    rw [zero_add, Finset.sum_range_one]
    rfl
  | succ n ih =>
    rw [Finset.sum_range_succ, ← ih]
    show k0_pay4 (row m c (second (n + 1))) (vec m c n) (ix2 0 d) = _
    pointwise [k0_pay4]

/-- The sixteen row blocks' parts make the gradient at the norm's weight. -/
theorem vec_last (d : Fin 1024) : vec m c 15 (ix2 0 d) = dw (aY m c) (aX m c) (aN m c) (aG m c) (aU m c) (aD m c) d := by
  rw [vec_eq, Finset.sum_range]
  unfold dw
  have hs : ∀ s : Fin 16, (second s.val).val = 2 * s.val + 1 := fun s => by simp only [second]; omega
  have e : ∀ s : Fin 16, (row m c (second s.val) (ix2 0 d) : EReal) = _ := fun s => row_eq' m c hy hx hw ha hb he (second s.val) (by rw [hs]; omega) d
  refine (Finset.sum_congr rfl fun s _ => e s).trans ?_
  refine Fin.sum_mul_add_congr (S := 16) (n := 512) (f := fun l => aX m c (ix2 l d) * rs (aX m c) l * dn (aY m c) (aX m c) (aN m c) (aG m c) (aU m c) (aD m c) l d) fun s k hl => ?_
  have ht : tok (second s.val) k = ⟨s.val * 512 + k.val, hl⟩ := Fin.ext (by simp only [tok, hs]; omega)
  rw [ht]

/-! ## The kernel's five arrays -/

omit hy hx hw ha hb he in
/-- The kernel's array of the half gradient is the reference's. -/
theorem arr_y : (dats m 0 c).arrAt 9 cfg0.N = Cert.FfnRefIdeal.Read.val_main_v54 (F := Ideal) (aY m c) := by
  refine (dats m 0 c).arrAt_eq_of_covers 9 _ (by decide +kernel) fun t hf y => ?_
  blk_simp
  rw [after9]
  change S512x1024.Idx at y
  idx_vars y
  have e : ((View.whole main_v23_1).slice (win0_9.rect t)).emb (ix2 y0 y1) = ix2 (tok t y0) y1 := by
    blk_ext [idx t, tok, col]
  rw [e, ref_dy']
  exact half_eq m c t y0 y1

/-- The kernel's array of the first product's gradient is the reference's. -/
theorem arr_g : (dats m 0 c).arrAt 10 cfg0.N = Cert.FfnRefIdeal.Read.val_main_v55 (F := Ideal) (aY m c) (aX m c) (aN m c) (aG m c) (aU m c) (aD m c) := by
  refine (dats m 0 c).arrAt_eq_of_covers 10 _ (by decide +kernel) fun t hf y => ?_
  blk_simp
  rw [after10]
  change S512x1408.Idx at y
  idx_vars y
  have e : ((View.whole main_v23_2).slice (win0_10.rect t)).emb (ix2 y0 y1) = ix2 (tok t y0) (col t y1) := by
    blk_ext [idx t, tok, col]
  rw [e, ref_dg']
  exact tileG_eq m c hy hx hw ha hb he t y0 y1

omit hy hx hw ha hb he in
/-- The kernel's array of the second product's gradient is the reference's. -/
theorem arr_u : (dats m 0 c).arrAt 11 cfg0.N = Cert.FfnRefIdeal.Read.val_main_v56 (F := Ideal) (aY m c) (aX m c) (aN m c) (aG m c) (aD m c) := by
  refine (dats m 0 c).arrAt_eq_of_covers 11 _ (by decide +kernel) fun t hf y => ?_
  blk_simp
  rw [after11]
  change S512x1408.Idx at y
  idx_vars y
  have e : ((View.whole main_v23_3).slice (win0_11.rect t)).emb (ix2 y0 y1) = ix2 (tok t y0) (col t y1) := by
    blk_ext [idx t, tok, col]
  rw [e, ref_du']
  exact tileU_eq m c t y0 y1

/-- The kernel's array of the norm's gradient is the reference's. -/
theorem arr_n : (dats m 0 c).arrAt 12 cfg0.N = Cert.FfnRefIdeal.Read.val_main_v36 (F := Ideal) (aY m c) (aX m c) (aN m c) (aG m c) (aU m c) (aD m c) := by
  refine (dats m 0 c).arrAt_eq_of_covers 12 _ (by decide +kernel) fun t hf y => ?_
  have ht := (flush0_12 t).mp hf
  blk_simp
  rw [after12]
  change S1x1024.Idx at y
  idx_vars y
  obtain rfl : y0 = 0 := Subsingleton.elim _ _
  have e : ((View.whole main_v23_4).slice (win0_12.rect t)).emb (ix2 0 y1) = ix2 0 y1 := by
    blk_ext [idx t]
  rw [e, ref_dw]
  have hl : t.val / 2 = 15 := by have := t.isLt; have hN : cfg0.N = 32 := N_0; omega
  rw [hl]
  exact vec_last m c hy hx hw ha hb he y1

/-- The kernel's array of the input's gradient is the reference's. -/
theorem arr_x : (dats m 0 c).arrAt 8 cfg0.N = Cert.FfnRefIdeal.Read.val_main_v53 (F := Ideal) (aY m c) (aX m c) (aN m c) (aG m c) (aU m c) (aD m c) := by
  refine (dats m 0 c).arrAt_eq_of_covers 8 _ (by decide +kernel) fun t hf y => ?_
  have ht := (flush0_8 t).mp hf
  blk_simp
  rw [after8]
  change S512x1024.Idx at y
  idx_vars y
  have e : ((View.whole main_v23_0).slice (win0_8.rect t)).emb (ix2 y0 y1) = ix2 (tok t y0) y1 := by
    blk_ext [idx t, tok]
  rw [e, ref_dx]
  pointwise [k0_pay9, k0_pay7, k0_pay6]
  simp only [total_eq m c hy hx hw ha hb he t ht, blk0, blk1, blk2]
  refine congrArg (aY m c (ix2 (tok t y0) y1) + ·) ?_
  exact norm_same (x := fun k => aX m c (ix2 (tok t y0) k))
    (q := fun k => dn (aY m c) (aX m c) (aN m c) (aG m c) (aU m c) (aD m c) (tok t y0) k * aN m c (ix1 k))
    (fun k => hx _) (fun k => real_mul (real_dn hy hx hw ha hb he _ k) (hw _)) y1

end Finite

/-! ## The run, with its arrays named -/

variable (ρ : Dev nD → PrngReg)

/-- The launch leaves the five arrays, and the arguments as they were. -/
theorem run_blocks : θ_run defs (onTc (τ := τ) (main (F := Ideal))) ⟨m, fun _ => 0, ρ⟩ fun r => ∀ c : Dev nD,
      r.2.mem ((c : Thread nD τ).loc main_v23_0) = (dats m 0 c).arrAt 8 cfg0.N
      ∧ r.2.mem ((c : Thread nD τ).loc main_v23_1) = (dats m 0 c).arrAt 9 cfg0.N
      ∧ r.2.mem ((c : Thread nD τ).loc main_v23_2) = (dats m 0 c).arrAt 10 cfg0.N
      ∧ r.2.mem ((c : Thread nD τ).loc main_v23_3) = (dats m 0 c).arrAt 11 cfg0.N
      ∧ r.2.mem ((c : Thread nD τ).loc main_v23_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h.1 c).1 8, (h.1 c).1 9, (h.1 c).1 10, (h.1 c).1 11, (h.1 c).1 12, h.2.1 c⟩)
    (θ_run_and ((θ_run defs _ _).mono (fun _ h => h.1) (run_main m ρ)) (frame_ideal m ρ))

end Cert.FfnBwdValue
-- ==== Proof.FfnBwdFin.lean ====
module

public import proofs.«01_k».proof.Pre_finite
public import proofs.«01_k».proof.Proof.FfnBwdAlg
public import Idealize.ShloMosaic.Lib.ReduceAll
public import Idealize.ShloMosaic.Lib.Affine

@[expose] public section

set_option maxRecDepth 16384

noncomputable section

namespace Cert.FfnBwdValue

open Cert.Pre_finite Cert.FfnBwdAlg Idealize.ShloMosaic

variable [hPre_finite : Cert.Pre_finite.Facts]

/-- An entry whose test for finiteness is true is real. -/
theorem real_of_cmp {z : EReal} (h : Ideal.cmp .olt (max z (-z)) (Ideal.ofBits .f32 0x7F800000#32) = 1#1) : Real' z := by
  rw [c_top] at h
  refine real_of_abs ?_
  by_contra hn
  simp [Ideal.cmp, hn] at h

instance : Subsingleton (Shape.Idx S_) := ⟨fun a b => funext fun i => i.elim0⟩

/-- The precondition says that every entry of the six arrays is real. -/
theorem all_real {y x : FVec Ideal S8192x1024 .f32} {w : FVec Ideal S1024 .f32} {a b : FVec Ideal S1024x2816 .f32} {e : FVec Ideal S2816x1024 .f32}
    (h : Cert.Pre_finite.fn (F := Ideal) y x w a b e = fun _ => 1#1) :
    (∀ i, Real' (y i)) ∧ (∀ i, Real' (x i)) ∧ (∀ i, Real' (w i)) ∧ (∀ i, Real' (a i)) ∧ (∀ i, Real' (b i)) ∧ (∀ i, Real' (e i)) := by
  have h0 := congrFun h (Shape.Idx.first hPre_finite.h_S_)
  unfold Cert.Pre_finite.fn Cert.Pre_finite.fn_part1 at h0
  obtain ⟨h0, he⟩ := IntOp.andi_eq_one.mp h0
  obtain ⟨h0, hb⟩ := IntOp.andi_eq_one.mp h0
  obtain ⟨h0, ha⟩ := IntOp.andi_eq_one.mp h0
  obtain ⟨h0, hw⟩ := IntOp.andi_eq_one.mp h0
  obtain ⟨hy, hx⟩ := IntOp.andi_eq_one.mp h0
  exact ⟨fun i => real_of_cmp (Host.reduce_andi_all _ _ _ _ _ hy i), fun i => real_of_cmp (Host.reduce_andi_all _ _ _ _ _ hx i),
    fun i => real_of_cmp (Host.reduce_andi_all _ _ _ _ _ hw i), fun i => real_of_cmp (Host.reduce_andi_all _ _ _ _ _ ha i),
    fun i => real_of_cmp (Host.reduce_andi_all _ _ _ _ _ hb i), fun i => real_of_cmp (Host.reduce_andi_all _ _ _ _ _ he i)⟩

end Cert.FfnBwdValue
-- ==== Proof.FfnBwdSame.lean ====
module

public import proofs.«01_k».proof.Proof.Gen.FfnBwd
public import proofs.«01_k».proof.Proof.Gen.FfnBwdIdeal

@[expose] public section

set_option maxRecDepth 16384

noncomputable section

namespace Cert.FfnBwdRun

open Idealize.ShloMosaic

variable {F : FTy → Type} [FloatOps F]

/-! ## The kernel as the problem gives it: the same program text at the machine's numbers -/

section Same
variable [hk : Cert.FfnBwd.Facts] [hi : Cert.FfnBwdIdeal.Facts]

/-- The two bodies are one. -/
theorem body_same : @Cert.FfnBwd.cc0_ffn_bwd F _ _ = @Cert.FfnBwdIdeal.cc0_ffn_bwd F _ _ := rfl

set_option maxHeartbeats 8000000 in
/-- So are the two tables that hold them: each has the one label, and calls the body with the same arguments. -/
theorem table_same : @Cert.FfnBwd.defs₀ F _ _ = @Cert.FfnBwdIdeal.defs₀ F _ _ := by
  unfold Cert.FfnBwd.defs₀ Cert.FfnBwdIdeal.defs₀
  refine congrArg Defs.onTc (funext fun p => funext fun x => ?_)
  obtain ⟨k, hk⟩ := p
  cases k with
  | succ n => exact absurd hk (by omega)
  | zero =>
    obtain ⟨t, z⟩ := x
    rfl

/-- And the tables with the pipeline's own entries added. -/
theorem defs_same : @Cert.FfnBwd.defs F _ _ = @Cert.FfnBwdIdeal.defs F _ _ := by
  unfold Cert.FfnBwd.defs Cert.FfnBwdIdeal.defs
  exact congrArg (Pipeline.defs (Cert.FfnBwdIdeal.pcfgs (F := F))) table_same

end Same

end Cert.FfnBwdRun
-- ==== Proof.FfnBwdClaim.lean ====
module

public import proofs.«01_k».proof.Defs
public import proofs.«01_k».proof.Proof.FfnBwd
public import proofs.«01_k».proof.Proof.FfnBwdFin
public import proofs.«01_k».proof.Proof.FfnBwdSame
public import proofs.«01_k».proof.Proof.Gen.Pre_finite
public import proofs.«01_k».proof.Proof.Gen.FfnRefIdeal.Run
public import Idealize.ShloMosaic.Lib.Claim
public import Idealize.ShloMosaic.Init

@[expose] public section

noncomputable section

namespace Cert.FfnBwdValue

open Cert.FfnBwdIdeal Cert.FfnBwdIdeal.Gen Cert.FfnBwdRun Idealize.ShloMosaic Idealize.ShloMosaic.TcCoe Idealize.SL.Sem

set_option maxHeartbeats 3000000 in
set_option maxRecDepth 65536 in
/-- Where the arguments are finite the kernel leaves the gradients at the input, at the last product, at the first two products and at the norm's weight that the reference leaves. -/
theorem algebraic : Cert.algebraic_FfnBwdIdeal_FfnRefIdeal_pre_finite
    (hFfnBwdIdeal := Cert.FfnBwdIdeal.Gen.facts) (hFfnRefIdeal := Cert.FfnRefIdeal.Gen.facts) (hPre_finite := Cert.Pre_finite.Gen.facts) := by
  intro m g m' g' hpre hagree
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, run_blocks m g, ?_⟩
  refine (θ_run Cert.FfnRefIdeal.defs _ _).mono (fun r h c => ?_) (Cert.FfnRefIdeal.Value.run m' g')
  obtain ⟨h0, h1, h2, h3, h4, h5⟩ := hagree c
  obtain ⟨hy, hx, hw, ha, hb, he⟩ := all_real (hPre_finite := Cert.Pre_finite.Gen.facts) (hpre c)
  obtain ⟨k0, k1, k2, k3, k4, k⟩ := h c
  refine ⟨?_, ?_, ?_, ?_, ?_, k⟩
  · refine k0.trans ((Cert.FfnRefIdeal.Read.val_main_v53_eq m' c).trans ?_)
    rw [h0, h1, h2, h3, h4, h5]
    exact (arr_x m c hy hx hw ha hb he).symm
  · refine k1.trans ((Cert.FfnRefIdeal.Read.val_main_v54_eq _).trans ?_)
    rw [h0]
    exact (arr_y m c).symm
  · refine k2.trans ((Cert.FfnRefIdeal.Read.val_main_v55_eq m' c).trans ?_)
    rw [h0, h1, h2, h3, h4, h5]
    exact (arr_g m c hy hx hw ha hb he).symm
  · refine k3.trans ((Cert.FfnRefIdeal.Read.val_main_v56_eq _ _ _ _ _).trans ?_)
    rw [h0, h1, h2, h3, h5]
    exact (arr_u m c).symm
  · refine k4.trans ((Cert.FfnRefIdeal.Read.val_main_v36_eq m' c).trans ?_)
    rw [h0, h1, h2, h3, h4, h5]
    exact (arr_n m c hy hx hw ha hb he).symm

/-- The kernel as the problem gives it is the same program text, so its frame is the run's. -/
theorem frame_kernel : Cert.quiescent_FfnBwd (hFfnBwd := Cert.FfnBwd.Gen.facts) := by
  intro m ρ _
  rw [Cert.FfnBwdRun.defs_same (hi := Cert.FfnBwdIdeal.Gen.facts) (F := Bits)]
  exact Cert.FfnBwdRun.frame_ideal (F := Bits) m ρ

/-- The kernel runs, leaves its arguments as they were, and counts nothing. -/
theorem ideal_frame_finite : Cert.quiescent_FfnBwdIdeal_pre_finite (hFfnBwdIdeal := Cert.FfnBwdIdeal.Gen.facts) (hPre_finite := Cert.Pre_finite.Gen.facts) :=
  fun m ρ _ => Cert.FfnBwdRun.frame_ideal m ρ

/-- The reference runs, leaves its arguments as they were, and counts nothing. -/
theorem ref_frame : Cert.quiescent_FfnRefIdeal (hFfnRefIdeal := Cert.FfnRefIdeal.Gen.facts) := fun m ρ _ =>
  (θ_run Cert.FfnRefIdeal.defs _ _).mono (fun r h => ⟨fun c => (h c).2.2.2.2.2, Idealize.ShloMosaic.sem_eq_zero_of_no_sems (by decide) r.2⟩)
    (Cert.FfnRefIdeal.Value.run m ρ)

theorem ref_frame_finite : Cert.quiescent_FfnRefIdeal_pre_finite (hFfnRefIdeal := Cert.FfnRefIdeal.Gen.facts) (hPre_finite := Cert.Pre_finite.Gen.facts) :=
  fun m ρ _ => ref_frame m ρ trivial

end Cert.FfnBwdValue

end
-- ==== Proof.NormBwd.lean ====
module

public import proofs.«01_k».proof.Proof.FfnBwdAlg
public import proofs.«01_k».proof.Proof.Gen.NormBwdIdeal.Value
public import proofs.«01_k».proof.Proof.Gen.NormRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.NormBwdValue

open Cert.NormBwdIdeal Cert.NormBwdIdeal.Gen Cert.NormRefIdeal.Read Cert.FfnBwdAlg Idealize.ShloMosaic Idealize.ShloMosaic.TcCoe Idealize.SL.Sem Idealize.ShloMosaic.StableHlo

/-- The arrays: the tokens' rows, the norm's weight. -/
abbrev Rows := BufTy.Contents (Elt Ideal) ⟨S8192x1024, .f32⟩
abbrev Wt := BufTy.Contents (Elt Ideal) ⟨S1024, .f32⟩

/-! ## The mathematics -/

/-- One over the root of the mean square of row `r`. -/
def rs (x : Rows) (r : Fin 8192) : EReal := Ideal.rsqrt (mean fun k => x (ix2 r k))

/-- What row `r` adds to the gradient at the norm's weight. -/
def part (dh x : Rows) (r : Fin 8192) (d : Fin 1024) : EReal := x (ix2 r d) * rs x r * dh (ix2 r d)

/-- The gradient at the norm's weight. -/
def dw (dh x : Rows) (d : Fin 1024) : EReal := ∑ r : Fin 8192, part dh x r d

/-- The gradient at the normed row before its weight. -/
def inner (dh : Rows) (w : Wt) (r : Fin 8192) (d : Fin 1024) : EReal := dh (ix2 r d) * w (ix1 d)

/-- The gradient at the mean square's square root, per entry of the row. -/
def coef (dh x : Rows) (w : Wt) (r : Fin 8192) : EReal :=
  Ideal.div ((∑ k, x (ix2 r k) * (dh (ix2 r k) * w (ix1 k))) * (Ideal.ofBits FTy.f32 0xBF000000#32 * Ideal.div (rs x r) (mean fun k => x (ix2 r k)))) (Ideal.ofBits FTy.f32 0x44800000#32)

/-- The gradient at the rows, on top of the one that goes around the norm. -/
def dx (dh x : Rows) (w : Wt) (dres : Rows) (r : Fin 8192) (d : Fin 1024) : EReal :=
  dres (ix2 r d) + dh (ix2 r d) * w (ix1 d) * rs x r + x (ix2 r d) * coef dh x w r + coef dh x w r * x (ix2 r d)

theorem ref_dw (dh x : Rows) (d) : val_main_v18 (F := Ideal) dh x (ix2 0 d) = dw dh x d := by
  pointwise [val_main_v1, val_main_cst, val_main_v2, val_main_v3, val_main_cst_0, val_main_v4, val_main_v5, val_main_cst_1, val_main_v6, val_main_v7,
    val_main_v8, val_main_v12, val_main_v13, val_main_v16, val_main_cst_3, val_main_v17, val_main_v18]
  rfl

theorem ref_dx (dh x : Rows) (w : Wt) (dres : Rows) (r d) : val_main_v35 (F := Ideal) dh x w dres (ix2 r d) = dx dh x w dres r d := by
  pointwise [val_main_v0, val_main_v1, val_main_cst, val_main_v2, val_main_v3, val_main_cst_0, val_main_v4, val_main_v5, val_main_cst_1, val_main_v6, val_main_v7,
    val_main_v8, val_main_v9, val_main_cst_2, val_main_v10, val_main_v11, val_main_v19, val_main_v20, val_main_v21, val_main_cst_4, val_main_v22, val_main_v23,
    val_main_v24, val_main_v25, val_main_v26, val_main_v27, val_main_cst_5, val_main_v28, val_main_v29, val_main_cst_6, val_main_v30, val_main_v31,
    val_main_v32, val_main_v33, val_main_v34, val_main_v35]
  simp only [Finset.sum_const, Finset.card_univ, Fintype.card_fin, one_nsmul]
  rfl

/-! ## Which part of its array each block is -/

variable (m : (ℓ : Loc nD τ sig) → Buf (Elt Ideal) ℓ)

/-- The norm's weight reaches the kernel as one row. -/
theorem V_w (c : Dev nD) (z : Fin 1) (d : Fin 1024) : V m c main_v0 (ix2 z d) = m (c.tc.loc main_arg2) (ix1 d) := by
  unfold_abbrev_sides
  after_results
  pointwise

/-- Which block of its array each window takes at a grid point. -/
theorem idx : ∀ t : Fin grid0.N, win0_0.index t = ![t.val, 0] ∧ win0_1.index t = ![t.val, 0] ∧ win0_2.index t = ![0, 0] ∧
    win0_3.index t = ![t.val, 0] ∧ win0_4.index t = ![t.val, 0] ∧ win0_5.index t = ![0, 0] := by
  decide +kernel

/-- Row `r` of the block of grid point `t`, as a row of the whole array. -/
def row (t : Fin grid0.N) (r : Fin 1024) : Fin 8192 := ⟨t.val * 1024 + r.val, by
  have : t.val < 8 := lt_of_lt_of_eq t.isLt N_0
  omega⟩

theorem blk0 (c : Dev nD) (t : Fin cfg0.N) (r k : Fin 1024) :
    iblk m c 0 t (ix2 r k) = m (c.tc.loc main_arg0) (ix2 (row t r) k) := by
  blk_point [iblk, V, idx t, row]

theorem blk1 (c : Dev nD) (t : Fin cfg0.N) (r k : Fin 1024) :
    iblk m c 1 t (ix2 r k) = m (c.tc.loc main_arg1) (ix2 (row t r) k) := by
  blk_point [iblk, V, idx t, row]

theorem blk2 (c : Dev nD) (t : Fin cfg0.N) (z : Fin 1) (d : Fin 1024) :
    iblk m c 2 t (ix2 z d) = m (c.tc.loc main_arg2) (ix1 d) := by
  rw [← V_w m c z]
  blk_point [iblk, idx t]

theorem blk3 (c : Dev nD) (t : Fin cfg0.N) (r k : Fin 1024) :
    iblk m c 3 t (ix2 r k) = m (c.tc.loc main_arg3) (ix2 (row t r) k) := by
  blk_point [iblk, V, idx t, row]

/-! ## The kernel's arrays -/

/-- What a point stores of the rows' gradient is the reference's, where the arguments are real. -/
theorem pay_dx (c : Dev nD) (t : Fin cfg0.N) (r d : Fin 1024)
    (hq : ∀ i, Real' (m (c.tc.loc main_arg0) i)) (hx : ∀ i, Real' (m (c.tc.loc main_arg1) i)) (hw : ∀ i, Real' (m (c.tc.loc main_arg2) i)) :
    k0_pay5 (F := Ideal) (iblk m c 1 t) (iblk m c 0 t) (iblk m c 2 t) (iblk m c 3 t) (ix2 r d)
      = dx (m (c.tc.loc main_arg0)) (m (c.tc.loc main_arg1)) (m (c.tc.loc main_arg2)) (m (c.tc.loc main_arg3)) (row t r) d := by
  pointwise [k0_pay5, k0_pay3, k0_pay2]
  simp only [blk0, blk1, blk2, blk3]
  unfold dx
  rw [add_assoc, add_assoc]
  refine congrArg _ ((norm_same (x := fun k => m (c.tc.loc main_arg1) (ix2 (row t r) k)) (q := inner (m (c.tc.loc main_arg0)) (m (c.tc.loc main_arg2)) (row t r))
    (fun k => hx _) (fun k => real_mul (hq _) (hw _)) d).trans (add_assoc _ _ _))

theorem arr_dx (c : Dev nD)
    (hq : ∀ i, Real' (m (c.tc.loc main_arg0) i)) (hx : ∀ i, Real' (m (c.tc.loc main_arg1) i)) (hw : ∀ i, Real' (m (c.tc.loc main_arg2) i)) :
    (dats m 0 c).arrAt 4 cfg0.N =
      val_main_v35 (F := Ideal) (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  change S1024x1024.Idx at y
  idx_vars y
  have e : ((View.whole main_v1_0).slice (win0_4.rect t)).emb (ix2 y0 y1) = ix2 (row t y0) y1 := by
    blk_ext [idx t, row]
  rw [e, ref_dx, ← pay_dx m c t y0 y1 hq hx hw]
  have ht : t.val < 8 := lt_of_lt_of_eq t.isLt N_0
  by_cases hc : t.val % 8 = 0
  · rw [outsAt0_A m c t hc (by omega)]
    frame_out
  · rw [outsAt0_B m c t hc (by omega)]
    frame_out

/-- What one point adds to the gradient at the norm's weight. -/
def term (c : Dev nD) (t : Fin cfg0.N) (j : S1x1024.Idx) : EReal :=
  ∑ r : Fin 1024, part (m (c.tc.loc main_arg0)) (m (c.tc.loc main_arg1)) (row t r) (j 1)

theorem pay_dw (c : Dev nD) (t : Fin cfg0.N) (z : Fin 1) (d : Fin 1024) :
    k0_pay4 (F := Ideal) (iblk m c 1 t) (iblk m c 0 t) (ix2 z d) = term m c t (ix2 z d) := by
  pointwise [k0_pay4, k0_pay3, k0_pay2]
  simp only [blk0, blk1]
  exact Finset.sum_congr rfl fun r _ => mul_comm (G := EReal) _ _

/-- The first point leaves its own sum. -/
theorem first_point (c : Dev nD) (t : Fin cfg0.N) (hc : t.val % 8 = 0) (j : S1x1024.Idx) :
    (outsAt0 m c t.val t.isLt).2 j = 0 + term m c t j := by
  have ht : t.val < 8 := lt_of_lt_of_eq t.isLt N_0
  rw [outsAt0_A m c t hc (by omega), zero_add]
  idx_vars j
  rw [← pay_dw]
  frame_out

/-- A later point adds its own sum to what the point before left. -/
theorem next_point (c : Dev nD) (t : Fin cfg0.N) (hc : ¬t.val % 8 = 0) (j : S1x1024.Idx) :
    (outsAt0 m c t.val t.isLt).2 j = (outsAt0 m c (t.val - 1) (by omega)).2 j + term m c t j := by
  rw [outsAt0_B m c t hc (by omega)]
  idx_vars j
  rw [← pay_dw]
  frame_out
  pointwise [k0_pay1]

/-- The kernel's gradient at the norm's weight is the reference's. -/
theorem arr_dw (c : Dev nD) : (dats m 0 c).arrAt 5 cfg0.N = val_main_v18 (F := Ideal) (m (c.tc.loc main_arg0)) (m (c.tc.loc main_arg1)) := by
  refine (dats m 0 c).arrAt_eq_of_covers 5 _ (by decide +kernel) fun t hf y => ?_
  blk_simp
  rw [after0_5]
  change S1x1024.Idx at y
  have ht := (flush0_5 t).mp hf
  refine (Pipeline.eq_sum_fin_of_reset_step_apply_of_flush (fun n h => (outsAt0 m c n h).2) 8 (fun _ => 0) (term m c)
    (first_point m c) (next_point m c) t ht y).trans ?_
  idx_vars y
  have e : ((View.whole main_v1_1).slice (win0_5.rect t)).emb (ix2 y0 y1) = ix2 0 y1 := by
    blk_ext [idx t]
  rw [e, ref_dw, zero_add]
  refine Fin.sum_mul_add_congr (n := 1024) (f := fun l => part (m (c.tc.loc main_arg0)) (m (c.tc.loc main_arg1)) l y1) fun s k hl => ?_
  have h8 : t.val < 8 := lt_of_lt_of_eq t.isLt N_0
  have hs := s.isLt
  have hN : 8 * (t.val / 8) + s.val < grid0.N := lt_of_lt_of_eq (b := 8) (by omega) N_0.symm
  have er : row ⟨8 * (t.val / 8) + s.val, hN⟩ k = ⟨s.val * 1024 + k.val, hl⟩ := by
    apply Fin.ext
    simp only [row]
    omega
  simp only [← er]
  rfl

end Cert.NormBwdValue
-- ==== Proof.NormBwdClaim.lean ====
module

public import proofs.«01_k».proof.Defs
public import proofs.«01_k».proof.Proof.NormBwd
public import proofs.«01_k».proof.Pre_finite_norm
public import proofs.«01_k».proof.Proof.Gen.Pre_finite_norm
public import proofs.«01_k».proof.Proof.Gen.NormBwd.Frame
public import proofs.«01_k».proof.Proof.Gen.NormBwdIdeal.Frame
public import proofs.«01_k».proof.Proof.Gen.NormRefIdeal.Run
public import Idealize.ShloMosaic.Lib.ReduceAll
public import Idealize.ShloMosaic.Lib.Affine
public import Idealize.ShloMosaic.Lib.Claim
public import Idealize.ShloMosaic.Init

@[expose] public section

set_option maxRecDepth 16384

noncomputable section

namespace Cert.NormBwdValue

section
open Cert.Pre_finite_norm Cert.FfnBwdAlg Idealize.ShloMosaic

variable [hPre_finite_norm : Cert.Pre_finite_norm.Facts]

/-- An entry whose test for finiteness is true is real. -/
theorem real_of_cmp {z : EReal} (h : Ideal.cmp .olt (max z (-z)) (Ideal.ofBits .f32 0x7F800000#32) = 1#1) : Real' z := by
  rw [c_top] at h
  refine real_of_abs ?_
  by_contra hn
  simp [Ideal.cmp, hn] at h

instance : Subsingleton (Shape.Idx S_) := ⟨fun a b => funext fun i => i.elim0⟩

/-- The precondition says that every entry of three of the four arrays is real. -/
theorem all_real {q x r : FVec Ideal S8192x1024 .f32} {w : FVec Ideal S1024 .f32}
    (h : Cert.Pre_finite_norm.fn (F := Ideal) q x w r = fun _ => 1#1) :
    (∀ i, Real' (q i)) ∧ (∀ i, Real' (x i)) ∧ (∀ i, Real' (w i)) := by
  have h0 := congrFun h (Shape.Idx.first hPre_finite_norm.h_S_)
  unfold Cert.Pre_finite_norm.fn at h0
  obtain ⟨h0, hw⟩ := IntOp.andi_eq_one.mp h0
  obtain ⟨hq, hx⟩ := IntOp.andi_eq_one.mp h0
  exact ⟨fun i => real_of_cmp (Host.reduce_andi_all _ _ _ _ _ hq i), fun i => real_of_cmp (Host.reduce_andi_all _ _ _ _ _ hx i),
    fun i => real_of_cmp (Host.reduce_andi_all _ _ _ _ _ hw i)⟩

end

open Cert.NormBwdIdeal Cert.NormBwdIdeal.Gen Idealize.ShloMosaic Idealize.ShloMosaic.TcCoe Idealize.SL.Sem

set_option maxHeartbeats 3000000 in
set_option maxRecDepth 65536 in
/-- Where the arguments are finite the kernel leaves the gradients at the rows and at the norm's weight that the reference leaves. -/
theorem algebraic : Cert.algebraic_NormBwdIdeal_NormRefIdeal_pre_finite_norm
    (hNormBwdIdeal := Cert.NormBwdIdeal.Gen.facts) (hNormRefIdeal := Cert.NormRefIdeal.Gen.facts) (hPre_finite_norm := Cert.Pre_finite_norm.Gen.facts) := by
  intro m g m' g' hpre hagree
  refine ⟨fun c => (dats m 0 c).arrAt 4 cfg0.N, fun c => (dats m 0 c).arrAt 5 cfg0.N, Cert.NormBwdIdeal.Value.run_blocks m g, ?_⟩
  refine (θ_run Cert.NormRefIdeal.defs _ _).mono (fun r h c => ?_) (Cert.NormRefIdeal.Value.run m' g')
  obtain ⟨h0, h1, h2, h3⟩ := hagree c
  obtain ⟨hq, hx, hw⟩ := all_real (hPre_finite_norm := Cert.Pre_finite_norm.Gen.facts) (hpre c)
  obtain ⟨k0, k1, k⟩ := h c
  refine ⟨?_, ?_, k⟩
  · refine k0.trans ((Cert.NormRefIdeal.Read.val_main_v35_eq _ _ _ _).trans ?_)
    rw [h0, h1, h2, h3]
    exact (arr_dx m c hq hx hw).symm
  · refine k1.trans ((Cert.NormRefIdeal.Read.val_main_v18_eq _ _).trans ?_)
    rw [h0, h1]
    exact (arr_dw m c).symm

/-- The kernel runs, leaves its arguments as they were, and counts nothing. -/
theorem ideal_frame_pre : Cert.quiescent_NormBwdIdeal_pre_finite_norm (hNormBwdIdeal := Cert.NormBwdIdeal.Gen.facts) (hPre_finite_norm := Cert.Pre_finite_norm.Gen.facts) :=
  fun m ρ _ => Cert.NormBwdIdeal.Gen.frame m ρ

/-- The reference runs, leaves its arguments as they were, and counts nothing. -/
theorem ref_frame : Cert.quiescent_NormRefIdeal (hNormRefIdeal := Cert.NormRefIdeal.Gen.facts) := fun m ρ _ =>
  (θ_run Cert.NormRefIdeal.defs _ _).mono (fun r h => ⟨fun c => (h c).2.2, Idealize.ShloMosaic.sem_eq_zero_of_no_sems (by decide) r.2⟩)
    (Cert.NormRefIdeal.Value.run m ρ)

theorem ref_frame_pre : Cert.quiescent_NormRefIdeal_pre_finite_norm (hNormRefIdeal := Cert.NormRefIdeal.Gen.facts) (hPre_finite_norm := Cert.Pre_finite_norm.Gen.facts) :=
  fun m ρ _ => ref_frame m ρ trivial

end Cert.NormBwdValue

end
-- ==== Proof.NormFwd.lean ====
module

public import proofs.«01_k».proof.Proof.FfnBwdAlg
public import proofs.«01_k».proof.Proof.Gen.NormFwdIdeal.Value
public import proofs.«01_k».proof.Proof.Gen.NormFwdRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.NormFwdValue

open Cert.NormFwdIdeal Cert.NormFwdIdeal.Gen Cert.NormFwdRefIdeal.Read Cert.FfnBwdAlg Idealize.ShloMosaic Idealize.ShloMosaic.TcCoe Idealize.SL.Sem Idealize.ShloMosaic.StableHlo

variable (m : (ℓ : Loc nD τ sig) → Buf (Elt Ideal) ℓ)

/-- Entry `(r, d)` of the normed rows. -/
def nrm (x : BufTy.Contents (Elt Ideal) ⟨S8192x1024, .f32⟩) (w : BufTy.Contents (Elt Ideal) ⟨S1024, .f32⟩) (r : Fin 8192) (d : Fin 1024) : EReal :=
  x (ix2 r d) * Ideal.rsqrt (mean fun k => x (ix2 r k)) * w (ix1 d)

theorem ref_eq (x : BufTy.Contents (Elt Ideal) ⟨S8192x1024, .f32⟩) (w : BufTy.Contents (Elt Ideal) ⟨S1024, .f32⟩) (r d) :
    val_main_v13 (F := Ideal) x w (ix2 r d) = nrm x w r d := by
  pointwise [val_main_v0, val_main_cst, val_main_v1, val_main_v2, val_main_cst_0, val_main_v3, val_main_v4, val_main_cst_1, val_main_v5, val_main_v6,
    val_main_v7, val_main_v8, val_main_v9, val_main_v10, val_main_v11, val_main_v12, val_main_v13]
  rfl

/-- The norm's weight reaches the kernel as one row. -/
theorem V_w (c : Dev nD) (z : Fin 1) (d : Fin 1024) : V m c main_v0 (ix2 z d) = m (c.tc.loc main_arg1) (ix1 d) := by
  unfold_abbrev_sides
  after_results
  pointwise

/-- Which block of its array each window takes at a grid point. -/
theorem idx : ∀ t : Fin grid0.N, win0_0.index t = ![t.val, 0] ∧ win0_1.index t = ![0, 0] ∧ win0_2.index t = ![t.val, 0] := by
  decide +kernel

/-- Row `r` of the block of grid point `t`, as a row of the whole array. -/
def row (t : Fin grid0.N) (r : Fin 1024) : Fin 8192 := ⟨t.val * 1024 + r.val, by
  have : t.val < 8 := lt_of_lt_of_eq t.isLt N_0
  omega⟩

theorem blk0 (c : Dev nD) (t : Fin cfg0.N) (r k : Fin 1024) :
    iblk m c 0 t (ix2 r k) = m (c.tc.loc main_arg0) (ix2 (row t r) k) := by
  blk_point [iblk, V, idx t, row]

theorem blk1 (c : Dev nD) (t : Fin cfg0.N) (z : Fin 1) (d : Fin 1024) :
    iblk m c 1 t (ix2 z d) = m (c.tc.loc main_arg1) (ix1 d) := by
  rw [← V_w m c z]
  blk_point [iblk, idx t]

/-- The kernel's array is the reference's. -/
theorem arr (c : Dev nD) : (dats m 0 c).arrAt 2 cfg0.N =
    val_main_v13 (F := Ideal) (m (c.tc.loc main_arg0)) (m (c.tc.loc main_arg1)) := by
  refine (dats m 0 c).arrAt_eq_of_covers 2 _ (by decide +kernel) fun t hf y => ?_
  blk_simp
  rw [after0_2]
  change S1024x1024.Idx at y
  idx_vars y
  have e : ((View.whole main_v1).slice (win0_2.rect t)).emb (ix2 y0 y1) = ix2 (row t y0) y1 := by
    blk_ext [idx t, row]
  rw [e, ref_eq]
  frame_out
  pointwise [k0_pay1]
  simp only [blk0, blk1]
  rfl

end Cert.NormFwdValue
-- ==== Proof.NormFwdClaim.lean ====
module

public import proofs.«01_k».proof.Defs
public import proofs.«01_k».proof.Proof.NormFwd
public import proofs.«01_k».proof.Proof.Gen.NormFwd.Frame
public import proofs.«01_k».proof.Proof.Gen.NormFwdIdeal.Frame
public import proofs.«01_k».proof.Proof.Gen.NormFwdRefIdeal.Run
public import Idealize.ShloMosaic.Lib.Claim
public import Idealize.ShloMosaic.Init

@[expose] public section

noncomputable section

namespace Cert.NormFwdValue

open Idealize.ShloMosaic Idealize.SL.Sem

set_option maxRecDepth 65536 in
/-- The forward kernel of the norm leaves the normed rows the reference leaves. -/
theorem algebraic : Cert.algebraic_NormFwdIdeal_NormFwdRefIdeal
    (hNormFwdIdeal := Cert.NormFwdIdeal.Gen.facts) (hNormFwdRefIdeal := Cert.NormFwdRefIdeal.Gen.facts) := by
  pair_intro
  · run_from Cert.NormFwdIdeal.Value.run_blocks m g
  · run_from Cert.NormFwdRefIdeal.Value.run m' g'
    all_goals obtain ⟨h0, h1⟩ := hagree c
    · rw [Cert.NormFwdRefIdeal.Read.val_main_v13_eq]
      exact (arr m c).symm

/-- The reference runs, leaves its arguments as they were, and counts nothing. -/
theorem ref_frame : Cert.quiescent_NormFwdRefIdeal (hNormFwdRefIdeal := Cert.NormFwdRefIdeal.Gen.facts) := fun m ρ _ =>
  (θ_run Cert.NormFwdRefIdeal.defs _ _).mono (fun r h => ⟨fun c => (h c).2, Idealize.ShloMosaic.sem_eq_zero_of_no_sems (by decide) r.2⟩)
    (Cert.NormFwdRefIdeal.Value.run m ρ)

end Cert.NormFwdValue

end
-- ==== Proof.ConvFwd.lean ====
module

public import proofs.«01_k».proof.Proof.Gen.ConvFwdIdeal.Value
public import proofs.«01_k».proof.Proof.Gen.ConvFwdRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.ConvFwdValue

open Cert.ConvFwdIdeal Cert.ConvFwdIdeal.Gen Cert.ConvFwdRefIdeal.Read Idealize.ShloMosaic Idealize.ShloMosaic.TcCoe Idealize.SL.Sem Idealize.ShloMosaic.StableHlo

variable (m : (ℓ : Loc nD τ sig) → Buf (Elt Ideal) ℓ)

/-! ## What the result is, index by index -/

/-- The gated input of the convolution. -/
def z (x0 : BufTy.Contents (Elt Ideal) ⟨S10x8192x512, .bf16⟩) (r : Fin 8192) (d : Fin 512) : EReal := x0 (ix3 2 r d) * x0 (ix3 0 r d)

/-- The gated input `k` rows earlier, zero before the first row. -/
def zsh (k : ℕ) (x0 : BufTy.Contents (Elt Ideal) ⟨S10x8192x512, .bf16⟩) (r : Fin 8192) (d : Fin 512) : EReal :=
  if h : r.val < k then 0 else z x0 ⟨r.val - k, by omega⟩ d

/-- The convolution of three taps. -/
def conv (x0 : BufTy.Contents (Elt Ideal) ⟨S10x8192x512, .bf16⟩) (x1 : BufTy.Contents (Elt Ideal) ⟨S3x512, .f32⟩) (r : Fin 8192) (d : Fin 512) : EReal :=
  x1 (ix2 0 d) * zsh 2 x0 r d + x1 (ix2 1 d) * zsh 1 x0 r d + x1 (ix2 2 d) * z x0 r d

/-- The reference's convolution. -/
theorem ref_conv (x0 : BufTy.Contents (Elt Ideal) ⟨S10x8192x512, .bf16⟩) (x1 : BufTy.Contents (Elt Ideal) ⟨S3x512, .f32⟩) (b r d) :
    val_main_v36 (F := Ideal) x0 x1 (ix3 b r d) = conv x0 x1 r d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0]
  unfold conv zsh z
  simp only [Nat.add_comm 1 r.val, Nat.reduceSubDiff]
  congr 2
  congr 1
  split <;> split <;> first | rfl | omega

/-- The reference's result: the convolution under its gate. -/
theorem ref_eq (x0 : BufTy.Contents (Elt Ideal) ⟨S10x8192x512, .bf16⟩) (x1 : BufTy.Contents (Elt Ideal) ⟨S3x512, .f32⟩) (r d) :
    val_main_v39 (F := Ideal) x0 x1 (ix2 r d) = x0 (ix3 1 r d) * conv x0 x1 r d := by
  rw [← ref_conv x0 x1 0 r d]
  pointwise [val_main_v4, val_main_v5, val_main_v6, val_main_v7, val_main_v37, val_main_v38, val_main_v39]

/-! ## Which part of its array each block is -/

/-- Which block of its array each window takes at a grid point. -/
theorem idx : ∀ t : Fin grid0.N,
    win0_0.index t = ![0, (grid0.coords t 1).val, (grid0.coords t 0).val] ∧
    win0_1.index t = ![1, (grid0.coords t 1).val, (grid0.coords t 0).val] ∧
    win0_2.index t = ![2, (grid0.coords t 1).val, (grid0.coords t 0).val] ∧
    win0_3.index t = ![0, (grid0.coords t 1).val * 64 - 1, (grid0.coords t 0).val] ∧
    win0_4.index t = ![2, (grid0.coords t 1).val * 64 - 1, (grid0.coords t 0).val] ∧
    win0_5.index t = ![0, (grid0.coords t 0).val] ∧
    win0_6.index t = ![(grid0.coords t 1).val, (grid0.coords t 0).val] := by
  decide +kernel

/-- Row `r` of the block of grid point `t`, as a row of the whole array. -/
def row (t : Fin grid0.N) (r : Fin 1024) : Fin 8192 := ⟨(grid0.coords t 1).val * 1024 + r.val, by
  have : (grid0.coords t 1).val < 8 := (grid0.coords t 1).isLt
  omega⟩

/-- Column `d` of the block of grid point `t`, as a column of the whole array. -/
def col (t : Fin grid0.N) (d : Fin 128) : Fin 512 := ⟨(grid0.coords t 0).val * 128 + d.val, by
  have : (grid0.coords t 0).val < 4 := (grid0.coords t 0).isLt
  omega⟩

/-- Row `r` of the sixteen rows before the block, as a row of the whole array. -/
def before (t : Fin grid0.N) (r : Fin 16) : Fin 8192 := ⟨((grid0.coords t 1).val * 64 - 1) * 16 + r.val, by
  have : (grid0.coords t 1).val < 8 := (grid0.coords t 1).isLt
  omega⟩

theorem blk0 (c : Dev nD) (t : Fin cfg0.N) (r : Fin 1024) (d : Fin 128) :
    iblk m c 0 t (ix3 0 r d) = m (c.tc.loc main_arg0) (ix3 0 (row t r) (col t d)) := by
  blk_point [iblk, V, idx t, row, col]

theorem blk1 (c : Dev nD) (t : Fin cfg0.N) (r : Fin 1024) (d : Fin 128) :
    iblk m c 1 t (ix3 0 r d) = m (c.tc.loc main_arg0) (ix3 1 (row t r) (col t d)) := by
  blk_point [iblk, V, idx t, row, col]

theorem blk2 (c : Dev nD) (t : Fin cfg0.N) (r : Fin 1024) (d : Fin 128) :
    iblk m c 2 t (ix3 0 r d) = m (c.tc.loc main_arg0) (ix3 2 (row t r) (col t d)) := by
  blk_point [iblk, V, idx t, row, col]

theorem blk3 (c : Dev nD) (t : Fin cfg0.N) (r : Fin 16) (d : Fin 128) :
    iblk m c 3 t (ix3 0 r d) = m (c.tc.loc main_arg0) (ix3 0 (before t r) (col t d)) := by
  blk_point [iblk, V, idx t, before, col]

theorem blk4 (c : Dev nD) (t : Fin cfg0.N) (r : Fin 16) (d : Fin 128) :
    iblk m c 4 t (ix3 0 r d) = m (c.tc.loc main_arg0) (ix3 2 (before t r) (col t d)) := by
  blk_point [iblk, V, idx t, before, col]

theorem blk5 (c : Dev nD) (t : Fin cfg0.N) (j : Fin 3) (d : Fin 128) :
    iblk m c 5 t (ix2 j d) = m (c.tc.loc main_arg1) (ix2 j (col t d)) := by
  blk_point [iblk, V, idx t, col]

/-- The kernel's test for the first row block. -/
theorem first_eq (t : Fin grid0.N) :
    Scalar.cmpi .eq (BitVec.ofNat 32 (grid0.coords t 1).val) 0#32 = if (grid0.coords t 1).val = 0 then 1#1 else 0#1 := by
  revert t
  decide +kernel

/-- The kernel's read of the gated input 1 row earlier: inside the block, from the rows before it, or zero. -/
theorem zsh1_blk (c : Dev nD) (t : Fin cfg0.N) (r : Fin 1024) (d : Fin 128) :
    (if h : (16 + r.val + 1040 - 1) % 1040 < 16 then
        Scalar.select (Scalar.cmpi .eq (BitVec.ofNat 32 (grid0.coords t 1).val) 0#32) (0 : EReal)
          (@HMul.hMul EReal EReal EReal instHMul (iblk m c 4 t (ix3 0 ⟨(16 + r.val + 1040 - 1) % 1040, h⟩ d)) (iblk m c 3 t (ix3 0 ⟨(16 + r.val + 1040 - 1) % 1040, h⟩ d)))
      else @HMul.hMul EReal EReal EReal instHMul (iblk m c 2 t (ix3 0 ⟨(16 + r.val + 1040 - 1) % 1040 - 16, by omega⟩ d)) (iblk m c 0 t (ix3 0 ⟨(16 + r.val + 1040 - 1) % 1040 - 16, by omega⟩ d)))
      = zsh 1 (m (c.tc.loc main_arg0)) (row t r) (col t d) := by
  have ht : (grid0.coords t 1).val < 8 := (grid0.coords t 1).isLt
  simp only [blk0, blk2, blk3, blk4, first_eq]
  unfold zsh z
  by_cases hr : r.val < 1
  · rw [dif_pos (by omega)]
    by_cases h0 : (grid0.coords t 1).val = 0
    · rw [if_pos h0, dif_pos (by simp only [row]; omega)]
      rfl
    · rw [if_neg h0, dif_neg (by simp only [row]; omega)]
      have e : before t ⟨(16 + r.val + 1040 - 1) % 1040, by omega⟩ = ⟨(row t r).val - 1, by omega⟩ := by
        apply Fin.ext
        simp only [before, row]
        omega
      rw [e]
      rfl
  · rw [dif_neg (by omega), dif_neg (by simp only [row]; omega)]
    have e : row t ⟨(16 + r.val + 1040 - 1) % 1040 - 16, by omega⟩ = ⟨(row t r).val - 1, by omega⟩ := by
      apply Fin.ext
      simp only [row]
      omega
    rw [e]

/-- The kernel's read of the gated input 2 rows earlier: inside the block, from the rows before it, or zero. -/
theorem zsh2_blk (c : Dev nD) (t : Fin cfg0.N) (r : Fin 1024) (d : Fin 128) :
    (if h : (16 + r.val + 1040 - 2) % 1040 < 16 then
        Scalar.select (Scalar.cmpi .eq (BitVec.ofNat 32 (grid0.coords t 1).val) 0#32) (0 : EReal)
          (@HMul.hMul EReal EReal EReal instHMul (iblk m c 4 t (ix3 0 ⟨(16 + r.val + 1040 - 2) % 1040, h⟩ d)) (iblk m c 3 t (ix3 0 ⟨(16 + r.val + 1040 - 2) % 1040, h⟩ d)))
      else @HMul.hMul EReal EReal EReal instHMul (iblk m c 2 t (ix3 0 ⟨(16 + r.val + 1040 - 2) % 1040 - 16, by omega⟩ d)) (iblk m c 0 t (ix3 0 ⟨(16 + r.val + 1040 - 2) % 1040 - 16, by omega⟩ d)))
      = zsh 2 (m (c.tc.loc main_arg0)) (row t r) (col t d) := by
  have ht : (grid0.coords t 1).val < 8 := (grid0.coords t 1).isLt
  simp only [blk0, blk2, blk3, blk4, first_eq]
  unfold zsh z
  by_cases hr : r.val < 2
  · rw [dif_pos (by omega)]
    by_cases h0 : (grid0.coords t 1).val = 0
    · rw [if_pos h0, dif_pos (by simp only [row]; omega)]
      rfl
    · rw [if_neg h0, dif_neg (by simp only [row]; omega)]
      have e : before t ⟨(16 + r.val + 1040 - 2) % 1040, by omega⟩ = ⟨(row t r).val - 2, by omega⟩ := by
        apply Fin.ext
        simp only [before, row]
        omega
      rw [e]
      rfl
  · rw [dif_neg (by omega), dif_neg (by simp only [row]; omega)]
    have e : row t ⟨(16 + r.val + 1040 - 2) % 1040 - 16, by omega⟩ = ⟨(row t r).val - 2, by omega⟩ := by
      apply Fin.ext
      simp only [row]
      omega
    rw [e]

/-- The kernel's array is the reference's. -/
theorem arr (c : Dev nD) : (dats m 0 c).arrAt 6 cfg0.N =
    val_main_v39 (F := Ideal) (m (c.tc.loc main_arg0)) (m (c.tc.loc main_arg1)) := by
  refine (dats m 0 c).arrAt_eq_of_covers 6 _ (by decide +kernel) fun t hf y => ?_
  blk_simp
  rw [after0_6]
  change S1024x128.Idx at y
  idx_vars y
  have e : ((View.whole main_v0).slice (win0_6.rect t)).emb (ix2 y0 y1) = ix2 (row t y0) (col t y1) := by
    blk_ext [idx t, row, col]
  rw [e, ref_eq]
  frame_out
  pointwise [k0_pay1, k0_pay2]
  rw [zsh1_blk, zsh2_blk]
  simp only [blk0, blk1, blk2, blk5]
  rfl

end Cert.ConvFwdValue
-- ==== Proof.ConvFwdClaim.lean ====
module

public import proofs.«01_k».proof.Defs
public import proofs.«01_k».proof.Proof.ConvFwd
public import proofs.«01_k».proof.Proof.Gen.ConvFwd.Frame
public import proofs.«01_k».proof.Proof.Gen.ConvFwdIdeal.Frame
public import proofs.«01_k».proof.Proof.Gen.ConvFwdRefIdeal.Run
public import Idealize.ShloMosaic.Lib.Claim
public import Idealize.ShloMosaic.Init

@[expose] public section

noncomputable section

namespace Cert.ConvFwdValue

open Idealize.ShloMosaic Idealize.SL.Sem

set_option maxRecDepth 65536 in
/-- The forward kernel of the short convolution leaves what the reference leaves. -/
theorem algebraic : Cert.algebraic_ConvFwdIdeal_ConvFwdRefIdeal
    (hConvFwdIdeal := Cert.ConvFwdIdeal.Gen.facts) (hConvFwdRefIdeal := Cert.ConvFwdRefIdeal.Gen.facts) := by
  pair_intro
  · run_from Cert.ConvFwdIdeal.Value.run_blocks m g
  · run_from Cert.ConvFwdRefIdeal.Value.run m' g'
    all_goals obtain ⟨h0, h1⟩ := hagree c
    · rw [Cert.ConvFwdRefIdeal.Read.val_main_v39_eq]
      exact (arr m c).symm

/-- The reference runs, leaves its arguments as they were, and counts nothing. -/
theorem ref_frame : Cert.quiescent_ConvFwdRefIdeal (hConvFwdRefIdeal := Cert.ConvFwdRefIdeal.Gen.facts) := fun m ρ _ =>
  (θ_run Cert.ConvFwdRefIdeal.defs _ _).mono (fun r h => ⟨fun c => (h c).2, Idealize.ShloMosaic.sem_eq_zero_of_no_sems (by decide) r.2⟩)
    (Cert.ConvFwdRefIdeal.Value.run m ρ)

end Cert.ConvFwdValue

end
-- ==== Proof.Loss.lean ====
module

public import proofs.«01_k».proof.Proof.FfnBwdAlg
public import proofs.«01_k».proof.Proof.Gen.LossIdeal.Value
public import proofs.«01_k».proof.Proof.Gen.LossRefIdeal.Read
public import Idealize.ShloMosaic.Lib.Pipeline.ValueKit
public import Idealize.ShloMosaic.Lib.Pointwise
public import Idealize.ShloMosaic.Lib.Tactic

@[expose] public section

set_option maxRecDepth 16384

noncomputable section

namespace Cert.LossValue

open Cert.LossIdeal Cert.LossIdeal.Gen Cert.LossRefIdeal.Read Cert.FfnBwdAlg Idealize.ShloMosaic Idealize.ShloMosaic.TcCoe Idealize.SL.Sem Idealize.ShloMosaic.StableHlo

/-- The arrays: the tokens' rows, the norm's weight. -/
abbrev Rows := BufTy.Contents (Elt Ideal) ⟨S8192x1024, .f32⟩
abbrev Wt := BufTy.Contents (Elt Ideal) ⟨S1024, .f32⟩

/-! ## The constants -/

theorem c_two : Ideal.ofBits .f32 0x40000000#32 = ((2 : ℝ) : EReal) := by
  simp [Ideal.ofBits, Ideal.ieee, -EReal.coe_mul]; norm_num

/-- One over the row's width. -/
theorem c_inv : Ideal.ofBits .f32 0x3A800000#32 = ((1 / 1024 : ℝ) : EReal) := by
  simp [Ideal.ofBits, Ideal.ieee, -EReal.coe_mul]; norm_num

/-- Half of one over the row's width. -/
theorem c_half_inv : Ideal.ofBits .f32 0x3A000000#32 = ((1 / 2048 : ℝ) : EReal) := by
  simp [Ideal.ofBits, Ideal.ieee, -EReal.coe_mul]; norm_num

/-- The derivative of half a mean of squares is the error over the row's width. -/
theorem grad_same (e : EReal) :
    Ideal.div (Ideal.ofBits .f32 0x3F000000#32) (Ideal.ofBits .f32 0x44800000#32) * (Ideal.ofBits .f32 0x40000000#32 * e)
      = e * Ideal.ofBits .f32 0x3A800000#32 := by
  rw [c_half, c_1024, c_two, c_inv, Ideal.div_coe (by norm_num), ← EReal.coe_mul, ← mul_assoc, ← EReal.coe_mul, mul_comm]
  norm_num

/-- A real constant goes into a sum of reals. -/
theorem mul_sum_real {n : ℕ} {a : EReal} {f : Fin n → EReal} (ha : Real' a) (hf : ∀ k, Real' (f k)) : a * (∑ k, f k) = ∑ k, a * f k := by
  obtain ⟨a, rfl⟩ := ha
  choose g hg using hf
  obtain rfl : f = fun k => (g k : EReal) := funext hg
  simp only [coe_sum, ← EReal.coe_mul, Finset.mul_sum]

/-! ## The mathematics -/

/-- One over the root of the mean square of row `r`. -/
def rs (x : Rows) (r : Fin 8192) : EReal := Ideal.rsqrt (mean fun k => x (ix2 r k))

/-- The normed row's distance from its target. -/
def err (x : Rows) (w : Wt) (y : Rows) (r : Fin 8192) (d : Fin 1024) : EReal := x (ix2 r d) * rs x r * w (ix1 d) - y (ix2 r d)

/-- The gradient at the normed row. -/
def grad (x : Rows) (w : Wt) (y : Rows) (r : Fin 8192) (d : Fin 1024) : EReal :=
  err x w y r d * Ideal.ofBits .f32 0x3A800000#32

/-- The gradient at the normed row before its weight. -/
def inner (x : Rows) (w : Wt) (y : Rows) (r : Fin 8192) (d : Fin 1024) : EReal := grad x w y r d * w (ix1 d)

/-- What row `r` adds to the gradient at the norm's weight. -/
def part (x : Rows) (w : Wt) (y : Rows) (r : Fin 8192) (d : Fin 1024) : EReal := x (ix2 r d) * rs x r * grad x w y r d

/-- The sum of row `r`'s squared distances. -/
def sq (x : Rows) (w : Wt) (y : Rows) (r : Fin 8192) : EReal := ∑ d, err x w y r d * err x w y r d

/-- The gradient at the mean square's square root, per entry of the row. -/
def coef (x : Rows) (w : Wt) (y : Rows) (r : Fin 8192) : EReal :=
  Ideal.div ((∑ k, x (ix2 r k) * inner x w y r k) * (Ideal.ofBits FTy.f32 0xBF000000#32 * Ideal.div (rs x r) (mean fun k => x (ix2 r k)))) (Ideal.ofBits FTy.f32 0x44800000#32)

/-- The gradient at the rows. -/
def dx (x : Rows) (w : Wt) (y : Rows) (r : Fin 8192) (d : Fin 1024) : EReal :=
  inner x w y r d * rs x r + x (ix2 r d) * coef x w y r + coef x w y r * x (ix2 r d)

theorem ref_err (x : Rows) (w : Wt) (y : Rows) (r d) : val_main_v16 (F := Ideal) x w y (ix2 r d) = err x w y r d := by
  pointwise [val_main_v0, val_main_v1, val_main_cst, val_main_v2, val_main_v3, val_main_cst_0, val_main_v4, val_main_v5, val_main_cst_1, val_main_v6,
    val_main_v7, val_main_v8, val_main_v12, val_main_v13, val_main_v14, val_main_v15, val_main_v16]
  rfl

theorem ref_grad (x : Rows) (w : Wt) (y : Rows) (r d) : val_main_v30 (F := Ideal) x w y (ix2 r d) = grad x w y r d := by
  pointwise [val_main_cst_3, val_main_v18, val_main_v19, val_main_cst_8, val_main_cst_9, val_main_v25, val_main_v26, val_main_cst_10, val_main_v27,
    val_main_v28, val_main_v29, val_main_v30]
  rw [ref_err]
  exact grad_same _

theorem ref_dw (x : Rows) (w : Wt) (y : Rows) (d) : val_main_v33 (F := Ideal) x w y (ix2 0 d) = ∑ r : Fin 8192, part x w y r d := by
  pointwise [val_main_v1, val_main_cst, val_main_v2, val_main_v3, val_main_cst_0, val_main_v4, val_main_v5, val_main_cst_1, val_main_v6,
    val_main_v7, val_main_v8, val_main_v12, val_main_v13, val_main_v31, val_main_cst_11, val_main_v32, val_main_v33]
  simp only [ref_grad]
  rfl

theorem ref_inner (x : Rows) (w : Wt) (y : Rows) (r d) : val_main_v35 (F := Ideal) x w y (ix2 r d) = inner x w y r d := by
  pointwise [val_main_v0, val_main_v34, val_main_v35]
  rw [ref_grad]
  rfl

theorem ref_dx (x : Rows) (w : Wt) (y : Rows) (r d) : val_main_v49 (F := Ideal) x w y (ix2 r d) = dx x w y r d := by
  pointwise [val_main_v1, val_main_cst, val_main_v2, val_main_v3, val_main_cst_0, val_main_v4, val_main_v5, val_main_cst_1, val_main_v6,
    val_main_v7, val_main_v8, val_main_v9, val_main_cst_2, val_main_v10, val_main_v11, val_main_v36, val_main_cst_12, val_main_v37, val_main_v38,
    val_main_v39, val_main_v40, val_main_v41, val_main_cst_13, val_main_v42, val_main_v43, val_main_cst_14, val_main_v44, val_main_v45, val_main_v46,
    val_main_v47, val_main_v48, val_main_v49]
  simp only [ref_inner, Finset.sum_const, Finset.card_univ, Fintype.card_fin, one_nsmul]
  rfl

/-- The reference's loss is half the sum of the rows' means. -/
theorem ref_loss (x : Rows) (w : Wt) (y : Rows) (l) : val_main_v50 (F := Ideal) x w y (ix2 0 l)
    = Ideal.ofBits .f32 0x3F000000#32 * ∑ r : Fin 8192, Ideal.div (sq x w y r) (Ideal.ofBits .f32 0x44800000#32) := by
  pointwise [val_main_v17, val_main_cst_4, val_main_v20, val_main_cst_5, val_main_v21, val_main_v22, val_main_cst_6, val_main_v23, val_main_cst_7,
    val_main_v24, val_main_v50]
  simp only [ref_err]
  rfl

/-! ## Which part of its array each block is -/

variable (m : (ℓ : Loc nD τ sig) → Buf (Elt Ideal) ℓ)

/-- The norm's weight reaches the kernel as one row. -/
theorem V_w (c : Dev nD) (z : Fin 1) (d : Fin 1024) : V m c main_v0 (ix2 z d) = m (c.tc.loc main_arg1) (ix1 d) := by
  unfold_abbrev_sides
  after_results
  pointwise

/-- Which block of its array each window takes at a grid point. -/
theorem idx : ∀ t : Fin grid0.N, win0_0.index t = ![t.val, 0] ∧ win0_1.index t = ![0, 0] ∧ win0_2.index t = ![t.val, 0] ∧
    win0_3.index t = ![t.val, 0] ∧ win0_4.index t = ![0, 0] ∧ win0_5.index t = ![0, 0] := by
  decide +kernel

/-- Row `r` of the block of grid point `t`, as a row of the whole array. -/
def row (t : Fin grid0.N) (r : Fin 1024) : Fin 8192 := ⟨t.val * 1024 + r.val, by
  have : t.val < 8 := lt_of_lt_of_eq t.isLt N_0
  omega⟩

theorem blk0 (c : Dev nD) (t : Fin cfg0.N) (r k : Fin 1024) :
    iblk m c 0 t (ix2 r k) = m (c.tc.loc main_arg0) (ix2 (row t r) k) := by
  blk_point [iblk, V, idx t, row]

theorem blk1 (c : Dev nD) (t : Fin cfg0.N) (z : Fin 1) (d : Fin 1024) :
    iblk m c 1 t (ix2 z d) = m (c.tc.loc main_arg1) (ix1 d) := by
  rw [← V_w m c z]
  blk_point [iblk, idx t]

theorem blk2 (c : Dev nD) (t : Fin cfg0.N) (r k : Fin 1024) :
    iblk m c 2 t (ix2 r k) = m (c.tc.loc main_arg2) (ix2 (row t r) k) := by
  blk_point [iblk, V, idx t, row]

/-! ## What a point computes -/

theorem pay_xhat (c : Dev nD) (t : Fin cfg0.N) (r d : Fin 1024) :
    k0_pay5 (F := Ideal) (iblk m c 0 t) (ix2 r d) = @HMul.hMul EReal EReal EReal instHMul (m (c.tc.loc main_arg0) (ix2 (row t r) d)) (rs (m (c.tc.loc main_arg0)) (row t r)) := by
  pointwise [k0_pay5, k0_pay4]
  simp only [blk0]
  rfl

theorem pay_err (c : Dev nD) (t : Fin cfg0.N) (r d : Fin 1024) :
    k0_pay7 (F := Ideal) (iblk m c 0 t) (iblk m c 1 t) (iblk m c 2 t) (ix2 r d)
      = err (m (c.tc.loc main_arg0)) (m (c.tc.loc main_arg1)) (m (c.tc.loc main_arg2)) (row t r) d := by
  pointwise [k0_pay7, k0_pay6]
  simp only [pay_xhat, blk1, blk2]
  rfl

theorem pay_grad (c : Dev nD) (t : Fin cfg0.N) (r d : Fin 1024) :
    k0_pay8 (F := Ideal) (iblk m c 0 t) (iblk m c 1 t) (iblk m c 2 t) (ix2 r d)
      = grad (m (c.tc.loc main_arg0)) (m (c.tc.loc main_arg1)) (m (c.tc.loc main_arg2)) (row t r) d := by
  pointwise [k0_pay8]
  rw [pay_err]
  rfl

/-- The error is real where the arguments are. -/
theorem real_err {x : Rows} {w : Wt} {y : Rows} (hx : ∀ i, Real' (x i)) (hw : ∀ i, Real' (w i)) (hy : ∀ i, Real' (y i)) (r d) : Real' (err x w y r d) :=
  real_sub (real_mul (real_mul (hx _) (real_rsqrt fun k => hx _)) (hw _)) (hy _)

/-- What a point stores of the rows' gradient is the reference's, where the arguments are real. -/
theorem pay_dx (c : Dev nD) (t : Fin cfg0.N) (r d : Fin 1024)
    (hx : ∀ i, Real' (m (c.tc.loc main_arg0) i)) (hw : ∀ i, Real' (m (c.tc.loc main_arg1) i)) (hy : ∀ i, Real' (m (c.tc.loc main_arg2) i)) :
    k0_pay9 (F := Ideal) (iblk m c 0 t) (iblk m c 1 t) (iblk m c 2 t) (ix2 r d)
      = dx (m (c.tc.loc main_arg0)) (m (c.tc.loc main_arg1)) (m (c.tc.loc main_arg2)) (row t r) d := by
  pointwise [k0_pay9, k0_pay6, k0_pay4]
  simp only [pay_grad, pay_xhat, blk0, blk1]
  exact norm_same (x := fun k => m (c.tc.loc main_arg0) (ix2 (row t r) k))
    (q := inner (m (c.tc.loc main_arg0)) (m (c.tc.loc main_arg1)) (m (c.tc.loc main_arg2)) (row t r))
    (fun k => hx _) (fun k => real_mul (real_mul (real_err hx hw hy _ _) ⟨_, c_inv⟩) (hw _)) d

/-- The kernel's gradient at the rows is the reference's. -/
theorem arr_dx (c : Dev nD)
    (hx : ∀ i, Real' (m (c.tc.loc main_arg0) i)) (hw : ∀ i, Real' (m (c.tc.loc main_arg1) i)) (hy : ∀ i, Real' (m (c.tc.loc main_arg2) i)) :
    (dats m 0 c).arrAt 3 cfg0.N =
      val_main_v49 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3]
  change S1024x1024.Idx at y
  idx_vars y
  have e : ((View.whole main_v1_0).slice (win0_3.rect t)).emb (ix2 y0 y1) = ix2 (row t y0) y1 := by
    blk_ext [idx t, row]
  rw [e, ref_dx, ← pay_dx m c t y0 y1 hx hw hy]
  have ht : t.val < 8 := lt_of_lt_of_eq t.isLt N_0
  by_cases hc : t.val % 8 = 0
  · rw [outsAt0_A m c t hc (by omega)]
    frame_out
  · rw [outsAt0_B m c t hc (by omega)]
    frame_out

/-! ## The gradient at the norm's weight -/

/-- What one point adds to the gradient at the norm's weight. -/
def term (c : Dev nD) (t : Fin cfg0.N) (j : S1x1024.Idx) : EReal :=
  ∑ r : Fin 1024, part (m (c.tc.loc main_arg0)) (m (c.tc.loc main_arg1)) (m (c.tc.loc main_arg2)) (row t r) (j 1)

theorem pay_dw (c : Dev nD) (t : Fin cfg0.N) (z : Fin 1) (d : Fin 1024) :
    k0_pay10 (F := Ideal) (iblk m c 0 t) (iblk m c 1 t) (iblk m c 2 t) (ix2 z d) = term m c t (ix2 z d) := by
  pointwise [k0_pay10]
  simp only [pay_grad, pay_xhat]
  exact Finset.sum_congr rfl fun r _ => mul_comm (G := EReal) _ _

/-- The first point leaves its own sum. -/
theorem first_dw (c : Dev nD) (t : Fin cfg0.N) (hc : t.val % 8 = 0) (j : S1x1024.Idx) :
    (outsAt0 m c t.val t.isLt).2.1 j = 0 + term m c t j := by
  have ht : t.val < 8 := lt_of_lt_of_eq t.isLt N_0
  rw [outsAt0_A m c t hc (by omega), zero_add]
  idx_vars j
  rw [← pay_dw]
  frame_out

/-- A later point adds its own sum to what the point before left. -/
theorem next_dw (c : Dev nD) (t : Fin cfg0.N) (hc : ¬t.val % 8 = 0) (j : S1x1024.Idx) :
    (outsAt0 m c t.val t.isLt).2.1 j = (outsAt0 m c (t.val - 1) (by omega)).2.1 j + term m c t j := by
  rw [outsAt0_B m c t hc (by omega)]
  idx_vars j
  rw [← pay_dw]
  frame_out
  pointwise [k0_pay2]

/-- The kernel's gradient at the norm's weight is the reference's. -/
theorem arr_dw (c : Dev nD) : (dats m 0 c).arrAt 4 cfg0.N =
    val_main_v33 (F := Ideal) (m (c.tc.loc main_arg0)) (m (c.tc.loc main_arg1)) (m (c.tc.loc main_arg2)) := by
  refine (dats m 0 c).arrAt_eq_of_covers 4 _ (by decide +kernel) fun t hf y => ?_
  blk_simp
  rw [after0_4]
  change S1x1024.Idx at y
  have ht := (flush0_4 t).mp hf
  refine (Pipeline.eq_sum_fin_of_reset_step_apply_of_flush (fun n h => (outsAt0 m c n h).2.1) 8 (fun _ => 0) (term m c)
    (first_dw m c) (next_dw m c) t ht y).trans ?_
  idx_vars y
  have e : ((View.whole main_v1_1).slice (win0_4.rect t)).emb (ix2 y0 y1) = ix2 0 y1 := by
    blk_ext [idx t]
  rw [e, ref_dw, zero_add]
  refine Fin.sum_mul_add_congr (n := 1024) (f := fun l => part (m (c.tc.loc main_arg0)) (m (c.tc.loc main_arg1)) (m (c.tc.loc main_arg2)) l y1) fun s k hl => ?_
  have h8 : t.val < 8 := lt_of_lt_of_eq t.isLt N_0
  have hs := s.isLt
  have hN : 8 * (t.val / 8) + s.val < grid0.N := lt_of_lt_of_eq (b := 8) (by omega) N_0.symm
  have er : row ⟨8 * (t.val / 8) + s.val, hN⟩ k = ⟨s.val * 1024 + k.val, hl⟩ := by
    apply Fin.ext
    simp only [row]
    omega
  simp only [← er]
  rfl

/-! ## The loss -/

/-- What one row adds to the loss. -/
def lossRow (x : Rows) (w : Wt) (y : Rows) (r : Fin 8192) : EReal := Ideal.ofBits .f32 0x3A000000#32 * sq x w y r

theorem real_sq {x : Rows} {w : Wt} {y : Rows} (hx : ∀ i, Real' (x i)) (hw : ∀ i, Real' (w i)) (hy : ∀ i, Real' (y i)) (r) : Real' (sq x w y r) :=
  real_sum fun d => real_mul (real_err hx hw hy r d) (real_err hx hw hy r d)

/-- The reference's loss row by row, where the arguments are real. -/
theorem loss_rows {x : Rows} {w : Wt} {y : Rows} (hx : ∀ i, Real' (x i)) (hw : ∀ i, Real' (w i)) (hy : ∀ i, Real' (y i)) :
    Ideal.ofBits .f32 0x3F000000#32 * (∑ r : Fin 8192, Ideal.div (sq x w y r) (Ideal.ofBits .f32 0x44800000#32)) = ∑ r, lossRow x w y r := by
  have hd : ∀ r, Ideal.div (sq x w y r) (Ideal.ofBits .f32 0x44800000#32) = sq x w y r * ((1 / 1024 : ℝ) : EReal) := fun r => by
    rw [c_1024, Ideal.div_coe (by norm_num)]
  simp only [hd]
  rw [mul_sum_real real_half fun r => real_mul (real_sq hx hw hy r) (real_coe _)]
  refine Finset.sum_congr rfl fun r _ => ?_
  unfold lossRow
  rw [c_half, c_half_inv, mul_comm (sq x w y r), ← mul_assoc, ← EReal.coe_mul]
  norm_num

/-- What one point adds to every lane of the loss's row. -/
def lossTerm (c : Dev nD) (t : Fin cfg0.N) (_ : S1x128.Idx) : EReal :=
  Ideal.ofBits .f32 0x3A000000#32 * ∑ r : Fin 1024, sq (m (c.tc.loc main_arg0)) (m (c.tc.loc main_arg1)) (m (c.tc.loc main_arg2)) (row t r)

theorem pay_sq (c : Dev nD) (t : Fin cfg0.N) :
    k0_pay12 (F := Ideal) (iblk m c 0 t) (iblk m c 1 t) (iblk m c 2 t)
      = ∑ r : Fin 1024, sq (m (c.tc.loc main_arg0)) (m (c.tc.loc main_arg1)) (m (c.tc.loc main_arg2)) (row t r) := by
  pointwise [k0_pay12]
  simp only [pay_err]
  rfl

theorem first_loss (c : Dev nD) (t : Fin cfg0.N) (hc : t.val % 8 = 0) (j : S1x128.Idx) :
    (outsAt0 m c t.val t.isLt).2.2 j = 0 + lossTerm m c t j := by
  have ht : t.val < 8 := lt_of_lt_of_eq t.isLt N_0
  rw [outsAt0_A m c t hc (by omega), zero_add]
  idx_vars j
  unfold lossTerm
  rw [← pay_sq]
  frame_out
  pointwise [k0_pay1, k0_pay11]

theorem next_loss (c : Dev nD) (t : Fin cfg0.N) (hc : ¬t.val % 8 = 0) (j : S1x128.Idx) :
    (outsAt0 m c t.val t.isLt).2.2 j = (outsAt0 m c (t.val - 1) (by omega)).2.2 j + lossTerm m c t j := by
  rw [outsAt0_B m c t hc (by omega)]
  idx_vars j
  unfold lossTerm
  rw [← pay_sq]
  frame_out
  pointwise [k0_pay3, k0_pay1, k0_pay11]

/-- The kernel's loss, in every lane, is the reference's, where the arguments are real. -/
theorem arr_loss (c : Dev nD)
    (hx : ∀ i, Real' (m (c.tc.loc main_arg0) i)) (hw : ∀ i, Real' (m (c.tc.loc main_arg1) i)) (hy : ∀ i, Real' (m (c.tc.loc main_arg2) i)) :
    (dats m 0 c).arrAt 5 cfg0.N =
      val_main_v50 (F := Ideal) (m (c.tc.loc main_arg0)) (m (c.tc.loc main_arg1)) (m (c.tc.loc main_arg2)) := by
  refine (dats m 0 c).arrAt_eq_of_covers 5 _ (by decide +kernel) fun t hf y => ?_
  blk_simp
  rw [after0_5]
  change S1x128.Idx at y
  have ht := (flush0_5 t).mp hf
  refine (Pipeline.eq_sum_fin_of_reset_step_apply_of_flush (fun n h => (outsAt0 m c n h).2.2) 8 (fun _ => 0) (lossTerm m c)
    (first_loss m c) (next_loss m c) t ht y).trans ?_
  idx_vars y
  have e : ((View.whole main_v1_2).slice (win0_5.rect t)).emb (ix2 y0 y1) = ix2 0 y1 := by
    blk_ext [idx t]
  rw [e, ref_loss, loss_rows hx hw hy, zero_add]
  simp only [lossTerm, mul_sum_real ⟨_, c_half_inv⟩ fun r => real_sq hx hw hy (row _ r)]
  refine Fin.sum_mul_add_congr (n := 1024) (f := fun l => lossRow (m (c.tc.loc main_arg0)) (m (c.tc.loc main_arg1)) (m (c.tc.loc main_arg2)) l) fun s k hl => ?_
  have h8 : t.val < 8 := lt_of_lt_of_eq t.isLt N_0
  have hs := s.isLt
  have hN : 8 * (t.val / 8) + s.val < grid0.N := lt_of_lt_of_eq (b := 8) (by omega) N_0.symm
  have er : row ⟨8 * (t.val / 8) + s.val, hN⟩ k = ⟨s.val * 1024 + k.val, hl⟩ := by
    apply Fin.ext
    simp only [row]
    omega
  simp only [← er]
  rfl

end Cert.LossValue
-- ==== Proof.LossClaim.lean ====
module

public import proofs.«01_k».proof.Defs
public import proofs.«01_k».proof.Proof.Loss
public import proofs.«01_k».proof.Pre_finite_loss
public import proofs.«01_k».proof.Proof.Gen.Pre_finite_loss
public import proofs.«01_k».proof.Proof.Gen.Loss.Frame
public import proofs.«01_k».proof.Proof.Gen.LossIdeal.Frame
public import proofs.«01_k».proof.Proof.Gen.LossRefIdeal.Run
public import Idealize.ShloMosaic.Lib.ReduceAll
public import Idealize.ShloMosaic.Lib.Affine
public import Idealize.ShloMosaic.Lib.Claim
public import Idealize.ShloMosaic.Init

@[expose] public section

set_option maxRecDepth 16384

noncomputable section

namespace Cert.LossValue

section
open Cert.Pre_finite_loss Cert.FfnBwdAlg Idealize.ShloMosaic

variable [hPre_finite_loss : Cert.Pre_finite_loss.Facts]

/-- An entry whose test for finiteness is true is real. -/
theorem real_of_cmp {z : EReal} (h : Ideal.cmp .olt (max z (-z)) (Ideal.ofBits .f32 0x7F800000#32) = 1#1) : Real' z := by
  rw [c_top] at h
  refine real_of_abs ?_
  by_contra hn
  simp [Ideal.cmp, hn] at h

instance : Subsingleton (Shape.Idx S_) := ⟨fun a b => funext fun i => i.elim0⟩

/-- The precondition says that every entry of the three arrays is real. -/
theorem all_real {x y : FVec Ideal S8192x1024 .f32} {w : FVec Ideal S1024 .f32}
    (h : Cert.Pre_finite_loss.fn (F := Ideal) x w y = fun _ => 1#1) :
    (∀ i, Real' (x i)) ∧ (∀ i, Real' (w i)) ∧ (∀ i, Real' (y i)) := by
  have h0 := congrFun h (Shape.Idx.first hPre_finite_loss.h_S_)
  unfold Cert.Pre_finite_loss.fn at h0
  obtain ⟨h0, hy⟩ := IntOp.andi_eq_one.mp h0
  obtain ⟨hx, hw⟩ := IntOp.andi_eq_one.mp h0
  exact ⟨fun i => real_of_cmp (Host.reduce_andi_all _ _ _ _ _ hx i), fun i => real_of_cmp (Host.reduce_andi_all _ _ _ _ _ hw i),
    fun i => real_of_cmp (Host.reduce_andi_all _ _ _ _ _ hy i)⟩

end

open Cert.LossIdeal Cert.LossIdeal.Gen Idealize.ShloMosaic Idealize.ShloMosaic.TcCoe Idealize.SL.Sem

set_option maxHeartbeats 3000000 in
set_option maxRecDepth 65536 in
/-- Where the arguments are finite the kernel leaves the gradients at the rows and at the norm's weight and the loss that the reference leaves. -/
theorem algebraic : Cert.algebraic_LossIdeal_LossRefIdeal_pre_finite_loss
    (hLossIdeal := Cert.LossIdeal.Gen.facts) (hLossRefIdeal := Cert.LossRefIdeal.Gen.facts) (hPre_finite_loss := Cert.Pre_finite_loss.Gen.facts) := by
  intro m g m' g' hpre hagree
  refine ⟨fun c => (dats m 0 c).arrAt 3 cfg0.N, fun c => (dats m 0 c).arrAt 4 cfg0.N, fun c => (dats m 0 c).arrAt 5 cfg0.N, Cert.LossIdeal.Value.run_blocks m g, ?_⟩
  refine (θ_run Cert.LossRefIdeal.defs _ _).mono (fun r h c => ?_) (Cert.LossRefIdeal.Value.run m' g')
  obtain ⟨h0, h1, h2⟩ := hagree c
  obtain ⟨hx, hw, hy⟩ := all_real (hPre_finite_loss := Cert.Pre_finite_loss.Gen.facts) (hpre c)
  obtain ⟨k0, k1, k2, k⟩ := h c
  refine ⟨?_, ?_, ?_, k⟩
  · refine k0.trans ((Cert.LossRefIdeal.Read.val_main_v49_eq m' c).trans ?_)
    rw [h0, h1, h2]
    exact (arr_dx m c hx hw hy).symm
  · refine k1.trans ((Cert.LossRefIdeal.Read.val_main_v33_eq _ _ _).trans ?_)
    rw [h0, h1, h2]
    exact (arr_dw m c).symm
  · refine k2.trans ((Cert.LossRefIdeal.Read.val_main_v50_eq _ _ _).trans ?_)
    rw [h0, h1, h2]
    exact (arr_loss m c hx hw hy).symm

/-- The kernel runs, leaves its arguments as they were, and counts nothing. -/
theorem ideal_frame_pre : Cert.quiescent_LossIdeal_pre_finite_loss (hLossIdeal := Cert.LossIdeal.Gen.facts) (hPre_finite_loss := Cert.Pre_finite_loss.Gen.facts) :=
  fun m ρ _ => Cert.LossIdeal.Gen.frame m ρ

/-- The reference runs, leaves its arguments as they were, and counts nothing. -/
theorem ref_frame : Cert.quiescent_LossRefIdeal (hLossRefIdeal := Cert.LossRefIdeal.Gen.facts) := fun m ρ _ =>
  (θ_run Cert.LossRefIdeal.defs _ _).mono (fun r h => ⟨fun c => (h c).2.2.2, Idealize.ShloMosaic.sem_eq_zero_of_no_sems (by decide) r.2⟩)
    (Cert.LossRefIdeal.Value.run m ρ)

theorem ref_frame_pre : Cert.quiescent_LossRefIdeal_pre_finite_loss (hLossRefIdeal := Cert.LossRefIdeal.Gen.facts) (hPre_finite_loss := Cert.Pre_finite_loss.Gen.facts) :=
  fun m ρ _ => ref_frame m ρ trivial

end Cert.LossValue

end
-- ==== Proof.lean ====
module

public import proofs.«01_k».proof.Defs
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvRefIdeal
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeRefIdeal
public import proofs.«01_k».proof.Proof.Gen.ConvBwdIdeal.Value
public import proofs.«01_k».proof.Proof.Gen.MergeBwdIdeal.Value
public import proofs.«01_k».proof.Proof.Gen.ConvRefIdeal.Run
public import proofs.«01_k».proof.Proof.Gen.ConvRefIdeal.Read
public import proofs.«01_k».proof.Proof.Gen.MergeRefIdeal.Run
public import proofs.«01_k».proof.Proof.Gen.MergeRefIdeal.Read
public import proofs.«01_k».proof.Proof.Gen.FfnDw
public import proofs.«01_k».proof.Proof.Gen.FfnDw.Skeleton
public import proofs.«01_k».proof.Proof.Gen.FfnDw.Launch
public import proofs.«01_k».proof.Proof.Gen.FfnDw.Points
public import proofs.«01_k».proof.Proof.Gen.FfnDw.Frame
public import proofs.«01_k».proof.Proof.Gen.FfnDwIdeal
public import proofs.«01_k».proof.Proof.Gen.FfnDwIdeal.Skeleton
public import proofs.«01_k».proof.Proof.Gen.FfnDwIdeal.Launch
public import proofs.«01_k».proof.Proof.Gen.FfnDwIdeal.Points
public import proofs.«01_k».proof.Proof.Gen.FfnDwIdeal.Frame
public import proofs.«01_k».proof.Proof.Gen.FfnDwIdeal.Value
public import proofs.«01_k».proof.Proof.Gen.FfnDwRefIdeal
public import proofs.«01_k».proof.Proof.Gen.FfnDwRefIdeal.Run
public import proofs.«01_k».proof.Proof.Gen.FfnDwRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.MergeDwg
public import proofs.«01_k».proof.Proof.Gen.MergeDwg.Skeleton
public import proofs.«01_k».proof.Proof.Gen.MergeDwg.Launch
public import proofs.«01_k».proof.Proof.Gen.MergeDwg.Points
public import proofs.«01_k».proof.Proof.Gen.MergeDwg.Frame
public import proofs.«01_k».proof.Proof.Gen.MergeDwgIdeal
public import proofs.«01_k».proof.Proof.Gen.MergeDwgIdeal.Skeleton
public import proofs.«01_k».proof.Proof.Gen.MergeDwgIdeal.Launch
public import proofs.«01_k».proof.Proof.Gen.MergeDwgIdeal.Points
public import proofs.«01_k».proof.Proof.Gen.MergeDwgIdeal.Frame
public import proofs.«01_k».proof.Proof.Gen.MergeDwgIdeal.Value
public import proofs.«01_k».proof.Proof.Gen.MergeDwgRefIdeal
public import proofs.«01_k».proof.Proof.Gen.MergeDwgRefIdeal.Run
public import proofs.«01_k».proof.Proof.Gen.MergeDwgRefIdeal.Read
public import proofs.«01_k».proof.Proof.Gen.MergeDwb
public import proofs.«01_k».proof.Proof.Gen.MergeDwb.Skeleton
public import proofs.«01_k».proof.Proof.Gen.MergeDwb.Launch
public import proofs.«01_k».proof.Proof.Gen.MergeDwb.Points
public import proofs.«01_k».proof.Proof.Gen.MergeDwb.Frame
public import proofs.«01_k».proof.Proof.Gen.MergeDwbIdeal
public import proofs.«01_k».proof.Proof.Gen.MergeDwbIdeal.Skeleton
public import proofs.«01_k».proof.Proof.Gen.MergeDwbIdeal.Launch
public import proofs.«01_k».proof.Proof.Gen.MergeDwbIdeal.Points
public import proofs.«01_k».proof.Proof.Gen.MergeDwbIdeal.Frame
public import proofs.«01_k».proof.Proof.Gen.MergeDwbIdeal.Value
public import proofs.«01_k».proof.Proof.Gen.MergeDwbRefIdeal
public import proofs.«01_k».proof.Proof.Gen.MergeDwbRefIdeal.Run
public import proofs.«01_k».proof.Proof.Gen.MergeDwbRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.InDh
public import proofs.«01_k».proof.Proof.Gen.InDh.Skeleton
public import proofs.«01_k».proof.Proof.Gen.InDh.Launch
public import proofs.«01_k».proof.Proof.Gen.InDh.Points
public import proofs.«01_k».proof.Proof.Gen.InDh.Frame
public import proofs.«01_k».proof.Proof.Gen.InDhIdeal
public import proofs.«01_k».proof.Proof.Gen.InDhIdeal.Skeleton
public import proofs.«01_k».proof.Proof.Gen.InDhIdeal.Launch
public import proofs.«01_k».proof.Proof.Gen.InDhIdeal.Points
public import proofs.«01_k».proof.Proof.Gen.InDhIdeal.Frame
public import proofs.«01_k».proof.Proof.Gen.InDhIdeal.Value
public import proofs.«01_k».proof.Proof.Gen.InDhRefIdeal
public import proofs.«01_k».proof.Proof.Gen.InDhRefIdeal.Run
public import proofs.«01_k».proof.Proof.Gen.InDhRefIdeal.Read
public import proofs.«01_k».proof.Proof.Gen.InDwA
public import proofs.«01_k».proof.Proof.Gen.InDwA.Skeleton
public import proofs.«01_k».proof.Proof.Gen.InDwA.Launch
public import proofs.«01_k».proof.Proof.Gen.InDwA.Points
public import proofs.«01_k».proof.Proof.Gen.InDwA.Frame
public import proofs.«01_k».proof.Proof.Gen.InDwAIdeal
public import proofs.«01_k».proof.Proof.Gen.InDwAIdeal.Skeleton
public import proofs.«01_k».proof.Proof.Gen.InDwAIdeal.Launch
public import proofs.«01_k».proof.Proof.Gen.InDwAIdeal.Points
public import proofs.«01_k».proof.Proof.Gen.InDwAIdeal.Frame
public import proofs.«01_k».proof.Proof.Gen.InDwAIdeal.Value
public import proofs.«01_k».proof.Proof.Gen.InDwARefIdeal
public import proofs.«01_k».proof.Proof.Gen.InDwARefIdeal.Run
public import proofs.«01_k».proof.Proof.Gen.InDwARefIdeal.Read
public import proofs.«01_k».proof.Proof.Gen.InDwB
public import proofs.«01_k».proof.Proof.Gen.InDwB.Skeleton
public import proofs.«01_k».proof.Proof.Gen.InDwB.Launch
public import proofs.«01_k».proof.Proof.Gen.InDwB.Points
public import proofs.«01_k».proof.Proof.Gen.InDwB.Frame
public import proofs.«01_k».proof.Proof.Gen.InDwBIdeal
public import proofs.«01_k».proof.Proof.Gen.InDwBIdeal.Skeleton
public import proofs.«01_k».proof.Proof.Gen.InDwBIdeal.Launch
public import proofs.«01_k».proof.Proof.Gen.InDwBIdeal.Points
public import proofs.«01_k».proof.Proof.Gen.InDwBIdeal.Frame
public import proofs.«01_k».proof.Proof.Gen.InDwBIdeal.Value
public import proofs.«01_k».proof.Proof.Gen.InDwBRefIdeal
public import proofs.«01_k».proof.Proof.Gen.InDwBRefIdeal.Run
public import proofs.«01_k».proof.Proof.Gen.InDwBRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.OutDm
public import proofs.«01_k».proof.Proof.Gen.OutDm.Skeleton
public import proofs.«01_k».proof.Proof.Gen.OutDm.Launch
public import proofs.«01_k».proof.Proof.Gen.OutDm.Points
public import proofs.«01_k».proof.Proof.Gen.OutDm.Frame
public import proofs.«01_k».proof.Proof.Gen.OutDmIdeal
public import proofs.«01_k».proof.Proof.Gen.OutDmIdeal.Skeleton
public import proofs.«01_k».proof.Proof.Gen.OutDmIdeal.Launch
public import proofs.«01_k».proof.Proof.Gen.OutDmIdeal.Points
public import proofs.«01_k».proof.Proof.Gen.OutDmIdeal.Frame
public import proofs.«01_k».proof.Proof.Gen.OutDmIdeal.Value
public import proofs.«01_k».proof.Proof.Gen.OutDmRefIdeal
public import proofs.«01_k».proof.Proof.Gen.OutDmRefIdeal.Run
public import proofs.«01_k».proof.Proof.Gen.OutDmRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.ConvClaim
public import proofs.«01_k».proof.Proof.MergeClaim
public import proofs.«01_k».proof.Proof.FfnDwClaim
public import proofs.«01_k».proof.Proof.MergeFwdClaim
public import proofs.«01_k».proof.Proof.MergeDwgClaim
public import proofs.«01_k».proof.Proof.MergeDwbClaim
public import proofs.«01_k».proof.Proof.InFwdClaim
public import proofs.«01_k».proof.Proof.InDhClaim
public import proofs.«01_k».proof.Proof.InDwAClaim
public import proofs.«01_k».proof.Proof.InDwBClaim
public import proofs.«01_k».proof.Proof.OutFwdClaim
public import proofs.«01_k».proof.Proof.OutDmClaim
public import proofs.«01_k».proof.Proof.OutDwClaim
public import proofs.«01_k».proof.Proof.FfnFwdRun
public import proofs.«01_k».proof.Proof.FfnFwd
public import proofs.«01_k».proof.Proof.FfnFwdClaim
public import proofs.«01_k».proof.Proof.FfnBwdClaim
public import proofs.«01_k».proof.Proof.NormBwdClaim
public import proofs.«01_k».proof.Proof.NormFwdClaim
public import proofs.«01_k».proof.Proof.ConvFwdClaim
public import proofs.«01_k».proof.Proof.LossClaim
public import Idealize.ShloMosaic.Adequacy
public import Idealize.ShloMosaic.Init

@[expose] public section

noncomputable section

namespace Cert.Proof

open Idealize.ShloMosaic Idealize.SL.Sem Cert.ConvBwd

/-- Everything claimed: the frames, the casts left out, and the values of the kernels. -/
theorem claim : Cert.Claim :=
  ⟨Cert.ConvBwd.Gen.facts, Cert.ConvBwdIdeal.Gen.facts, Cert.ConvRefIdeal.Gen.facts,
    Cert.MergeBwd.Gen.facts, Cert.MergeBwdIdeal.Gen.facts, Cert.MergeRefIdeal.Gen.facts,
    Cert.FfnDw.Gen.facts, Cert.FfnDwIdeal.Gen.facts, Cert.FfnDwRefIdeal.Gen.facts,
    Cert.MergeFwd.Gen.facts, Cert.MergeFwdIdeal.Gen.facts, Cert.MergeFwdRefIdeal.Gen.facts,
    Cert.MergeDwg.Gen.facts, Cert.MergeDwgIdeal.Gen.facts, Cert.MergeDwgRefIdeal.Gen.facts,
    Cert.MergeDwb.Gen.facts, Cert.MergeDwbIdeal.Gen.facts, Cert.MergeDwbRefIdeal.Gen.facts,
    Cert.InFwd.Gen.facts, Cert.InFwdIdeal.Gen.facts, Cert.InFwdRefIdeal.Gen.facts,
    Cert.InDh.Gen.facts, Cert.InDhIdeal.Gen.facts, Cert.InDhRefIdeal.Gen.facts,
    Cert.InDwA.Gen.facts, Cert.InDwAIdeal.Gen.facts, Cert.InDwARefIdeal.Gen.facts,
    Cert.InDwB.Gen.facts, Cert.InDwBIdeal.Gen.facts, Cert.InDwBRefIdeal.Gen.facts,
    Cert.OutFwd.Gen.facts, Cert.OutFwdIdeal.Gen.facts, Cert.OutFwdRefIdeal.Gen.facts,
    Cert.OutDm.Gen.facts, Cert.OutDmIdeal.Gen.facts, Cert.OutDmRefIdeal.Gen.facts,
    Cert.OutDw.Gen.facts, Cert.OutDwIdeal.Gen.facts, Cert.OutDwRefIdeal.Gen.facts,
    Cert.FfnFwd.Gen.facts, Cert.FfnFwdIdeal.Gen.facts, Cert.FfnFwdRefIdeal.Gen.facts,
    Cert.FfnBwd.Gen.facts, Cert.FfnBwdIdeal.Gen.facts, Cert.FfnRefIdeal.Gen.facts,
    Cert.NormBwd.Gen.facts, Cert.NormBwdIdeal.Gen.facts, Cert.NormRefIdeal.Gen.facts, Cert.NormFwd.Gen.facts, Cert.NormFwdIdeal.Gen.facts, Cert.NormFwdRefIdeal.Gen.facts, Cert.ConvFwd.Gen.facts, Cert.ConvFwdIdeal.Gen.facts, Cert.ConvFwdRefIdeal.Gen.facts, Cert.Loss.Gen.facts, Cert.LossIdeal.Gen.facts, Cert.LossRefIdeal.Gen.facts, Cert.Pre_finite.Gen.facts, Cert.Pre_finite_norm.Gen.facts, Cert.Pre_finite_loss.Gen.facts,
    fun m ρ _ => Cert.ConvBwd.Gen.frame m ρ, fun m ρ _ => Cert.ConvBwdIdeal.Gen.frame m ρ, Cert.Conv.ref_frame,
    fun m ρ _ => Cert.MergeBwd.Gen.frame m ρ, fun m ρ _ => Cert.MergeBwdIdeal.Gen.frame m ρ, Cert.Merge.ref_frame,
    fun m ρ _ => Cert.FfnDw.Gen.frame m ρ, fun m ρ _ => Cert.FfnDwIdeal.Gen.frame m ρ, Cert.FfnDw.ref_frame,
    fun m ρ _ => Cert.MergeFwd.Gen.frame m ρ, fun m ρ _ => Cert.MergeFwdIdeal.Gen.frame m ρ, Cert.MergeFwd.ref_frame,
    fun m ρ _ => Cert.MergeDwg.Gen.frame m ρ, fun m ρ _ => Cert.MergeDwgIdeal.Gen.frame m ρ, Cert.MergeDwg.ref_frame,
    fun m ρ _ => Cert.MergeDwb.Gen.frame m ρ, fun m ρ _ => Cert.MergeDwbIdeal.Gen.frame m ρ, Cert.MergeDwb.ref_frame,
    fun m ρ _ => Cert.InFwd.Gen.frame m ρ, fun m ρ _ => Cert.InFwdIdeal.Gen.frame m ρ, Cert.InFwd.ref_frame,
    fun m ρ _ => Cert.InDh.Gen.frame m ρ, fun m ρ _ => Cert.InDhIdeal.Gen.frame m ρ, Cert.InDh.ref_frame,
    fun m ρ _ => Cert.InDwA.Gen.frame m ρ, fun m ρ _ => Cert.InDwAIdeal.Gen.frame m ρ, Cert.InDwA.ref_frame,
    fun m ρ _ => Cert.InDwB.Gen.frame m ρ, fun m ρ _ => Cert.InDwBIdeal.Gen.frame m ρ, Cert.InDwB.ref_frame,
    fun m ρ _ => Cert.OutFwd.Gen.frame m ρ, fun m ρ _ => Cert.OutFwdIdeal.Gen.frame m ρ, Cert.OutFwd.ref_frame,
    fun m ρ _ => Cert.OutDm.Gen.frame m ρ, fun m ρ _ => Cert.OutDmIdeal.Gen.frame m ρ, Cert.OutDm.ref_frame,
    fun m ρ _ => Cert.OutDw.Gen.frame m ρ, fun m ρ _ => Cert.OutDwIdeal.Gen.frame m ρ, Cert.OutDw.ref_frame,
    Cert.FfnFwdRun.frame_kernel, fun m ρ _ => Cert.FfnFwdRun.frame_ideal m ρ, Cert.FfnFwdValue.ref_frame,
    Cert.FfnBwdValue.frame_kernel, fun m ρ _ => Cert.FfnBwdRun.frame_ideal m ρ, Cert.FfnBwdValue.ideal_frame_finite, Cert.FfnBwdValue.ref_frame, Cert.FfnBwdValue.ref_frame_finite,
    fun m ρ _ => Cert.NormBwd.Gen.frame m ρ, fun m ρ _ => Cert.NormBwdIdeal.Gen.frame m ρ, Cert.NormBwdValue.ideal_frame_pre, Cert.NormBwdValue.ref_frame, Cert.NormBwdValue.ref_frame_pre,
    fun m ρ _ => Cert.NormFwd.Gen.frame m ρ, fun m ρ _ => Cert.NormFwdIdeal.Gen.frame m ρ, Cert.NormFwdValue.ref_frame,
    fun m ρ _ => Cert.ConvFwd.Gen.frame m ρ, fun m ρ _ => Cert.ConvFwdIdeal.Gen.frame m ρ, Cert.ConvFwdValue.ref_frame,
    fun m ρ _ => Cert.Loss.Gen.frame m ρ, fun m ρ _ => Cert.LossIdeal.Gen.frame m ρ, Cert.LossValue.ideal_frame_pre, Cert.LossValue.ref_frame, Cert.LossValue.ref_frame_pre,
    trivial, Cert.Conv.algebraic,
    trivial, Cert.Merge.algebraic,
    trivial, Cert.FfnDw.algebraic,
    trivial, Cert.MergeFwd.algebraic,
    trivial, Cert.MergeDwg.algebraic,
    trivial, Cert.MergeDwb.algebraic,
    trivial, Cert.InFwd.algebraic,
    trivial, Cert.InDh.algebraic,
    trivial, Cert.InDwA.algebraic,
    trivial, Cert.InDwB.algebraic,
    trivial, Cert.OutFwd.algebraic,
    trivial, Cert.OutDm.algebraic,
    trivial, Cert.OutDw.algebraic,
    trivial, Cert.FfnFwdValue.algebraic,
    trivial, Cert.FfnBwdValue.algebraic,
    trivial, Cert.NormBwdValue.algebraic,
    trivial, Cert.NormFwdValue.algebraic,
    trivial, Cert.ConvFwdValue.algebraic,
    trivial, Cert.LossValue.algebraic⟩

end Cert.Proof

end
